-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "mask" .f32 0xF149F2CA#32 ⊥

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_v34) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v15) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v14) = v0 c
          ∧ r.2.mem ((c.tc : Thread Cert.Reference29Ideal.nD Cert.Reference29Ideal.τ).loc Cert.Reference29Ideal.main_v15) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v35) = v0 c
          ∧ r.2.mem ((c.tc : Thread Cert.Reference31Ideal.nD Cert.Reference31Ideal.τ).loc Cert.Reference31Ideal.main_v36) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)
  reducesTo_S8192x4x96_S_d0_1_2 : S8192x4x96.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn_part1 {F : FTy → Type} [FloatOps F] (main_v13 : IVec S_ 1) (main_v16 : IVec S8192x4x64 1) : IVec S_ 1 :=
  let main_c_5 : IVec S_ 1 := constantI S_ 1 1#1
  let main_v17 : IVec S_ 1 := (fun x v => Host.reduce IntOp.andi x v reducesTo_S8192x4x64_S_d0_1_2 h_S_) main_v16 main_c_5
  let main_v18 : IVec S_ 1 := andi main_v13 main_v17
  main_v18

def fn {F : FTy → Type} [FloatOps F] (main_arg0 : FVec F S8192x4x96 .f32) (main_arg1 : FVec F S8192x4x96 .f32) (main_arg2 : FVec F S8192x4x64 .f32) (main_arg3 : FVec F S8192x4x64 .f32) : IVec S_ 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_c : IVec S_ 1 := constantI S_ 1 1#1
  let main_v3 : IVec S_ 1 := (fun x v => Host.reduce IntOp.andi x v reducesTo_S8192x4x96_S_d0_1_2 h_S_) main_v2 main_c
  let main_v4 : FVec F S8192x4x96 .f32 := Host.absf main_arg1
  let main_cst_0 : FVec F S_ .f32 := constant S_ .f32 0x7F800000#32
  let main_v5 : FVec F S8192x4x96 .f32 := broadcastInDim S8192x4x96 ![] bcast_S_S8192x4x96 main_cst_0
  let main_v6 : IVec S8192x4x96 1 := cmpf .olt main_v4 main_v5
  let main_c_1 : IVec S_ 1 := constantI S_ 1 1#1
  let main_v7 : IVec S_ 1 := (fun x v => Host.reduce IntOp.andi x v reducesTo_S8192x4x96_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  let main_v14 : FVec F S8192x4x64 .f32 := Host.absf main_arg3
  let main_cst_4 : FVec F S_ .f32 := constant S_ .f32 0x7F800000#32
  let main_v15 : FVec F S8192x4x64 .f32 := broadcastInDim S8192x4x64 ![] bcast_S_S8192x4x64 main_cst_4
  let main_v16 : IVec S8192x4x64 1 := cmpf .olt main_v14 main_v15
  fn_part1 (F := F) main_v13 main_v16
-- ==== Pre_finite14.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite15.lean ====
abbrev S4x8192x96 : Shape := ⟨3, ![4, 8192, 96]⟩
abbrev S4x8192x64 : Shape := ⟨3, ![4, 8192, 64]⟩
abbrev S_ : Shape := ⟨0, ![]⟩

class Facts : Prop where
  bcast_S_S4x8192x96 : S_.BroadcastsInDim S4x8192x96 (![] : Fin 0 → Fin S4x8192x96.rank)
  reducesTo_S4x8192x96_S_d0_1_2 : S4x8192x96.ReducesTo [0, 1, 2] S_
  h_S_ : 0 < S_.numel
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn {F : FTy → Type} [FloatOps F] (main_arg0 : FVec F S4x8192x96 .bf16) (main_arg1 : FVec F S4x8192x96 .bf16) (main_arg2 : FVec F S4x8192x64 .bf16) : IVec S_ 1 :=
  let main_v0 : FVec F S4x8192x96 .bf16 := Host.absf main_arg0
  let main_cst : FVec F S_ .bf16 := constant S_ .bf16 0x7F80#16
  let main_v1 : FVec F S4x8192x96 .bf16 := broadcastInDim S4x8192x96 ![] bcast_S_S4x8192x96 main_cst
  let main_v2 : IVec S4x8192x96 1 := cmpf .olt main_v0 main_v1
  let main_c : IVec S_ 1 := constantI S_ 1 1#1
  let main_v3 : IVec S_ 1 := (fun x v => Host.reduce IntOp.andi x v reducesTo_S4x8192x96_S_d0_1_2 h_S_) main_v2 main_c
  let main_v4 : FVec F S4x8192x96 .bf16 := Host.absf main_arg1
  let main_cst_0 : FVec F S_ .bf16 := constant S_ .bf16 0x7F80#16
  let main_v5 : FVec F S4x8192x96 .bf16 := broadcastInDim S4x8192x96 ![] bcast_S_S4x8192x96 main_cst_0
  let main_v6 : IVec S4x8192x96 1 := cmpf .olt main_v4 main_v5
  let main_c_1 : IVec S_ 1 := constantI S_ 1 1#1
  let main_v7 : IVec S_ 1 := (fun x v => Host.reduce IntOp.andi x v reducesTo_S4x8192x96_S_d0_1_2 h_S_) main_v6 main_c_1
  let main_v8 : IVec S_ 1 := andi main_v3 main_v7
  let main_v9 : FVec F S4x8192x64 .bf16 := Host.absf main_arg2
  let main_cst_2 : FVec F S_ .bf16 := constant S_ .bf16 0x7F80#16
  let main_v10 : FVec F S4x8192x64 .bf16 := broadcastInDim S4x8192x64 ![] bcast_S_S4x8192x64 main_cst_2
  let main_v11 : IVec S4x8192x64 1 := cmpf .olt main_v9 main_v10
  let main_c_3 : IVec S_ 1 := constantI S_ 1 1#1
  let main_v12 : IVec S_ 1 := (fun x v => Host.reduce IntOp.andi x v reducesTo_S4x8192x64_S_d0_1_2 h_S_) main_v11 main_c_3
  let main_v13 : IVec S_ 1 := andi main_v8 main_v12
  main_v13
-- ==== Kernel.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x8192 : Shape := ⟨2, ![4, 8192]⟩
abbrev S4x8192x1 : Shape := ⟨3, ![4, 8192, 1]⟩
abbrev S4x8192x64 : Shape := ⟨3, ![4, 8192, 64]⟩
abbrev S4x8192x128 : Shape := ⟨3, ![4, 8192, 128]⟩
abbrev S4x8192x96 : Shape := ⟨3, ![4, 8192, 96]⟩
abbrev S2x256x96 : Shape := ⟨3, ![2, 256, 96]⟩
abbrev S2x8192x96 : Shape := ⟨3, ![2, 8192, 96]⟩
abbrev S2x8192x64 : Shape := ⟨3, ![2, 8192, 64]⟩
abbrev S2x256x64 : Shape := ⟨3, ![2, 256, 64]⟩
abbrev S2x256x128 : Shape := ⟨3, ![2, 256, 128]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x256x1 : Shape := ⟨3, ![1, 256, 1]⟩
abbrev S256x96 : Shape := ⟨2, ![256, 96]⟩
abbrev S1x256x96 : Shape := ⟨3, ![1, 256, 96]⟩
abbrev S1x1024x96 : Shape := ⟨3, ![1, 1024, 96]⟩
abbrev S1024x96 : Shape := ⟨2, ![1024, 96]⟩
abbrev S1024x256 : Shape := ⟨2, ![1024, 256]⟩
abbrev S1x1024x64 : Shape := ⟨3, ![1, 1024, 64]⟩
abbrev S1024x64 : Shape := ⟨2, ![1024, 64]⟩
abbrev S1x768x96 : Shape := ⟨3, ![1, 768, 96]⟩
abbrev S768x96 : Shape := ⟨2, ![768, 96]⟩
abbrev S768x256 : Shape := ⟨2, ![768, 256]⟩
abbrev S1x768x64 : Shape := ⟨3, ![1, 768, 64]⟩
abbrev S768x64 : Shape := ⟨2, ![768, 64]⟩
abbrev S1x512x96 : Shape := ⟨3, ![1, 512, 96]⟩
abbrev S512x96 : Shape := ⟨2, ![512, 96]⟩
abbrev S512x256 : Shape := ⟨2, ![512, 256]⟩
abbrev S1x512x64 : Shape := ⟨3, ![1, 512, 64]⟩
abbrev S512x64 : Shape := ⟨2, ![512, 64]⟩
abbrev S256x256 : Shape := ⟨2, ![256, 256]⟩

abbrev nBuf : Space → Nat
  | .hbm => 56
  | .vmem => 18
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x8192, .f32⟩
  | .hbm, ⟨42, _⟩ => ⟨S4x8192x8192, .f32⟩
  | .hbm, ⟨43, _⟩ => ⟨S4x8192x64, .f32⟩
  | .hbm, ⟨44, _⟩ => ⟨S4x8192x1, .f32⟩
  | .hbm, ⟨45, _⟩ => ⟨S4x8192x128, .f32⟩
  | .hbm, ⟨46, _⟩ => ⟨S4x8192x96, .f32⟩
  | .hbm, ⟨47, _⟩ => ⟨S4x8192x96, .bf16⟩
  | .hbm, ⟨48, _⟩ => ⟨S4x8192x96, .f32⟩
  | .hbm, ⟨49, _⟩ => ⟨S4x8192x96, .bf16⟩
  | .hbm, ⟨50, _⟩ => ⟨S4x8192x64, .f32⟩
  | .hbm, ⟨51, _⟩ => ⟨S4x8192x64, .bf16⟩
  | .hbm, ⟨52, _⟩ => ⟨S4x8192x64, .f32⟩
  | .hbm, ⟨53, _⟩ => ⟨S4x8192x96, .f32⟩
  | .hbm, ⟨54, _⟩ => ⟨S4x8192x96, .f32⟩
  | .hbm, ⟨55, _⟩ => ⟨S4x8192x64, .f32⟩
  | .local _ .vmem, ⟨0, _⟩ => ⟨S2x256x96, .bf16⟩
  | .local _ .vmem, ⟨1, _⟩ => ⟨S2x256x96, .bf16⟩
  | .local _ .vmem, ⟨2, _⟩ => ⟨S2x8192x96, .bf16⟩
  | .local _ .vmem, ⟨3, _⟩ => ⟨S2x8192x96, .bf16⟩
  | .local _ .vmem, ⟨4, _⟩ => ⟨S2x8192x64, .bf16⟩
  | .local _ .vmem, ⟨5, _⟩ => ⟨S2x8192x64, .bf16⟩
  | .local _ .vmem, ⟨6, _⟩ => ⟨S2x256x64, .f32⟩
  | .local _ .vmem, ⟨7, _⟩ => ⟨S2x256x64, .f32⟩
  | .local _ .vmem, ⟨8, _⟩ => ⟨S2x256x64, .f32⟩
  | .local _ .vmem, ⟨9, _⟩ => ⟨S2x256x64, .f32⟩
  | .local _ .vmem, ⟨10, _⟩ => ⟨S2x256x128, .f32⟩
  | .local _ .vmem, ⟨11, _⟩ => ⟨S2x256x128, .f32⟩
  | .local _ .vmem, ⟨12, _⟩ => ⟨S2x256x96, .f32⟩
  | .local _ .vmem, ⟨13, _⟩ => ⟨S2x256x96, .f32⟩
  | .local _ .vmem, ⟨14, _⟩ => ⟨S2x8192x96, .f32⟩
  | .local _ .vmem, ⟨15, _⟩ => ⟨S2x8192x96, .f32⟩
  | .local _ .vmem, ⟨16, _⟩ => ⟨S2x8192x64, .f32⟩
  | .local _ .vmem, ⟨17, _⟩ => ⟨S2x8192x64, .f32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_32 : BitVec 32 := 1#32
  ⟨c0_i32_30, v65, c1_i32_32⟩
def k0_mult1 (i : grid0.Coords) (k0_t1 : Fin (k0_t1_loop i).trips) : BitVec 32 :=
  let c0_i32_30 : BitVec 32 := 0#32
  let c1_i32_32 : BitVec 32 := 1#32
  let arg11 : BitVec 32 := Scf.iv c0_i32_30 c1_i32_32 k0_t1
  let c4_i32_52 : BitVec 32 := 4#32
  let v101 : BitVec 32 := Scalar.muli arg11 c4_i32_52
  let c256_i32 : BitVec 32 := 256#32
  let v102 : BitVec 32 := Scalar.muli v101 c256_i32
  v102
def k0_off1 (i : grid0.Coords) (k0_t1 : Fin (k0_t1_loop i).trips) : Fin 3 → Nat :=
  let c0_56 : Index := 0#32
  let c0_i32_30 : BitVec 32 := 0#32
  let c1_i32_32 : BitVec 32 := 1#32
  let arg11 : BitVec 32 := Scf.iv c0_i32_30 c1_i32_32 k0_t1
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v106 : Index := Scalar.indexCast v103
  let c0_57 : Index := 0#32
  ![0, v106.toNat, 0]
def k0_off2 (i : grid0.Coords) (k0_t1 : Fin (k0_t1_loop i).trips) : Fin 3 → Nat :=
  let c0_60 : Index := 0#32
  let c0_i32_30 : BitVec 32 := 0#32
  let c1_i32_32 : BitVec 32 := 1#32
  let arg11 : BitVec 32 := Scf.iv c0_i32_30 c1_i32_32 k0_t1
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v115 : Index := Scalar.indexCast v103
  let c0_61 : Index := 0#32
  ![0, v115.toNat, 0]
def k0_off3 (i : grid0.Coords) (k0_t1 : Fin (k0_t1_loop i).trips) : Fin 3 → Nat :=
  let c1_78 : Index := 1#32
  let c0_i32_30 : BitVec 32 := 0#32
  let c1_i32_32 : BitVec 32 := 1#32
  let arg11 : BitVec 32 := Scf.iv c0_i32_30 c1_i32_32 k0_t1
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v148 : Index := Scalar.indexCast v103
  let c0_79 : Index := 0#32
  ![1, v148.toNat, 0]
def k0_off4 (i : grid0.Coords) (k0_t1 : Fin (k0_t1_loop i).trips) : Fin 3 → Nat :=
  let c1_82 : Index := 1#32
  let c0_i32_30 : BitVec 32 := 0#32
  let c1_i32_32 : BitVec 32 := 1#32
  let arg11 : BitVec 32 := Scf.iv c0_i32_30 c1_i32_32 k0_t1
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v157 : Index := Scalar.indexCast v103
  let c0_83 : Index := 0#32
  ![1, v157.toNat, 0]
@[reducible] def k0_t2_loop (i : grid0.Coords) : Scf.Loop 32 :=
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let v62 : BitVec 32 := Scalar.addi c0_i32_30 v61
  let c1_i32_33 : BitVec 32 := 1#32
  ⟨v65, v62, c1_i32_33⟩
def k0_mult2 (i : grid0.Coords) (k0_t2 : Fin (k0_t2_loop i).trips) : BitVec 32 :=
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg11 : BitVec 32 := Scf.iv v65 c1_i32_33 k0_t2
  let c4_i32_52 : BitVec 32 := 4#32
  let v101 : BitVec 32 := Scalar.muli arg11 c4_i32_52
  let c256_i32 : BitVec 32 := 256#32
  let v102 : BitVec 32 := Scalar.muli v101 c256_i32
  v102
def k0_off5 (i : grid0.Coords) (k0_t2 : Fin (k0_t2_loop i).trips) : Fin 3 → Nat :=
  let c0_56 : Index := 0#32
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg11 : BitVec 32 := Scf.iv v65 c1_i32_33 k0_t2
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v106 : Index := Scalar.indexCast v103
  let c0_57 : Index := 0#32
  ![0, v106.toNat, 0]
def k0_off6 (i : grid0.Coords) (k0_t2 : Fin (k0_t2_loop i).trips) : Fin 3 → Nat :=
  let c0_60 : Index := 0#32
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg11 : BitVec 32 := Scf.iv v65 c1_i32_33 k0_t2
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v115 : Index := Scalar.indexCast v103
  let c0_61 : Index := 0#32
  ![0, v115.toNat, 0]
def k0_off7 (i : grid0.Coords) (k0_t2 : Fin (k0_t2_loop i).trips) : Fin 3 → Nat :=
  let c1_78 : Index := 1#32
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg11 : BitVec 32 := Scf.iv v65 c1_i32_33 k0_t2
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v148 : Index := Scalar.indexCast v103
  let c0_79 : Index := 0#32
  ![1, v148.toNat, 0]
def k0_off8 (i : grid0.Coords) (k0_t2 : Fin (k0_t2_loop i).trips) : Fin 3 → Nat :=
  let c1_82 : Index := 1#32
  let c0_i32_30 : BitVec 32 := 0#32
  let arg1 : BitVec 32 := BitVec.ofNat 32 (i 1).val
  let c0_i32_25 : BitVec 32 := 0#32
  let v45 : BitVec 1 := Scalar.cmpi .sgt arg1 c0_i32_25
  let v46 : BitVec 32 := Scalar.extui v45
  let c0_i32_26 : BitVec 32 := 0#32
  let v47 : BitVec 1 := Scalar.cmpi .slt arg1 c0_i32_26
  let v48 : BitVec 32 := Scalar.extui v47
  let v49 : BitVec 32 := Scalar.subi v46 v48
  let c4_i32 : BitVec 32 := 4#32
  let c0_i32_27 : BitVec 32 := 0#32
  let v50 : BitVec 1 := Scalar.cmpi .sgt c4_i32 c0_i32_27
  let v51 : BitVec 32 := Scalar.extui v50
  let c0_i32_28 : BitVec 32 := 0#32
  let v52 : BitVec 1 := Scalar.cmpi .slt c4_i32 c0_i32_28
  let v53 : BitVec 32 := Scalar.extui v52
  let v54 : BitVec 32 := Scalar.subi v51 v53
  let v55 : BitVec 1 := Scalar.cmpi .ne v49 v54
  let v56 : BitVec 32 := Scalar.remsi arg1 c4_i32
  let c0_i32_29 : BitVec 32 := 0#32
  let v57 : BitVec 1 := Scalar.cmpi .ne v56 c0_i32_29
  let v58 : BitVec 1 := Scalar.andi v55 v57
  let v44 : BitVec 32 := Scalar.divsi arg1 c4_i32
  let c1_i32 : BitVec 32 := 1#32
  let v59 : BitVec 32 := Scalar.subi v44 c1_i32
  let v60 : BitVec 32 := Scalar.select v58 v59 v44
  let v61 : BitVec 32 := Scalar.subi v60 c0_i32_30
  let c1_i32_31 : BitVec 32 := 1#32
  let v63 : BitVec 32 := Scalar.divsi v61 c1_i32_31
  let v64 : BitVec 32 := Scalar.muli v63 c1_i32_31
  let v65 : BitVec 32 := Scalar.addi c0_i32_30 v64
  let c1_i32_33 : BitVec 32 := 1#32
  let arg11 : BitVec 32 := Scf.iv v65 c1_i32_33 k0_t2
  let c4_i32_52 : BitVec 32 := 4#32
  let v101 : BitVec 32 := Scalar.muli arg11 c4_i32_52
  let c256_i32 : BitVec 32 := 256#32
  let v102 : BitVec 32 := Scalar.muli v101 c256_i32
  let v103 : BitVec 32 := v102
  let v157 : Index := Scalar.indexCast v103
  let c0_83 : Index := 0#32
  ![1, v157.toNat, 0]
def k0_cond2 (i : grid0.Coords) : BitVec 1 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let v86 : BitVec 32 := Scalar.subi arg1 v85
  let c0_i32_42 : BitVec 32 := 0#32
  let v87 : BitVec 32 := Scalar.maxsi v86 c0_i32_42
  let c3_i32 : BitVec 32 := 3#32
  let v88 : BitVec 32 := Scalar.minsi v87 c3_i32
  let c0_i32_43 : BitVec 32 := 0#32
  let v89 : BitVec 1 := Scalar.cmpi .ne v88 c0_i32_43
  v89

def k0_cond3 (i : grid0.Coords) : BitVec 1 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let v86 : BitVec 32 := Scalar.subi arg1 v85
  let c0_i32_42 : BitVec 32 := 0#32
  let v87 : BitVec 32 := Scalar.maxsi v86 c0_i32_42
  let c3_i32 : BitVec 32 := 3#32
  let v88 : BitVec 32 := Scalar.minsi v87 c3_i32
  let c1_i32_52 : BitVec 32 := 1#32
  let v101 : BitVec 32 := Scalar.subi v88 c1_i32_52
  let c0_i32_53 : BitVec 32 := 0#32
  let v102 : BitVec 1 := Scalar.cmpi .ne v101 c0_i32_53
  v102

def k0_cond4 (i : grid0.Coords) : BitVec 1 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let v86 : BitVec 32 := Scalar.subi arg1 v85
  let c0_i32_42 : BitVec 32 := 0#32
  let v87 : BitVec 32 := Scalar.maxsi v86 c0_i32_42
  let c3_i32 : BitVec 32 := 3#32
  let v88 : BitVec 32 := Scalar.minsi v87 c3_i32
  let c1_i32_52 : BitVec 32 := 1#32
  let v101 : BitVec 32 := Scalar.subi v88 c1_i32_52
  let c1_i32_54 : BitVec 32 := 1#32
  let v104 : BitVec 32 := Scalar.subi v101 c1_i32_54
  let c0_i32_55 : BitVec 32 := 0#32
  let v105 : BitVec 1 := Scalar.cmpi .ne v104 c0_i32_55
  v105

def k0_mult3 (i : grid0.Coords) : BitVec 32 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  v107
def k0_off9 (i : grid0.Coords) : Fin 3 → Nat :=
  let c0_59 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v111 : Index := Scalar.indexCast v108
  let c0_60 : Index := 0#32
  ![0, v111.toNat, 0]
def k0_off10 (i : grid0.Coords) : Fin 3 → Nat :=
  let c0_65 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v129 : Index := Scalar.indexCast v108
  let c0_66 : Index := 0#32
  ![0, v129.toNat, 0]
def k0_off11 (i : grid0.Coords) : Fin 3 → Nat :=
  let c1_83 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v162 : Index := Scalar.indexCast v108
  let c0_84 : Index := 0#32
  ![1, v162.toNat, 0]
def k0_off12 (i : grid0.Coords) : Fin 3 → Nat :=
  let c1_89 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v180 : Index := Scalar.indexCast v108
  let c0_90 : Index := 0#32
  ![1, v180.toNat, 0]
def k0_mult4 (i : grid0.Coords) : BitVec 32 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  v107
def k0_off13 (i : grid0.Coords) : Fin 3 → Nat :=
  let c0_59 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v111 : Index := Scalar.indexCast v108
  let c0_60 : Index := 0#32
  ![0, v111.toNat, 0]
def k0_off14 (i : grid0.Coords) : Fin 3 → Nat :=
  let c0_65 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v129 : Index := Scalar.indexCast v108
  let c0_66 : Index := 0#32
  ![0, v129.toNat, 0]
def k0_off15 (i : grid0.Coords) : Fin 3 → Nat :=
  let c1_83 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v162 : Index := Scalar.indexCast v108
  let c0_84 : Index := 0#32
  ![1, v162.toNat, 0]
def k0_off16 (i : grid0.Coords) : Fin 3 → Nat :=
  let c1_89 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v107 : BitVec 32 := Scalar.muli v85 c256_i32
  let v108 : BitVec 32 := v107
  let v180 : Index := Scalar.indexCast v108
  let c0_90 : Index := 0#32
  ![1, v180.toNat, 0]
def k0_mult5 (i : grid0.Coords) : BitVec 32 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v104 : BitVec 32 := Scalar.muli v85 c256_i32
  v104
def k0_off17 (i : grid0.Coords) : Fin 3 → Nat :=
  let c0_57 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v104 : BitVec 32 := Scalar.muli v85 c256_i32
  let v105 : BitVec 32 := v104
  let v108 : Index := Scalar.indexCast v105
  let c0_58 : Index := 0#32
  ![0, v108.toNat, 0]
def k0_off18 (i : grid0.Coords) : Fin 3 → Nat :=
  let c0_63 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v104 : BitVec 32 := Scalar.muli v85 c256_i32
  let v105 : BitVec 32 := v104
  let v126 : Index := Scalar.indexCast v105
  let c0_64 : Index := 0#32
  ![0, v126.toNat, 0]
def k0_off19 (i : grid0.Coords) : Fin 3 → Nat :=
  let c1_81 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v104 : BitVec 32 := Scalar.muli v85 c256_i32
  let v105 : BitVec 32 := v104
  let v159 : Index := Scalar.indexCast v105
  let c0_82 : Index := 0#32
  ![1, v159.toNat, 0]
def k0_off20 (i : grid0.Coords) : Fin 3 → Nat :=
  let c1_87 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v104 : BitVec 32 := Scalar.muli v85 c256_i32
  let v105 : BitVec 32 := v104
  let v177 : Index := Scalar.indexCast v105
  let c0_88 : Index := 0#32
  ![1, v177.toNat, 0]
def k0_mult6 (i : grid0.Coords) : BitVec 32 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v101 : BitVec 32 := Scalar.muli v85 c256_i32
  v101
def k0_off21 (i : grid0.Coords) : Fin 3 → Nat :=
  let c0_55 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v101 : BitVec 32 := Scalar.muli v85 c256_i32
  let v102 : BitVec 32 := v101
  let v105 : Index := Scalar.indexCast v102
  let c0_56 : Index := 0#32
  ![0, v105.toNat, 0]
def k0_off22 (i : grid0.Coords) : Fin 3 → Nat :=
  let c0_61 : Index := 0#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v101 : BitVec 32 := Scalar.muli v85 c256_i32
  let v102 : BitVec 32 := v101
  let v123 : Index := Scalar.indexCast v102
  let c0_62 : Index := 0#32
  ![0, v123.toNat, 0]
def k0_off23 (i : grid0.Coords) : Fin 3 → Nat :=
  let c1_79 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v101 : BitVec 32 := Scalar.muli v85 c256_i32
  let v102 : BitVec 32 := v101
  let v156 : Index := Scalar.indexCast v102
  let c0_80 : Index := 0#32
  ![1, v156.toNat, 0]
def k0_off24 (i : grid0.Coords) : Fin 3 → Nat :=
  let c1_85 : Index := 1#32
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .slt arg1 c0_i32_36
  let v72 : BitVec 32 := Scalar.extui v71
  let v73 : BitVec 32 := Scalar.subi v70 v72
  let c4_i32_34 : BitVec 32 := 4#32
  let c0_i32_37 : BitVec 32 := 0#32
  let v74 : BitVec 1 := Scalar.cmpi .sgt c4_i32_34 c0_i32_37
  let v75 : BitVec 32 := Scalar.extui v74
  let c0_i32_38 : BitVec 32 := 0#32
  let v76 : BitVec 1 := Scalar.cmpi .slt c4_i32_34 c0_i32_38
  let v77 : BitVec 32 := Scalar.extui v76
  let v78 : BitVec 32 := Scalar.subi v75 v77
  let v79 : BitVec 1 := Scalar.cmpi .ne v73 v78
  let v80 : BitVec 32 := Scalar.remsi arg1 c4_i32_34
  let c0_i32_39 : BitVec 32 := 0#32
  let v81 : BitVec 1 := Scalar.cmpi .ne v80 c0_i32_39
  let v82 : BitVec 1 := Scalar.andi v79 v81
  let v68 : BitVec 32 := Scalar.divsi arg1 c4_i32_34
  let c1_i32_40 : BitVec 32 := 1#32
  let v83 : BitVec 32 := Scalar.subi v68 c1_i32_40
  let v84 : BitVec 32 := Scalar.select v82 v83 v68
  let c4_i32_41 : BitVec 32 := 4#32
  let v85 : BitVec 32 := Scalar.muli v84 c4_i32_41
  let c256_i32 : BitVec 32 := 256#32
  let v101 : BitVec 32 := Scalar.muli v85 c256_i32
  let v102 : BitVec 32 := v101
  let v174 : Index := Scalar.indexCast v102
  let c0_86 : Index := 0#32
  ![1, v174.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8192x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x8192x96 : Shape := ⟨3, ![4, 8192, 96]⟩
abbrev S4x8192x64 : Shape := ⟨3, ![4, 8192, 64]⟩

abbrev nBuf : Space → Nat
  | .hbm => 92
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .i1⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x64x8192, .f32⟩
  | .hbm, ⟨60, _⟩ => ⟨S8192x4x64, .f32⟩
  | .hbm, ⟨61, _⟩ => ⟨S4x64x8192, .f32⟩
  | .hbm, ⟨62, _⟩ => ⟨S4x8192x8192, .f32⟩
  | .hbm, ⟨63, _⟩ => ⟨S4x64x8192, .f32⟩
  | .hbm, ⟨64, _⟩ => ⟨S8192x4x64, .f32⟩
  | .hbm, ⟨65, _⟩ => ⟨S4x8192x8192, .f32⟩
  | .hbm, ⟨66, _⟩ => ⟨S4x8192x8192, .f32⟩
  | .hbm, ⟨67, _⟩ => ⟨S4x8192x8192, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S4x8192x1, .f32⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x8192, .f32⟩
  | .hbm, ⟨77, _⟩ => ⟨S4x8192x8192, .f32⟩
  | .hbm, ⟨78, _⟩ => ⟨S4x8192x8192, .f32⟩
  | .hbm, ⟨79, _⟩ => ⟨S_, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x96, .f32⟩
  | .hbm, ⟨86, _⟩ => ⟨S8192x4x96, .f32⟩
  | .hbm, ⟨87, _⟩ => ⟨S4x8192x96, .f32⟩
  | .hbm, ⟨88, _⟩ => ⟨S8192x4x96, .f32⟩
  | .hbm, ⟨89, _⟩ => ⟨S4x8192x96, .f32⟩
  | .hbm, ⟨90, _⟩ => ⟨S4x8192x96, .f32⟩
  | .hbm, ⟨91, _⟩ => ⟨S4x8192x64, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x8x704, .f32⟩
  | .hbm, ⟨4, _⟩ => ⟨S8x8192x704, .f32⟩
  | .hbm, ⟨5, _⟩ => ⟨S8x8192x704, .bf16⟩
  | .hbm, ⟨6, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S8192x1024 : Shape := ⟨2, ![8192, 1024]⟩
abbrev S1x2048x704 : Shape := ⟨3, ![1, 2048, 704]⟩
abbrev S1x1024x704 : Shape := ⟨3, ![1, 1024, 704]⟩
abbrev S2048x1024 : Shape := ⟨2, ![2048, 1024]⟩
abbrev S2048x704 : Shape := ⟨2, ![2048, 704]⟩
abbrev S1024x704 : Shape := ⟨2, ![1024, 704]⟩

abbrev nBuf : Space → Nat
  | .hbm => 9
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S8192x8x704, .f32⟩
  | .hbm, ⟨3, _⟩ => ⟨S8x8192x704, .f32⟩
  | .hbm, ⟨4, _⟩ => ⟨S8x8192x704, .bf16⟩
  | .hbm, ⟨5, _⟩ => ⟨S1024x8x704, .f32⟩
  | .hbm, ⟨6, _⟩ => ⟨S8x1024x704, .f32⟩
  | .hbm, ⟨7, _⟩ => ⟨S8x1024x704, .bf16⟩
  | .hbm, ⟨8, _⟩ => ⟨S8192x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2816x1024 : Shape := ⟨2, ![2816, 1024]⟩
abbrev S8192x1024 : Shape := ⟨2, ![8192, 1024]⟩
abbrev S4x704x1024 : Shape := ⟨3, ![4, 704, 1024]⟩
abbrev S4x8192x704 : Shape := ⟨3, ![4, 8192, 704]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S4x704x1024, .f32⟩
  | .hbm, ⟨3, _⟩ => ⟨S4x704x1024, .bf16⟩
  | .hbm, ⟨4, _⟩ => ⟨S4x8192x704, .f32⟩
  | .local _ .vmem, ⟨0, _⟩ => ⟨S2048x1024, .f32⟩
  | .local _ .vmem, ⟨1, _⟩ => ⟨S2048x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .f32⟩
  | .local _ .vmem, ⟨5, _⟩ => ⟨S1x2048x704, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x4x704, .f32⟩
  | .hbm, ⟨7, _⟩ => ⟨S4x8192x704, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S8192x2560 : Shape := ⟨2, ![8192, 2560]⟩
abbrev S1024x2560 : Shape := ⟨2, ![1024, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2560, .f32⟩
  | .hbm, ⟨2, _⟩ => ⟨S8192x1024, .bf16⟩
  | .hbm, ⟨3, _⟩ => ⟨S8192x2560, .bf16⟩
  | .hbm, ⟨4, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2560, .f32⟩
  | .hbm, ⟨2, _⟩ => ⟨S_, .f32⟩
  | .hbm, ⟨3, _⟩ => ⟨S1024x2560, .f32⟩
  | .hbm, ⟨4, _⟩ => ⟨S8192x2560, .f32⟩
  | .hbm, ⟨5, _⟩ => ⟨S2560x1024, .f32⟩
  | .hbm, ⟨6, _⟩ => ⟨S1024x2560, .f32⟩
  | .hbm, ⟨7, _⟩ => ⟨S1024x2560, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S1024x2560 : Shape := ⟨2, ![1024, 2560]⟩
abbrev S8192x2560 : Shape := ⟨2, ![8192, 2560]⟩
abbrev S8192x1024 : Shape := ⟨2, ![8192, 1024]⟩
abbrev S2048x1280 : Shape := ⟨2, ![2048, 1280]⟩
abbrev S1024x1280 : Shape := ⟨2, ![1024, 1280]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2560, .f32⟩
  | .hbm, ⟨1, _⟩ => ⟨S8192x2560, .f32⟩
  | .hbm, ⟨2, _⟩ => ⟨S8192x2560, .bf16⟩
  | .hbm, ⟨3, _⟩ => ⟨S1024x2560, .bf16⟩
  | .hbm, ⟨4, _⟩ => ⟨S8192x1024, .f32⟩
  | .local _ .vmem, ⟨0, _⟩ => ⟨S2048x1280, .bf16⟩
  | .local _ .vmem, ⟨1, _⟩ => ⟨S2048x1280, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S1024x2560 : Shape := ⟨2, ![1024, 2560]⟩
abbrev S8192x2560 : Shape := ⟨2, ![8192, 2560]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S8192x2560, .f32⟩
  | .hbm, ⟨2, _⟩ => ⟨S_, .f32⟩
  | .hbm, ⟨3, _⟩ => ⟨S8192x1024, .f32⟩
  | .hbm, ⟨4, _⟩ => ⟨S8192x2560, .f32⟩
  | .hbm, ⟨5, _⟩ => ⟨S8192x1024, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x2560 : Shape := ⟨2, ![1024, 2560]⟩
abbrev S8192x2560 : Shape := ⟨2, ![8192, 2560]⟩
abbrev S2048x1024 : Shape := ⟨2, ![2048, 1024]⟩
abbrev S1024x1280 : Shape := ⟨2, ![1024, 1280]⟩
abbrev S2048x1280 : Shape := ⟨2, ![2048, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x1024, .bf16⟩
  | .hbm, ⟨3, _⟩ => ⟨S1024x2560, .bf16⟩
  | .hbm, ⟨4, _⟩ => ⟨S8192x2560, .f32⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .f32⟩
  | .local _ .vmem, ⟨5, _⟩ => ⟨S2048x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference10Ideal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8x8192x704 : Shape := ⟨3, ![8, 8192, 704]⟩
abbrev S2048x1024 : Shape := ⟨2, ![2048, 1024]⟩
abbrev S1x1024x704 : Shape := ⟨3, ![1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x8x704, .f32⟩
  | .hbm, ⟨4, _⟩ => ⟨S8x1024x704, .f32⟩
  | .hbm, ⟨5, _⟩ => ⟨S8x1024x704, .bf16⟩
  | .hbm, ⟨6, _⟩ => ⟨S8x8192x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference11Ideal.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x8x704, .f32⟩
  | .hbm, ⟨4, _⟩ => ⟨S8x8192x704, .f32⟩
  | .hbm, ⟨5, _⟩ => ⟨S8x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x2816 : Shape := ⟨2, ![8192, 2816]⟩
abbrev S2816x1024 : Shape := ⟨2, ![2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S4x704x1024, .f32⟩
  | .hbm, ⟨7, _⟩ => ⟨S4x704x1024, .bf16⟩
  | .hbm, ⟨8, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference12Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x512 : Shape := ⟨2, ![8192, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S8192x512, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x512, .f32⟩
  | .hbm, ⟨51, _⟩ => ⟨S8192x512, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== Kernel15.lean ====
abbrev S4x8192x96 : Shape := ⟨3, ![4, 8192, 96]⟩
abbrev S4x8192x64 : Shape := ⟨3, ![4, 8192, 64]⟩
abbrev S4x8192x128 : Shape := ⟨3, ![4, 8192, 128]⟩
abbrev S2x256x96 : Shape := ⟨3, ![2, 256, 96]⟩
abbrev S2x8192x96 : Shape := ⟨3, ![2, 8192, 96]⟩
abbrev S2x8192x64 : Shape := ⟨3, ![2, 8192, 64]⟩
abbrev S2x256x64 : Shape := ⟨3, ![2, 256, 64]⟩
abbrev S2x256x128 : Shape := ⟨3, ![2, 256, 128]⟩
abbrev S256x1 : Shape := ⟨2, ![256, 1]⟩
abbrev S256x64 : Shape := ⟨2, ![256, 64]⟩
abbrev S1x256x96 : Shape := ⟨3, ![1, 256, 96]⟩
abbrev S256x96 : Shape := ⟨2, ![256, 96]⟩
abbrev S1x1024x96 : Shape := ⟨3, ![1, 1024, 96]⟩
abbrev S1024x96 : Shape := ⟨2, ![1024, 96]⟩
abbrev S256x1024 : Shape := ⟨2, ![256, 1024]⟩
abbrev S256 : Shape := ⟨1, ![256]⟩
abbrev S1x1024x64 : Shape := ⟨3, ![1, 1024, 64]⟩
abbrev S1024x64 : Shape := ⟨2, ![1024, 64]⟩
abbrev S1x768x96 : Shape := ⟨3, ![1, 768, 96]⟩
abbrev S768x96 : Shape := ⟨2, ![768, 96]⟩
abbrev S256x768 : Shape := ⟨2, ![256, 768]⟩
abbrev S1x768x64 : Shape := ⟨3, ![1, 768, 64]⟩
abbrev S768x64 : Shape := ⟨2, ![768, 64]⟩
abbrev S1x512x96 : Shape := ⟨3, ![1, 512, 96]⟩
abbrev S512x96 : Shape := ⟨2, ![512, 96]⟩
abbrev S256x512 : Shape := ⟨2, ![256, 512]⟩
abbrev S1x512x64 : Shape := ⟨3, ![1, 512, 64]⟩
abbrev S512x64 : Shape := ⟨2, ![512, 64]⟩
abbrev S256x256 : Shape := ⟨2, ![256, 256]⟩
abbrev S1x256x64 : Shape := ⟨3, ![1, 256, 64]⟩
abbrev S256x128 : Shape := ⟨2, ![256, 128]⟩
abbrev S1x256x128 : Shape := ⟨3, ![1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x64, .f32⟩
  | .hbm, ⟨4, _⟩ => ⟨S4x8192x128, .f32⟩
  | .local _ .vmem, ⟨0, _⟩ => ⟨S2x256x96, .bf16⟩
  | .local _ .vmem, ⟨1, _⟩ => ⟨S2x256x96, .bf16⟩
  | .local _ .vmem, ⟨2, _⟩ => ⟨S2x8192x96, .bf16⟩
  | .local _ .vmem, ⟨3, _⟩ => ⟨S2x8192x96, .bf16⟩
  | .local _ .vmem, ⟨4, _⟩ => ⟨S2x8192x64, .bf16⟩
  | .local _ .vmem, ⟨5, _⟩ => ⟨S2x8192x64, .bf16⟩
  | .local _ .vmem, ⟨6, _⟩ => ⟨S2x256x64, .f32⟩
  | .local _ .vmem, ⟨7, _⟩ => ⟨S2x256x64, .f32⟩
  | .local _ .vmem, ⟨8, _⟩ => ⟨S2x256x128, .f32⟩
  | .local _ .vmem, ⟨9, _⟩ => ⟨S2x256x128, .f32⟩
  | _, _ => ⟨S4x8192x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_8 : BitVec 32 := 1#32
  ⟨c0_i32_6, v24, c1_i32_8⟩
def k0_mult1 (i : grid0.Coords) (k0_t1 : Fin (k0_t1_loop i).trips) : BitVec 32 :=
  let c0_i32_6 : BitVec 32 := 0#32
  let c1_i32_8 : BitVec 32 := 1#32
  let arg7 : BitVec 32 := Scf.iv c0_i32_6 c1_i32_8 k0_t1
  let c4_i32_30 : BitVec 32 := 4#32
  let v74 : BitVec 32 := Scalar.muli arg7 c4_i32_30
  let c256_i32 : BitVec 32 := 256#32
  let v75 : BitVec 32 := Scalar.muli v74 c256_i32
  v75
def k0_off1 (i : grid0.Coords) (k0_t1 : Fin (k0_t1_loop i).trips) : Fin 3 → Nat :=
  let c0_34 : Index := 0#32
  let c0_i32_6 : BitVec 32 := 0#32
  let c1_i32_8 : BitVec 32 := 1#32
  let arg7 : BitVec 32 := Scf.iv c0_i32_6 c1_i32_8 k0_t1
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v79 : Index := Scalar.indexCast v76
  let c0_35 : Index := 0#32
  ![0, v79.toNat, 0]
def k0_off2 (i : grid0.Coords) (k0_t1 : Fin (k0_t1_loop i).trips) : Fin 3 → Nat :=
  let c0_40 : Index := 0#32
  let c0_i32_6 : BitVec 32 := 0#32
  let c1_i32_8 : BitVec 32 := 1#32
  let arg7 : BitVec 32 := Scf.iv c0_i32_6 c1_i32_8 k0_t1
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v100 : Index := Scalar.indexCast v76
  let c0_41 : Index := 0#32
  ![0, v100.toNat, 0]
def k0_off3 (i : grid0.Coords) (k0_t1 : Fin (k0_t1_loop i).trips) : Fin 3 → Nat :=
  let c1_46 : Index := 1#32
  let c0_i32_6 : BitVec 32 := 0#32
  let c1_i32_8 : BitVec 32 := 1#32
  let arg7 : BitVec 32 := Scf.iv c0_i32_6 c1_i32_8 k0_t1
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v107 : Index := Scalar.indexCast v76
  let c0_47 : Index := 0#32
  ![1, v107.toNat, 0]
def k0_off4 (i : grid0.Coords) (k0_t1 : Fin (k0_t1_loop i).trips) : Fin 3 → Nat :=
  let c1_52 : Index := 1#32
  let c0_i32_6 : BitVec 32 := 0#32
  let c1_i32_8 : BitVec 32 := 1#32
  let arg7 : BitVec 32 := Scf.iv c0_i32_6 c1_i32_8 k0_t1
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v128 : Index := Scalar.indexCast v76
  let c0_53 : Index := 0#32
  ![1, v128.toNat, 0]
@[reducible] def k0_t2_loop (i : grid0.Coords) : Scf.Loop 32 :=
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let v21 : BitVec 32 := Scalar.addi c0_i32_6 v20
  let c1_i32_9 : BitVec 32 := 1#32
  ⟨v24, v21, c1_i32_9⟩
def k0_mult2 (i : grid0.Coords) (k0_t2 : Fin (k0_t2_loop i).trips) : BitVec 32 :=
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg7 : BitVec 32 := Scf.iv v24 c1_i32_9 k0_t2
  let c4_i32_30 : BitVec 32 := 4#32
  let v74 : BitVec 32 := Scalar.muli arg7 c4_i32_30
  let c256_i32 : BitVec 32 := 256#32
  let v75 : BitVec 32 := Scalar.muli v74 c256_i32
  v75
def k0_off5 (i : grid0.Coords) (k0_t2 : Fin (k0_t2_loop i).trips) : Fin 3 → Nat :=
  let c0_34 : Index := 0#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg7 : BitVec 32 := Scf.iv v24 c1_i32_9 k0_t2
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v79 : Index := Scalar.indexCast v76
  let c0_35 : Index := 0#32
  ![0, v79.toNat, 0]
def k0_off6 (i : grid0.Coords) (k0_t2 : Fin (k0_t2_loop i).trips) : Fin 3 → Nat :=
  let c0_40 : Index := 0#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg7 : BitVec 32 := Scf.iv v24 c1_i32_9 k0_t2
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v100 : Index := Scalar.indexCast v76
  let c0_41 : Index := 0#32
  ![0, v100.toNat, 0]
def k0_off7 (i : grid0.Coords) (k0_t2 : Fin (k0_t2_loop i).trips) : Fin 3 → Nat :=
  let c1_46 : Index := 1#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg7 : BitVec 32 := Scf.iv v24 c1_i32_9 k0_t2
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v107 : Index := Scalar.indexCast v76
  let c0_47 : Index := 0#32
  ![1, v107.toNat, 0]
def k0_off8 (i : grid0.Coords) (k0_t2 : Fin (k0_t2_loop i).trips) : Fin 3 → Nat :=
  let c1_52 : Index := 1#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg7 : BitVec 32 := Scf.iv v24 c1_i32_9 k0_t2
  let c4_i32_30 : BitVec 32 := 4#32
  let v74 : BitVec 32 := Scalar.muli arg7 c4_i32_30
  let c256_i32 : BitVec 32 := 256#32
  let v75 : BitVec 32 := Scalar.muli v74 c256_i32
  let v76 : BitVec 32 := v75
  let v128 : Index := Scalar.indexCast v76
  let c0_53 : Index := 0#32
  ![1, v128.toNat, 0]
def k0_cond1 (i : grid0.Coords) : BitVec 1 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let v45 : BitVec 32 := Scalar.subi arg1 v44
  let c0_i32_18 : BitVec 32 := 0#32
  let v46 : BitVec 32 := Scalar.maxsi v45 c0_i32_18
  let c3_i32 : BitVec 32 := 3#32
  let v47 : BitVec 32 := Scalar.minsi v46 c3_i32
  let c0_i32_19 : BitVec 32 := 0#32
  let v48 : BitVec 1 := Scalar.cmpi .ne v47 c0_i32_19
  v48

def k0_cond2 (i : grid0.Coords) : BitVec 1 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let v45 : BitVec 32 := Scalar.subi arg1 v44
  let c0_i32_18 : BitVec 32 := 0#32
  let v46 : BitVec 32 := Scalar.maxsi v45 c0_i32_18
  let c3_i32 : BitVec 32 := 3#32
  let v47 : BitVec 32 := Scalar.minsi v46 c3_i32
  let c1_i32_30 : BitVec 32 := 1#32
  let v74 : BitVec 32 := Scalar.subi v47 c1_i32_30
  let c0_i32_31 : BitVec 32 := 0#32
  let v75 : BitVec 1 := Scalar.cmpi .ne v74 c0_i32_31
  v75

def k0_cond3 (i : grid0.Coords) : BitVec 1 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let v45 : BitVec 32 := Scalar.subi arg1 v44
  let c0_i32_18 : BitVec 32 := 0#32
  let v46 : BitVec 32 := Scalar.maxsi v45 c0_i32_18
  let c3_i32 : BitVec 32 := 3#32
  let v47 : BitVec 32 := Scalar.minsi v46 c3_i32
  let c1_i32_30 : BitVec 32 := 1#32
  let v74 : BitVec 32 := Scalar.subi v47 c1_i32_30
  let c1_i32_32 : BitVec 32 := 1#32
  let v77 : BitVec 32 := Scalar.subi v74 c1_i32_32
  let c0_i32_33 : BitVec 32 := 0#32
  let v78 : BitVec 1 := Scalar.cmpi .ne v77 c0_i32_33
  v78

def k0_mult3 (i : grid0.Coords) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  v80
def k0_off9 (i : grid0.Coords) : Fin 3 → Nat :=
  let c0_37 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v84 : Index := Scalar.indexCast v81
  let c0_38 : Index := 0#32
  ![0, v84.toNat, 0]
def k0_off10 (i : grid0.Coords) : Fin 3 → Nat :=
  let c0_45 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v114 : Index := Scalar.indexCast v81
  let c0_46 : Index := 0#32
  ![0, v114.toNat, 0]
def k0_off11 (i : grid0.Coords) : Fin 3 → Nat :=
  let c1_51 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v121 : Index := Scalar.indexCast v81
  let c0_52 : Index := 0#32
  ![1, v121.toNat, 0]
def k0_off12 (i : grid0.Coords) : Fin 3 → Nat :=
  let c1_59 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v151 : Index := Scalar.indexCast v81
  let c0_60 : Index := 0#32
  ![1, v151.toNat, 0]
def k0_mult4 (i : grid0.Coords) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  v80
def k0_off13 (i : grid0.Coords) : Fin 3 → Nat :=
  let c0_37 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v84 : Index := Scalar.indexCast v81
  let c0_38 : Index := 0#32
  ![0, v84.toNat, 0]
def k0_off14 (i : grid0.Coords) : Fin 3 → Nat :=
  let c0_45 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v114 : Index := Scalar.indexCast v81
  let c0_46 : Index := 0#32
  ![0, v114.toNat, 0]
def k0_off15 (i : grid0.Coords) : Fin 3 → Nat :=
  let c1_51 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v121 : Index := Scalar.indexCast v81
  let c0_52 : Index := 0#32
  ![1, v121.toNat, 0]
def k0_off16 (i : grid0.Coords) : Fin 3 → Nat :=
  let c1_59 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v80 : BitVec 32 := Scalar.muli v44 c256_i32
  let v81 : BitVec 32 := v80
  let v151 : Index := Scalar.indexCast v81
  let c0_60 : Index := 0#32
  ![1, v151.toNat, 0]
def k0_mult5 (i : grid0.Coords) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v77 : BitVec 32 := Scalar.muli v44 c256_i32
  v77
def k0_off17 (i : grid0.Coords) : Fin 3 → Nat :=
  let c0_35 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v77 : BitVec 32 := Scalar.muli v44 c256_i32
  let v78 : BitVec 32 := v77
  let v81 : Index := Scalar.indexCast v78
  let c0_36 : Index := 0#32
  ![0, v81.toNat, 0]
def k0_off18 (i : grid0.Coords) : Fin 3 → Nat :=
  let c0_43 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v77 : BitVec 32 := Scalar.muli v44 c256_i32
  let v78 : BitVec 32 := v77
  let v111 : Index := Scalar.indexCast v78
  let c0_44 : Index := 0#32
  ![0, v111.toNat, 0]
def k0_off19 (i : grid0.Coords) : Fin 3 → Nat :=
  let c1_49 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v77 : BitVec 32 := Scalar.muli v44 c256_i32
  let v78 : BitVec 32 := v77
  let v118 : Index := Scalar.indexCast v78
  let c0_50 : Index := 0#32
  ![1, v118.toNat, 0]
def k0_off20 (i : grid0.Coords) : Fin 3 → Nat :=
  let c1_57 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v77 : BitVec 32 := Scalar.muli v44 c256_i32
  let v78 : BitVec 32 := v77
  let v148 : Index := Scalar.indexCast v78
  let c0_58 : Index := 0#32
  ![1, v148.toNat, 0]
def k0_mult6 (i : grid0.Coords) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v74 : BitVec 32 := Scalar.muli v44 c256_i32
  v74
def k0_off21 (i : grid0.Coords) : Fin 3 → Nat :=
  let c0_33 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v74 : BitVec 32 := Scalar.muli v44 c256_i32
  let v75 : BitVec 32 := v74
  let v78 : Index := Scalar.indexCast v75
  let c0_34 : Index := 0#32
  ![0, v78.toNat, 0]
def k0_off22 (i : grid0.Coords) : Fin 3 → Nat :=
  let c0_41 : Index := 0#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v74 : BitVec 32 := Scalar.muli v44 c256_i32
  let v75 : BitVec 32 := v74
  let v108 : Index := Scalar.indexCast v75
  let c0_42 : Index := 0#32
  ![0, v108.toNat, 0]
def k0_off23 (i : grid0.Coords) : Fin 3 → Nat :=
  let c1_47 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v74 : BitVec 32 := Scalar.muli v44 c256_i32
  let v75 : BitVec 32 := v74
  let v115 : Index := Scalar.indexCast v75
  let c0_48 : Index := 0#32
  ![1, v115.toNat, 0]
def k0_off24 (i : grid0.Coords) : Fin 3 → Nat :=
  let c1_55 : Index := 1#32
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let v27 : BitVec 32 := Scalar.divsi arg1 c4_i32_10
  let c1_i32_16 : BitVec 32 := 1#32
  let v42 : BitVec 32 := Scalar.subi v27 c1_i32_16
  let v43 : BitVec 32 := Scalar.select v41 v42 v27
  let c4_i32_17 : BitVec 32 := 4#32
  let v44 : BitVec 32 := Scalar.muli v43 c4_i32_17
  let c256_i32 : BitVec 32 := 256#32
  let v74 : BitVec 32 := Scalar.muli v44 c256_i32
  let v75 : BitVec 32 := v74
  let v145 : Index := Scalar.indexCast v75
  let c0_56 : Index := 0#32
  ![1, v145.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S4x8192x96 : Shape := ⟨3, ![4, 8192, 96]⟩
abbrev S4x8192x64 : Shape := ⟨3, ![4, 8192, 64]⟩
abbrev S4x8192x8192 : Shape := ⟨3, ![4, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x8192 : Shape := ⟨2, ![4, 8192]⟩
abbrev S4x8192x1 : Shape := ⟨3, ![4, 8192, 1]⟩
abbrev S4x8192x128 : Shape := ⟨3, ![4, 8192, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x96, .f32⟩
  | .hbm, ⟨4, _⟩ => ⟨S4x8192x96, .f32⟩
  | .hbm, ⟨5, _⟩ => ⟨S4x8192x64, .f32⟩
  | .hbm, ⟨6, _⟩ => ⟨S4x8192x8192, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S8192, .i32⟩
  | .hbm, ⟨11, _⟩ => ⟨S1x1x8192, .i32⟩
  | .hbm, ⟨12, _⟩ => ⟨S1x8192x1, .i32⟩
  | .hbm, ⟨13, _⟩ => ⟨S1x8192x8192, .i32⟩
  | .hbm, ⟨14, _⟩ => ⟨S1x8192x8192, .i32⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S4x8192x8192, .i1⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x8192, .f32⟩
  | .hbm, ⟨45, _⟩ => ⟨S4x8192x8192, .f32⟩
  | .hbm, ⟨46, _⟩ => ⟨S4x8192x64, .f32⟩
  | .hbm, ⟨47, _⟩ => ⟨S4x8192x128, .f32⟩
  | _, _ => ⟨S4x8192x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel16.lean ====
abbrev S8192x256 : Shape := ⟨2, ![8192, 256]⟩
abbrev S256x384 : Shape := ⟨2, ![256, 384]⟩
abbrev S8192x384 : Shape := ⟨2, ![8192, 384]⟩
abbrev S2048x256 : Shape := ⟨2, ![2048, 256]⟩
abbrev S2048x384 : Shape := ⟨2, ![2048, 384]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x384, .f32⟩
  | .hbm, ⟨2, _⟩ => ⟨S8192x256, .bf16⟩
  | .hbm, ⟨3, _⟩ => ⟨S256x384, .bf16⟩
  | .hbm, ⟨4, _⟩ => ⟨S8192x384, .f32⟩
  | .local _ .vmem, ⟨0, _⟩ => ⟨S2048x256, .bf16⟩
  | .local _ .vmem, ⟨1, _⟩ => ⟨S2048x256, .bf16⟩
  | .local _ .vmem, ⟨2, _⟩ => ⟨S256x384, .bf16⟩
  | .local _ .vmem, ⟨3, _⟩ => ⟨S2048x384, .f32⟩
  | .local _ .vmem, ⟨4, _⟩ => ⟨S2048x384, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S8192x256 : Shape := ⟨2, ![8192, 256]⟩
abbrev S256x384 : Shape := ⟨2, ![256, 384]⟩
abbrev S8192x384 : Shape := ⟨2, ![8192, 384]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x384, .f32⟩
  | .hbm, ⟨2, _⟩ => ⟨S8192x384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x128 : Shape := ⟨2, ![8192, 128]⟩
abbrev S128x512 : Shape := ⟨2, ![128, 512]⟩
abbrev S8192x512 : Shape := ⟨2, ![8192, 512]⟩
abbrev S2048x128 : Shape := ⟨2, ![2048, 128]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S128x512, .f32⟩
  | .hbm, ⟨2, _⟩ => ⟨S8192x128, .bf16⟩
  | .hbm, ⟨3, _⟩ => ⟨S128x512, .bf16⟩
  | .hbm, ⟨4, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S128x512, .bf16⟩
  | .local _ .vmem, ⟨3, _⟩ => ⟨S2048x512, .f32⟩
  | .local _ .vmem, ⟨4, _⟩ => ⟨S2048x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference17Ideal.lean ====
abbrev S8192x128 : Shape := ⟨2, ![8192, 128]⟩
abbrev S128x512 : Shape := ⟨2, ![128, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x512, .f32⟩
  | .hbm, ⟨2, _⟩ => ⟨S8192x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x256 : Shape := ⟨2, ![8192, 256]⟩
abbrev S8192x384 : Shape := ⟨2, ![8192, 384]⟩
abbrev S256x384 : Shape := ⟨2, ![256, 384]⟩
abbrev S2048x256 : Shape := ⟨2, ![2048, 256]⟩
abbrev S2048x384 : Shape := ⟨2, ![2048, 384]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x384, .f32⟩
  | .hbm, ⟨2, _⟩ => ⟨S8192x256, .bf16⟩
  | .hbm, ⟨3, _⟩ => ⟨S256x384, .bf16⟩
  | .local _ .vmem, ⟨0, _⟩ => ⟨S2048x256, .bf16⟩
  | .local _ .vmem, ⟨1, _⟩ => ⟨S2048x256, .bf16⟩
  | .local _ .vmem, ⟨2, _⟩ => ⟨S2048x384, .f32⟩
  | .local _ .vmem, ⟨3, _⟩ => ⟨S2048x384, .f32⟩
  | .local _ .vmem, ⟨4, _⟩ => ⟨S256x384, .bf16⟩
  | .local _ .vmem, ⟨5, _⟩ => ⟨S256x384, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference18Ideal.lean ====
abbrev S8192x256 : Shape := ⟨2, ![8192, 256]⟩
abbrev S8192x384 : Shape := ⟨2, ![8192, 384]⟩
abbrev S_ : Shape := ⟨0, ![]⟩
abbrev S256x384 : Shape := ⟨2, ![256, 384]⟩
abbrev S384x256 : Shape := ⟨2, ![384, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x384, .f32⟩
  | .hbm, ⟨2, _⟩ => ⟨S_, .f32⟩
  | .hbm, ⟨3, _⟩ => ⟨S256x384, .f32⟩
  | .hbm, ⟨4, _⟩ => ⟨S8192x384, .f32⟩
  | .hbm, ⟨5, _⟩ => ⟨S384x256, .f32⟩
  | .hbm, ⟨6, _⟩ => ⟨S256x384, .f32⟩
  | .hbm, ⟨7, _⟩ => ⟨S256x384, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S256x384 : Shape := ⟨2, ![256, 384]⟩
abbrev S8192x384 : Shape := ⟨2, ![8192, 384]⟩
abbrev S8192x256 : Shape := ⟨2, ![8192, 256]⟩
abbrev S2048x128 : Shape := ⟨2, ![2048, 128]⟩
abbrev S256x128 : Shape := ⟨2, ![256, 128]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S256x384, .f32⟩
  | .hbm, ⟨1, _⟩ => ⟨S8192x384, .f32⟩
  | .hbm, ⟨2, _⟩ => ⟨S256x384, .bf16⟩
  | .hbm, ⟨3, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S256x128, .bf16⟩
  | .local _ .vmem, ⟨3, _⟩ => ⟨S256x128, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 3], ![false, false, false, false]⟩

def k0_cond3 (i : grid0.Coords) : BitVec 1 :=
  let arg3 : BitVec 32 := BitVec.ofNat 32 (i 3).val
  let c2_i32 : BitVec 32 := 2#32
  let v11 : BitVec 1 := Scalar.cmpi .eq arg3 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference19Ideal.lean ====
abbrev S256x384 : Shape := ⟨2, ![256, 384]⟩
abbrev S8192x384 : Shape := ⟨2, ![8192, 384]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x384, .f32⟩
  | .hbm, ⟨1, _⟩ => ⟨S8192x384, .f32⟩
  | .hbm, ⟨2, _⟩ => ⟨S_, .f32⟩
  | .hbm, ⟨3, _⟩ => ⟨S8192x256, .f32⟩
  | .hbm, ⟨4, _⟩ => ⟨S8192x384, .f32⟩
  | .hbm, ⟨5, _⟩ => ⟨S8192x256, .f32⟩
  | _, _ => ⟨S256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x128 : Shape := ⟨2, ![8192, 128]⟩
abbrev S8192x512 : Shape := ⟨2, ![8192, 512]⟩
abbrev S128x512 : Shape := ⟨2, ![128, 512]⟩
abbrev S2048x128 : Shape := ⟨2, ![2048, 128]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x128, .bf16⟩
  | .hbm, ⟨3, _⟩ => ⟨S128x512, .bf16⟩
  | .local _ .vmem, ⟨0, _⟩ => ⟨S2048x128, .bf16⟩
  | .local _ .vmem, ⟨1, _⟩ => ⟨S2048x128, .bf16⟩
  | .local _ .vmem, ⟨2, _⟩ => ⟨S2048x512, .f32⟩
  | .local _ .vmem, ⟨3, _⟩ => ⟨S2048x512, .f32⟩
  | .local _ .vmem, ⟨4, _⟩ => ⟨S128x512, .bf16⟩
  | .local _ .vmem, ⟨5, _⟩ => ⟨S128x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference20Ideal.lean ====
abbrev S8192x128 : Shape := ⟨2, ![8192, 128]⟩
abbrev S8192x512 : Shape := ⟨2, ![8192, 512]⟩
abbrev S_ : Shape := ⟨0, ![]⟩
abbrev S128x512 : Shape := ⟨2, ![128, 512]⟩
abbrev S512x128 : Shape := ⟨2, ![512, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S_, .f32⟩
  | .hbm, ⟨3, _⟩ => ⟨S128x512, .f32⟩
  | .hbm, ⟨4, _⟩ => ⟨S8192x512, .f32⟩
  | .hbm, ⟨5, _⟩ => ⟨S512x128, .f32⟩
  | .hbm, ⟨6, _⟩ => ⟨S128x512, .f32⟩
  | .hbm, ⟨7, _⟩ => ⟨S128x512, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S128x512 : Shape := ⟨2, ![128, 512]⟩
abbrev S8192x512 : Shape := ⟨2, ![8192, 512]⟩
abbrev S8192x128 : Shape := ⟨2, ![8192, 128]⟩
abbrev S2048x512 : Shape := ⟨2, ![2048, 512]⟩
abbrev S2048x128 : Shape := ⟨2, ![2048, 128]⟩

abbrev nBuf : Space → Nat
  | .hbm => 4
  | .vmem => 5
  | .smem => 0
  | _ => 0

abbrev bufTy : (tb : Table) → Fin (tcTables nBuf tb) → BufTy
  | .hbm, ⟨0, _⟩ => ⟨S128x512, .f32⟩
  | .hbm, ⟨1, _⟩ => ⟨S8192x512, .f32⟩
  | .hbm, ⟨2, _⟩ => ⟨S128x512, .bf16⟩
  | .hbm, ⟨3, _⟩ => ⟨S8192x128, .f32⟩
  | .local _ .vmem, ⟨0, _⟩ => ⟨S2048x512, .f32⟩
  | .local _ .vmem, ⟨1, _⟩ => ⟨S2048x512, .f32⟩
  | .local _ .vmem, ⟨2, _⟩ => ⟨S128x512, .bf16⟩
  | .local _ .vmem, ⟨3, _⟩ => ⟨S2048x128, .f32⟩
  | .local _ .vmem, ⟨4, _⟩ => ⟨S2048x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference21Ideal.lean ====
abbrev S128x512 : Shape := ⟨2, ![128, 512]⟩
abbrev S8192x512 : Shape := ⟨2, ![8192, 512]⟩
abbrev S_ : Shape := ⟨0, ![]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S8192x512, .f32⟩
  | .hbm, ⟨2, _⟩ => ⟨S_, .f32⟩
  | .hbm, ⟨3, _⟩ => ⟨S8192x128, .f32⟩
  | .hbm, ⟨4, _⟩ => ⟨S8192x512, .f32⟩
  | .hbm, ⟨5, _⟩ => ⟨S8192x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S2048x2472 : Shape := ⟨2, ![2048, 2472]⟩
abbrev S2472x2560 : Shape := ⟨2, ![2472, 2560]⟩
abbrev S2048x8x309 : Shape := ⟨3, ![2048, 8, 309]⟩
abbrev S8x2048x309 : Shape := ⟨3, ![8, 2048, 309]⟩
abbrev S8x309x2560 : Shape := ⟨3, ![8, 309, 2560]⟩
abbrev S2048x2560 : Shape := ⟨2, ![2048, 2560]⟩
abbrev S1x2048x309 : Shape := ⟨3, ![1, 2048, 309]⟩
abbrev S1x309x1280 : Shape := ⟨3, ![1, 309, 1280]⟩
abbrev S2048x1280 : Shape := ⟨2, ![2048, 1280]⟩
abbrev S2048x309 : Shape := ⟨2, ![2048, 309]⟩
abbrev S309x1280 : Shape := ⟨2, ![309, 1280]⟩

abbrev nBuf : Space → Nat
  | .hbm => 8
  | .vmem => 7
  | .smem => 0
  | _ => 0

abbrev bufTy : (tb : Table) → Fin (tcTables nBuf tb) → BufTy
  | .hbm, ⟨0, _⟩ => ⟨S2048x2472, .f32⟩
  | .hbm, ⟨1, _⟩ => ⟨S2472x2560, .f32⟩
  | .hbm, ⟨2, _⟩ => ⟨S2048x8x309, .f32⟩
  | .hbm, ⟨3, _⟩ => ⟨S8x2048x309, .f32⟩
  | .hbm, ⟨4, _⟩ => ⟨S8x2048x309, .bf16⟩
  | .hbm, ⟨5, _⟩ => ⟨S8x309x2560, .f32⟩
  | .hbm, ⟨6, _⟩ => ⟨S8x309x2560, .bf16⟩
  | .hbm, ⟨7, _⟩ => ⟨S2048x2560, .bf16⟩
  | .local _ .vmem, ⟨0, _⟩ => ⟨S1x2048x309, .bf16⟩
  | .local _ .vmem, ⟨1, _⟩ => ⟨S1x2048x309, .bf16⟩
  | .local _ .vmem, ⟨2, _⟩ => ⟨S1x309x1280, .bf16⟩
  | .local _ .vmem, ⟨3, _⟩ => ⟨S1x309x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2048x1280, .f32⟩
  | _, _ => ⟨S2048x2472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x2048x309 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x309x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference22Ideal.lean ====
abbrev S2048x2472 : Shape := ⟨2, ![2048, 2472]⟩
abbrev S2472x2560 : Shape := ⟨2, ![2472, 2560]⟩
abbrev S2048x2560 : Shape := ⟨2, ![2048, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2048x2472, .f32⟩
  | .hbm, ⟨1, _⟩ => ⟨S2472x2560, .f32⟩
  | .hbm, ⟨2, _⟩ => ⟨S2048x2560, .f32⟩
  | .hbm, ⟨3, _⟩ => ⟨S2048x2560, .bf16⟩
  | _, _ => ⟨S2048x2472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S2472x2560 : Shape := ⟨2, ![2472, 2560]⟩
abbrev S2048x2560 : Shape := ⟨2, ![2048, 2560]⟩
abbrev S8x309x2560 : Shape := ⟨3, ![8, 309, 2560]⟩
abbrev S8x2048x309 : Shape := ⟨3, ![8, 2048, 309]⟩
abbrev S2048x1280 : Shape := ⟨2, ![2048, 1280]⟩
abbrev S1x309x1280 : Shape := ⟨3, ![1, 309, 1280]⟩
abbrev S1x2048x309 : Shape := ⟨3, ![1, 2048, 309]⟩
abbrev S2048x309 : Shape := ⟨2, ![2048, 309]⟩
abbrev S309x1280 : Shape := ⟨2, ![309, 1280]⟩

abbrev nBuf : Space → Nat
  | .hbm => 6
  | .vmem => 7
  | .smem => 0
  | _ => 0

abbrev bufTy : (tb : Table) → Fin (tcTables nBuf tb) → BufTy
  | .hbm, ⟨0, _⟩ => ⟨S2472x2560, .f32⟩
  | .hbm, ⟨1, _⟩ => ⟨S2048x2560, .f32⟩
  | .hbm, ⟨2, _⟩ => ⟨S2048x2560, .bf16⟩
  | .hbm, ⟨3, _⟩ => ⟨S8x309x2560, .f32⟩
  | .hbm, ⟨4, _⟩ => ⟨S8x309x2560, .bf16⟩
  | .hbm, ⟨5, _⟩ => ⟨S8x2048x309, .bf16⟩
  | .local _ .vmem, ⟨0, _⟩ => ⟨S2048x1280, .bf16⟩
  | .local _ .vmem, ⟨1, _⟩ => ⟨S2048x1280, .bf16⟩
  | .local _ .vmem, ⟨2, _⟩ => ⟨S1x309x1280, .bf16⟩
  | .local _ .vmem, ⟨3, _⟩ => ⟨S1x309x1280, .bf16⟩
  | .local _ .vmem, ⟨4, _⟩ => ⟨S1x2048x309, .bf16⟩
  | .local _ .vmem, ⟨5, _⟩ => ⟨S1x2048x309, .bf16⟩
  | .local _ .vmem, ⟨6, _⟩ => ⟨S2048x309, .f32⟩
  | _, _ => ⟨S2472x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x309x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x309 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference23Ideal.lean ====
abbrev S2472x2560 : Shape := ⟨2, ![2472, 2560]⟩
abbrev S2048x2560 : Shape := ⟨2, ![2048, 2560]⟩
abbrev S_ : Shape := ⟨0, ![]⟩
abbrev S2048x2472 : Shape := ⟨2, ![2048, 2472]⟩
abbrev S2048x8x309 : Shape := ⟨3, ![2048, 8, 309]⟩
abbrev S8x2048x309 : Shape := ⟨3, ![8, 2048, 309]⟩

abbrev nBuf : Space → Nat
  | .hbm => 9
  | .vmem => 0
  | .smem => 0
  | _ => 0

abbrev bufTy : (tb : Table) → Fin (tcTables nBuf tb) → BufTy
  | .hbm, ⟨0, _⟩ => ⟨S2472x2560, .f32⟩
  | .hbm, ⟨1, _⟩ => ⟨S2048x2560, .f32⟩
  | .hbm, ⟨2, _⟩ => ⟨S_, .f32⟩
  | .hbm, ⟨3, _⟩ => ⟨S2048x2472, .f32⟩
  | .hbm, ⟨4, _⟩ => ⟨S2048x2560, .f32⟩
  | .hbm, ⟨5, _⟩ => ⟨S2048x2472, .f32⟩
  | .hbm, ⟨6, _⟩ => ⟨S2048x8x309, .f32⟩
  | .hbm, ⟨7, _⟩ => ⟨S8x2048x309, .f32⟩
  | .hbm, ⟨8, _⟩ => ⟨S8x2048x309, .bf16⟩
  | _, _ => ⟨S2472x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel25.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S8192x256 : Shape := ⟨2, ![8192, 256]⟩
abbrev S256 : Shape := ⟨1, ![256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S1x256, .f32⟩
  | .hbm, ⟨3, _⟩ => ⟨S8192x256, .bf16⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S2048x256, .bf16⟩
  | .local _ .vmem, ⟨4, _⟩ => ⟨S2048x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S8192x128 : Shape := ⟨2, ![8192, 128]⟩
abbrev S128 : Shape := ⟨1, ![128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S1x128, .f32⟩
  | .hbm, ⟨3, _⟩ => ⟨S8192x128, .bf16⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .bf16⟩
  | .local _ .vmem, ⟨4, _⟩ => ⟨S4096x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x128 : Shape := ⟨2, ![8192, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel28.lean ====
abbrev S8192x512 : Shape := ⟨2, ![8192, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S1x512, .f32⟩
  | .hbm, ⟨4, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel29.lean ====
abbrev S8192x1024 : Shape := ⟨2, ![8192, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel30.lean ====
abbrev S8x2048x309 : Shape := ⟨3, ![8, 2048, 309]⟩
abbrev S2048x309 : Shape := ⟨2, ![2048, 309]⟩
abbrev S8x256x309 : Shape := ⟨3, ![8, 256, 309]⟩
abbrev S256x309 : Shape := ⟨2, ![256, 309]⟩
abbrev S1x256x309 : Shape := ⟨3, ![1, 256, 309]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x309, .bf16⟩
  | .hbm, ⟨1, _⟩ => ⟨S2048x309, .f32⟩
  | .hbm, ⟨2, _⟩ => ⟨S2048x309, .f32⟩
  | .hbm, ⟨3, _⟩ => ⟨S2048x309, .f32⟩
  | .hbm, ⟨4, _⟩ => ⟨S2048x309, .f32⟩
  | .hbm, ⟨5, _⟩ => ⟨S2048x309, .f32⟩
  | .hbm, ⟨6, _⟩ => ⟨S2048x309, .f32⟩
  | .hbm, ⟨7, _⟩ => ⟨S2048x309, .f32⟩
  | .local _ .vmem, ⟨0, _⟩ => ⟨S8x256x309, .bf16⟩
  | .local _ .vmem, ⟨1, _⟩ => ⟨S8x256x309, .bf16⟩
  | .local _ .vmem, ⟨2, _⟩ => ⟨S256x309, .f32⟩
  | .local _ .vmem, ⟨3, _⟩ => ⟨S256x309, .f32⟩
  | .local _ .vmem, ⟨4, _⟩ => ⟨S256x309, .f32⟩
  | .local _ .vmem, ⟨5, _⟩ => ⟨S256x309, .f32⟩
  | .local _ .vmem, ⟨6, _⟩ => ⟨S256x309, .f32⟩
  | .local _ .vmem, ⟨7, _⟩ => ⟨S256x309, .f32⟩
  | .local _ .vmem, ⟨8, _⟩ => ⟨S256x309, .f32⟩
  | .local _ .vmem, ⟨9, _⟩ => ⟨S256x309, .f32⟩
  | .local _ .vmem, ⟨10, _⟩ => ⟨S256x309, .f32⟩
  | .local _ .vmem, ⟨11, _⟩ => ⟨S256x309, .f32⟩
  | .local _ .vmem, ⟨12, _⟩ => ⟨S256x309, .f32⟩
  | .local _ .vmem, ⟨13, _⟩ => ⟨S256x309, .f32⟩
  | .local _ .vmem, ⟨14, _⟩ => ⟨S256x309, .f32⟩
  | .local _ .vmem, ⟨15, _⟩ => ⟨S256x309, .f32⟩
  | _, _ => ⟨S8x2048x309, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x309 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x309 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x309 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x309 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x309 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x309 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x309 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x309 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S8x2048x309 : Shape := ⟨3, ![8, 2048, 309]⟩
abbrev S2048x309 : Shape := ⟨2, ![2048, 309]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x309, .bf16⟩
  | .hbm, ⟨1, _⟩ => ⟨S2048x309, .f32⟩
  | .hbm, ⟨2, _⟩ => ⟨S2048x309, .f32⟩
  | .hbm, ⟨3, _⟩ => ⟨S2048x309, .f32⟩
  | .hbm, ⟨4, _⟩ => ⟨S8x2048x309, .f32⟩
  | .hbm, ⟨5, _⟩ => ⟨S_, .f32⟩
  | .hbm, ⟨6, _⟩ => ⟨S2048x309, .f32⟩
  | .hbm, ⟨7, _⟩ => ⟨S_, .f32⟩
  | .hbm, ⟨8, _⟩ => ⟨S2048x309, .f32⟩
  | .hbm, ⟨9, _⟩ => ⟨S2048x309, .f32⟩
  | .hbm, ⟨10, _⟩ => ⟨S_, .f32⟩
  | .hbm, ⟨11, _⟩ => ⟨S2048x309, .f32⟩
  | .hbm, ⟨12, _⟩ => ⟨S2048x309, .f32⟩
  | .hbm, ⟨13, _⟩ => ⟨S2048x309, .f32⟩
  | .hbm, ⟨14, _⟩ => ⟨S_, .f32⟩
  | .hbm, ⟨15, _⟩ => ⟨S2048x309, .f32⟩
  | .hbm, ⟨16, _⟩ => ⟨S2048x309, .f32⟩
  | .hbm, ⟨17, _⟩ => ⟨S2048x309, .f32⟩
  | .hbm, ⟨18, _⟩ => ⟨S_, .f32⟩
  | .hbm, ⟨19, _⟩ => ⟨S2048x309, .f32⟩
  | .hbm, ⟨20, _⟩ => ⟨S2048x309, .f32⟩
  | .hbm, ⟨21, _⟩ => ⟨S2048x309, .f32⟩
  | .hbm, ⟨22, _⟩ => ⟨S_, .f32⟩
  | .hbm, ⟨23, _⟩ => ⟨S2048x309, .f32⟩
  | .hbm, ⟨24, _⟩ => ⟨S2048x309, .f32⟩
  | .hbm, ⟨25, _⟩ => ⟨S_, .f32⟩
  | .hbm, ⟨26, _⟩ => ⟨S2048x309, .f32⟩
  | .hbm, ⟨27, _⟩ => ⟨S2048x309, .f32⟩
  | .hbm, ⟨28, _⟩ => ⟨S2048x309, .f32⟩
  | .hbm, ⟨29, _⟩ => ⟨S_, .f32⟩
  | .hbm, ⟨30, _⟩ => ⟨S2048x309, .f32⟩
  | .hbm, ⟨31, _⟩ => ⟨S2048x309, .f32⟩
  | .hbm, ⟨32, _⟩ => ⟨S2048x309, .f32⟩
  | .hbm, ⟨33, _⟩ => ⟨S_, .f32⟩
  | .hbm, ⟨34, _⟩ => ⟨S2048x309, .f32⟩
  | .hbm, ⟨35, _⟩ => ⟨S2048x309, .f32⟩
  | .hbm, ⟨36, _⟩ => ⟨S2048x309, .f32⟩
  | .hbm, ⟨37, _⟩ => ⟨S_, .f32⟩
  | .hbm, ⟨38, _⟩ => ⟨S2048x309, .f32⟩
  | .hbm, ⟨39, _⟩ => ⟨S2048x309, .f32⟩
  | _, _ => ⟨S8x2048x309, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S8192x256 : Shape := ⟨2, ![8192, 256]⟩
abbrev S256 : Shape := ⟨1, ![256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S1x256, .f32⟩
  | .hbm, ⟨4, _⟩ => ⟨S8192x256, .f32⟩
  | .hbm, ⟨5, _⟩ => ⟨S1x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S256, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Own.Geo.lean ====
/-
  Where the kernel's loads and stores lie. At query block `b` (256 queries) the keys are gone through in groups of 1024
  rows: `b / 4` whole groups by the counted loop, then one cut group at row `1024 * (b / 4)`.
-/
module

public import proofs.«01_k».proof.Proof.Gen.KernelIdeal.Frame
public import proofs.«01_k».proof.Proof.Gen.KernelIdeal.Loops
public import Idealize.ShloMosaic.Lib.Tactic

@[expose] public section

noncomputable section

namespace Cert.Proof.Mla

open Cert.KernelIdeal Cert.KernelIdeal.Gen
open Idealize.ShloMosaic

/-- The counted loop goes through every whole group of 1024 keys before the query block's own. -/
theorem trips_eq : ∀ i : grid0.Coords, (k0_t1_loop i).trips = (i 1).val / 4 := by decide +kernel

/-- The second loop has no trip. -/
theorem trips2_eq : ∀ i : grid0.Coords, (k0_t2_loop i).trips = 0 := by decide +kernel

theorem k0_off1_eq : ∀ (i : grid0.Coords) (k : Fin (k0_t1_loop i).trips), k0_off1 i k = ![0, 1024 * k.val, 0] := by decide +kernel
instance (i : grid0.Coords) (k : Fin (k0_t1_loop i).trips) : ClosedOff (k0_off1 i k) := ⟨_, k0_off1_eq i k⟩
theorem k0_off2_eq : ∀ (i : grid0.Coords) (k : Fin (k0_t1_loop i).trips), k0_off2 i k = ![0, 1024 * k.val, 0] := by decide +kernel
instance (i : grid0.Coords) (k : Fin (k0_t1_loop i).trips) : ClosedOff (k0_off2 i k) := ⟨_, k0_off2_eq i k⟩
theorem k0_off3_eq : ∀ (i : grid0.Coords) (k : Fin (k0_t1_loop i).trips), k0_off3 i k = ![1, 1024 * k.val, 0] := by decide +kernel
instance (i : grid0.Coords) (k : Fin (k0_t1_loop i).trips) : ClosedOff (k0_off3 i k) := ⟨_, k0_off3_eq i k⟩
theorem k0_off4_eq : ∀ (i : grid0.Coords) (k : Fin (k0_t1_loop i).trips), k0_off4 i k = ![1, 1024 * k.val, 0] := by decide +kernel
instance (i : grid0.Coords) (k : Fin (k0_t1_loop i).trips) : ClosedOff (k0_off4 i k) := ⟨_, k0_off4_eq i k⟩
theorem k0_off9_eq : ∀ i : grid0.Coords, k0_off9 i = ![0, 1024 * ((i 1).val / 4), 0] := by decide +kernel
instance (i : grid0.Coords) : ClosedOff (k0_off9 i) := ⟨_, k0_off9_eq i⟩
theorem k0_off10_eq : ∀ i : grid0.Coords, k0_off10 i = ![0, 1024 * ((i 1).val / 4), 0] := by decide +kernel
instance (i : grid0.Coords) : ClosedOff (k0_off10 i) := ⟨_, k0_off10_eq i⟩
theorem k0_off11_eq : ∀ i : grid0.Coords, k0_off11 i = ![1, 1024 * ((i 1).val / 4), 0] := by decide +kernel
instance (i : grid0.Coords) : ClosedOff (k0_off11 i) := ⟨_, k0_off11_eq i⟩
theorem k0_off12_eq : ∀ i : grid0.Coords, k0_off12 i = ![1, 1024 * ((i 1).val / 4), 0] := by decide +kernel
instance (i : grid0.Coords) : ClosedOff (k0_off12 i) := ⟨_, k0_off12_eq i⟩
theorem k0_off13_eq : ∀ i : grid0.Coords, k0_off13 i = ![0, 1024 * ((i 1).val / 4), 0] := by decide +kernel
instance (i : grid0.Coords) : ClosedOff (k0_off13 i) := ⟨_, k0_off13_eq i⟩
theorem k0_off14_eq : ∀ i : grid0.Coords, k0_off14 i = ![0, 1024 * ((i 1).val / 4), 0] := by decide +kernel
instance (i : grid0.Coords) : ClosedOff (k0_off14 i) := ⟨_, k0_off14_eq i⟩
theorem k0_off15_eq : ∀ i : grid0.Coords, k0_off15 i = ![1, 1024 * ((i 1).val / 4), 0] := by decide +kernel
instance (i : grid0.Coords) : ClosedOff (k0_off15 i) := ⟨_, k0_off15_eq i⟩
theorem k0_off16_eq : ∀ i : grid0.Coords, k0_off16 i = ![1, 1024 * ((i 1).val / 4), 0] := by decide +kernel
instance (i : grid0.Coords) : ClosedOff (k0_off16 i) := ⟨_, k0_off16_eq i⟩
theorem k0_off17_eq : ∀ i : grid0.Coords, k0_off17 i = ![0, 1024 * ((i 1).val / 4), 0] := by decide +kernel
instance (i : grid0.Coords) : ClosedOff (k0_off17 i) := ⟨_, k0_off17_eq i⟩
theorem k0_off18_eq : ∀ i : grid0.Coords, k0_off18 i = ![0, 1024 * ((i 1).val / 4), 0] := by decide +kernel
instance (i : grid0.Coords) : ClosedOff (k0_off18 i) := ⟨_, k0_off18_eq i⟩
theorem k0_off19_eq : ∀ i : grid0.Coords, k0_off19 i = ![1, 1024 * ((i 1).val / 4), 0] := by decide +kernel
instance (i : grid0.Coords) : ClosedOff (k0_off19 i) := ⟨_, k0_off19_eq i⟩
theorem k0_off20_eq : ∀ i : grid0.Coords, k0_off20 i = ![1, 1024 * ((i 1).val / 4), 0] := by decide +kernel
instance (i : grid0.Coords) : ClosedOff (k0_off20 i) := ⟨_, k0_off20_eq i⟩
theorem k0_off21_eq : ∀ i : grid0.Coords, k0_off21 i = ![0, 1024 * ((i 1).val / 4), 0] := by decide +kernel
instance (i : grid0.Coords) : ClosedOff (k0_off21 i) := ⟨_, k0_off21_eq i⟩
theorem k0_off22_eq : ∀ i : grid0.Coords, k0_off22 i = ![0, 1024 * ((i 1).val / 4), 0] := by decide +kernel
instance (i : grid0.Coords) : ClosedOff (k0_off22 i) := ⟨_, k0_off22_eq i⟩
theorem k0_off23_eq : ∀ i : grid0.Coords, k0_off23 i = ![1, 1024 * ((i 1).val / 4), 0] := by decide +kernel
instance (i : grid0.Coords) : ClosedOff (k0_off23 i) := ⟨_, k0_off23_eq i⟩
theorem k0_off24_eq : ∀ i : grid0.Coords, k0_off24 i = ![1, 1024 * ((i 1).val / 4), 0] := by decide +kernel
instance (i : grid0.Coords) : ClosedOff (k0_off24 i) := ⟨_, k0_off24_eq i⟩

/-- Which cut group the query block takes: 256 keys more for each block past a multiple of four. -/
theorem cond2_iff : ∀ i : grid0.Coords, k0_cond2 i = 1#1 ↔ 1 ≤ (i 1).val % 4 := by decide +kernel
theorem cond3_iff : ∀ i : grid0.Coords, 1 ≤ (i 1).val % 4 → (k0_cond3 i = 1#1 ↔ 2 ≤ (i 1).val % 4) := by decide +kernel
theorem cond4_iff : ∀ i : grid0.Coords, 2 ≤ (i 1).val % 4 → (k0_cond4 i = 1#1 ↔ 3 ≤ (i 1).val % 4) := by decide +kernel

end Cert.Proof.Mla

end
-- ==== Proof.Own.Trip.lean ====
/-
  One trip of the counted loop, as a step of plain values. A grid point holds two gradient accumulators (`dk`, `dv`, every
  key row of two heads) in its staging buffers and carries two more (`dq`, the query block's rows, one per head) from trip
  to trip. A trip reads 1024 rows of keys and values, adds to those rows of `dk` and `dv`, and adds to both `dq`.
-/
module

public import proofs.«01_k».proof.Proof.Own.Geo
public import Idealize.ShloMosaic.Lib.VecWindow
public import Idealize.ShloMosaic.Lib.LoopRemainder
public import Idealize.ShloMosaic.Lib.Pipeline.TableIdle

@[expose] public section

noncomputable section

namespace Cert.Proof.Mla

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- A staging buffer wholly owned, at the values `X`. -/
abbrev at_ (c : Dev nD) {sh : Shape} {e : EltTy} (M : Memref sig .tc .vmem sh e) (X : Vec F sh e) : sProp 𝕄 :=
  M.view.loc (c : Thread nD τ) ↦[M.view.set]{fullShare} M.view.rep X

/-- The accumulators: `dk` and `dv` of the two heads' every key row, and the two heads' `dq` of the query block. -/
structure Acc (F : FTy → Type) where
  dk : Vec F S2x8192x96 .f32
  dv : Vec F S2x8192x64 .f32
  dq : FVec F S256x96 .f32 × FVec F S256x96 .f32

/-- What every tile of the grid point uses: the blocks of `q`, the keys, the values, and per head `dy`, `delta`, `lse`. -/
structure Blk (F : FTy → Type) where
  q : Vec F S2x256x96 .bf16
  k : Vec F S2x8192x96 .bf16
  v : Vec F S2x8192x64 .bf16
  dy0 : FVec F S256x64 .bf16
  dy1 : FVec F S256x64 .bf16
  dl0 : FVec F S1x256 .f32
  dl1 : FVec F S1x256 .f32
  l0 : Vec F S1x256x1 .f32
  l1 : Vec F S1x256x1 .f32

namespace Blk
variable (x : Blk F)
abbrev q0 : Vec F S1x256x96 .bf16 := window x.q ![0, 0, 0] S1x256x96.size inb_S2x256x96_S1x256x96_0_0_0
abbrev q1 : Vec F S1x256x96 .bf16 := window x.q ![1, 0, 0] S1x256x96.size inb_S2x256x96_S1x256x96_1_0_0
end Blk

/-- One trip of the counted loop. -/
def tripStep (i : grid0.Coords) (x : Blk F) (k : Fin (k0_t1_loop i).trips) (a : Acc F) : Acc F :=
  let k0 : Vec F S1x1024x96 .bf16 := window x.k (k0_off1 i k) S1x1024x96.size (k0_off1_inb i k)
  let v0 : Vec F S1x1024x64 .bf16 := window x.v (k0_off2 i k) S1x1024x64.size (k0_off2_inb i k)
  let k1 : Vec F S1x1024x96 .bf16 := window x.k (k0_off3 i k) S1x1024x96.size (k0_off3_inb i k)
  let v1 : Vec F S1x1024x64 .bf16 := window x.v (k0_off4 i k) S1x1024x64.size (k0_off4_inb i k)
  { dk := put (put a.dk (k0_off1 i k) S1x1024x96.size
        (k0_pay19 x.dy0 x.dl0 (k0_pay93 x.l0) x.q0 k0 v0 (window a.dk (k0_off1 i k) S1x1024x96.size (k0_off1_inb i k))))
      (k0_off3 i k) S1x1024x96.size
        (k0_pay28 x.dy1 x.dl1 (k0_pay94 x.l1) x.q1 k1 v1 (window a.dk (k0_off3 i k) S1x1024x96.size (k0_off3_inb i k)))
    dv := put (put a.dv (k0_off2 i k) S1x1024x64.size
        (k0_pay22 x.dy0 (k0_pay20 (window a.dv (k0_off2 i k) S1x1024x64.size (k0_off2_inb i k))) (k0_pay21 (k0_pay93 x.l0) x.q0 k0)
          (constant S1024x64 .f32 0x00000000#32)))
      (k0_off4 i k) S1x1024x64.size
        (k0_pay96 x.dy1 (k0_pay26 (k0_pay94 x.l1) x.q1 k1) (window a.dv (k0_off4 i k) S1x1024x64.size (k0_off4_inb i k)))
    dq := (k0_pay23 a.dq.1 (k0_pay16 k0) (k0_pay18 x.dy0 x.dl0 (k0_pay93 x.l0) x.q0 k0 v0),
      k0_pay97 a.dq.2 (k0_pay25 k1) (k0_pay27 x.dy1 x.dl1 (k0_pay94 x.l1) x.q1 k1 v1)) }

section
variable (c : Dev nD) (i : grid0.Coords)
  (arg2 : Memref sig .tc .vmem S2x256x96 .bf16) (harg2 : arg2.IsWhole) (arg3 : Memref sig .tc .vmem S2x8192x96 .bf16) (harg3 : arg3.IsWhole)
  (arg4 : Memref sig .tc .vmem S2x8192x64 .bf16) (harg4 : arg4.IsWhole) (arg5 : Memref sig .tc .vmem S2x256x64 .f32) (harg5 : arg5.IsWhole)
  (arg6 : Memref sig .tc .vmem S2x256x64 .f32) (harg6 : arg6.IsWhole) (arg7 : Memref sig .tc .vmem S2x256x128 .f32) (harg7 : arg7.IsWhole)
  (arg8 : Memref sig .tc .vmem S2x256x96 .f32) (harg8 : arg8.IsWhole) (arg9 : Memref sig .tc .vmem S2x8192x96 .f32) (harg9 : arg9.IsWhole)
  (arg10 : Memref sig .tc .vmem S2x8192x64 .f32) (harg10 : arg10.IsWhole) (arg1 : BitVec 32)

/-- What a tile holds: the three operand blocks and the two accumulators. -/
abbrev tileRes (x : Blk F) (a : Acc F) : sProp 𝕄 :=
  iprop(at_ c arg2 x.q ∗ at_ c arg3 x.k ∗ at_ c arg4 x.v ∗ at_ c arg9 a.dk ∗ at_ c arg10 a.dv)

/-- A load of the values `X` reads a window of them. -/
theorem load_rep {sp : Space} {s : Shape} {e : EltTy} (v : View sig .tc sp s e) (X : s.Idx → Elt F e) {off size : Fin s.rank → ℕ}
    (inb : ∀ a, off a + size a ≤ s.size a) : v.readAt (Elt F) (Rect.unit off size inb).toLoadRect (v.rep X) = window X off size inb :=
  View.readAt_rep_unit v X inb rfl inb

/-- Contents read as `X` are, for ownership, the representative of `X`. -/
theorem at_of_read {sh : Shape} {e : EltTy} (M : Memref sig .tc .vmem sh e) (f : M.view.ty.Contents (Elt F)) (X : Vec F sh e)
    (h : M.view.read (Elt F) f = X) : (M.view.loc (c : Thread nD τ) ↦[M.view.set]{fullShare} f : sProp 𝕄) ⊢ at_ c M X := by
  subst h
  refine (?_ : _ ⊢ owns (c : Thread nD τ) M fullShare (M.view.read (Elt F) f)).trans (rep_of_owns (c : Thread nD τ) M fullShare _)
  unfold owns
  iintro H
  iexists f
  isplitr
  · ipureintro; rfl
  · iexact H

set_option maxHeartbeats 4000000 in
theorem trip (x : Blk F) (k : Fin (k0_t1_loop i).trips) (a : Acc F) :
    tileRes c arg2 arg3 arg4 arg9 arg10 x a
      ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg1
          x.dy0 x.dy1 x.dl0 x.dl1 x.l0 x.l1 k a.dq)
        (fun r => iprop(⌜r = (tripStep i x k a).dq⌝ ∗ tileRes c arg2 arg3 arg4 arg9 arg10 x (tripStep i x k a))) := by
  unfold k0_t1_body
  iintro ⟨H2, H3, H4, H9, H10⟩
  sl_exec
  sl_step
  isplitr
  · ipureintro
    sl_unfold_run_names
    simp only [load_rep]
    rfl
  isplitl [H2]; · iexact H2
  isplitl [H3]; · iexact H3
  isplitl [H4]; · iexact H4
  isplitl [H9]
  · istop
    refine at_of_read c arg9 _ _ ?_
    rw [View.read_writes_cons_put _ _ _ _ _ rfl, View.read_writes_cons_put _ _ _ _ _ rfl, View.writes_nil, View.read_rep]
    sl_unfold_run_names
    simp only [load_rep]
    rfl
  istop
  refine at_of_read c arg10 _ _ ?_
  rw [View.read_writes_cons_put _ _ _ _ _ rfl, View.read_writes_cons_put _ _ _ _ _ rfl, View.writes_nil, View.read_rep]
  sl_unfold_run_names
  simp only [load_rep]
  rfl

/-- The accumulators before trip `n`, from `a` at the loop's entry. -/
def before (i : grid0.Coords) (x : Blk F) (a : Acc F) : ℕ → Acc F
  | 0 => a
  | n + 1 => if h : n < (k0_t1_loop i).trips then tripStep i x ⟨n, h⟩ (before i x a n) else before i x a n

theorem before_succ (x : Blk F) (a : Acc F) (k : Fin (k0_t1_loop i).trips) :
    before i x a (k.val + 1) = tripStep i x k (before i x a k.val) := by
  rw [before, dif_pos k.isLt]

set_option warn.classDefReducibility false in
/-- The counted loop's invariant: before trip `n` the buffers and the carried pair are the accumulators `before … n`. -/
@[sl_loop] def loopInv (q : Vec F S2x256x96 .bf16) (kk : Vec F S2x8192x96 .bf16) (v : Vec F S2x8192x64 .bf16) (dy0 dy1 : FVec F S256x64 .bf16)
    (dl0 dl1 : FVec F S1x256 .f32) (l0 l1 : Vec F S1x256x1 .f32) (dk : Vec F S2x8192x96 .f32) (dv : Vec F S2x8192x64 .f32)
    (dq : FVec F S256x96 .f32 × FVec F S256x96 .f32) :
    LoopInvTy_k0_t1 (F := F) Unit ℕ (UR sig nD τ) ℕ 𝒱₀ c none Set.univ i arg2 harg2 arg3 harg3 arg4 harg4 arg5 harg5 arg6 harg6 arg7 harg7
      arg8 harg8 arg9 harg9 arg10 harg10 arg1 dy0 dy1 dl0 dl1 l0 l1 dq where
  inv n acc := iprop(⌜acc = (before i ⟨q, kk, v, dy0, dy1, dl0, dl1, l0, l1⟩ ⟨dk, dv, dq⟩ n).dq⌝
    ∗ at_ c arg2 q ∗ at_ c arg3 kk ∗ at_ c arg4 v
    ∗ at_ c arg9 (before i ⟨q, kk, v, dy0, dy1, dl0, dl1, l0, l1⟩ ⟨dk, dv, dq⟩ n).dk
    ∗ at_ c arg10 (before i ⟨q, kk, v, dy0, dy1, dl0, dl1, l0, l1⟩ ⟨dk, dv, dq⟩ n).dv)
  step n acc := by
    rw [before_succ]
    iintro ⟨%h, H⟩
    subst h
    iapply (trip c i arg2 harg2 arg3 harg3 arg4 harg4 arg5 harg5 arg6 harg6 arg7 harg7 arg8 harg8 arg9 harg9 arg10 harg10 arg1
      ⟨q, kk, v, dy0, dy1, dl0, dl1, l0, l1⟩ n _)
    iexact H

/-- The grid point's operands as its parts hold them: everything the body stages but `dq`'s block. -/
abbrev inRes (q : Vec F S2x256x96 .bf16) (k : Vec F S2x8192x96 .bf16) (v : Vec F S2x8192x64 .bf16) (y dy : Vec F S2x256x64 .f32)
    (l : Vec F S2x256x128 .f32) (dk : Vec F S2x8192x96 .f32) (dv : Vec F S2x8192x64 .f32) : sProp 𝕄 :=
  iprop(at_ c arg2 q ∗ at_ c arg3 k ∗ at_ c arg4 v ∗ at_ c arg5 y ∗ at_ c arg6 dy ∗ at_ c arg7 l ∗ at_ c arg9 dk ∗ at_ c arg10 dv)

/-- What the grid point's operand blocks give every tile. -/
def blkOf (q : Vec F S2x256x96 .bf16) (k : Vec F S2x8192x96 .bf16) (v : Vec F S2x8192x64 .bf16) (y dy : Vec F S2x256x64 .f32)
    (l : Vec F S2x256x128 .f32) : Blk F where
  q := q
  k := k
  v := v
  dy0 := k0_pay89 (window dy ![0, 0, 0] S1x256x64.size inb_S2x256x64_S1x256x64_0_0_0)
  dy1 := k0_pay90 (window dy ![1, 0, 0] S1x256x64.size inb_S2x256x64_S1x256x64_1_0_0)
  dl0 := k0_pay91 (window dy ![0, 0, 0] S1x256x64.size inb_S2x256x64_S1x256x64_0_0_0) (window y ![0, 0, 0] S1x256x64.size inb_S2x256x64_S1x256x64_0_0_0)
  dl1 := k0_pay92 (window dy ![1, 0, 0] S1x256x64.size inb_S2x256x64_S1x256x64_1_0_0) (window y ![1, 0, 0] S1x256x64.size inb_S2x256x64_S1x256x64_1_0_0)
  l0 := window l ![0, 0, 0] S1x256x1.size inb_S2x256x128_S1x256x1_0_0_0
  l1 := window l ![1, 0, 0] S1x256x1.size inb_S2x256x128_S1x256x1_1_0_0

/-- `dk` when the point's tiles begin: cleared at the first query block of a pair of heads. -/
def dkStart (i : grid0.Coords) (dk : Vec F S2x8192x96 .f32) : Vec F S2x8192x96 .f32 := if (i 1).val = 0 then k0_pay87 (F := F) else dk
/-- `dv` when the point's tiles begin. -/
def dvStart (i : grid0.Coords) (dv : Vec F S2x8192x64 .f32) : Vec F S2x8192x64 .f32 := if (i 1).val = 0 then k0_pay88 (F := F) else dv

theorem clear_iff : ∀ i : grid0.Coords, Scalar.cmpi .ne (Scalar.extui (Scalar.cmpi .eq (BitVec.ofNat 32 (i 1).val) 0#32) : BitVec 32) 0#32 = 1#1 ↔ (i 1).val = 0 := by
  decide +kernel

set_option maxHeartbeats 4000000 in
/-- The point's beginning: clear the accumulators if it is the first of its heads, read `dy`, `y` and the log-sum-exp. -/
theorem part13 (q : Vec F S2x256x96 .bf16) (k : Vec F S2x8192x96 .bf16) (v : Vec F S2x8192x64 .bf16) (y dy : Vec F S2x256x64 .f32)
    (l : Vec F S2x256x128 .f32) (dk : Vec F S2x8192x96 .f32) (dv : Vec F S2x8192x64 .f32) :
    inRes c arg2 arg3 arg4 arg5 arg6 arg7 arg9 arg10 q k v y dy l dk dv
      ⊢ wp frame (wpE (defs₀ (F := F)) 𝒱₀ (c : Thread nD τ) none) Set.univ
        (k0_part13 i arg2 harg2 arg3 harg3 arg4 harg4 arg5 harg5 arg6 harg6 arg7 harg7 arg8 harg8 arg9 harg9 arg10 harg10)
        (fun r => iprop(⌜r = ⟨BitVec.ofNat 32 (i 1).val, (blkOf q k v y dy l).dy0, (blkOf q k v y dy l).dy1, (blkOf q k v y dy l).dl0,
            (blkOf q k v y dy l).dl1, (blkOf q k v y dy l).l0⟩⌝
          ∗ inRes c arg2 arg3 arg4 arg5 arg6 arg7 arg9 arg10 q k v y dy l (dkStart i dk) (dvStart i dv))) := by
  by_cases h0 : (i 1).val = 0
  · have hC := (clear_iff i).2 h0
    sl_unfold [k0_part13]
    iintro ⟨H2, H3, H4, H5, H6, H7, H9, H10⟩
    sl_exec
    sl_step
    rw [dkStart, dvStart, if_pos h0, if_pos h0]
    isplitr
    · ipureintro
      simp only [load_rep]
      rfl
    isplitl [H2]; · iexact H2
    isplitl [H3]; · iexact H3
    isplitl [H4]; · iexact H4
    isplitl [H5]; · iexact H5
    isplitl [H6]; · iexact H6
    isplitl [H7]; · iexact H7
    isplitl [H9]
    · istop
      exact at_of_read c arg9 _ _ (View.read_writes_full _ _ _ _ _)
    istop
    exact at_of_read c arg10 _ _ (View.read_writes_full _ _ _ _ _)
  · have hC := (not_congr (clear_iff i)).2 h0
    sl_unfold [k0_part13]
    iintro ⟨H2, H3, H4, H5, H6, H7, H9, H10⟩
    sl_exec
    sl_step
    rw [dkStart, dvStart, if_neg h0, if_neg h0]
    isplitr
    · ipureintro
      simp only [load_rep]
      rfl
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H10

/-- The accumulators after the counted loop. -/
def afterLoop (i : grid0.Coords) (x : Blk F) (a : Acc F) : Acc F := before i x a (k0_t1_loop i).trips

set_option maxHeartbeats 4000000 in
/-- The point's loop: every whole group of keys before the query block's own. -/
theorem part14 (q : Vec F S2x256x96 .bf16) (k : Vec F S2x8192x96 .bf16) (v : Vec F S2x8192x64 .bf16) (y dy : Vec F S2x256x64 .f32)
    (l : Vec F S2x256x128 .f32) (dk : Vec F S2x8192x96 .f32) (dv : Vec F S2x8192x64 .f32) :
    inRes c arg2 arg3 arg4 arg5 arg6 arg7 arg9 arg10 q k v y dy l dk dv
      ⊢ wp frame (wpE (defs₀ (F := F)) 𝒱₀ (c : Thread nD τ) none) Set.univ
        (k0_part14 i arg2 harg2 arg3 harg3 arg4 harg4 arg5 harg5 arg6 harg6 arg7 harg7 arg8 harg8 arg9 harg9 arg10 harg10
          (BitVec.ofNat 32 (i 1).val) (blkOf q k v y dy l).dy0 (blkOf q k v y dy l).dy1 (blkOf q k v y dy l).dl0 (blkOf q k v y dy l).dl1
          (blkOf q k v y dy l).l0)
        (fun r => iprop(⌜r = ⟨k0_pay93 (blkOf q k v y dy l).l0, k0_pay94 (blkOf q k v y dy l).l1,
            (afterLoop i (blkOf q k v y dy l) ⟨dk, dv, (k0_pay95 (F := F), k0_pay95 (F := F))⟩).dq.1,
            (afterLoop i (blkOf q k v y dy l) ⟨dk, dv, (k0_pay95 (F := F), k0_pay95 (F := F))⟩).dq.2, 4#32,
            Scalar.divsi (BitVec.ofNat 32 (i 1).val) 4#32,
            Scalar.subi (Scalar.extui (Scalar.cmpi .sgt (BitVec.ofNat 32 (i 1).val) 0#32)) (Scalar.extui (Scalar.cmpi .slt (BitVec.ofNat 32 (i 1).val) 0#32))⟩⌝
          ∗ inRes c arg2 arg3 arg4 arg5 arg6 arg7 arg9 arg10 q k v y dy l
            (afterLoop i (blkOf q k v y dy l) ⟨dk, dv, (k0_pay95 (F := F), k0_pay95 (F := F))⟩).dk
            (afterLoop i (blkOf q k v y dy l) ⟨dk, dv, (k0_pay95 (F := F), k0_pay95 (F := F))⟩).dv)) := by
  sl_unfold [k0_part14]
  iintro ⟨H2, H3, H4, H5, H6, H7, H9, H10⟩
  sl_exec
  sl_step
  simp only [load_rep]
  isplitr
  · ipureintro
    sl_unfold_run_names
    rfl
  isplitl [H2]; · iexact H2
  isplitl [H3]; · iexact H3
  isplitl [H4]; · iexact H4
  isplitl [H5]; · iexact H5
  isplitl [H6]; · iexact H6
  isplitl [H7]; · iexact H7
  isplitl [H9]; · iexact H9
  iexact H10
end

end Cert.Proof.Mla

end
-- ==== Proof.Own.Cut.lean ====
/-
  The query block's own group of keys: 1024, 768, 512 or 256 rows, the ones past the query masked out; and the whole grid
  point, from what its buffers hold at the beginning to what they hold at the end.
-/
module

public import proofs.«01_k».proof.Proof.Own.Trip
public import Idealize.ShloMosaic.Lib.Pointwise.Index

@[expose] public section

noncomputable section

namespace Cert.Proof.Mla

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The number of the cut group's first block of 256 keys, as the program computes it from the query block's number. -/
def baseWord (i : grid0.Coords) : BitVec 32 :=
  let b : BitVec 32 := BitVec.ofNat 32 (i 1).val
  Scalar.muli (Scalar.select (Scalar.andi
    (Scalar.cmpi .ne (Scalar.subi (Scalar.extui (Scalar.cmpi .sgt b 0#32)) (Scalar.extui (Scalar.cmpi .slt b 0#32)) : BitVec 32)
      (Scalar.subi (Scalar.extui (Scalar.cmpi .sgt 4#32 0#32)) (Scalar.extui (Scalar.cmpi .slt 4#32 0#32))))
    (Scalar.cmpi .ne (Scalar.remsi b 4#32) 0#32)) (Scalar.subi (Scalar.divsi b 4#32) 1#32) (Scalar.divsi b 4#32)) 4#32

theorem baseWord_eq : ∀ i : grid0.Coords, baseWord i = BitVec.ofNat 32 (4 * ((i 1).val / 4)) := by decide +kernel

/-- The cut group of 1024 keys. -/
def cut1024 (i : grid0.Coords) (h2 : k0_cond2 i = 1#1) (h3 : k0_cond3 i = 1#1) (h4 : k0_cond4 i = 1#1) (x : Blk F) (a : Acc F) : Acc F :=
  let b : BitVec 32 := BitVec.ofNat 32 (i 1).val
  let k0 : Vec F S1x1024x96 .bf16 := window x.k (k0_off9 i) S1x1024x96.size (k0_off9_inb i h2 h3 h4)
  let v0 : Vec F S1x1024x64 .bf16 := window x.v (k0_off10 i) S1x1024x64.size (k0_off10_inb i h2 h3 h4)
  let k1 : Vec F S1x1024x96 .bf16 := window x.k (k0_off11 i) S1x1024x96.size (k0_off11_inb i h2 h3 h4)
  let v1 : Vec F S1x1024x64 .bf16 := window x.v (k0_off12 i) S1x1024x64.size (k0_off12_inb i h2 h3 h4)
  { dk := put (put a.dk (k0_off9 i) S1x1024x96.size
        (k0_pay47 b x.dy0 x.dl0 (k0_pay93 x.l0) (baseWord i) x.q0 k0 v0 (window a.dk (k0_off9 i) S1x1024x96.size (k0_off9_inb i h2 h3 h4))))
      (k0_off11 i) S1x1024x96.size
        (k0_pay1 (k0_pay50 x.q1) (k0_pay53 b x.dy1 x.dl1 (k0_pay94 x.l1) (baseWord i) x.q1 k1 v1)
          (window a.dk (k0_off11 i) S1x1024x96.size (k0_off11_inb i h2 h3 h4)))
    dv := put (put a.dv (k0_off10 i) S1x1024x64.size
        (k0_pay48 x.dy0 (k0_pay45 b (k0_pay93 x.l0) (baseWord i) x.q0 k0) (window a.dv (k0_off10 i) S1x1024x64.size (k0_off10_inb i h2 h3 h4))))
      (k0_off12 i) S1x1024x64.size
        (k0_pay2 x.dy1 (k0_pay52 b (k0_pay94 x.l1) (baseWord i) x.q1 k1) (window a.dv (k0_off12 i) S1x1024x64.size (k0_off12_inb i h2 h3 h4)))
    dq := (k0_pay49 a.dq.1 (k0_pay44 k0) (k0_pay46 b x.dy0 x.dl0 (k0_pay93 x.l0) (baseWord i) x.q0 k0 v0),
      k0_pay3 a.dq.2 (k0_pay51 k1) (k0_pay53 b x.dy1 x.dl1 (k0_pay94 x.l1) (baseWord i) x.q1 k1 v1)) }

/-- The cut group of 768 keys. -/
def cut768 (i : grid0.Coords) (h2 : k0_cond2 i = 1#1) (h3 : k0_cond3 i = 1#1) (h4 : ¬(k0_cond4 i = 1#1)) (x : Blk F) (a : Acc F) : Acc F :=
  let b : BitVec 32 := BitVec.ofNat 32 (i 1).val
  let k0 : Vec F S1x768x96 .bf16 := window x.k (k0_off13 i) S1x768x96.size (k0_off13_inb i h2 h3 h4)
  let v0 : Vec F S1x768x64 .bf16 := window x.v (k0_off14 i) S1x768x64.size (k0_off14_inb i h2 h3 h4)
  let k1 : Vec F S1x768x96 .bf16 := window x.k (k0_off15 i) S1x768x96.size (k0_off15_inb i h2 h3 h4)
  let v1 : Vec F S1x768x64 .bf16 := window x.v (k0_off16 i) S1x768x64.size (k0_off16_inb i h2 h3 h4)
  { dk := put (put a.dk (k0_off13 i) S1x768x96.size
        (k0_pay58 b x.dy0 x.dl0 (k0_pay93 x.l0) (baseWord i) x.q0 k0 v0 (window a.dk (k0_off13 i) S1x768x96.size (k0_off13_inb i h2 h3 h4))))
      (k0_off15 i) S1x768x96.size
        (k0_pay4 (k0_pay61 x.q1) (k0_pay64 b x.dy1 x.dl1 (k0_pay94 x.l1) (baseWord i) x.q1 k1 v1)
          (window a.dk (k0_off15 i) S1x768x96.size (k0_off15_inb i h2 h3 h4)))
    dv := put (put a.dv (k0_off14 i) S1x768x64.size
        (k0_pay59 x.dy0 (k0_pay56 b (k0_pay93 x.l0) (baseWord i) x.q0 k0) (window a.dv (k0_off14 i) S1x768x64.size (k0_off14_inb i h2 h3 h4))))
      (k0_off16 i) S1x768x64.size
        (k0_pay5 x.dy1 (k0_pay63 b (k0_pay94 x.l1) (baseWord i) x.q1 k1) (window a.dv (k0_off16 i) S1x768x64.size (k0_off16_inb i h2 h3 h4)))
    dq := (k0_pay60 a.dq.1 (k0_pay55 k0) (k0_pay57 b x.dy0 x.dl0 (k0_pay93 x.l0) (baseWord i) x.q0 k0 v0),
      k0_pay6 a.dq.2 (k0_pay62 k1) (k0_pay64 b x.dy1 x.dl1 (k0_pay94 x.l1) (baseWord i) x.q1 k1 v1)) }

/-- The cut group of 512 keys. -/
def cut512 (i : grid0.Coords) (h2 : k0_cond2 i = 1#1) (h3 : ¬(k0_cond3 i = 1#1)) (x : Blk F) (a : Acc F) : Acc F :=
  let b : BitVec 32 := BitVec.ofNat 32 (i 1).val
  let k0 : Vec F S1x512x96 .bf16 := window x.k (k0_off17 i) S1x512x96.size (k0_off17_inb i h2 h3)
  let v0 : Vec F S1x512x64 .bf16 := window x.v (k0_off18 i) S1x512x64.size (k0_off18_inb i h2 h3)
  let k1 : Vec F S1x512x96 .bf16 := window x.k (k0_off19 i) S1x512x96.size (k0_off19_inb i h2 h3)
  let v1 : Vec F S1x512x64 .bf16 := window x.v (k0_off20 i) S1x512x64.size (k0_off20_inb i h2 h3)
  { dk := put (put a.dk (k0_off17 i) S1x512x96.size
        (k0_pay69 b x.dy0 x.dl0 (k0_pay93 x.l0) (baseWord i) x.q0 k0 v0 (window a.dk (k0_off17 i) S1x512x96.size (k0_off17_inb i h2 h3))))
      (k0_off19 i) S1x512x96.size
        (k0_pay7 (k0_pay72 x.q1) (k0_pay75 b x.dy1 x.dl1 (k0_pay94 x.l1) (baseWord i) x.q1 k1 v1)
          (window a.dk (k0_off19 i) S1x512x96.size (k0_off19_inb i h2 h3)))
    dv := put (put a.dv (k0_off18 i) S1x512x64.size
        (k0_pay70 x.dy0 (k0_pay67 b (k0_pay93 x.l0) (baseWord i) x.q0 k0) (window a.dv (k0_off18 i) S1x512x64.size (k0_off18_inb i h2 h3))))
      (k0_off20 i) S1x512x64.size
        (k0_pay8 x.dy1 (k0_pay74 b (k0_pay94 x.l1) (baseWord i) x.q1 k1) (window a.dv (k0_off20 i) S1x512x64.size (k0_off20_inb i h2 h3)))
    dq := (k0_pay71 a.dq.1 (k0_pay66 k0) (k0_pay68 b x.dy0 x.dl0 (k0_pay93 x.l0) (baseWord i) x.q0 k0 v0),
      k0_pay9 a.dq.2 (k0_pay73 k1) (k0_pay75 b x.dy1 x.dl1 (k0_pay94 x.l1) (baseWord i) x.q1 k1 v1)) }

/-- The cut group of 256 keys. -/
def cut256 (i : grid0.Coords) (h2 : ¬(k0_cond2 i = 1#1)) (x : Blk F) (a : Acc F) : Acc F :=
  let b : BitVec 32 := BitVec.ofNat 32 (i 1).val
  let k0 : Vec F S1x256x96 .bf16 := window x.k (k0_off21 i) S1x256x96.size (k0_off21_inb i h2)
  let v0 : Vec F S1x256x64 .bf16 := window x.v (k0_off22 i) S1x256x64.size (k0_off22_inb i h2)
  let k1 : Vec F S1x256x96 .bf16 := window x.k (k0_off23 i) S1x256x96.size (k0_off23_inb i h2)
  let v1 : Vec F S1x256x64 .bf16 := window x.v (k0_off24 i) S1x256x64.size (k0_off24_inb i h2)
  { dk := put (put a.dk (k0_off21 i) S1x256x96.size
        (k0_pay80 b x.dy0 x.dl0 (k0_pay93 x.l0) (baseWord i) x.q0 k0 v0 (window a.dk (k0_off21 i) S1x256x96.size (k0_off21_inb i h2))))
      (k0_off23 i) S1x256x96.size
        (k0_pay10 (k0_pay83 x.q1) (k0_pay86 b x.dy1 x.dl1 (k0_pay94 x.l1) (baseWord i) x.q1 k1 v1)
          (window a.dk (k0_off23 i) S1x256x96.size (k0_off23_inb i h2)))
    dv := put (put a.dv (k0_off22 i) S1x256x64.size
        (k0_pay81 x.dy0 (k0_pay78 b (k0_pay93 x.l0) (baseWord i) x.q0 k0) (window a.dv (k0_off22 i) S1x256x64.size (k0_off22_inb i h2))))
      (k0_off24 i) S1x256x64.size
        (k0_pay11 x.dy1 (k0_pay85 b (k0_pay94 x.l1) (baseWord i) x.q1 k1) (window a.dv (k0_off24 i) S1x256x64.size (k0_off24_inb i h2)))
    dq := (k0_pay82 a.dq.1 (k0_pay77 k0) (k0_pay79 b x.dy0 x.dl0 (k0_pay93 x.l0) (baseWord i) x.q0 k0 v0),
      k0_pay12 a.dq.2 (k0_pay84 k1) (k0_pay86 b x.dy1 x.dl1 (k0_pay94 x.l1) (baseWord i) x.q1 k1 v1)) }

/-- The cut group the query block takes. -/
def cut (i : grid0.Coords) (x : Blk F) (a : Acc F) : Acc F :=
  if h2 : k0_cond2 i = 1#1 then
    if h3 : k0_cond3 i = 1#1 then
      if h4 : k0_cond4 i = 1#1 then cut1024 i h2 h3 h4 x a else cut768 i h2 h3 h4 x a
    else cut512 i h2 h3 x a
  else cut256 i h2 x a

/-- The accumulators at the grid point's end, before `dq` is scaled, from what `dk` and `dv` held at its beginning. -/
def pointAcc (i : grid0.Coords) (x : Blk F) (dk : Vec F S2x8192x96 .f32) (dv : Vec F S2x8192x64 .f32) : Acc F :=
  cut i x (afterLoop i x ⟨dkStart i dk, dvStart i dv, (k0_pay95 (F := F), k0_pay95 (F := F))⟩)

theorem pointAcc_1024 (i : grid0.Coords) (h2 : k0_cond2 i = 1#1) (h3 : k0_cond3 i = 1#1) (h4 : k0_cond4 i = 1#1) (x : Blk F) (dk : Vec F S2x8192x96 .f32) (dv : Vec F S2x8192x64 .f32) :
    pointAcc i x dk dv = cut1024 i h2 h3 h4 x (afterLoop i x ⟨dkStart i dk, dvStart i dv, (k0_pay95 (F := F), k0_pay95 (F := F))⟩) :=
  (dif_pos h2).trans ((dif_pos h3).trans (dif_pos h4))

theorem pointAcc_768 (i : grid0.Coords) (h2 : k0_cond2 i = 1#1) (h3 : k0_cond3 i = 1#1) (h4 : ¬(k0_cond4 i = 1#1)) (x : Blk F) (dk : Vec F S2x8192x96 .f32) (dv : Vec F S2x8192x64 .f32) :
    pointAcc i x dk dv = cut768 i h2 h3 h4 x (afterLoop i x ⟨dkStart i dk, dvStart i dv, (k0_pay95 (F := F), k0_pay95 (F := F))⟩) :=
  (dif_pos h2).trans ((dif_pos h3).trans (dif_neg h4))

theorem pointAcc_512 (i : grid0.Coords) (h2 : k0_cond2 i = 1#1) (h3 : ¬(k0_cond3 i = 1#1)) (x : Blk F) (dk : Vec F S2x8192x96 .f32) (dv : Vec F S2x8192x64 .f32) :
    pointAcc i x dk dv = cut512 i h2 h3 x (afterLoop i x ⟨dkStart i dk, dvStart i dv, (k0_pay95 (F := F), k0_pay95 (F := F))⟩) :=
  (dif_pos h2).trans (dif_neg h3)

theorem pointAcc_256 (i : grid0.Coords) (h2 : ¬(k0_cond2 i = 1#1)) (x : Blk F) (dk : Vec F S2x8192x96 .f32) (dv : Vec F S2x8192x64 .f32) :
    pointAcc i x dk dv = cut256 i h2 x (afterLoop i x ⟨dkStart i dk, dvStart i dv, (k0_pay95 (F := F), k0_pay95 (F := F))⟩) :=
  dif_neg h2

/-- The block of `dq` the point writes: both heads' carried sums, scaled. -/
def dqBlk (p : FVec F S256x96 .f32 × FVec F S256x96 .f32) : Vec F S2x256x96 .f32 :=
  fun y => if (y 0).val = 0 then k0_pay13 p.1 (ix3 (0 : Fin 1) (y 1) (y 2)) else k0_pay14 p.2 (ix3 (0 : Fin 1) (y 1) (y 2))

theorem put_dq (X : Vec F S2x256x96 .f32) (p : FVec F S256x96 .f32 × FVec F S256x96 .f32) :
    put (put X ![0, 0, 0] S1x256x96.size (k0_pay13 p.1)) ![1, 0, 0] S1x256x96.size (k0_pay14 p.2) = dqBlk p := by
  funext y
  have h0 : (y 0).val < 2 := (y 0).isLt
  have h1 : (y 1).val < 256 := (y 1).isLt
  have h2 : (y 2).val < 96 := (y 2).isLt
  unfold put dqBlk
  by_cases h : (y 0).val = 0
  · rw [if_pos h, dif_neg, dif_pos]
    · congr 1; funext a; fin_cases a <;> simp [Rect.unitLocal, ix3, h] <;> rfl
    · intro a; fin_cases a <;> simp <;> omega
    · intro hh; have := (hh 0).1; simp at this; omega
  · rw [if_neg h, dif_pos]
    · congr 1; funext a; fin_cases a <;> simp [Rect.unitLocal, ix3] <;> first | rfl | omega
    · intro a; fin_cases a <;> simp <;> omega

section
variable (c : Dev nD) (i : grid0.Coords)
  (arg2 : Memref sig .tc .vmem S2x256x96 .bf16) (harg2 : arg2.IsWhole) (arg3 : Memref sig .tc .vmem S2x8192x96 .bf16) (harg3 : arg3.IsWhole)
  (arg4 : Memref sig .tc .vmem S2x8192x64 .bf16) (harg4 : arg4.IsWhole) (arg5 : Memref sig .tc .vmem S2x256x64 .f32) (harg5 : arg5.IsWhole)
  (arg6 : Memref sig .tc .vmem S2x256x64 .f32) (harg6 : arg6.IsWhole) (arg7 : Memref sig .tc .vmem S2x256x128 .f32) (harg7 : arg7.IsWhole)
  (arg8 : Memref sig .tc .vmem S2x256x96 .f32) (harg8 : arg8.IsWhole) (arg9 : Memref sig .tc .vmem S2x8192x96 .f32) (harg9 : arg9.IsWhole)
  (arg10 : Memref sig .tc .vmem S2x8192x64 .f32) (harg10 : arg10.IsWhole)

set_option maxHeartbeats 16000000 in
/-- The grid point's body, from its buffers' contents to what it leaves. -/
theorem body_run (q : Vec F S2x256x96 .bf16) (k : Vec F S2x8192x96 .bf16) (v : Vec F S2x8192x64 .bf16) (y dy : Vec F S2x256x64 .f32)
    (l : Vec F S2x256x128 .f32) (d8 : Vec F S2x256x96 .f32) (dk : Vec F S2x8192x96 .f32) (dv : Vec F S2x8192x64 .f32) :
    iprop(at_ c arg8 d8 ∗ inRes c arg2 arg3 arg4 arg5 arg6 arg7 arg9 arg10 q k v y dy l dk dv)
      ⊢ wp frame (wpE (defs₀ (F := F)) 𝒱₀ (c : Thread nD τ) none) Set.univ
        (cc0_mla_bwd i arg2 harg2 arg3 harg3 arg4 harg4 arg5 harg5 arg6 harg6 arg7 harg7 arg8 harg8 arg9 harg9 arg10 harg10)
        (fun _ => iprop(at_ c arg8 (dqBlk (pointAcc i (blkOf q k v y dy l) dk dv).dq)
          ∗ inRes c arg2 arg3 arg4 arg5 arg6 arg7 arg9 arg10 q k v y dy l (pointAcc i (blkOf q k v y dy l) dk dv).dk
            (pointAcc i (blkOf q k v y dy l) dk dv).dv)) := by
  have hc13 := part13 c i arg2 harg2 arg3 harg3 arg4 harg4 arg5 harg5 arg6 harg6 arg7 harg7 arg8 harg8 arg9 harg9 arg10 harg10 q k v y dy l dk dv
  by_cases h2 : k0_cond2 i = 1#1
  · by_cases h3 : k0_cond3 i = 1#1
    · by_cases h4 : k0_cond4 i = 1#1
      · have e := pointAcc_1024 i h2 h3 h4 (blkOf q k v y dy l) dk dv
        rw [e]
        sl_unfold [cc0_mla_bwd]
        iintro ⟨H8, H2, H3, H4, H5, H6, H7, H9, H10⟩
        sl_exec
        sl_step
        cases hk0_part13_0
        isplitl [H8]
        · istop
          refine at_of_read c arg8 _ _ ?_
          rw [View.read_writes_cons_put _ _ _ _ _ rfl, View.read_writes_cons_put _ _ _ _ _ rfl, View.writes_nil, View.read_rep]
          refine (put_dq _ (_, _)).trans ?_
          sl_unfold_run_names
          simp only [load_rep]
          rfl
        isplitl [Hk0_part13_1]; · iexact Hk0_part13_1
        isplitl [Hk0_part13_2]; · iexact Hk0_part13_2
        isplitl [Hk0_part13_3]; · iexact Hk0_part13_3
        isplitl [Hk0_part13_4]; · iexact Hk0_part13_4
        isplitl [Hk0_part13_5]; · iexact Hk0_part13_5
        isplitl [Hk0_part13_6]; · iexact Hk0_part13_6
        isplitl [Hk0_part13_7]
        · istop
          refine at_of_read c arg9 _ _ ?_
          rw [View.read_writes_cons_put _ _ _ _ _ rfl, View.read_writes_cons_put _ _ _ _ _ rfl, View.writes_nil, View.read_rep]
          sl_unfold_run_names
          simp only [load_rep]
          rfl
        istop
        refine at_of_read c arg10 _ _ ?_
        rw [View.read_writes_cons_put _ _ _ _ _ rfl, View.read_writes_cons_put _ _ _ _ _ rfl, View.writes_nil, View.read_rep]
        sl_unfold_run_names
        simp only [load_rep]
        rfl
      · have e := pointAcc_768 i h2 h3 h4 (blkOf q k v y dy l) dk dv
        rw [e]
        sl_unfold [cc0_mla_bwd]
        iintro ⟨H8, H2, H3, H4, H5, H6, H7, H9, H10⟩
        sl_exec
        sl_step
        cases hk0_part13_0
        isplitl [H8]
        · istop
          refine at_of_read c arg8 _ _ ?_
          rw [View.read_writes_cons_put _ _ _ _ _ rfl, View.read_writes_cons_put _ _ _ _ _ rfl, View.writes_nil, View.read_rep]
          refine (put_dq _ (_, _)).trans ?_
          sl_unfold_run_names
          simp only [load_rep]
          rfl
        isplitl [Hk0_part13_1]; · iexact Hk0_part13_1
        isplitl [Hk0_part13_2]; · iexact Hk0_part13_2
        isplitl [Hk0_part13_3]; · iexact Hk0_part13_3
        isplitl [Hk0_part13_4]; · iexact Hk0_part13_4
        isplitl [Hk0_part13_5]; · iexact Hk0_part13_5
        isplitl [Hk0_part13_6]; · iexact Hk0_part13_6
        isplitl [Hk0_part13_7]
        · istop
          refine at_of_read c arg9 _ _ ?_
          rw [View.read_writes_cons_put _ _ _ _ _ rfl, View.read_writes_cons_put _ _ _ _ _ rfl, View.writes_nil, View.read_rep]
          sl_unfold_run_names
          simp only [load_rep]
          rfl
        istop
        refine at_of_read c arg10 _ _ ?_
        rw [View.read_writes_cons_put _ _ _ _ _ rfl, View.read_writes_cons_put _ _ _ _ _ rfl, View.writes_nil, View.read_rep]
        sl_unfold_run_names
        simp only [load_rep]
        rfl
    · have e := pointAcc_512 i h2 h3 (blkOf q k v y dy l) dk dv
      rw [e]
      sl_unfold [cc0_mla_bwd]
      iintro ⟨H8, H2, H3, H4, H5, H6, H7, H9, H10⟩
      sl_exec
      sl_step
      cases hk0_part13_0
      isplitl [H8]
      · istop
        refine at_of_read c arg8 _ _ ?_
        rw [View.read_writes_cons_put _ _ _ _ _ rfl, View.read_writes_cons_put _ _ _ _ _ rfl, View.writes_nil, View.read_rep]
        refine (put_dq _ (_, _)).trans ?_
        sl_unfold_run_names
        simp only [load_rep]
        rfl
      isplitl [Hk0_part13_1]; · iexact Hk0_part13_1
      isplitl [Hk0_part13_2]; · iexact Hk0_part13_2
      isplitl [Hk0_part13_3]; · iexact Hk0_part13_3
      isplitl [Hk0_part13_4]; · iexact Hk0_part13_4
      isplitl [Hk0_part13_5]; · iexact Hk0_part13_5
      isplitl [Hk0_part13_6]; · iexact Hk0_part13_6
      isplitl [Hk0_part13_7]
      · istop
        refine at_of_read c arg9 _ _ ?_
        rw [View.read_writes_cons_put _ _ _ _ _ rfl, View.read_writes_cons_put _ _ _ _ _ rfl, View.writes_nil, View.read_rep]
        sl_unfold_run_names
        simp only [load_rep]
        rfl
      istop
      refine at_of_read c arg10 _ _ ?_
      rw [View.read_writes_cons_put _ _ _ _ _ rfl, View.read_writes_cons_put _ _ _ _ _ rfl, View.writes_nil, View.read_rep]
      sl_unfold_run_names
      simp only [load_rep]
      rfl
  · have e := pointAcc_256 i h2 (blkOf q k v y dy l) dk dv
    rw [e]
    sl_unfold [cc0_mla_bwd]
    iintro ⟨H8, H2, H3, H4, H5, H6, H7, H9, H10⟩
    sl_exec
    sl_step
    cases hk0_part13_0
    isplitl [H8]
    · istop
      refine at_of_read c arg8 _ _ ?_
      rw [View.read_writes_cons_put _ _ _ _ _ rfl, View.read_writes_cons_put _ _ _ _ _ rfl, View.writes_nil, View.read_rep]
      refine (put_dq _ (_, _)).trans ?_
      sl_unfold_run_names
      simp only [load_rep]
      rfl
    isplitl [Hk0_part13_1]; · iexact Hk0_part13_1
    isplitl [Hk0_part13_2]; · iexact Hk0_part13_2
    isplitl [Hk0_part13_3]; · iexact Hk0_part13_3
    isplitl [Hk0_part13_4]; · iexact Hk0_part13_4
    isplitl [Hk0_part13_5]; · iexact Hk0_part13_5
    isplitl [Hk0_part13_6]; · iexact Hk0_part13_6
    isplitl [Hk0_part13_7]
    · istop
      refine at_of_read c arg9 _ _ ?_
      rw [View.read_writes_cons_put _ _ _ _ _ rfl, View.read_writes_cons_put _ _ _ _ _ rfl, View.writes_nil, View.read_rep]
      sl_unfold_run_names
      simp only [load_rep]
      rfl
    istop
    refine at_of_read c arg10 _ _ ?_
    rw [View.read_writes_cons_put _ _ _ _ _ rfl, View.read_writes_cons_put _ _ _ _ _ rfl, View.writes_nil, View.read_rep]
    sl_unfold_run_names
    simp only [load_rep]
    rfl
end

end Cert.Proof.Mla

end
-- ==== Proof.Own.Run.lean ====
/-
  The region's run: what every buffer holds after each grid point, the body's obligation to the pipeline, and the whole
  program's run with it, over any reading of the floats.
-/
module

public import proofs.«01_k».proof.Proof.Own.Cut
public import proofs.«01_k».proof.Proof.Gen.KernelIdeal.Frame

@[expose] public section

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point reads, from the arrays' blocks. -/
def blkAt (c : Dev nD) (t : Fin cfg0.N) : Blk F :=
  blkOf (iblk m c 0 t) (iblk m c 1 t) (iblk m c 2 t) (iblk m c 3 t) (iblk m c 4 t) (iblk m c 5 t)

/-- The accumulators when point `n` begins. Two heads' sums begin anew at their first point. -/
def accs (c : Dev nD) : ℕ → Vec F S2x8192x96 .f32 × Vec F S2x8192x64 .f32
  | 0 => (k0_pay87 (F := F), k0_pay88 (F := F))
  | n + 1 => if h : n < cfg0.N then
      ((pointAcc (grid0.coords ⟨n, h⟩) (blkAt m c ⟨n, h⟩) (accs c n).1 (accs c n).2).dk,
        (pointAcc (grid0.coords ⟨n, h⟩) (blkAt m c ⟨n, h⟩) (accs c n).1 (accs c n).2).dv)
    else accs c n

/-- The accumulators at point `t`'s end. -/
def endAcc (c : Dev nD) (t : Fin cfg0.N) : Acc F := pointAcc (grid0.coords t) (blkAt m c t) (accs m c t.val).1 (accs m c t.val).2

theorem accs_succ (c : Dev nD) (t : Fin cfg0.N) : accs m c (t.val + 1) = ((endAcc m c t).dk, (endAcc m c t).dv) := dif_pos t.isLt

theorem coords_1 : ∀ t : Fin cfg0.N, (grid0.coords t 1).val = t.val % 32 := by decide +kernel
theorem coords_0 : ∀ t : Fin cfg0.N, (grid0.coords t 0).val = t.val / 32 := by decide +kernel

/-- At the first point of two heads nothing is taken from what the accumulators held. -/
theorem pointAcc_first (i : grid0.Coords) (h : (i 1).val = 0) (x : Blk F) (dk dk' : Vec F S2x8192x96 .f32) (dv dv' : Vec F S2x8192x64 .f32) :
    pointAcc i x dk dv = pointAcc i x dk' dv' := by
  unfold pointAcc dkStart dvStart
  simp only [if_pos h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqBlk (endAcc m c t).dq
    | ⟨7, _⟩ => (endAcc m c t).dk
    | ⟨8, _⟩ => (endAcc m c t).dv
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqBlk (endAcc m c t).dq := by dsimp only [dats]
theorem after0_7 (c : Dev nD) (t : Fin cfg0.N) : (dats m 0 c).after 7 t = (endAcc m c t).dk := by dsimp only [dats]
theorem after0_8 (c : Dev nD) (t : Fin cfg0.N) : (dats m 0 c).after 8 t = (endAcc m c t).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between two points of the same heads the accumulators are kept. -/
theorem before0_7 (c : Dev nD) (t : Fin cfg0.N) (h : t.val % 32 ≠ 0) (d) : (dats m 0 c).before 7 t d = (accs m c t.val).1 := by
  have ht : t.val ≠ 0 := fun e => h (by rw [e])
  have hf : (cfg0.win 7).flush ⟨t.val - 1, Nat.lt_of_le_of_lt (Nat.sub_le _ _) t.isLt⟩ = false := by
    rw [Bool.eq_false_iff]; intro e; have := (flush0_7 _).1 e; dsimp only at this; omega
  rw [(dats m 0 c).before_out_kept 7 rfl t ht hf (fun _ => rfl) (fun _ _ => rfl), after0_7]
  have e := accs_succ m c ⟨t.val - 1, Nat.lt_of_le_of_lt (Nat.sub_le _ _) t.isLt⟩
  have e1 : (⟨t.val - 1, Nat.lt_of_le_of_lt (Nat.sub_le _ _) t.isLt⟩ : Fin cfg0.N).val + 1 = t.val := by dsimp only; omega
  rw [e1] at e
  exact (congrArg Prod.fst e).symm
theorem before0_8 (c : Dev nD) (t : Fin cfg0.N) (h : t.val % 32 ≠ 0) (d) : (dats m 0 c).before 8 t d = (accs m c t.val).2 := by
  have ht : t.val ≠ 0 := fun e => h (by rw [e])
  have hf : (cfg0.win 8).flush ⟨t.val - 1, Nat.lt_of_le_of_lt (Nat.sub_le _ _) t.isLt⟩ = false := by
    rw [Bool.eq_false_iff]; intro e; have := (flush0_8 _).1 e; dsimp only at this; omega
  rw [(dats m 0 c).before_out_kept 8 rfl t ht hf (fun _ => rfl) (fun _ _ => rfl), after0_8]
  have e := accs_succ m c ⟨t.val - 1, Nat.lt_of_le_of_lt (Nat.sub_le _ _) t.isLt⟩
  have e1 : (⟨t.val - 1, Nat.lt_of_le_of_lt (Nat.sub_le _ _) t.isLt⟩ : Fin cfg0.N).val + 1 = t.val := by dsimp only; omega
  rw [e1] at e
  exact (congrArg Prod.snd e).symm

theorem pointAcc_before (c : Dev nD) (t : Fin cfg0.N) (d7) (d8) :
    pointAcc (grid0.coords t) (blkAt m c t) ((dats m 0 c).before 7 t d7) ((dats m 0 c).before 8 t d8) = endAcc m c t := by
  by_cases h : t.val % 32 = 0
  · exact pointAcc_first _ ((coords_1 t).trans h) _ _ _ _ _
  · rw [before0_7 m c t h, before0_8 m c t h]; rfl

theorem owns_at {s : Shape} {e : EltTy} (c : Dev nD) (M : Memref sig .tc .vmem s e) (X : s.Idx → Elt F e) :
    (owns (c : Thread nD τ) M fullShare X : sProp 𝕄) = at_ c M X := owns_eq_rep _ _ _ _

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5,
    after0_6, after0_7, after0_8]
  simp only [owns_at]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r frame (wpE (defs₀ (F := F)) 𝒱₀ (c : Thread nD τ) none) Set.univ
    (Q := fun _ => iprop(at_ c (st0_6 t) (dqBlk (endAcc m c t).dq)
      ∗ inRes c (st0_0 t) (st0_1 t) (st0_2 t) (st0_3 t) (st0_4 t) (st0_5 t) (st0_7 t) (st0_8 t) (iblk m c 0 t) (iblk m c 1 t) (iblk m c 2 t)
        (iblk m c 3 t) (iblk m c 4 t) (iblk m c 5 t) (endAcc m c t).dk (endAcc m c t).dv)))
  isplitr [HΦ Ho]
  · have h := body_run (F := F) c (grid0.coords t) (st0_0 t) (hstage0_0 ((cfg0.slots t 0).cast nbuf0_0)) (st0_1 t)
      (hstage0_1 ((cfg0.slots t 1).cast nbuf0_1)) (st0_2 t) (hstage0_2 ((cfg0.slots t 2).cast nbuf0_2)) (st0_3 t)
      (hstage0_3 ((cfg0.slots t 3).cast nbuf0_3)) (st0_4 t) (hstage0_4 ((cfg0.slots t 4).cast nbuf0_4)) (st0_5 t)
      (hstage0_5 ((cfg0.slots t 5).cast nbuf0_5)) (st0_6 t) (hstage0_6 ((cfg0.slots t 6).cast nbuf0_6)) (st0_7 t)
      (hstage0_7 ((cfg0.slots t 7).cast nbuf0_7)) (st0_8 t) (hstage0_8 ((cfg0.slots t 8).cast nbuf0_8))
      (iblk m c 0 t) (iblk m c 1 t) (iblk m c 2 t) (iblk m c 3 t) (iblk m c 4 t) (iblk m c 5 t) ((dats m 0 c).before 6 t d6)
      ((dats m 0 c).before 7 t d7) ((dats m 0 c).before 8 t d8)
    have e := pointAcc_before m c t d7 d8
    unfold blkAt at e
    rw [e] at h
    iapply h
    isplitl [H6]; · iexact H6
    isplitl [H0]; · iexact H0
    isplitl [H1]; · iexact H1
    isplitl [H2]; · iexact H2
    isplitl [H3]; · iexact H3
    isplitl [H4]; · iexact H4
    isplitl [H5]; · iexact H5
    isplitl [H7]; · iexact H7
    iexact H8
  iintro %a ⟨H6, H0, H1, H2, H3, H4, H5, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Mla

end
-- ==== Proof.Own.Text.lean ====
/-
  The kernel and the idealized kernel are one text: their body tables and their host programs are equal over any reading
  of the floats. The run proved of the one is then the run of the other.
-/
module

public import proofs.«01_k».proof.Defs
public import proofs.«01_k».proof.Proof.Gen.Kernel
public import proofs.«01_k».proof.Proof.Gen.KernelIdeal

@[expose] public section

set_option backward.isDefEq.respectTransparency.types false
set_option maxHeartbeats 8000000

namespace Cert.Proof

open Idealize.ShloMosaic Idealize.ShloMosaic.TcCoe
open Idealize.SL Idealize.SL.Sem

variable {F : FTy → Type} [FloatOps F]

theorem bodies_eq : Cert.Kernel.defs₀ (F := F) = Cert.KernelIdeal.defs₀ (F := F) := by
  unfold Cert.Kernel.defs₀ Cert.KernelIdeal.defs₀
  congr 1
  funext l a
  match l, a with
  | 0, (t, s) => rfl

theorem defs_eq : Cert.Kernel.defs (F := F) = Cert.KernelIdeal.defs (F := F) := congrArg (Pipeline.defs _) bodies_eq

theorem main_eq : Cert.Kernel.main (F := F) = Cert.KernelIdeal.main (F := F) := by
  funext c
  unfold Cert.Kernel.main Cert.KernelIdeal.main
  rfl

end Cert.Proof
end
-- ==== Proof.Own.Tile.lean ====
/-
  One tile, whatever its number of key rows: the vector operations the program runs on a group of keys against the query
  block, for both heads, and what they come to over the extended reals, index by index. The counted loop's trips and the
  four widths of the cut group are this one tile at 1024, 768, 512 and 256 rows.
-/
module

public import proofs.«01_k».proof.Proof.Own.Cut
public import Idealize.ShloMosaic.Lib.Pointwise

@[expose] public section

set_option maxRecDepth 16384

noncomputable section

namespace Cert.Proof.Mla

open Cert.KernelIdeal Cert.KernelIdeal.Gen
open Idealize.ShloMosaic Idealize.ShloMosaic.TcCoe Idealize.ShloMosaic.VecWindow

variable {F : FTy → Type} [FloatOps F]

/-! ## The tile as vector operations -/

abbrev T2 (a b : ℕ) : Shape := ⟨2, ![a, b]⟩
abbrev T3 (a b c : ℕ) : Shape := ⟨3, ![a, b, c]⟩

/-- The side conditions of the tile's operations at `n` key rows. -/
structure Fits (n : ℕ) : Prop where
  ck : (T3 1 n 96).ShapeCasts (T2 n 96)
  ck' : (T2 n 96).ShapeCasts (T3 1 n 96)
  cv : (T3 1 n 64).ShapeCasts (T2 n 64)
  cv' : (T2 n 64).ShapeCasts (T3 1 n 64)
  cq : (T3 1 256 96).ShapeCasts (T2 256 96)
  bl : (T2 1 256).Broadcasts (T2 n 256)
  i0 : (T2 n 256).Iotas .tc 32 [0]
  i1 : (T2 n 256).Iotas .tc 32 [1]
  wkq : DotDims.WF (T2 n 96) (T2 256 96) (T2 n 256) [1] [1] [0] [0] [] []
  wvy : DotDims.WF (T2 n 64) (T2 256 64) (T2 n 256) [1] [1] [0] [0] [] []
  wdk : DotDims.WF (T2 n 256) (T2 256 96) (T2 n 96) [1] [0] [0] [1] [] []
  wdv : DotDims.WF (T2 n 256) (T2 256 64) (T2 n 64) [1] [0] [0] [1] [] []
  wdq : DotDims.WF (T2 n 256) (T2 n 96) (T2 256 96) [0] [0] [1] [1] [] []

namespace Fits
variable {n : ℕ} (w : Fits n)

/-- The exponentials of the scores less the log-sum-exp: keys on rows, queries on columns. -/
def score (q : Vec F (T3 1 256 96) .bf16) (l : FVec F (T2 1 256) .f32) (k : Vec F (T3 1 n 96) .bf16) : FVec F (T2 n 256) .f32 :=
  exp (subf (mulf (matmul ⟨[1], [1], [0], [0], [], [], w.wkq⟩ none (shapeCast (T2 n 96) k w.ck : FVec F (T2 n 96) .bf16)
      (shapeCast (T2 256 96) q w.cq : FVec F (T2 256 96) .bf16) (constant (T2 n 256) .f32 0x00000000#32))
    (broadcast (T2 n 256) (Scalar.ofBits .f32 0x3DD105EC#32 : F .f32))) (broadcastTo (T2 n 256) l w.bl))

/-- The keys past the query cut out: `b` and `base` are the query block's and the group's first block's numbers. -/
def mask (b base : BitVec 32) (p : FVec F (T2 n 256) .f32) : FVec F (T2 n 256) .f32 :=
  select (cmpi .sle (iota .tc (T2 n 256) 32 [0] w.i0)
      (addi (iota .tc (T2 n 256) 32 [1] w.i1) (broadcast (T2 n 256) (Scalar.muli (Scalar.subi b base) 256#32))))
    p (broadcast (T2 n 256) (Scalar.ofBits .f32 0x00000000#32 : F .f32))

/-- The scores' gradients. -/
def dscore (dy : FVec F (T2 256 64) .bf16) (dl : FVec F (T2 1 256) .f32) (v : Vec F (T3 1 n 64) .bf16) (p : FVec F (T2 n 256) .f32) :
    FVec F (T2 n 256) .bf16 :=
  truncf .bf16 (mulf p (subf (matmul ⟨[1], [1], [0], [0], [], [], w.wvy⟩ none (shapeCast (T2 n 64) v w.cv : FVec F (T2 n 64) .bf16) dy
    (constant (T2 n 256) .f32 0x00000000#32)) (broadcastTo (T2 n 256) dl w.bl))) bitsLt_bf16_f32

/-- The rows of `dk`. -/
def rowsK (q : Vec F (T3 1 256 96) .bf16) (d : FVec F (T2 n 256) .bf16) (old : Vec F (T3 1 n 96) .f32) : FVec F (T3 1 n 96) .f32 :=
  shapeCast (T3 1 n 96) (addf (shapeCast (T2 n 96) old w.ck : FVec F (T2 n 96) .f32)
    (mulf (matmul ⟨[1], [0], [0], [1], [], [], w.wdk⟩ none d (shapeCast (T2 256 96) q w.cq : FVec F (T2 256 96) .bf16)
      (constant (T2 n 96) .f32 0x00000000#32)) (broadcast (T2 n 96) (Scalar.ofBits .f32 0x3DD105EC#32 : F .f32)))) w.ck'

/-- The rows of `dv`. -/
def rowsV (dy : FVec F (T2 256 64) .bf16) (p : FVec F (T2 n 256) .f32) (old : Vec F (T3 1 n 64) .f32) : FVec F (T3 1 n 64) .f32 :=
  shapeCast (T3 1 n 64) (addf (shapeCast (T2 n 64) old w.cv : FVec F (T2 n 64) .f32)
    (matmul ⟨[1], [0], [0], [1], [], [], w.wdv⟩ none (truncf .bf16 p bitsLt_bf16_f32) dy (constant (T2 n 64) .f32 0x00000000#32))) w.cv'

/-- `dq` of the query block. -/
def addQ (k : Vec F (T3 1 n 96) .bf16) (d : FVec F (T2 n 256) .bf16) (old : FVec F (T2 256 96) .f32) : FVec F (T2 256 96) .f32 :=
  addf old (matmul ⟨[0], [0], [1], [1], [], [], w.wdq⟩ none d (shapeCast (T2 n 96) k w.ck : FVec F (T2 n 96) .bf16)
    (constant (T2 256 96) .f32 0x00000000#32))

end Fits

/-- The tile of the two heads' `n` key rows at the offsets `o`: `m` is what is done to the exponentials before use. -/
def tileV {n : ℕ} (w : Fits n) (m : FVec F (T2 n 256) .f32 → FVec F (T2 n 256) .f32) (o1 o2 o3 o4 : Fin 3 → ℕ)
    (h1 : ∀ a, o1 a + (T3 1 n 96).size a ≤ S2x8192x96.size a) (h2 : ∀ a, o2 a + (T3 1 n 64).size a ≤ S2x8192x64.size a)
    (h3 : ∀ a, o3 a + (T3 1 n 96).size a ≤ S2x8192x96.size a) (h4 : ∀ a, o4 a + (T3 1 n 64).size a ≤ S2x8192x64.size a)
    (x : Blk F) (a : Acc F) : Acc F :=
  let k0 : Vec F (T3 1 n 96) .bf16 := window x.k o1 (T3 1 n 96).size h1
  let v0 : Vec F (T3 1 n 64) .bf16 := window x.v o2 (T3 1 n 64).size h2
  let k1 : Vec F (T3 1 n 96) .bf16 := window x.k o3 (T3 1 n 96).size h3
  let v1 : Vec F (T3 1 n 64) .bf16 := window x.v o4 (T3 1 n 64).size h4
  let p0 := m (w.score x.q0 (k0_pay93 x.l0) k0)
  let p1 := m (w.score x.q1 (k0_pay94 x.l1) k1)
  let d0 := w.dscore x.dy0 x.dl0 v0 p0
  let d1 := w.dscore x.dy1 x.dl1 v1 p1
  { dk := put (put a.dk o1 (T3 1 n 96).size (w.rowsK x.q0 d0 (window a.dk o1 (T3 1 n 96).size h1)))
      o3 (T3 1 n 96).size (w.rowsK x.q1 d1 (window a.dk o3 (T3 1 n 96).size h3))
    dv := put (put a.dv o2 (T3 1 n 64).size (w.rowsV x.dy0 p0 (window a.dv o2 (T3 1 n 64).size h2)))
      o4 (T3 1 n 64).size (w.rowsV x.dy1 p1 (window a.dv o4 (T3 1 n 64).size h4))
    dq := (w.addQ k0 d0 a.dq.1, w.addQ k1 d1 a.dq.2) }

theorem fits1024 : Fits 1024 where
  ck := shapeCasts_S1x1024x96_S1024x96
  ck' := shapeCasts_S1024x96_S1x1024x96
  cv := shapeCasts_S1x1024x64_S1024x64
  cv' := shapeCasts_S1024x64_S1x1024x64
  cq := shapeCasts_S1x256x96_S256x96
  bl := broadcasts_S1x256_S1024x256
  i0 := iota_S1024x256_d0_w32
  i1 := iota_S1024x256_d1_w32
  wkq := dot_S1024x96_S256x96_S1024x256_1_1_0_0_n_n.wf
  wvy := dot_S1024x64_S256x64_S1024x256_1_1_0_0_n_n.wf
  wdk := dot_S1024x256_S256x96_S1024x96_1_0_0_1_n_n.wf
  wdv := dot_S1024x256_S256x64_S1024x64_1_0_0_1_n_n.wf
  wdq := dot_S1024x256_S1024x96_S256x96_0_0_1_1_n_n.wf

theorem fits768 : Fits 768 where
  ck := shapeCasts_S1x768x96_S768x96
  ck' := shapeCasts_S768x96_S1x768x96
  cv := shapeCasts_S1x768x64_S768x64
  cv' := shapeCasts_S768x64_S1x768x64
  cq := shapeCasts_S1x256x96_S256x96
  bl := broadcasts_S1x256_S768x256
  i0 := iota_S768x256_d0_w32
  i1 := iota_S768x256_d1_w32
  wkq := dot_S768x96_S256x96_S768x256_1_1_0_0_n_n.wf
  wvy := dot_S768x64_S256x64_S768x256_1_1_0_0_n_n.wf
  wdk := dot_S768x256_S256x96_S768x96_1_0_0_1_n_n.wf
  wdv := dot_S768x256_S256x64_S768x64_1_0_0_1_n_n.wf
  wdq := dot_S768x256_S768x96_S256x96_0_0_1_1_n_n.wf

theorem fits512 : Fits 512 where
  ck := shapeCasts_S1x512x96_S512x96
  ck' := shapeCasts_S512x96_S1x512x96
  cv := shapeCasts_S1x512x64_S512x64
  cv' := shapeCasts_S512x64_S1x512x64
  cq := shapeCasts_S1x256x96_S256x96
  bl := broadcasts_S1x256_S512x256
  i0 := iota_S512x256_d0_w32
  i1 := iota_S512x256_d1_w32
  wkq := dot_S512x96_S256x96_S512x256_1_1_0_0_n_n.wf
  wvy := dot_S512x64_S256x64_S512x256_1_1_0_0_n_n.wf
  wdk := dot_S512x256_S256x96_S512x96_1_0_0_1_n_n.wf
  wdv := dot_S512x256_S256x64_S512x64_1_0_0_1_n_n.wf
  wdq := dot_S512x256_S512x96_S256x96_0_0_1_1_n_n.wf

theorem fits256 : Fits 256 where
  ck := shapeCasts_S1x256x96_S256x96
  ck' := shapeCasts_S256x96_S1x256x96
  cv := shapeCasts_S1x256x64_S256x64
  cv' := shapeCasts_S256x64_S1x256x64
  cq := shapeCasts_S1x256x96_S256x96
  bl := broadcasts_S1x256_S256x256
  i0 := iota_S256x256_d0_w32
  i1 := iota_S256x256_d1_w32
  wkq := dot_S256x96_S256x96_S256x256_1_1_0_0_n_n.wf
  wvy := dot_S256x64_S256x64_S256x256_1_1_0_0_n_n.wf
  wdk := dot_S256x256_S256x96_S256x96_1_0_0_1_n_n.wf
  wdv := dot_S256x256_S256x64_S256x64_1_0_0_1_n_n.wf
  wdq := dot_S256x256_S256x96_S256x96_0_0_1_1_n_n.wf

theorem tripStep_eq (i : grid0.Coords) (x : Blk F) (k : Fin (k0_t1_loop i).trips) (a : Acc F) :
    tripStep i x k a = tileV fits1024 id (k0_off1 i k) (k0_off2 i k) (k0_off3 i k) (k0_off4 i k)
      (k0_off1_inb i k) (k0_off2_inb i k) (k0_off3_inb i k) (k0_off4_inb i k) x a := rfl

theorem cut1024_eq (i : grid0.Coords) (h2 : k0_cond2 i = 1#1) (h3 : k0_cond3 i = 1#1) (h4 : k0_cond4 i = 1#1) (x : Blk F) (a : Acc F) :
    cut1024 i h2 h3 h4 x a = tileV fits1024 (fits1024.mask (BitVec.ofNat 32 (i 1).val) (baseWord i)) (k0_off9 i) (k0_off10 i) (k0_off11 i) (k0_off12 i)
      (k0_off9_inb i h2 h3 h4) (k0_off10_inb i h2 h3 h4) (k0_off11_inb i h2 h3 h4) (k0_off12_inb i h2 h3 h4) x a := rfl

theorem cut768_eq (i : grid0.Coords) (h2 : k0_cond2 i = 1#1) (h3 : k0_cond3 i = 1#1) (h4 : ¬(k0_cond4 i = 1#1)) (x : Blk F) (a : Acc F) :
    cut768 i h2 h3 h4 x a = tileV fits768 (fits768.mask (BitVec.ofNat 32 (i 1).val) (baseWord i)) (k0_off13 i) (k0_off14 i) (k0_off15 i) (k0_off16 i)
      (k0_off13_inb i h2 h3 h4) (k0_off14_inb i h2 h3 h4) (k0_off15_inb i h2 h3 h4) (k0_off16_inb i h2 h3 h4) x a := rfl

theorem cut512_eq (i : grid0.Coords) (h2 : k0_cond2 i = 1#1) (h3 : ¬(k0_cond3 i = 1#1)) (x : Blk F) (a : Acc F) :
    cut512 i h2 h3 x a = tileV fits512 (fits512.mask (BitVec.ofNat 32 (i 1).val) (baseWord i)) (k0_off17 i) (k0_off18 i) (k0_off19 i) (k0_off20 i)
      (k0_off17_inb i h2 h3) (k0_off18_inb i h2 h3) (k0_off19_inb i h2 h3) (k0_off20_inb i h2 h3) x a := rfl

theorem cut256_eq (i : grid0.Coords) (h2 : ¬(k0_cond2 i = 1#1)) (x : Blk F) (a : Acc F) :
    cut256 i h2 x a = tileV fits256 (fits256.mask (BitVec.ofNat 32 (i 1).val) (baseWord i)) (k0_off21 i) (k0_off22 i) (k0_off23 i) (k0_off24 i)
      (k0_off21_inb i h2) (k0_off22_inb i h2) (k0_off23_inb i h2) (k0_off24_inb i h2) x a := rfl

end Cert.Proof.Mla
-- ==== Proof.Own.TileRead.lean ====
/-
  The tile's operations over the extended reals, read at an index.
-/
module

public import proofs.«01_k».proof.Proof.Own.Tile
public import Idealize.ShloMosaic.Lib.WordCmp

@[expose] public section

set_option maxRecDepth 16384

noncomputable section

namespace Cert.Proof.Mla

open Cert.KernelIdeal Cert.KernelIdeal.Gen
open Idealize.ShloMosaic Idealize.ShloMosaic.TcCoe Idealize.ShloMosaic.VecWindow

/-- The scores' scale, the reciprocal of the root of 96 as the programs spell it. -/
def sc : EReal := Ideal.ofBits .f32 0x3DD105EC#32

/-- A product of rows with rows. -/
theorem mm_rows {a b k : ℕ} {φ ψ : FTy} (wf : DotDims.WF (T2 a k) (T2 b k) (T2 a b) [1] [1] [0] [0] [] []) (p : Option ContractPrecision)
    (l : FVec Ideal (T2 a k) φ) (r : FVec Ideal (T2 b k) ψ) (acc : FVec Ideal (T2 a b) .f32) (i : Fin a) (j : Fin b) :
    matmul (F := Ideal) (⟨[1], [1], [0], [0], [], [], wf⟩ : DotDims (T2 a k) (T2 b k) (T2 a b)) p l r acc (ix2 i j)
      = acc (ix2 i j) + ∑ t : Fin k, (l (ix2 i t) : EReal) * r (ix2 j t) := by
  refine Ideal.matmul_apply₁_of (K := k) (a := (1 : Fin 2)) ⟨_, _, _, _, _, _, wf⟩ rfl rfl l r acc (ix2 i j) (fun t => ix2 i t) (fun t => ix2 j t) ?_ ?_ <;>
    (intro t; funext c; fin_cases c <;> rfl)

/-- A plain product. -/
theorem mm_plain {a b k : ℕ} {φ ψ : FTy} (wf : DotDims.WF (T2 a k) (T2 k b) (T2 a b) [1] [0] [0] [1] [] []) (p : Option ContractPrecision)
    (l : FVec Ideal (T2 a k) φ) (r : FVec Ideal (T2 k b) ψ) (acc : FVec Ideal (T2 a b) .f32) (i : Fin a) (j : Fin b) :
    matmul (F := Ideal) (⟨[1], [0], [0], [1], [], [], wf⟩ : DotDims (T2 a k) (T2 k b) (T2 a b)) p l r acc (ix2 i j)
      = acc (ix2 i j) + ∑ t : Fin k, (l (ix2 i t) : EReal) * r (ix2 t j) := by
  refine Ideal.matmul_apply₁_of (K := k) (a := (1 : Fin 2)) ⟨_, _, _, _, _, _, wf⟩ rfl rfl l r acc (ix2 i j) (fun t => ix2 i t) (fun t => ix2 t j) ?_ ?_ <;>
    (intro t; funext c; fin_cases c <;> rfl)

/-- A product of columns with columns. -/
theorem mm_cols {a b k : ℕ} {φ ψ : FTy} (wf : DotDims.WF (T2 k a) (T2 k b) (T2 a b) [0] [0] [1] [1] [] []) (p : Option ContractPrecision)
    (l : FVec Ideal (T2 k a) φ) (r : FVec Ideal (T2 k b) ψ) (acc : FVec Ideal (T2 a b) .f32) (i : Fin a) (j : Fin b) :
    matmul (F := Ideal) (⟨[0], [0], [1], [1], [], [], wf⟩ : DotDims (T2 k a) (T2 k b) (T2 a b)) p l r acc (ix2 i j)
      = acc (ix2 i j) + ∑ t : Fin k, (l (ix2 t i) : EReal) * r (ix2 t j) := by
  refine Ideal.matmul_apply₁_of (K := k) (a := (0 : Fin 2)) ⟨_, _, _, _, _, _, wf⟩ rfl rfl l r acc (ix2 i j) (fun t => ix2 t i) (fun t => ix2 t j) ?_ ?_ <;>
    (intro t; funext c; fin_cases c <;> rfl)

/-- Dropping a leading unit axis. -/
theorem drop_apply {α : Type} {a b : ℕ} (x : (T3 1 a b).Idx → α) (h : (T3 1 a b).ShapeCasts (T2 a b)) (i : Fin a) (j : Fin b) :
    shapeCast (T2 a b) x h (ix2 i j) = x (ix3 0 i j) :=
  (shapeCast_dropUnit_apply ![a, b] x h (ix2 i j)).trans (congrArg x (by funext c; fin_cases c <;> rfl))

/-- Adding a leading unit axis. -/
theorem add_apply {α : Type} {a b : ℕ} (x : (T2 a b).Idx → α) (h : (T2 a b).ShapeCasts (T3 1 a b)) (i : Fin a) (j : Fin b) :
    shapeCast (T3 1 a b) x h (ix3 0 i j) = x (ix2 i j) :=
  (shapeCast_addUnit_apply ![a, b] x h (ix3 0 i j)).trans (congrArg x (by funext c; fin_cases c <;> rfl))

/-- A row spread over all rows. -/
theorem spread_apply {α : Type} {n m : ℕ} (x : (T2 1 m).Idx → α) (h : (T2 1 m).Broadcasts (T2 n m)) (hm : m ≠ 1) (i : Fin n) (j : Fin m) :
    broadcastTo (T2 n m) x h (ix2 i j) = x (ix2 0 j) := by
  refine congrArg x (funext fun c => ?_)
  fin_cases c
  · rfl
  · exact dif_neg hm

/-- The comparison of key `r` with query `c` of block `b`, the keys counted from block `base`, as words. -/
theorem keep_word {α : Type} (b base : ℕ) (hb : base ≤ b) (hb' : b < 32) (n r k c : ℕ) (hr : r < 1024) (hc : c < 256) (x y : α) :
    Scalar.select (Scalar.cmpi .sle (BitVec.ofNat 32 (0 * n + r))
      (BitVec.ofNat 32 (0 * k + c) + (Scalar.muli (Scalar.subi (BitVec.ofNat 32 b) (BitVec.ofNat 32 base)) 256#32 : BitVec 32))) x y
      = if r ≤ c + 256 * (b - base) then x else y := by
  have e : (Scalar.muli (Scalar.subi (BitVec.ofNat 32 b) (BitVec.ofNat 32 base)) 256#32 : BitVec 32) = BitVec.ofNat 32 (256 * (b - base)) := by
    obtain ⟨t, rfl⟩ := Nat.exists_eq_add_of_le hb
    have e1 : (Scalar.subi (BitVec.ofNat 32 (base + t)) (BitVec.ofNat 32 base) : BitVec 32) = BitVec.ofNat 32 t := by
      apply BitVec.eq_of_toNat_eq
      show (BitVec.ofNat 32 (base + t) - BitVec.ofNat 32 base).toNat = _
      simp only [BitVec.toNat_sub, BitVec.toNat_ofNat]
      omega
    rw [e1, Nat.add_sub_cancel_left, Nat.mul_comm]
    exact (BitVec.ofNat_mul t 256).symm
  rw [e, ← BitVec.ofNat_add, Nat.zero_mul, Nat.zero_mul, Nat.zero_add, Nat.zero_add]
  by_cases h : r ≤ c + 256 * (b - base)
  · rw [if_pos h]
    have : Scalar.cmpi .sle (BitVec.ofNat 32 r) (BitVec.ofNat 32 (c + 256 * (b - base))) = 1#1 := by
      word_cmp
    rw [this]; rfl
  · rw [if_neg h]
    have : Scalar.cmpi .sle (BitVec.ofNat 32 r) (BitVec.ofNat 32 (c + 256 * (b - base))) = 0#1 := by
      word_cmp
    rw [this]; rfl

namespace Fits
variable {n : ℕ} (w : Fits n)

theorem score_apply (q : Vec Ideal (T3 1 256 96) .bf16) (l : FVec Ideal (T2 1 256) .f32) (k : Vec Ideal (T3 1 n 96) .bf16) (r : Fin n) (c : Fin 256) :
    w.score q l k (ix2 r c) = Ideal.exp ((∑ d : Fin 96, (k (ix3 0 r d) : EReal) * q (ix3 0 c d)) * sc - l (ix2 0 c)) := by
  show Ideal.exp (matmul (F := Ideal) _ _ _ _ _ (ix2 r c) * sc - broadcastTo (T2 n 256) l w.bl (ix2 r c)) = _
  rw [mm_rows, spread_apply _ _ (by decide)]
  simp only [drop_apply]
  rw [show (constant (F := Ideal) (T2 n 256) .f32 0x00000000#32 (ix2 r c) : EReal) = 0 from Ideal.ofBits_zero_f32, zero_add]

theorem dscore_apply (dy : FVec Ideal (T2 256 64) .bf16) (dl : FVec Ideal (T2 1 256) .f32) (v : Vec Ideal (T3 1 n 64) .bf16) (p : FVec Ideal (T2 n 256) .f32) (r : Fin n) (c : Fin 256) :
    w.dscore dy dl v p (ix2 r c) = (p (ix2 r c) : EReal) * ((∑ e : Fin 64, (v (ix3 0 r e) : EReal) * dy (ix2 c e)) - dl (ix2 0 c)) := by
  show (p (ix2 r c) : EReal) * (matmul (F := Ideal) _ _ _ _ _ (ix2 r c) - broadcastTo (T2 n 256) dl w.bl (ix2 r c)) = _
  rw [mm_rows, spread_apply _ _ (by decide)]
  simp only [drop_apply]
  rw [show (constant (F := Ideal) (T2 n 256) .f32 0x00000000#32 (ix2 r c) : EReal) = 0 from Ideal.ofBits_zero_f32, zero_add]

theorem rowsK_apply (q : Vec Ideal (T3 1 256 96) .bf16) (d : FVec Ideal (T2 n 256) .bf16) (old : Vec Ideal (T3 1 n 96) .f32) (r : Fin n) (j : Fin 96) :
    w.rowsK q d old (ix3 0 r j) = (old (ix3 0 r j) : EReal) + (∑ c : Fin 256, (d (ix2 r c) : EReal) * q (ix3 0 c j)) * sc := by
  unfold rowsK
  rw [add_apply]
  show (shapeCast (T2 n 96) old w.ck (ix2 r j) : EReal) + matmul (F := Ideal) _ _ _ _ _ (ix2 r j) * sc = _
  rw [mm_plain, drop_apply]
  simp only [drop_apply]
  rw [show (constant (F := Ideal) (T2 n 96) .f32 0x00000000#32 (ix2 r j) : EReal) = 0 from Ideal.ofBits_zero_f32, zero_add]

theorem rowsV_apply (dy : FVec Ideal (T2 256 64) .bf16) (p : FVec Ideal (T2 n 256) .f32) (old : Vec Ideal (T3 1 n 64) .f32) (r : Fin n) (e : Fin 64) :
    w.rowsV dy p old (ix3 0 r e) = (old (ix3 0 r e) : EReal) + ∑ c : Fin 256, (p (ix2 r c) : EReal) * dy (ix2 c e) := by
  unfold rowsV
  rw [add_apply]
  show (shapeCast (T2 n 64) old w.cv (ix2 r e) : EReal) + matmul (F := Ideal) _ _ _ _ _ (ix2 r e) = _
  rw [mm_plain, drop_apply]
  rw [show (constant (F := Ideal) (T2 n 64) .f32 0x00000000#32 (ix2 r e) : EReal) = 0 from Ideal.ofBits_zero_f32, zero_add]
  rfl

theorem addQ_apply (k : Vec Ideal (T3 1 n 96) .bf16) (d : FVec Ideal (T2 n 256) .bf16) (old : FVec Ideal (T2 256 96) .f32) (c : Fin 256) (j : Fin 96) :
    w.addQ k d old (ix2 c j) = (old (ix2 c j) : EReal) + ∑ r : Fin n, (d (ix2 r c) : EReal) * k (ix3 0 r j) := by
  show (old (ix2 c j) : EReal) + matmul (F := Ideal) _ _ _ _ _ (ix2 c j) = _
  rw [mm_cols]
  simp only [drop_apply]
  rw [show (constant (F := Ideal) (T2 256 96) .f32 0x00000000#32 (ix2 c j) : EReal) = 0 from Ideal.ofBits_zero_f32, zero_add]

/-- The mask keeps row `r` of column `c` where `r ≤ c + 256 (b − base)`. -/
theorem mask_apply (hn : n ≤ 1024) (b base : ℕ) (hb : base ≤ b) (hb' : b < 32) (p : FVec Ideal (T2 n 256) .f32) (r : Fin n) (c : Fin 256) :
    w.mask (BitVec.ofNat 32 b) (BitVec.ofNat 32 base) p (ix2 r c) = if r.val ≤ c.val + 256 * (b - base) then p (ix2 r c) else 0 := by
  refine Eq.trans ?_ ((keep_word b base hb hb' n r.val 256 c.val (lt_of_lt_of_le r.isLt hn) c.isLt (p (ix2 r c)) (Ideal.ofBits .f32 0x00000000#32)).trans ?_)
  · rfl
  · rw [Ideal.ofBits_zero_f32]

end Fits

end Cert.Proof.Mla
-- ==== Proof.Own.Span.lean ====
/-
  What a tile adds, as sums over key rows and queries. Over the extended reals a tile of rows `lo … hi − 1` leaves the
  accumulators with that span's share added (`Acc.span`), spans join, and a grid point's tiles together are every row.
-/
module

public import proofs.«01_k».proof.Proof.Own.TileRead

@[expose] public section

set_option maxRecDepth 16384

noncomputable section

namespace Cert.Proof.Mla

open Cert.KernelIdeal Cert.KernelIdeal.Gen
open Idealize.ShloMosaic Idealize.ShloMosaic.TcCoe Idealize.ShloMosaic.VecWindow

namespace Blk
variable (x : Blk Ideal)

/-- `dy` of head `h`, query `c`, column `e`. -/
def dyv (h : Fin 2) (c : Fin 256) (e : Fin 64) : EReal := if h = 0 then x.dy0 (ix2 c e) else x.dy1 (ix2 c e)
/-- `delta` of head `h`, query `c`. -/
def dlv (h : Fin 2) (c : Fin 256) : EReal := if h = 0 then x.dl0 (ix2 0 c) else x.dl1 (ix2 0 c)
/-- The log-sum-exp of head `h`, query `c`. -/
def lv (h : Fin 2) (c : Fin 256) : EReal :=
  if h = 0 then k0_pay93 (F := Ideal) x.l0 (ix2 0 c) else k0_pay94 (F := Ideal) x.l1 (ix2 0 c)

/-- The probability of key `r` for query `c` of block `b`: none past the query. -/
def pr (b : ℕ) (h : Fin 2) (r : Fin 8192) (c : Fin 256) : EReal :=
  if r.val ≤ 256 * b + c.val then Ideal.exp ((∑ d : Fin 96, (x.k (ix3 h r d) : EReal) * x.q (ix3 h c d)) * sc - x.lv h c) else 0

/-- The score's gradient. -/
def ds (b : ℕ) (h : Fin 2) (r : Fin 8192) (c : Fin 256) : EReal :=
  x.pr b h r c * ((∑ e : Fin 64, (x.v (ix3 h r e) : EReal) * x.dyv h c e) - x.dlv h c)

/-- What block `b` gives `dk`. -/
def giveK (b : ℕ) (h : Fin 2) (r : Fin 8192) (d : Fin 96) : EReal := (∑ c : Fin 256, x.ds b h r c * (x.q (ix3 h c d) : EReal)) * sc
/-- What block `b` gives `dv`. -/
def giveV (b : ℕ) (h : Fin 2) (r : Fin 8192) (e : Fin 64) : EReal := ∑ c : Fin 256, x.pr b h r c * x.dyv h c e
/-- What key `r` gives `dq`. -/
def giveQ (b : ℕ) (h : Fin 2) (r : Fin 8192) (c : Fin 256) (d : Fin 96) : EReal := x.ds b h r c * (x.k (ix3 h r d) : EReal)

end Blk

/-- The accumulators with the share of the rows `lo … hi − 1` added. -/
def Acc.span (x : Blk Ideal) (b lo hi : ℕ) (a : Acc Ideal) : Acc Ideal where
  dk := fun y => (a.dk y : EReal) + if lo ≤ (y 1).val ∧ (y 1).val < hi then x.giveK b (y 0) (y 1) (y 2) else 0
  dv := fun y => (a.dv y : EReal) + if lo ≤ (y 1).val ∧ (y 1).val < hi then x.giveV b (y 0) (y 1) (y 2) else 0
  dq := (fun y => (a.dq.1 y : EReal) + ∑ r : Fin 8192, if lo ≤ r.val ∧ r.val < hi then x.giveQ b 0 r (y 0) (y 1) else 0,
    fun y => (a.dq.2 y : EReal) + ∑ r : Fin 8192, if lo ≤ r.val ∧ r.val < hi then x.giveQ b 1 r (y 0) (y 1) else 0)

theorem Acc.ext' {a b : Acc Ideal} (h1 : a.dk = b.dk) (h2 : a.dv = b.dv) (h3 : a.dq.1 = b.dq.1) (h4 : a.dq.2 = b.dq.2) : a = b := by
  cases a; cases b
  simp only [Acc.mk.injEq]
  exact ⟨h1, h2, Prod.ext h3 h4⟩

theorem ite_join {M : Type*} [AddMonoid M] (lo mid hi r : ℕ) (h1 : lo ≤ mid) (h2 : mid ≤ hi) (f : M) :
    (if lo ≤ r ∧ r < mid then f else 0) + (if mid ≤ r ∧ r < hi then f else 0) = if lo ≤ r ∧ r < hi then f else 0 := by
  by_cases a : r < mid
  · by_cases b : lo ≤ r
    · rw [if_pos ⟨b, a⟩, if_neg (by omega), if_pos (by omega), add_zero]
    · rw [if_neg (by omega), if_neg (by omega), if_neg (by omega), add_zero]
  · by_cases b : r < hi
    · rw [if_neg (by omega), if_pos (by omega), if_pos (by omega), zero_add]
    · rw [if_neg (by omega), if_neg (by omega), if_neg (by omega), add_zero]

/-- Adjacent spans join. -/
theorem Acc.span_span (x : Blk Ideal) (b lo mid hi : ℕ) (h1 : lo ≤ mid) (h2 : mid ≤ hi) (a : Acc Ideal) :
    (a.span x b lo mid).span x b mid hi = a.span x b lo hi := by
  refine Acc.ext' ?_ ?_ ?_ ?_ <;> funext y
  · exact (add_assoc _ _ _).trans (congrArg _ (ite_join lo mid hi _ h1 h2 _))
  · exact (add_assoc _ _ _).trans (congrArg _ (ite_join lo mid hi _ h1 h2 _))
  · refine (add_assoc _ _ _).trans (congrArg _ ?_)
    rw [← Finset.sum_add_distrib]
    exact Finset.sum_congr rfl fun r _ => ite_join lo mid hi _ h1 h2 _
  · refine (add_assoc _ _ _).trans (congrArg _ ?_)
    rw [← Finset.sum_add_distrib]
    exact Finset.sum_congr rfl fun r _ => ite_join lo mid hi _ h1 h2 _

/-- An empty span adds nothing. -/
theorem Acc.span_nil (x : Blk Ideal) (b lo : ℕ) (a : Acc Ideal) : a.span x b lo lo = a := by
  have e : ∀ r (f : EReal), (if lo ≤ r ∧ r < lo then f else 0) = 0 := fun r f => if_neg (by omega)
  refine Acc.ext' ?_ ?_ ?_ ?_ <;> funext y
  · exact (congrArg _ (e _ _)).trans (add_zero _)
  · exact (congrArg _ (e _ _)).trans (add_zero _)
  · exact (congrArg _ (Finset.sum_eq_zero fun r _ => e _ _)).trans (add_zero _)
  · exact (congrArg _ (Finset.sum_eq_zero fun r _ => e _ _)).trans (add_zero _)

/-- A sum over `n` rows from `o` is the whole sum of those rows alone. -/
theorem sum_rows {M : Type*} [AddCommMonoid M] {N : ℕ} (o n : ℕ) (h : o + n ≤ N) (f : Fin N → M) :
    ∑ r : Fin n, f ⟨o + r.val, by have := r.isLt; omega⟩ = ∑ r : Fin N, if o ≤ r.val ∧ r.val < o + n then f r else 0 := by
  rw [← Finset.sum_filter]
  refine Finset.sum_bij' (fun r _ => (⟨o + r.val, by have := r.isLt; omega⟩ : Fin N)) (fun r hr => (⟨r.val - o, by
    have := (Finset.mem_filter.1 hr).2; omega⟩ : Fin n)) ?_ ?_ ?_ ?_ ?_
  · intro r _; exact Finset.mem_filter.2 ⟨Finset.mem_univ _, by have := r.isLt; show o ≤ o + r.val ∧ o + r.val < o + n; omega⟩
  · intro r _; exact Finset.mem_univ _
  · intro r _; exact Fin.ext (by show o + r.val - o = r.val; omega)
  · intro r hr; have := (Finset.mem_filter.1 hr).2; exact Fin.ext (by show o + (r.val - o) = r.val; omega)
  · intro r _; rfl

/-- A window of head `h`'s rows from `o`. -/
theorem window_rows {α : Type} {N n D : ℕ} (x : (T3 2 N D).Idx → α) (h : Fin 2) (o : ℕ) (off : Fin 3 → ℕ) (ho : off = ![h.val, o, 0])
    (inb : ∀ a, off a + (T3 1 n D).size a ≤ (T3 2 N D).size a) (r : Fin n) (d : Fin D) (hr : o + r.val < N) :
    window x off (T3 1 n D).size inb (ix3 0 r d) = x (ix3 h ⟨o + r.val, hr⟩ d) := by
  subst ho
  refine congrArg x (funext fun a => Fin.ext ?_)
  fin_cases a
  · show h.val + 1 * 0 = h.val; omega
  · show o + 1 * r.val = o + r.val; omega
  · show 0 + 1 * d.val = d.val; omega

/-- A put over head `h`'s rows from `o`, read inside. -/
theorem put_rows_in {α : Type} {N n D : ℕ} (x : (T3 2 N D).Idx → α) (h : Fin 2) (o : ℕ) (off : Fin 3 → ℕ) (ho : off = ![h.val, o, 0])
    (u : (T3 1 n D).Idx → α) (r : Fin N) (d : Fin D) (hr : o ≤ r.val ∧ r.val < o + n) :
    put x off (T3 1 n D).size u (ix3 h r d) = u (ix3 0 ⟨r.val - o, by omega⟩ d) := by
  subst ho
  refine (dif_pos ?_).trans (congrArg u (funext fun a => Fin.ext ?_))
  · intro a
    fin_cases a
    · exact ⟨le_refl h.val, by show h.val < h.val + 1; omega⟩
    · exact hr
    · exact ⟨Nat.zero_le _, by show d.val < 0 + D; have := d.isLt; omega⟩
  · fin_cases a
    · show h.val - h.val = 0; omega
    · rfl
    · rfl

/-- A put over head `h`'s rows from `o`, read at another head or another row. -/
theorem put_rows_out {α : Type} {N n D : ℕ} (x : (T3 2 N D).Idx → α) (h : Fin 2) (o : ℕ) (off : Fin 3 → ℕ) (ho : off = ![h.val, o, 0])
    (u : (T3 1 n D).Idx → α) (h' : Fin 2) (r : Fin N) (d : Fin D) (hr : h' ≠ h ∨ ¬(o ≤ r.val ∧ r.val < o + n)) :
    put x off (T3 1 n D).size u (ix3 h' r d) = x (ix3 h' r d) := by
  subst ho
  refine dif_neg fun hall => ?_
  have e0 : h.val ≤ h'.val ∧ h'.val < h.val + 1 := hall (0 : Fin 3)
  have e1 : o ≤ r.val ∧ r.val < o + n := hall (1 : Fin 3)
  rcases hr with hr | hr
  · exact hr (Fin.ext (by omega))
  · exact hr e1

/-- Rows of both heads updated: `up` is the new value of an updated row. -/
theorem put_both {N n D : ℕ} (x : (T3 2 N D).Idx → EReal) (o : ℕ) (o1 o2 : Fin 3 → ℕ) (h1 : o1 = ![0, o, 0]) (h2 : o2 = ![1, o, 0])
    (hn : o + n ≤ N) (u w : (T3 1 n D).Idx → EReal) (g : Fin 2 → Fin N → Fin D → EReal)
    (hu : ∀ (r : Fin n) (d : Fin D), u (ix3 0 r d) = x (ix3 0 ⟨o + r.val, by have := r.isLt; omega⟩ d) + g 0 ⟨o + r.val, by have := r.isLt; omega⟩ d)
    (hw : ∀ (r : Fin n) (d : Fin D), w (ix3 0 r d) = x (ix3 1 ⟨o + r.val, by have := r.isLt; omega⟩ d) + g 1 ⟨o + r.val, by have := r.isLt; omega⟩ d)
    (y : (T3 2 N D).Idx) :
    put (put x o1 (T3 1 n D).size u) o2 (T3 1 n D).size w y
      = x y + if o ≤ (y 1).val ∧ (y 1).val < o + n then g (y 0) (y 1) (y 2) else 0 := by
  obtain ⟨h, r, d, rfl⟩ : ∃ (h : Fin 2) (r : Fin N) (d : Fin D), y = ix3 h r d := ⟨y 0, y 1, y 2, eq_ix3 y⟩
  show _ = x (ix3 h r d) + if o ≤ r.val ∧ r.val < o + n then g h r d else 0
  by_cases hr : o ≤ r.val ∧ r.val < o + n
  · have er : ∀ p, (⟨o + (r.val - o), p⟩ : Fin N) = r := fun p => Fin.ext (by show o + (r.val - o) = r.val; omega)
    rw [if_pos hr]
    rcases (show h = 0 ∨ h = 1 by omega) with rfl | rfl
    · rw [put_rows_out _ 1 o o2 h2 _ 0 r d (Or.inl (by decide)), put_rows_in _ 0 o o1 h1 _ r d hr, hu, er]
    · rw [put_rows_in _ 1 o o2 h2 _ r d hr, hw, er]
  · rw [if_neg hr, add_zero, put_rows_out _ 1 o o2 h2 _ h r d (Or.inr hr), put_rows_out _ 0 o o1 h1 _ h r d (Or.inr hr)]

section
variable {n : ℕ} (w : Fits n) (m : FVec Ideal (T2 n 256) .f32 → FVec Ideal (T2 n 256) .f32) (o b : ℕ) (hn : o + n ≤ 8192)
  (hm : ∀ p (r : Fin n) (c : Fin 256), m p (ix2 r c) = (if o + r.val ≤ 256 * b + c.val then p (ix2 r c) else 0 : EReal)) (x : Blk Ideal)

include hm in
/-- One head's probabilities in the tile are the block's. -/
theorem pr_tile (h : Fin 2) (q : Vec Ideal (T3 1 256 96) .bf16) (l : FVec Ideal (T2 1 256) .f32) (k : Vec Ideal (T3 1 n 96) .bf16)
    (hq : ∀ (c : Fin 256) (d : Fin 96), q (ix3 0 c d) = x.q (ix3 h c d)) (hl : ∀ c : Fin 256, l (ix2 0 c) = x.lv h c)
    (hk : ∀ (r : Fin n) (d : Fin 96), k (ix3 0 r d) = x.k (ix3 h ⟨o + r.val, by have := r.isLt; omega⟩ d)) (r : Fin n) (c : Fin 256) :
    m (w.score q l k) (ix2 r c) = x.pr b h ⟨o + r.val, by have := r.isLt; omega⟩ c := by
  rw [hm, Fits.score_apply, hl]
  simp only [hq, hk]
  rfl

/-- One head's score gradients in the tile are the block's. -/
theorem ds_tile (h : Fin 2) (dy : FVec Ideal (T2 256 64) .bf16) (dl : FVec Ideal (T2 1 256) .f32) (v : Vec Ideal (T3 1 n 64) .bf16) (p : FVec Ideal (T2 n 256) .f32)
    (hd : ∀ (c : Fin 256) (e : Fin 64), dy (ix2 c e) = x.dyv h c e) (hl : ∀ c : Fin 256, dl (ix2 0 c) = x.dlv h c)
    (hv : ∀ (r : Fin n) (e : Fin 64), v (ix3 0 r e) = x.v (ix3 h ⟨o + r.val, by have := r.isLt; omega⟩ e))
    (hp : ∀ (r : Fin n) (c : Fin 256), p (ix2 r c) = x.pr b h ⟨o + r.val, by have := r.isLt; omega⟩ c) (r : Fin n) (c : Fin 256) :
    w.dscore dy dl v p (ix2 r c) = x.ds b h ⟨o + r.val, by have := r.isLt; omega⟩ c := by
  rw [Fits.dscore_apply, hl, hp]
  simp only [hd, hv]
  rfl

include hm hn in
/-- The tile adds its span. -/
theorem tileV_eq (o1 o2 o3 o4 : Fin 3 → ℕ) (e1 : o1 = ![0, o, 0]) (e2 : o2 = ![0, o, 0]) (e3 : o3 = ![1, o, 0]) (e4 : o4 = ![1, o, 0])
    (h1 : ∀ a, o1 a + (T3 1 n 96).size a ≤ S2x8192x96.size a) (h2 : ∀ a, o2 a + (T3 1 n 64).size a ≤ S2x8192x64.size a)
    (h3 : ∀ a, o3 a + (T3 1 n 96).size a ≤ S2x8192x96.size a) (h4 : ∀ a, o4 a + (T3 1 n 64).size a ≤ S2x8192x64.size a) (a : Acc Ideal) :
    tileV w m o1 o2 o3 o4 h1 h2 h3 h4 x a = a.span x b o (o + n) := by
  have hb : ∀ r : Fin n, o + r.val < 8192 := fun r => by have := r.isLt; omega
  have hq0 : ∀ (c : Fin 256) (d : Fin 96), x.q0 (ix3 0 c d) = x.q (ix3 0 c d) := fun c d => by
    have := window_rows (n := 256) x.q 0 0 ![0, 0, 0] rfl inb_S2x256x96_S1x256x96_0_0_0 c d (by have := c.isLt; omega)
    simpa only [Nat.zero_add] using this
  have hq1 : ∀ (c : Fin 256) (d : Fin 96), x.q1 (ix3 0 c d) = x.q (ix3 1 c d) := fun c d => by
    have := window_rows (n := 256) x.q 1 0 ![1, 0, 0] rfl inb_S2x256x96_S1x256x96_1_0_0 c d (by have := c.isLt; omega)
    simpa only [Nat.zero_add] using this
  have hk0 := fun (r : Fin n) (d : Fin 96) => window_rows x.k 0 o o1 e1 h1 r d (hb r)
  have hk1 := fun (r : Fin n) (d : Fin 96) => window_rows x.k 1 o o3 e3 h3 r d (hb r)
  have hv0 := fun (r : Fin n) (e : Fin 64) => window_rows x.v 0 o o2 e2 h2 r e (hb r)
  have hv1 := fun (r : Fin n) (e : Fin 64) => window_rows x.v 1 o o4 e4 h4 r e (hb r)
  have hp0 := pr_tile w m o b hn hm x 0 x.q0 (k0_pay93 (F := Ideal) x.l0) _ hq0 (fun c => rfl) hk0
  have hp1 := pr_tile w m o b hn hm x 1 x.q1 (k0_pay94 (F := Ideal) x.l1) _ hq1 (fun c => rfl) hk1
  have hd0 := ds_tile w o b hn x 0 x.dy0 x.dl0 _ _ (fun c e => rfl) (fun c => rfl) hv0 hp0
  have hd1 := ds_tile w o b hn x 1 x.dy1 x.dl1 _ _ (fun c e => rfl) (fun c => rfl) hv1 hp1
  refine Acc.ext' ?_ ?_ ?_ ?_ <;> funext y
  · refine put_both a.dk o o1 o3 e1 e3 hn _ _ (fun h r d => x.giveK b h r d) (fun r d => ?_) (fun r d => ?_) y
    · rw [Fits.rowsK_apply, window_rows a.dk 0 o o1 e1 h1 r d (hb r)]
      simp only [hd0, hq0]
      rfl
    · rw [Fits.rowsK_apply, window_rows a.dk 1 o o3 e3 h3 r d (hb r)]
      simp only [hd1, hq1]
      rfl
  · refine put_both a.dv o o2 o4 e2 e4 hn _ _ (fun h r d => x.giveV b h r d) (fun r d => ?_) (fun r d => ?_) y
    · rw [Fits.rowsV_apply, window_rows a.dv 0 o o2 e2 h2 r d (hb r)]
      simp only [hp0]
      rfl
    · rw [Fits.rowsV_apply, window_rows a.dv 1 o o4 e4 h4 r d (hb r)]
      simp only [hp1]
      rfl
  · obtain ⟨c, d, rfl⟩ : ∃ (c : Fin 256) (d : Fin 96), y = ix2 c d := ⟨y 0, y 1, eq_ix2 y⟩
    refine (Fits.addQ_apply w _ _ _ c d).trans (congrArg _ ?_)
    refine Eq.trans ?_ (sum_rows o n hn (fun r => x.giveQ b 0 r c d))
    exact Finset.sum_congr rfl fun r _ => by rw [hd0, hk0]; rfl
  · obtain ⟨c, d, rfl⟩ : ∃ (c : Fin 256) (d : Fin 96), y = ix2 c d := ⟨y 0, y 1, eq_ix2 y⟩
    refine (Fits.addQ_apply w _ _ _ c d).trans (congrArg _ ?_)
    refine Eq.trans ?_ (sum_rows o n hn (fun r => x.giveQ b 1 r c d))
    exact Finset.sum_congr rfl fun r _ => by rw [hd1, hk1]; rfl

end

/-! ## A grid point's tiles -/

theorem before_span (i : grid0.Coords) (x : Blk Ideal) (a : Acc Ideal) :
    ∀ n, n ≤ (i 1).val / 4 → before i x a n = a.span x (i 1).val 0 (1024 * n)
  | 0, _ => (Acc.span_nil x _ 0 a).symm
  | n + 1, h => by
    have hn : n < (k0_t1_loop i).trips := by rw [trips_eq]; omega
    have hi : (i 1).val < 32 := (i 1).isLt
    rw [before, dif_pos hn, before_span i x a n (by omega), tripStep_eq,
      tileV_eq fits1024 id (1024 * n) (i 1).val (by omega) (fun p r c => (if_pos (by have := r.isLt; omega)).symm) x _ _ _ _
        (k0_off1_eq i ⟨n, hn⟩) (k0_off2_eq i ⟨n, hn⟩) (k0_off3_eq i ⟨n, hn⟩) (k0_off4_eq i ⟨n, hn⟩),
      Acc.span_span x _ 0 _ _ (by omega) (by omega)]
    rfl

/-- The mask of the cut group is the causal one. -/
theorem mask_cut {n : ℕ} (w : Fits n) (hn : n ≤ 1024) (i : grid0.Coords) (p : FVec Ideal (T2 n 256) .f32) (r : Fin n) (c : Fin 256) :
    w.mask (BitVec.ofNat 32 (i 1).val) (baseWord i) p (ix2 r c)
      = (if 1024 * ((i 1).val / 4) + r.val ≤ 256 * (i 1).val + c.val then p (ix2 r c) else 0 : EReal) := by
  have hi : (i 1).val < 32 := (i 1).isLt
  rw [baseWord_eq, w.mask_apply hn _ _ (by omega) hi]
  exact if_congr (by omega) rfl rfl

/-- The cut group adds the rows from the counted loop's end to the query block's own last. -/
theorem cut_span (i : grid0.Coords) (x : Blk Ideal) (a : Acc Ideal) :
    cut i x a = a.span x (i 1).val (1024 * ((i 1).val / 4)) (256 * (i 1).val + 256) := by
  have hi : (i 1).val < 32 := (i 1).isLt
  unfold cut
  by_cases h2 : k0_cond2 i = 1#1
  · have c2 := (cond2_iff i).1 h2
    rw [dif_pos h2]
    by_cases h3 : k0_cond3 i = 1#1
    · have c3 := (cond3_iff i c2).1 h3
      rw [dif_pos h3]
      by_cases h4 : k0_cond4 i = 1#1
      · have c4 := (cond4_iff i c3).1 h4
        rw [dif_pos h4, cut1024_eq, tileV_eq fits1024 _ (1024 * ((i 1).val / 4)) (i 1).val (by omega) (mask_cut _ (by omega) i) x _ _ _ _
          (k0_off9_eq i) (k0_off10_eq i) (k0_off11_eq i) (k0_off12_eq i)]
        exact congrArg (a.span x _ _) (by omega)
      · have c4 := (not_congr (cond4_iff i c3)).1 h4
        rw [dif_neg h4, cut768_eq, tileV_eq fits768 _ (1024 * ((i 1).val / 4)) (i 1).val (by omega) (mask_cut _ (by omega) i) x _ _ _ _
          (k0_off13_eq i) (k0_off14_eq i) (k0_off15_eq i) (k0_off16_eq i)]
        exact congrArg (a.span x _ _) (by omega)
    · have c3 := (not_congr (cond3_iff i c2)).1 h3
      rw [dif_neg h3, cut512_eq, tileV_eq fits512 _ (1024 * ((i 1).val / 4)) (i 1).val (by omega) (mask_cut _ (by omega) i) x _ _ _ _
        (k0_off17_eq i) (k0_off18_eq i) (k0_off19_eq i) (k0_off20_eq i)]
      exact congrArg (a.span x _ _) (by omega)
  · have c2 := (not_congr (cond2_iff i)).1 h2
    rw [dif_neg h2, cut256_eq, tileV_eq fits256 _ (1024 * ((i 1).val / 4)) (i 1).val (by omega) (mask_cut _ (by omega) i) x _ _ _ _
      (k0_off21_eq i) (k0_off22_eq i) (k0_off23_eq i) (k0_off24_eq i)]
    exact congrArg (a.span x _ _) (by omega)

/-- The rows past the query block's last give nothing. -/
theorem Acc.span_past (x : Blk Ideal) (b hi : ℕ) (h : 256 * b + 256 ≤ hi) (a : Acc Ideal) :
    a.span x b (256 * b + 256) hi = a := by
  have hp : ∀ h (r : Fin 8192) c, 256 * b + 256 ≤ r.val → x.pr b h r c = 0 := fun h r c hr => if_neg (by have := c.isLt; omega)
  have hd : ∀ h (r : Fin 8192) c, 256 * b + 256 ≤ r.val → x.ds b h r c = 0 := fun h r c hr => by
    unfold Blk.ds; rw [hp h r c hr, zero_mul]
  have hK : ∀ h (r : Fin 8192) d, 256 * b + 256 ≤ r.val → x.giveK b h r d = 0 := fun h r d hr => by
    unfold Blk.giveK
    rw [Finset.sum_eq_zero fun c _ => by rw [hd h r c hr, zero_mul], zero_mul]
  have hV : ∀ h (r : Fin 8192) e, 256 * b + 256 ≤ r.val → x.giveV b h r e = 0 := fun h r e hr =>
    Finset.sum_eq_zero fun c _ => by rw [hp h r c hr, zero_mul]
  have hQ : ∀ h (r : Fin 8192) c d, 256 * b + 256 ≤ r.val → x.giveQ b h r c d = 0 := fun h r c d hr => by
    unfold Blk.giveQ; rw [hd h r c hr, zero_mul]
  have e : ∀ (r : Fin 8192) (f : EReal), (256 * b + 256 ≤ r.val → f = 0) → (if 256 * b + 256 ≤ r.val ∧ r.val < hi then f else 0) = 0 := fun r f hf => by
    split_ifs with hr
    · exact hf hr.1
    · rfl
  refine Acc.ext' ?_ ?_ ?_ ?_ <;> funext y
  · exact (congrArg _ (e _ _ (hK _ _ _))).trans (add_zero _)
  · exact (congrArg _ (e _ _ (hV _ _ _))).trans (add_zero _)
  · exact (congrArg _ (Finset.sum_eq_zero fun r _ => e _ _ (hQ _ r _ _))).trans (add_zero _)
  · exact (congrArg _ (Finset.sum_eq_zero fun r _ => e _ _ (hQ _ r _ _))).trans (add_zero _)

/-- A grid point adds every row's share. -/
theorem pointAcc_span (i : grid0.Coords) (x : Blk Ideal) (dk : Vec Ideal S2x8192x96 .f32) (dv : Vec Ideal S2x8192x64 .f32) :
    pointAcc i x dk dv = Acc.span x (i 1).val 0 8192 ⟨dkStart i dk, dvStart i dv, (k0_pay95 (F := Ideal), k0_pay95 (F := Ideal))⟩ := by
  have hi : (i 1).val < 32 := (i 1).isLt
  unfold pointAcc afterLoop
  rw [cut_span, trips_eq, before_span i x _ _ (le_refl _), Acc.span_span x _ 0 _ _ (by omega) (by omega),
    ← Acc.span_past x (i 1).val 8192 (by omega) (Acc.span x _ 0 (256 * (i 1).val + 256) _), Acc.span_span x _ 0 _ _ (by omega) (by omega)]

end Cert.Proof.Mla
-- ==== Proof.Own.Sum.lean ====
/-
  The accumulators over the grid. Two heads' 32 query blocks in turn add their shares to `dk` and `dv`, from zero; a block's
  `dq` is that block's alone.
-/
module

public import proofs.«01_k».proof.Proof.Own.Span
public import proofs.«01_k».proof.Proof.Own.Run

@[expose] public section

set_option maxRecDepth 16384

noncomputable section

namespace Cert.Proof.Mla

open Cert.KernelIdeal Cert.KernelIdeal.Gen
open Idealize.ShloMosaic Idealize.ShloMosaic.TcCoe Idealize.ShloMosaic.VecWindow Idealize.ShloMosaic.Pipeline
open Idealize.SL Idealize.SL.Sem

/-- A sum that begins anew at every 32nd point. -/
theorem sum_anew {M : Type*} [AddCommMonoid M] (e g : ℕ → M) (N : ℕ)
    (h0 : ∀ n, n < N → n % 32 = 0 → e n = g n) (h1 : ∀ n, n + 1 < N → (n + 1) % 32 ≠ 0 → e (n + 1) = e n + g (n + 1)) :
    ∀ n, n < N → e n = ∑ j ∈ Finset.range (n % 32 + 1), g (32 * (n / 32) + j)
  | 0, hn => by rw [h0 0 hn rfl]; exact (Finset.sum_range_one (fun j => g (32 * (0 / 32) + j))).symm
  | n + 1, hn => by
    by_cases h : (n + 1) % 32 = 0
    · rw [h0 _ hn h, h, Finset.sum_range_one]
      exact congrArg g (by omega)
    · rw [h1 n hn h, sum_anew e g N h0 h1 n (by omega), Finset.sum_range_succ (n := (n + 1) % 32)]
      have a : (n + 1) % 32 = n % 32 + 1 := by omega
      have b : (n + 1) / 32 = n / 32 := by omega
      rw [a, b]
      exact congrArg (fun z => _ + g z) (by omega)

/-- The sum of all 32 points. -/
theorem sum_all {M : Type*} [AddCommMonoid M] (e g : ℕ → M) (N : ℕ)
    (h0 : ∀ n, n < N → n % 32 = 0 → e n = g n) (h1 : ∀ n, n + 1 < N → (n + 1) % 32 ≠ 0 → e (n + 1) = e n + g (n + 1))
    (P : ℕ) (hP : 32 * P + 31 < N) : e (32 * P + 31) = ∑ j : Fin 32, g (32 * P + j.val) := by
  rw [sum_anew e g N h0 h1 _ hP, show (32 * P + 31) % 32 + 1 = 32 by omega, show (32 * P + 31) / 32 = P by omega, Finset.sum_range]

theorem N_eq : cfg0.N = 64 := by decide +kernel

variable (m : (ℓ : Loc nD τ sig) → Buf (Elt Ideal) ℓ)

theorem zeroK (y) : (k0_pay87 (F := Ideal) y : EReal) = 0 := Ideal.ofBits_zero_f32
theorem zeroV (y) : (k0_pay88 (F := Ideal) y : EReal) = 0 := Ideal.ofBits_zero_f32
theorem zeroQ (y) : (k0_pay95 (F := Ideal) y : EReal) = 0 := Ideal.ofBits_zero_f32

theorem in_rows (r : Fin 8192) : 0 ≤ r.val ∧ r.val < 8192 := ⟨Nat.zero_le _, r.isLt⟩

theorem endAcc_dk (c : Dev nD) (t : Fin cfg0.N) (y : S2x8192x96.Idx) :
    ((endAcc m c t).dk y : EReal) = dkStart (grid0.coords t) (accs m c t.val).1 y + (blkAt m c t).giveK (t.val % 32) (y 0) (y 1) (y 2) := by
  unfold endAcc
  rw [pointAcc_span, coords_1]
  exact congrArg (_ + ·) (if_pos (in_rows (y 1)))

theorem endAcc_dv (c : Dev nD) (t : Fin cfg0.N) (y : S2x8192x64.Idx) :
    ((endAcc m c t).dv y : EReal) = dvStart (grid0.coords t) (accs m c t.val).2 y + (blkAt m c t).giveV (t.val % 32) (y 0) (y 1) (y 2) := by
  unfold endAcc
  rw [pointAcc_span, coords_1]
  exact congrArg (_ + ·) (if_pos (in_rows (y 1)))

/-- A block's `dq`, head by head. -/
theorem endAcc_dq1 (c : Dev nD) (t : Fin cfg0.N) (y) :
    ((endAcc m c t).dq.1 y : EReal) = ∑ r : Fin 8192, (blkAt m c t).giveQ (t.val % 32) 0 r (y 0) (y 1) := by
  unfold endAcc
  rw [pointAcc_span, coords_1]
  refine Eq.trans (congrArg₂ (· + ·) (zeroQ y) (Finset.sum_congr rfl fun r _ => if_pos (in_rows r))) (zero_add _)

theorem endAcc_dq2 (c : Dev nD) (t : Fin cfg0.N) (y) :
    ((endAcc m c t).dq.2 y : EReal) = ∑ r : Fin 8192, (blkAt m c t).giveQ (t.val % 32) 1 r (y 0) (y 1) := by
  unfold endAcc
  rw [pointAcc_span, coords_1]
  refine Eq.trans (congrArg₂ (· + ·) (zeroQ y) (Finset.sum_congr rfl fun r _ => if_pos (in_rows r))) (zero_add _)

/-- Point `n` of two heads' pass. -/
def pt (P : Fin 2) (b : Fin 32) : Fin cfg0.N := ⟨32 * P.val + b.val, by rw [N_eq]; omega⟩

/-- The share of point `n`, past the grid none. -/
def atPt (f : Fin cfg0.N → EReal) (n : ℕ) : EReal := if h : n < cfg0.N then f ⟨n, h⟩ else 0

theorem atPt_eq (f : Fin cfg0.N → EReal) (t : Fin cfg0.N) : atPt f t.val = f t := dif_pos t.isLt

theorem pt_mod (P : Fin 2) (b : Fin 32) : (pt P b).val % 32 = b.val := by unfold pt; dsimp only; omega
theorem pt_div (P : Fin 2) (b : Fin 32) : (pt P b).val / 32 = P.val := by unfold pt; dsimp only; omega

/-- A value kept from point to point, begun at every 32nd, is at the last the sum of the 32 shares. -/
theorem sum_points (e g : Fin cfg0.N → EReal) (h0 : ∀ t : Fin cfg0.N, t.val % 32 = 0 → e t = g t)
    (h1 : ∀ (n : ℕ) (h : n + 1 < cfg0.N), (n + 1) % 32 ≠ 0 → e ⟨n + 1, h⟩ = e ⟨n, by omega⟩ + g ⟨n + 1, h⟩) (P : Fin 2) :
    e (pt P 31) = ∑ b : Fin 32, g (pt P b) := by
  have hn : ∀ b : Fin 32, 32 * P.val + b.val < cfg0.N := fun b => (pt P b).isLt
  have h := sum_all (atPt e) (atPt g) cfg0.N (fun n hn hz => by
      unfold atPt; rw [dif_pos hn, dif_pos hn]; exact h0 ⟨n, hn⟩ hz) (fun n hn hz => by
      unfold atPt; rw [dif_pos hn, dif_pos (by omega), dif_pos hn]; exact h1 n hn hz) P.val (hn 31)
  exact (atPt_eq e (pt P 31)).symm.trans (h.trans (Finset.sum_congr rfl fun b _ => atPt_eq g (pt P b)))

theorem dk_first (t : Fin cfg0.N) (h : t.val % 32 = 0) (X : Vec Ideal S2x8192x96 .f32) (y) : (dkStart (grid0.coords t) X y : EReal) = 0 := by
  unfold dkStart; rw [if_pos ((coords_1 t).trans h)]; exact zeroK y
theorem dk_next (t : Fin cfg0.N) (h : t.val % 32 ≠ 0) (X : Vec Ideal S2x8192x96 .f32) : dkStart (grid0.coords t) X = X :=
  if_neg fun e => h ((coords_1 t).symm.trans e)
theorem dv_first (t : Fin cfg0.N) (h : t.val % 32 = 0) (X : Vec Ideal S2x8192x64 .f32) (y) : (dvStart (grid0.coords t) X y : EReal) = 0 := by
  unfold dvStart; rw [if_pos ((coords_1 t).trans h)]; exact zeroV y
theorem dv_next (t : Fin cfg0.N) (h : t.val % 32 ≠ 0) (X : Vec Ideal S2x8192x64 .f32) : dvStart (grid0.coords t) X = X :=
  if_neg fun e => h ((coords_1 t).symm.trans e)

/-- Two heads' `dk` when their pass ends. -/
theorem last_dk (c : Dev nD) (P : Fin 2) (y : S2x8192x96.Idx) :
    ((endAcc m c (pt P 31)).dk y : EReal) = ∑ b : Fin 32, (blkAt m c (pt P b)).giveK b.val (y 0) (y 1) (y 2) := by
  refine (sum_points (fun t => (endAcc m c t).dk y) (fun t => (blkAt m c t).giveK (t.val % 32) (y 0) (y 1) (y 2)) ?_ ?_ P).trans ?_
  · intro t ht
    exact (endAcc_dk m c t y).trans ((congrArg (· + _) (dk_first t ht _ y)).trans (zero_add _))
  · intro n hn hz
    refine (endAcc_dk m c ⟨n + 1, hn⟩ y).trans (congrArg (· + _) ?_)
    rw [dk_next _ hz]
    exact congrFun (congrArg Prod.fst (accs_succ m c ⟨n, by omega⟩)) y
  · exact Finset.sum_congr rfl fun b _ => by rw [pt_mod]

/-- Two heads' `dv` when their pass ends. -/
theorem last_dv (c : Dev nD) (P : Fin 2) (y : S2x8192x64.Idx) :
    ((endAcc m c (pt P 31)).dv y : EReal) = ∑ b : Fin 32, (blkAt m c (pt P b)).giveV b.val (y 0) (y 1) (y 2) := by
  refine (sum_points (fun t => (endAcc m c t).dv y) (fun t => (blkAt m c t).giveV (t.val % 32) (y 0) (y 1) (y 2)) ?_ ?_ P).trans ?_
  · intro t ht
    exact (endAcc_dv m c t y).trans ((congrArg (· + _) (dv_first t ht _ y)).trans (zero_add _))
  · intro n hn hz
    refine (endAcc_dv m c ⟨n + 1, hn⟩ y).trans (congrArg (· + _) ?_)
    rw [dv_next _ hz]
    exact congrFun (congrArg Prod.snd (accs_succ m c ⟨n, by omega⟩)) y
  · exact Finset.sum_congr rfl fun b _ => by rw [pt_mod]

end Cert.Proof.Mla
-- ==== Proof.Own.Pay.lean ====
/-
  What a grid point makes of its operand blocks before its tiles: `dy`, `delta = Σ dy · y` and the log-sum-exp, by head.
-/
module

public import proofs.«01_k».proof.Proof.Own.Sum
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.ShloMosaic.VecWindow
open Idealize.SL Idealize.SL.Sem

/-- A window's row of one head. -/
theorem window_head {α : Type} {N D n : ℕ} (x : (T3 2 N D).Idx → α) (h : Fin 2) (off : Fin 3 → ℕ) (ho : off = ![h.val, 0, 0])
    (inb : ∀ a, off a + (T3 1 N n).size a ≤ (T3 2 N D).size a) (r : Fin N) (d : Fin n) (hd : d.val < D) :
    window x off (T3 1 N n).size inb (ix3 0 r d) = x (ix3 h r ⟨d.val, hd⟩) := by
  subst ho
  refine congrArg x (funext fun a => Fin.ext ?_)
  fin_cases a
  · show h.val + 1 * 0 = h.val; omega
  · show 0 + 1 * r.val = r.val; omega
  · show 0 + 1 * d.val = d.val; omega

section payloads
variable (z : Vec Ideal S1x256x64 .f32) (y : Vec Ideal S1x256x64 .f32) (l : Vec Ideal S1x256x1 .f32)

theorem pay89_apply (x : Fin 256) (e : Fin 64) : k0_pay89 (F := Ideal) z (ix2 x e) = z (ix3 0 x e) := by pointwise [k0_pay89]
theorem pay90_apply (x : Fin 256) (e : Fin 64) : k0_pay90 (F := Ideal) z (ix2 x e) = z (ix3 0 x e) := by pointwise [k0_pay90]
theorem pay91_apply (x : Fin 256) : (k0_pay91 (F := Ideal) z y (ix2 0 x) : EReal) = ∑ e : Fin 64, (z (ix3 0 x e) : EReal) * y (ix3 0 x e) := by
  pointwise [k0_pay91]
theorem pay92_apply (x : Fin 256) : (k0_pay92 (F := Ideal) z y (ix2 0 x) : EReal) = ∑ e : Fin 64, (z (ix3 0 x e) : EReal) * y (ix3 0 x e) := by
  pointwise [k0_pay92]
theorem pay93_apply (x : Fin 256) : k0_pay93 (F := Ideal) l (ix2 0 x) = l (ix3 0 x 0) := by pointwise [k0_pay93]
theorem pay94_apply (x : Fin 256) : k0_pay94 (F := Ideal) l (ix2 0 x) = l (ix3 0 x 0) := by pointwise [k0_pay94]
end payloads

section blocks
variable (q : Vec Ideal S2x256x96 .bf16) (k : Vec Ideal S2x8192x96 .bf16) (v : Vec Ideal S2x8192x64 .bf16) (y dy : Vec Ideal S2x256x64 .f32)
  (l : Vec Ideal S2x256x128 .f32)

theorem blkOf_dy (h : Fin 2) (x : Fin 256) (e : Fin 64) : ((blkOf q k v y dy l).dyv h x e : EReal) = dy (ix3 h x e) := by
  unfold Blk.dyv
  fin_cases h
  · exact (if_pos rfl).trans ((pay89_apply _ x e).trans (window_head dy 0 _ rfl _ x e e.isLt))
  · exact (if_neg (by decide)).trans ((pay90_apply _ x e).trans (window_head dy 1 _ rfl _ x e e.isLt))

theorem blkOf_l (h : Fin 2) (x : Fin 256) : ((blkOf q k v y dy l).lv h x : EReal) = l (ix3 h x 0) := by
  unfold Blk.lv blkOf
  fin_cases h
  · refine (if_pos rfl).trans ((pay93_apply _ x).trans ?_)
    exact (window_head (n := 1) l 0 ![0, 0, 0] rfl inb_S2x256x128_S1x256x1_0_0_0 x 0 (by decide))
  · refine (if_neg (by decide)).trans ((pay94_apply _ x).trans ?_)
    exact (window_head (n := 1) l 1 ![1, 0, 0] rfl inb_S2x256x128_S1x256x1_1_0_0 x 0 (by decide))

theorem blkOf_dl (h : Fin 2) (x : Fin 256) :
    ((blkOf q k v y dy l).dlv h x : EReal) = ∑ e : Fin 64, (dy (ix3 h x e) : EReal) * y (ix3 h x e) := by
  unfold Blk.dlv
  fin_cases h
  · exact (if_pos rfl).trans ((pay91_apply _ _ x).trans (Finset.sum_congr rfl fun e _ => congrArg₂ (· * ·)
      (window_head dy 0 _ rfl _ x e e.isLt) (window_head y 0 _ rfl _ x e e.isLt)))
  · exact (if_neg (by decide)).trans ((pay92_apply _ _ x).trans (Finset.sum_congr rfl fun e _ => congrArg₂ (· * ·)
      (window_head dy 1 _ rfl _ x e e.isLt) (window_head y 1 _ rfl _ x e e.isLt)))
end blocks

end Cert.Proof.Mla
-- ==== Proof.Own.BlkRead.lean ====
/-
  A grid point's blocks, read in the arrays: point (P, b) holds heads 2 P and 2 P + 1, the queries 256 b … 256 b + 255 and
  every key row.
-/
module

public import proofs.«01_k».proof.Proof.Own.Pay
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.ShloMosaic.VecWindow
open Idealize.SL Idealize.SL.Sem

variable (m : (ℓ : Loc nD τ sig) → Buf (Elt Ideal) ℓ)

theorem idx_in : ∀ t : Fin cfg0.N, win0_0.index t = ![t.val / 32, t.val % 32, 0] ∧ win0_1.index t = ![t.val / 32, 0, 0]
    ∧ win0_2.index t = ![t.val / 32, 0, 0] ∧ win0_3.index t = ![t.val / 32, t.val % 32, 0] ∧ win0_4.index t = ![t.val / 32, t.val % 32, 0]
    ∧ win0_5.index t = ![t.val / 32, t.val % 32, 0] := (by decide +kernel : ∀ t : Fin grid0.N, _)

theorem idx_out : ∀ t : Fin cfg0.N, win0_6.index t = ![t.val / 32, t.val % 32, 0] ∧ win0_7.index t = ![t.val / 32, 0, 0]
    ∧ win0_8.index t = ![t.val / 32, 0, 0] := (by decide +kernel : ∀ t : Fin grid0.N, _)

/-- Head `h` of pair `P`. -/
def hd (P h : Fin 2) : Fin 4 := ⟨2 * P.val + h.val, by omega⟩
/-- Query `x` of block `b`. -/
def qr (b : Fin 32) (x : Fin 256) : Fin 8192 := ⟨b.val * 256 + x.val, by omega⟩

variable (c : Dev nD) (P : Fin 2) (b : Fin 32)

/-- The arrays the windows stage, at their shapes. -/
def aQ : (T3 4 8192 96).Idx → EReal := V m c main_v33
@[inherit_doc aQ] def aK : (T3 4 8192 96).Idx → EReal := V m c main_v35
@[inherit_doc aQ] def aV : (T3 4 8192 64).Idx → EReal := V m c main_v37
@[inherit_doc aQ] def aY : (T3 4 8192 64).Idx → EReal := V m c main_v29
@[inherit_doc aQ] def aDy : (T3 4 8192 64).Idx → EReal := V m c main_v38
@[inherit_doc aQ] def aL : (T3 4 8192 128).Idx → EReal := V m c main_v31

theorem read_q (A : Buf (Elt Ideal) ((c : Thread nD τ).loc (Pipeline.arrRef spec0 0))) (B : (T3 4 8192 96).Idx → EReal) (hA : A = B) (h : Fin 2)
    (x : Fin 256) (d : Fin 96) : (((cfg0.win 0).blk (pt P b)).view.read (Elt Ideal) A (ix3 h x d) : EReal) = B (ix3 (hd P h) (qr b x) d) := by
  have e := (idx_in (pt P b)).1
  rw [pt_mod, pt_div] at e
  subst hA
  unfold hd qr
  blk_ext [e]

theorem read_k (A : Buf (Elt Ideal) ((c : Thread nD τ).loc (Pipeline.arrRef spec0 1))) (B : (T3 4 8192 96).Idx → EReal) (hA : A = B) (h : Fin 2)
    (x : Fin 8192) (d : Fin 96) : (((cfg0.win 1).blk (pt P b)).view.read (Elt Ideal) A (ix3 h x d) : EReal) = B (ix3 (hd P h) x d) := by
  have e := (idx_in (pt P b)).2.1
  rw [pt_div] at e
  subst hA
  unfold hd
  blk_ext [e]

theorem read_v (A : Buf (Elt Ideal) ((c : Thread nD τ).loc (Pipeline.arrRef spec0 2))) (B : (T3 4 8192 64).Idx → EReal) (hA : A = B) (h : Fin 2)
    (x : Fin 8192) (d : Fin 64) : (((cfg0.win 2).blk (pt P b)).view.read (Elt Ideal) A (ix3 h x d) : EReal) = B (ix3 (hd P h) x d) := by
  have e := (idx_in (pt P b)).2.2.1
  rw [pt_div] at e
  subst hA
  unfold hd
  blk_ext [e]

theorem read_y (A : Buf (Elt Ideal) ((c : Thread nD τ).loc (Pipeline.arrRef spec0 3))) (B : (T3 4 8192 64).Idx → EReal) (hA : A = B) (h : Fin 2)
    (x : Fin 256) (d : Fin 64) : (((cfg0.win 3).blk (pt P b)).view.read (Elt Ideal) A (ix3 h x d) : EReal) = B (ix3 (hd P h) (qr b x) d) := by
  have e := (idx_in (pt P b)).2.2.2.1
  rw [pt_mod, pt_div] at e
  subst hA
  unfold hd qr
  blk_ext [e]

theorem read_dy (A : Buf (Elt Ideal) ((c : Thread nD τ).loc (Pipeline.arrRef spec0 4))) (B : (T3 4 8192 64).Idx → EReal) (hA : A = B) (h : Fin 2)
    (x : Fin 256) (d : Fin 64) : (((cfg0.win 4).blk (pt P b)).view.read (Elt Ideal) A (ix3 h x d) : EReal) = B (ix3 (hd P h) (qr b x) d) := by
  have e := (idx_in (pt P b)).2.2.2.2.1
  rw [pt_mod, pt_div] at e
  subst hA
  unfold hd qr
  blk_ext [e]

theorem read_l (A : Buf (Elt Ideal) ((c : Thread nD τ).loc (Pipeline.arrRef spec0 5))) (B : (T3 4 8192 128).Idx → EReal) (hA : A = B) (h : Fin 2)
    (x : Fin 256) (d : Fin 128) : (((cfg0.win 5).blk (pt P b)).view.read (Elt Ideal) A (ix3 h x d) : EReal) = B (ix3 (hd P h) (qr b x) d) := by
  have e := (idx_in (pt P b)).2.2.2.2.2
  rw [pt_mod, pt_div] at e
  subst hA
  unfold hd qr
  blk_ext [e]

theorem iblk_q (h : Fin 2) (x : Fin 256) (d : Fin 96) : (iblk m c 0 (pt P b) (ix3 h x d) : EReal) = aQ m c (ix3 (hd P h) (qr b x) d) :=
  read_q c P b (V m c (Pipeline.arrRef spec0 0)) (aQ m c) rfl h x d
theorem iblk_k (h : Fin 2) (x : Fin 8192) (d : Fin 96) : (iblk m c 1 (pt P b) (ix3 h x d) : EReal) = aK m c (ix3 (hd P h) x d) :=
  read_k c P b (V m c (Pipeline.arrRef spec0 1)) (aK m c) rfl h x d
theorem iblk_v (h : Fin 2) (x : Fin 8192) (d : Fin 64) : (iblk m c 2 (pt P b) (ix3 h x d) : EReal) = aV m c (ix3 (hd P h) x d) :=
  read_v c P b (V m c (Pipeline.arrRef spec0 2)) (aV m c) rfl h x d
theorem iblk_y (h : Fin 2) (x : Fin 256) (d : Fin 64) : (iblk m c 3 (pt P b) (ix3 h x d) : EReal) = aY m c (ix3 (hd P h) (qr b x) d) :=
  read_y c P b (V m c (Pipeline.arrRef spec0 3)) (aY m c) rfl h x d
theorem iblk_dy (h : Fin 2) (x : Fin 256) (d : Fin 64) : (iblk m c 4 (pt P b) (ix3 h x d) : EReal) = aDy m c (ix3 (hd P h) (qr b x) d) :=
  read_dy c P b (V m c (Pipeline.arrRef spec0 4)) (aDy m c) rfl h x d
theorem iblk_l (h : Fin 2) (x : Fin 256) (d : Fin 128) : (iblk m c 5 (pt P b) (ix3 h x d) : EReal) = aL m c (ix3 (hd P h) (qr b x) d) :=
  read_l c P b (V m c (Pipeline.arrRef spec0 5)) (aL m c) rfl h x d

theorem blkAt_dy (h : Fin 2) (x : Fin 256) (e : Fin 64) : (blkAt m c (pt P b)).dyv h x e = aDy m c (ix3 (hd P h) (qr b x) e) :=
  (blkOf_dy _ _ _ _ _ _ h x e).trans (iblk_dy m c P b h x e)

theorem blkAt_l (h : Fin 2) (x : Fin 256) : (blkAt m c (pt P b)).lv h x = aL m c (ix3 (hd P h) (qr b x) 0) :=
  (blkOf_l _ _ _ _ _ _ h x).trans (iblk_l m c P b h x 0)

theorem blkAt_dl (h : Fin 2) (x : Fin 256) : (blkAt m c (pt P b)).dlv h x
    = ∑ e : Fin 64, aDy m c (ix3 (hd P h) (qr b x) e) * aY m c (ix3 (hd P h) (qr b x) e) :=
  (blkOf_dl _ _ _ _ _ _ h x).trans (Finset.sum_congr rfl fun e _ => congrArg₂ (· * ·) (iblk_dy m c P b h x e) (iblk_y m c P b h x e))

theorem blkAt_q (h : Fin 2) (x : Fin 256) (d : Fin 96) : ((blkAt m c (pt P b)).q (ix3 h x d) : EReal) = aQ m c (ix3 (hd P h) (qr b x) d) :=
  iblk_q m c P b h x d
theorem blkAt_k (h : Fin 2) (r : Fin 8192) (d : Fin 96) : ((blkAt m c (pt P b)).k (ix3 h r d) : EReal) = aK m c (ix3 (hd P h) r d) :=
  iblk_k m c P b h r d
theorem blkAt_v (h : Fin 2) (r : Fin 8192) (e : Fin 64) : ((blkAt m c (pt P b)).v (ix3 h r e) : EReal) = aV m c (ix3 (hd P h) r e) :=
  iblk_v m c P b h r e

end Cert.Proof.Mla
-- ==== Proof.Own.Real.lean ====
/-
  One head's attention gradient over the reals: the quantities both programs compute, and the two identities that join
  their different routes to them.
-/
module

public import Mathlib.Analysis.SpecialFunctions.Log.Basic
public import Mathlib.Data.EReal.Operations
public import Idealize.ShloMosaic.PureOps.Ideal.Laws

@[expose] public section

noncomputable section

namespace Cert.Proof.Mla

open Idealize.ShloMosaic

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- One head's query rows, key rows, value rows and incoming gradient, and the scale. -/
structure Head where
  q : Fin 8192 → Fin 96 → ℝ
  k : Fin 8192 → Fin 96 → ℝ
  v : Fin 8192 → Fin 64 → ℝ
  g : Fin 8192 → Fin 64 → ℝ
  s : ℝ

namespace Head
variable (H : Head)

/-- The score of query `i` at key `j`. -/
def score (i j : Fin 8192) : ℝ := (∑ d, H.q i d * H.k j d) * H.s
/-- The score, masked past the query. -/
def masked (i j : Fin 8192) : EReal := if j ≤ i then ((H.score i j : ℝ) : EReal) else ⊥
/-- A query's greatest score. -/
def top (i : Fin 8192) : ℝ := (Finset.univ.fold max ⊥ (H.masked i)).toReal
/-- The score's exponential over the greatest. -/
def ex (i j : Fin 8192) : ℝ := if j ≤ i then Real.exp (H.score i j - H.top i) else 0
/-- A query's sum of exponentials. -/
def z (i : Fin 8192) : ℝ := ∑ j, H.ex i j
/-- The probability. -/
def p (i j : Fin 8192) : ℝ := H.ex i j / H.z i
/-- The probability's gradient. -/
def dp (i j : Fin 8192) : ℝ := ∑ e, H.g i e * H.v j e
/-- The attention's output. -/
def out (i : Fin 8192) (e : Fin 64) : ℝ := ∑ j, H.p i j * H.v j e
/-- `delta`: the incoming gradient's inner product with the output. -/
def delta (i : Fin 8192) : ℝ := ∑ e, H.g i e * H.out i e
/-- The score's gradient. -/
def ds (i j : Fin 8192) : ℝ := H.p i j * (H.dp i j - H.delta i)
/-- The three gradients. -/
def dq (i : Fin 8192) (d : Fin 96) : ℝ := (∑ j, H.ds i j * H.k j d) * H.s
@[inherit_doc dq] def dk (j : Fin 8192) (d : Fin 96) : ℝ := (∑ i, H.ds i j * H.q i d) * H.s
@[inherit_doc dq] def dv (j : Fin 8192) (e : Fin 64) : ℝ := ∑ i, H.p i j * H.g i e

theorem fold_top (i : Fin 8192) : Finset.univ.fold max ⊥ (H.masked i) = ((H.top i : ℝ) : EReal) := by
  refine (EReal.coe_toReal ?_ ?_).symm
  · intro h
    have := Finset.fold_max_lt (b := (⊥ : EReal)) (f := H.masked i) (s := Finset.univ) (c := ⊤)
    refine absurd h (ne_of_lt (this.2 ⟨bot_lt_top, fun j _ => ?_⟩))
    unfold masked
    split_ifs
    · exact EReal.coe_lt_top _
    · exact bot_lt_top
  · have : ((H.score i i : ℝ) : EReal) ≤ Finset.univ.fold max ⊥ (H.masked i) :=
      (Finset.le_fold_max _).2 (Or.inr ⟨i, Finset.mem_univ _, by unfold masked; rw [if_pos le_rfl]⟩)
    exact fun h => absurd (h ▸ this) (not_le_of_gt (EReal.bot_lt_coe _))

theorem ex_nonneg (i j : Fin 8192) : 0 ≤ H.ex i j := by
  unfold ex; split_ifs
  · exact (Real.exp_pos _).le
  · exact le_rfl

theorem z_pos (i : Fin 8192) : 0 < H.z i := by
  refine Finset.sum_pos' (fun j _ => H.ex_nonneg i j) ⟨i, Finset.mem_univ _, ?_⟩
  unfold ex; rw [if_pos le_rfl]; exact Real.exp_pos _

/-- The masked score's exponential over the greatest. -/
theorem exp_masked (i j : Fin 8192) : Ideal.exp (H.masked i j - ((H.top i : ℝ) : EReal)) = ((H.ex i j : ℝ) : EReal) := by
  unfold masked ex
  split_ifs
  · rw [← EReal.coe_sub]; rfl
  · rw [EReal.bot_sub]; rfl

/-- The score's exponential over the log-sum-exp is the probability. -/
theorem exp_lse (i j : Fin 8192) (h : j ≤ i) : Real.exp (H.score i j - (H.top i + Real.log (H.z i))) = H.p i j := by
  unfold p ex
  rw [if_pos h, ← sub_sub, Real.exp_sub, Real.exp_log (H.z_pos i)]

theorem p_past (i j : Fin 8192) (h : ¬j ≤ i) : H.p i j = 0 := by
  unfold p ex; rw [if_neg h, zero_div]

/-- `delta` is the mean of the probabilities' gradients. -/
theorem delta_eq (i : Fin 8192) : H.delta i = ∑ j, H.p i j * H.dp i j := by
  unfold delta out dp
  simp only [Finset.mul_sum]
  rw [Finset.sum_comm]
  exact Finset.sum_congr rfl fun j _ => Finset.sum_congr rfl fun e _ => by ring

/-- The softmax's gradient as the quotient rule gives it. -/
theorem ds_eq (i j : Fin 8192) :
    (H.dp i j / H.z i + -∑ k, H.dp i k * (1 / (H.z i * H.z i)) * H.ex i k) * H.ex i j = H.ds i j := by
  have hz := (H.z_pos i).ne'
  unfold ds
  rw [delta_eq]
  have e : ∑ k, H.dp i k * (1 / (H.z i * H.z i)) * H.ex i k = (∑ k, H.p i k * H.dp i k) / H.z i := by
    rw [Finset.sum_div]
    refine Finset.sum_congr rfl fun k _ => ?_
    unfold p
    field_simp
  rw [e]
  unfold p
  field_simp
  ring

end Head

end Cert.Proof.Mla
-- ==== Proof.Own.RefRead.lean ====
/-
  The reference's values over finite arguments: every step of its softmax and of its gradient as a real number, up to the
  three results.
-/
module

public import proofs.«01_k».proof.Proof.Own.Real
public import proofs.«01_k».proof.Proof.Gen.ReferenceIdeal.Read
public import Idealize.ShloMosaic.Lib.IdealHost
public import Idealize.ShloMosaic.Lib.Pointwise
public import Idealize.ShloMosaic.Lib.WordCmp

@[expose] public section

set_option maxRecDepth 16384

noncomputable section

namespace Cert.Proof.Mla

open Cert.ReferenceIdeal Cert.ReferenceIdeal.Gen Cert.ReferenceIdeal.Read
open Idealize.ShloMosaic Idealize.ShloMosaic.TcCoe

/-- The four arguments are the heads' rows. -/
structure Rows (H : Fin 4 → Head) (x0 x1 : FVec Ideal S8192x4x96 .f32) (x2 x3 : FVec Ideal S8192x4x64 .f32) : Prop where
  q : ∀ i : S8192x4x96.Idx, x0 i = (((H (i 1)).q (i 0) (i 2) : ℝ) : EReal)
  k : ∀ i : S8192x4x96.Idx, x1 i = (((H (i 1)).k (i 0) (i 2) : ℝ) : EReal)
  v : ∀ i : S8192x4x64.Idx, x2 i = (((H (i 1)).v (i 0) (i 2) : ℝ) : EReal)
  g : ∀ i : S8192x4x64.Idx, x3 i = (((H (i 1)).g (i 0) (i 2) : ℝ) : EReal)
  s : ∀ h, (((H h).s : ℝ) : EReal) = Ideal.ofBits .f32 0x3DD105EC#32

/-- The pattern of minus infinity. -/
theorem ofBits_bot : Ideal.ofBits .f32 0xFF800000#32 = ⊥ := by simp [Ideal.ofBits, Ideal.ieee]

theorem div_real (x y : ℝ) (hy : y ≠ 0) : Ideal.div (x : EReal) (y : EReal) = ((x / y : ℝ) : EReal) := by
  rw [Ideal.div_coe hy, ← EReal.coe_mul, mul_one_div]

theorem exp_real (x : ℝ) : Ideal.exp (x : EReal) = ((Real.exp x : ℝ) : EReal) := rfl

section
variable {H : Fin 4 → Head} {x0 x1 : FVec Ideal S8192x4x96 .f32} {x2 x3 : FVec Ideal S8192x4x64 .f32} (R : Rows H x0 x1 x2 x3)
include R

theorem ref_score (i : S4x8192x8192.Idx) : (val_main_v2 (F := Ideal) x0 x1 i : EReal) = (((H (i 0)).score (i 1) (i 2) : ℝ) : EReal) := by
  rw [val_main_v2_apply, val_main_v0_apply, val_main_v1_apply, val_main_cst_apply]
  refine Eq.trans (congrArg₂ (· * ·) (Finset.sum_congr rfl fun d _ => congrArg₂ (· * ·) (R.q _) (R.k _)) (R.s (i 0)).symm) ?_
  unfold Head.score
  rw [EReal.coe_mul, coe_sum]
  exact congrArg (· * _) (Finset.sum_congr rfl fun d _ => (EReal.coe_mul _ _).symm)

omit R in
theorem ref_mask (i : S4x8192x8192.Idx) : val_main_v9_1 (F := Ideal) i = if i 2 ≤ i 1 then 1#1 else 0#1 := by
  rw [val_main_v9_1_apply, val_main_v8_apply, val_main_v6_apply, val_main_v7_apply, val_main_v4_apply, val_main_v5_apply,
    val_main_v3_apply, val_main_v3_apply]
  have h1 : (i 1).val < 8192 := (i 1).isLt
  have h2 : (i 2).val < 8192 := (i 2).isLt
  show IntOp.cmpi .sle (BitVec.ofNat 32 (i 2).val) (BitVec.ofNat 32 (i 1).val) = if (i 2).val ≤ (i 1).val then 1#1 else 0#1
  split_ifs with h <;> word_cmp

theorem ref_masked (i : S4x8192x8192.Idx) : (val_main_v9_0 (F := Ideal) x0 x1 i : EReal) = (H (i 0)).masked (i 1) (i 2) := by
  rw [val_main_v9_0_apply, ref_mask, ref_score R, val_main_call0_v2_apply, val_main_call0_v0_apply, val_main_cst_0_apply]
  by_cases h : i 2 ≤ i 1
  · rw [if_pos h]; exact (if_pos (c := i 2 ≤ i 1) h).symm
  · rw [if_neg h]; exact ofBits_bot.trans (if_neg (c := i 2 ≤ i 1) h).symm

theorem ref_top (i : S4x8192.Idx) : (val_main_v10 (F := Ideal) x0 x1 i : EReal) = (((H (i 0)).top (i 1) : ℝ) : EReal) := by
  have e : (val_main_v10 (F := Ideal) x0 x1 i : EReal)
      = Finset.univ.fold max (Ideal.ofBits .f32 0xFF800000#32) fun k : Fin 8192 => val_main_v9_0 (F := Ideal) x0 x1 (ix3 (i 0) (i 1) k) := by
    idx_vars i
    pointwise [val_main_v10, val_main_cst_1]
  rw [e, ofBits_bot]
  refine Eq.trans ?_ ((H (i 0)).fold_top (i 1))
  exact congrArg (fun f => Finset.univ.fold max ⊥ f) (funext fun k => ref_masked R (ix3 (i 0) (i 1) k))

theorem ref_top' (i : S4x8192x8192.Idx) : (val_main_v28 (F := Ideal) x0 x1 i : EReal) = (((H (i 0)).top (i 1) : ℝ) : EReal) := by
  rw [val_main_v28_apply, val_main_v27_apply, val_main_v17_apply, val_main_v16_apply, val_main_cst_3_apply, ref_top R]
  exact (congrArg (fun z => max z _) ofBits_bot).trans (max_eq_right bot_le)

theorem ref_ex (i : S4x8192x8192.Idx) : (val_main_v30 (F := Ideal) x0 x1 i : EReal) = (((H (i 0)).ex (i 1) (i 2) : ℝ) : EReal) := by
  rw [val_main_v30_apply, val_main_v29_apply, ref_masked R, ref_top' R]
  exact (H (i 0)).exp_masked (i 1) (i 2)

theorem ref_z (i : S4x8192.Idx) : (val_main_v31 (F := Ideal) x0 x1 i : EReal) = (((H (i 0)).z (i 1) : ℝ) : EReal) := by
  rw [val_main_v31_apply, val_main_cst_9_apply]
  refine Eq.trans (congrArg₂ (· + ·) Ideal.ofBits_zero_f32 (Finset.sum_congr rfl fun k _ => ref_ex R _)) ?_
  rw [zero_add]
  exact (coe_sum _ _).symm

theorem ref_z' (i : S4x8192x1.Idx) : (val_main_v32 (F := Ideal) x0 x1 i : EReal) = (((H (i 0)).z (i 1) : ℝ) : EReal) := by
  rw [val_main_v32_apply, ref_z R]
  rfl

theorem ref_p (i : S4x8192x8192.Idx) : (val_main_v34 (F := Ideal) x0 x1 i : EReal) = (((H (i 0)).p (i 1) (i 2) : ℝ) : EReal) := by
  rw [val_main_v34_apply, ref_ex R, val_main_v33_apply, ref_z' R]
  exact div_real _ _ ((H (i 0)).z_pos (i 1)).ne'

theorem ref_dp (i : S4x8192x8192.Idx) : (val_main_v41 (F := Ideal) x2 x3 i : EReal) = (((H (i 0)).dp (i 1) (i 2) : ℝ) : EReal) := by
  rw [val_main_v41_apply]
  refine Eq.trans (Finset.sum_congr rfl fun k _ => (congrArg₂ (· * ·) ((val_main_v40_apply _ _).trans (R.g _)) (R.v _)).trans (EReal.coe_mul _ _).symm) ?_
  exact (coe_sum _ _).symm

theorem ref_sum (i : S4x8192.Idx) : (val_main_v47 (F := Ideal) x0 x1 x2 x3 i : EReal)
    = ((∑ k, (H (i 0)).dp (i 1) k * (1 / ((H (i 0)).z (i 1) * (H (i 0)).z (i 1))) * (H (i 0)).ex (i 1) k : ℝ) : EReal) := by
  rw [val_main_v47_apply, val_main_cst_11_apply]
  refine Eq.trans (congrArg₂ (· + ·) Ideal.ofBits_zero_f32 (Finset.sum_congr rfl fun k _ => ?_)) ((zero_add _).trans (coe_sum _ _).symm)
  have hz := ((H (i 0)).z_pos (i 1)).ne'
  rw [val_main_v46_apply, val_main_v45_apply, ref_dp R, ref_ex R, val_main_v44_apply, val_main_v37_apply, val_main_v36_apply,
    val_main_cst_10_apply, val_main_v35_apply, ref_z' R, EReal.coe_mul, EReal.coe_mul]
  refine congrArg (_ * · * _) ?_
  refine Eq.trans (congrArg₂ Ideal.div Ideal.ofBits_one_f32 (EReal.coe_mul _ _).symm) ?_
  exact div_real 1 _ (mul_ne_zero hz hz)

theorem ref_neg (i : S4x8192x8192.Idx) : (val_main_v53 (F := Ideal) x0 x1 x2 x3 i : EReal)
    = ((-∑ k, (H (i 0)).dp (i 1) k * (1 / ((H (i 0)).z (i 1) * (H (i 0)).z (i 1))) * (H (i 0)).ex (i 1) k : ℝ) : EReal) := by
  rw [val_main_v53_apply, val_main_v52_apply, val_main_cst_12_apply]
  refine Eq.trans (congrArg₂ (· + ·) Ideal.ofBits_zero_f32 (Fin.sum_univ_one _)) ((zero_add _).trans ?_)
  rw [val_main_v49_apply, val_main_v48_apply, ref_sum R, EReal.coe_neg]
  refine congrArg (fun z : EReal => -z) ?_
  have h0 : (i 0).val < 4 := (i 0).isLt
  have h1 : (i 1).val < 8192 := (i 1).isLt
  exact congrArg₂ (fun h r => ((∑ k, (H h).dp r k * (1 / ((H h).z r * (H h).z r)) * (H h).ex r k : ℝ) : EReal))
    (Fin.ext (by show (((i 0).val * 8192 + (i 1).val) * 1 + 0) / 8192 = (i 0).val; omega))
    (Fin.ext (by show (((i 0).val * 8192 + (i 1).val) * 1 + 0) % 8192 = (i 1).val; omega))

/-- The score's gradient, times the scale. -/
theorem ref_ds (i : S4x8192x8192.Idx) :
    (val_main_v58 (F := Ideal) x0 x1 x2 x3 i : EReal) = (((H (i 0)).ds (i 1) (i 2) * (H (i 0)).s : ℝ) : EReal) := by
  have e : (val_main_v55 (F := Ideal) x0 x1 x2 x3 i : EReal) = (((H (i 0)).ds (i 1) (i 2) : ℝ) : EReal) := by
    rw [val_main_v55_apply, val_main_v54_apply, val_main_v51_apply, ref_dp R, val_main_v50_apply, ref_z' R, ref_neg R, ref_ex R]
    refine Eq.trans ?_ (congrArg (fun x : ℝ => (x : EReal)) ((H (i 0)).ds_eq (i 1) (i 2)))
    rw [EReal.coe_mul, EReal.coe_add]
    exact congrArg (fun z => (z + _) * _) (div_real _ _ ((H (i 0)).z_pos (i 1)).ne')
  rw [val_main_v58_apply, val_main_v56_apply, ref_mask, e, val_main_call1_v0_apply, val_main_call1_cst_apply, val_main_v57_apply, val_main_cst_13_apply,
    EReal.coe_mul]
  refine congrArg₂ (· * ·) ?_ (R.s (i 0)).symm
  by_cases h : i 2 ≤ i 1
  · rw [if_pos h]; rfl
  · rw [if_neg h]
    refine Ideal.ofBits_zero_f32.trans ?_
    unfold Head.ds
    rw [Head.p_past _ _ _ h, zero_mul, EReal.coe_zero]

theorem ref_dq (i : S4x8192x96.Idx) : (val_main_v63 (F := Ideal) x0 x1 x2 x3 i : EReal) = (((H (i 0)).dq (i 1) (i 2) : ℝ) : EReal) := by
  rw [val_main_v63_apply, val_main_v62_apply, val_main_v61_apply]
  refine Eq.trans (Finset.sum_congr rfl fun k _ => (congrArg₂ (· * ·) (ref_ds R _) (R.k _)).trans (EReal.coe_mul _ _).symm) ?_
  rw [← coe_sum]
  unfold Head.dq
  rw [Finset.sum_mul]
  exact congrArg _ (Finset.sum_congr rfl fun k _ => mul_right_comm _ _ _)

theorem ref_dk (i : S4x8192x96.Idx) : (val_main_v64 (F := Ideal) x0 x1 x2 x3 i : EReal) = (((H (i 0)).dk (i 1) (i 2) : ℝ) : EReal) := by
  rw [val_main_v64_apply, val_main_v60_apply, val_main_v59_apply]
  refine Eq.trans (Finset.sum_congr rfl fun k _ => (congrArg₂ (· * ·) (ref_ds R _) (R.q _)).trans (EReal.coe_mul _ _).symm) ?_
  rw [← coe_sum]
  unfold Head.dk
  rw [Finset.sum_mul]
  exact congrArg _ (Finset.sum_congr rfl fun k _ => mul_right_comm _ _ _)

theorem ref_dv (i : S4x8192x64.Idx) : (val_main_v65 (F := Ideal) x0 x1 x3 i : EReal) = (((H (i 0)).dv (i 1) (i 2) : ℝ) : EReal) := by
  rw [val_main_v65_apply, val_main_v43_apply, val_main_v42_apply]
  refine Eq.trans (Finset.sum_congr rfl fun k _ =>
    (congrArg₂ (· * ·) ((val_main_v40_apply _ _).trans (R.g _)) (ref_p R _)).trans (EReal.coe_mul _ _).symm) ?_
  rw [← coe_sum]
  exact congrArg _ (Finset.sum_congr rfl fun k _ => mul_comm _ _)

end

end Cert.Proof.Mla
-- ==== Proof.Own.HostRead.lean ====
/-
  The arrays the kernel's host lines stage: the arguments heads-leading, and the forward pass's output and row
  log-sum-exp, whose softmax is the reference's own.
-/
module

public import proofs.«01_k».proof.Proof.Own.BlkRead
public import proofs.«01_k».proof.Proof.Own.RefRead
public import Idealize.ShloMosaic.Lib.Claim

@[expose] public section

set_option maxRecDepth 16384

noncomputable section

namespace Cert.Proof.Mla

open Cert.KernelIdeal Cert.KernelIdeal.Gen
open Cert.ReferenceIdeal.Read
open Idealize.ShloMosaic Idealize.ShloMosaic.TcCoe Idealize.ShloMosaic.VecWindow
open Idealize.SL Idealize.SL.Sem

variable (m : (ℓ : Loc nD τ sig) → Buf (Elt Ideal) ℓ) (c : Dev nD)

/-- The arguments, at their shapes. -/
def x0 : FVec Ideal S8192x4x96 .f32 := m ((c : Thread nD τ).loc main_arg0)
@[inherit_doc x0] def x1 : FVec Ideal S8192x4x96 .f32 := m ((c : Thread nD τ).loc main_arg1)
@[inherit_doc x0] def x2 : FVec Ideal S8192x4x64 .f32 := m ((c : Thread nD τ).loc main_arg2)
@[inherit_doc x0] def x3 : FVec Ideal S8192x4x64 .f32 := m ((c : Thread nD τ).loc main_arg3)

theorem aQ_eq (h : Fin 4) (r : Fin 8192) (d : Fin 96) : aQ m c (ix3 h r d) = x0 m c (ix3 r h d) := by
  have e : aQ m c = truncf .bf16 (transpose S4x8192x96 [1, 0, 2] (x0 m c) transposes_S8192x4x96_S4x8192x96_1_0_2) bitsLt_bf16_f32 := by
    unfold aQ V
    simp only [List.flatten_cons, List.flatten_nil, List.append_nil, List.cons_append, List.nil_append]
    after_results
    rfl
  rw [e]
  pointwise []

theorem aK_eq (h : Fin 4) (r : Fin 8192) (d : Fin 96) : aK m c (ix3 h r d) = x1 m c (ix3 r h d) := by
  have e : aK m c = truncf .bf16 (transpose S4x8192x96 [1, 0, 2] (x1 m c) transposes_S8192x4x96_S4x8192x96_1_0_2) bitsLt_bf16_f32 := by
    unfold aK V
    simp only [List.flatten_cons, List.flatten_nil, List.append_nil, List.cons_append, List.nil_append]
    after_results
    rfl
  rw [e]
  pointwise []

theorem aV_eq (h : Fin 4) (r : Fin 8192) (d : Fin 64) : aV m c (ix3 h r d) = x2 m c (ix3 r h d) := by
  have e : aV m c = truncf .bf16 (transpose S4x8192x64 [1, 0, 2] (x2 m c) transposes_S8192x4x64_S4x8192x64_1_0_2) bitsLt_bf16_f32 := by
    unfold aV V
    simp only [List.flatten_cons, List.flatten_nil, List.append_nil, List.cons_append, List.nil_append]
    after_results
    rfl
  rw [e]
  pointwise []

theorem aDy_eq (h : Fin 4) (r : Fin 8192) (d : Fin 64) : aDy m c (ix3 h r d) = x3 m c (ix3 r h d) := by
  have e : aDy m c = transpose S4x8192x64 [1, 0, 2] (x3 m c) transposes_S8192x4x64_S4x8192x64_1_0_2 := by
    unfold aDy V
    simp only [List.flatten_cons, List.flatten_nil, List.append_nil, List.cons_append, List.nil_append]
    after_results
    rfl
  rw [e]
  pointwise []

theorem aY_eq (h : Fin 4) (r : Fin 8192) (d : Fin 64) : aY m c (ix3 h r d)
    = ∑ k : Fin 8192, (val_main_v34 (F := Ideal) (x0 m c) (x1 m c) (ix3 h r k) : EReal) * x2 m c (ix3 k h d) := by
  have e : aY m c = Host.dotGeneral (φ₁ := .f32) (φ₂ := .f32) dot_S4x8192x8192_S8192x4x64_S4x8192x64_2_0_1_2_0_1 none
      (val_main_v34 (F := Ideal) (x0 m c) (x1 m c) : FVec Ideal S4x8192x8192 .f32) (x2 m c) := by
    unfold aY V
    simp only [List.flatten_cons, List.flatten_nil, List.append_nil, List.cons_append, List.nil_append]
    after_results
    rfl
  rw [e]
  pointwise []

/-- The log-sum-exp lines, of the masked scores and their row maxima. -/
def lse (s : FVec Ideal S4x8192x8192 .f32) (t : FVec Ideal S4x8192 .f32) : FVec Ideal S4x8192x128 .f32 :=
  broadcastInDim S4x8192x128 ![0, 1, 2] bcast_S4x8192x1_S4x8192x128_0_1_2
    (broadcastInDim S4x8192x1 ![0, 1] bcast_S4x8192_S4x8192x1_0_1
      (addf t (Host.log (Host.reduceAdd (Host.exp (subf s
        (broadcastInDim S4x8192x8192 ![0, 1, 2] bcast_S4x8192x1_S4x8192x8192_0_1_2 (broadcastInDim S4x8192x1 ![0, 1] bcast_S4x8192_S4x8192x1_0_1 t))))
        (constant S_ .f32 0x00000000#32) reducesTo_S4x8192x8192_S4x8192_d2 h_S_))))

theorem lse_apply (s : FVec Ideal S4x8192x8192 .f32) (t : FVec Ideal S4x8192 .f32) (h : Fin 4) (r : Fin 8192) (l : Fin 128) :
    (lse s t (ix3 h r l) : EReal)
      = t (ix2 h r) + Ideal.log (Ideal.ofBits .f32 0#32 + ∑ k : Fin 8192, Ideal.exp ((s (ix3 h r k) : EReal) - t (ix2 h r))) := by
  pointwise [lse]

theorem aL_eq : aL m c = lse (val_main_v9_0 (F := Ideal) (x0 m c) (x1 m c)) (val_main_v10 (F := Ideal) (x0 m c) (x1 m c)) := by
  unfold aL V
  simp only [List.flatten_cons, List.flatten_nil, List.append_nil, List.cons_append, List.nil_append]
  after_results
  rfl

section
variable {H : Fin 4 → Head} (R : Rows H (x0 m c) (x1 m c) (x2 m c) (x3 m c))
include R

theorem host_q (h : Fin 4) (r : Fin 8192) (d : Fin 96) : aQ m c (ix3 h r d) = (((H h).q r d : ℝ) : EReal) := (aQ_eq m c h r d).trans (R.q _)
theorem host_k (h : Fin 4) (r : Fin 8192) (d : Fin 96) : aK m c (ix3 h r d) = (((H h).k r d : ℝ) : EReal) := (aK_eq m c h r d).trans (R.k _)
theorem host_v (h : Fin 4) (r : Fin 8192) (e : Fin 64) : aV m c (ix3 h r e) = (((H h).v r e : ℝ) : EReal) := (aV_eq m c h r e).trans (R.v _)
theorem host_g (h : Fin 4) (r : Fin 8192) (e : Fin 64) : aDy m c (ix3 h r e) = (((H h).g r e : ℝ) : EReal) := (aDy_eq m c h r e).trans (R.g _)

theorem host_y (h : Fin 4) (r : Fin 8192) (e : Fin 64) : aY m c (ix3 h r e) = (((H h).out r e : ℝ) : EReal) := by
  rw [aY_eq]
  refine Eq.trans (Finset.sum_congr rfl fun k _ => (congrArg₂ (· * ·) (ref_p R _) (R.v _)).trans (EReal.coe_mul _ _).symm) ?_
  exact (coe_sum _ _).symm

theorem host_l (h : Fin 4) (r : Fin 8192) (l : Fin 128) : aL m c (ix3 h r l) = (((H h).top r + Real.log ((H h).z r) : ℝ) : EReal) := by
  rw [aL_eq, lse_apply, EReal.coe_add]
  refine congrArg₂ (· + ·) (ref_top R _) ?_
  have e : Ideal.ofBits .f32 0#32 + ∑ k : Fin 8192, Ideal.exp ((val_main_v9_0 (F := Ideal) (x0 m c) (x1 m c) (ix3 h r k) : EReal)
      - val_main_v10 (F := Ideal) (x0 m c) (x1 m c) (ix2 h r)) = (((H h).z r : ℝ) : EReal) := by
    rw [Ideal.ofBits_zero_f32, zero_add]
    refine Eq.trans (Finset.sum_congr rfl fun k _ => ?_) (coe_sum _ _).symm
    exact (congrArg Ideal.exp (congrArg₂ (· - ·) (ref_masked R _) (ref_top R _))).trans ((H h).exp_masked r k)
  rw [e]
  exact if_neg (not_le.2 ((H h).z_pos r))

end

end Cert.Proof.Mla
-- ==== Proof.Own.KerReal.lean ====
/-
  The kernel's values over finite arguments: a grid point's shares, and their sums over the grid, as real numbers.
-/
module

public import proofs.«01_k».proof.Proof.Own.HostRead

@[expose] public section

set_option maxRecDepth 16384

noncomputable section

namespace Cert.Proof.Mla

open Cert.KernelIdeal Cert.KernelIdeal.Gen
open Idealize.ShloMosaic Idealize.ShloMosaic.TcCoe Idealize.ShloMosaic.VecWindow
open Idealize.SL Idealize.SL.Sem

/-- A sum over the queries is one over the blocks and a block's queries. -/
theorem sum_queries (f : Fin 8192 → ℝ) : ∑ i, f i = ∑ b : Fin 32, ∑ x : Fin 256, f (qr b x) := Fin.sum_univ_tiles 32 256 rfl f

variable (m : (ℓ : Loc nD τ sig) → Buf (Elt Ideal) ℓ) (c : Dev nD)
variable {H : Fin 4 → Head} (R : Rows H (x0 m c) (x1 m c) (x2 m c) (x3 m c)) (P : Fin 2) (b : Fin 32)
include R

theorem ker_p (h : Fin 2) (r : Fin 8192) (x : Fin 256) :
    (blkAt m c (pt P b)).pr b.val h r x = (((H (hd P h)).p (qr b x) r : ℝ) : EReal) := by
  unfold Blk.pr
  have hq : (qr b x).val = 256 * b.val + x.val := by unfold qr; dsimp only; omega
  by_cases hr : r.val ≤ 256 * b.val + x.val
  · have hle : r ≤ qr b x := Fin.le_def.2 (hq ▸ hr)
    rw [if_pos hr, blkAt_l, host_l m c R, ← Head.exp_lse _ _ _ hle, ← exp_real, EReal.coe_sub]
    refine congrArg (fun z => Ideal.exp (z - _)) ?_
    unfold Head.score
    rw [EReal.coe_mul, coe_sum, R.s]
    refine congrArg (· * _) (Finset.sum_congr rfl fun d _ => ?_)
    rw [blkAt_k, blkAt_q, host_k m c R, host_q m c R, ← EReal.coe_mul, mul_comm]
  · have hle : ¬r ≤ qr b x := fun h => hr (hq ▸ Fin.le_def.1 h)
    rw [if_neg hr, Head.p_past _ _ _ hle, EReal.coe_zero]

theorem ker_delta (h : Fin 2) (x : Fin 256) : (blkAt m c (pt P b)).dlv h x = (((H (hd P h)).delta (qr b x) : ℝ) : EReal) := by
  rw [blkAt_dl]
  refine Eq.trans (Finset.sum_congr rfl fun e _ => ?_) (coe_sum _ _).symm
  rw [host_g m c R, host_y m c R, EReal.coe_mul]

theorem ker_ds (h : Fin 2) (r : Fin 8192) (x : Fin 256) :
    (blkAt m c (pt P b)).ds b.val h r x = (((H (hd P h)).ds (qr b x) r : ℝ) : EReal) := by
  unfold Blk.ds Head.ds
  rw [ker_p m c R, ker_delta m c R, EReal.coe_mul, EReal.coe_sub]
  refine congrArg (fun z : EReal => _ * (z - _)) ?_
  refine Eq.trans (Finset.sum_congr rfl fun e _ => ?_) (coe_sum _ _).symm
  rw [blkAt_v, blkAt_dy, host_v m c R, host_g m c R, ← EReal.coe_mul, mul_comm]

theorem ker_giveK (h : Fin 2) (r : Fin 8192) (d : Fin 96) : (blkAt m c (pt P b)).giveK b.val h r d
    = (((∑ x : Fin 256, (H (hd P h)).ds (qr b x) r * (H (hd P h)).q (qr b x) d) * (H (hd P h)).s : ℝ) : EReal) := by
  unfold Blk.giveK
  rw [EReal.coe_mul, coe_sum, R.s]
  refine congrArg (· * _) (Finset.sum_congr rfl fun x _ => ?_)
  rw [ker_ds m c R, blkAt_q, host_q m c R, EReal.coe_mul]

theorem ker_giveV (h : Fin 2) (r : Fin 8192) (e : Fin 64) : (blkAt m c (pt P b)).giveV b.val h r e
    = ((∑ x : Fin 256, (H (hd P h)).p (qr b x) r * (H (hd P h)).g (qr b x) e : ℝ) : EReal) := by
  unfold Blk.giveV
  rw [coe_sum]
  refine Finset.sum_congr rfl fun x _ => ?_
  rw [ker_p m c R, blkAt_dy, host_g m c R, EReal.coe_mul]

/-- A query's gradient before the scale. -/
theorem ker_sumQ (h : Fin 2) (x : Fin 256) (d : Fin 96) : ∑ r : Fin 8192, (blkAt m c (pt P b)).giveQ b.val h r x d
    = ((∑ r, (H (hd P h)).ds (qr b x) r * (H (hd P h)).k r d : ℝ) : EReal) := by
  rw [coe_sum]
  refine Finset.sum_congr rfl fun r _ => ?_
  unfold Blk.giveQ
  rw [ker_ds m c R, blkAt_k, host_k m c R, EReal.coe_mul]

theorem ker_dk (h : Fin 2) (r : Fin 8192) (d : Fin 96) :
    ((endAcc m c (pt P 31)).dk (ix3 h r d) : EReal) = (((H (hd P h)).dk r d : ℝ) : EReal) := by
  rw [last_dk]
  refine Eq.trans (Finset.sum_congr rfl fun b _ => ker_giveK m c R P b h r d) ?_
  rw [← coe_sum, ← Finset.sum_mul]
  unfold Head.dk
  rw [sum_queries]

theorem ker_dv (h : Fin 2) (r : Fin 8192) (e : Fin 64) :
    ((endAcc m c (pt P 31)).dv (ix3 h r e) : EReal) = (((H (hd P h)).dv r e : ℝ) : EReal) := by
  rw [last_dv]
  refine Eq.trans (Finset.sum_congr rfl fun b _ => ker_giveV m c R P b h r e) ?_
  rw [← coe_sum]
  unfold Head.dv
  rw [sum_queries]

end Cert.Proof.Mla
-- ==== Proof.Own.Final.lean ====
/-
  The three result arrays, over finite arguments: the gradients of the real specification.
-/
module

public import proofs.«01_k».proof.Proof.Own.KerReal
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.ShloMosaic.VecWindow
open Idealize.SL Idealize.SL.Sem

/-- Every point is a pair's and a block's. -/
theorem pt_of (t : Fin cfg0.N) : ∃ P b, t = pt P b := by
  have h : t.val < 64 := N_eq ▸ t.isLt
  exact ⟨⟨t.val / 32, by omega⟩, ⟨t.val % 32, by omega⟩, Fin.ext (by unfold pt; dsimp only; omega)⟩

/-- The point that ends pair `P`. -/
theorem pt_last (t : Fin cfg0.N) (h : t.val % 32 = 31) : ∃ P, t = pt P 31 := by
  obtain ⟨P, b, rfl⟩ := pt_of t
  rw [pt_mod] at h
  exact ⟨P, congrArg (pt P) (Fin.ext h)⟩

/-- The gradients, at the arrays' shapes. -/
def realDq (H : Fin 4 → Head) : (T3 4 8192 96).Idx → EReal := fun i => (((H (i 0)).dq (i 1) (i 2) : ℝ) : EReal)
@[inherit_doc realDq] def realDk (H : Fin 4 → Head) : (T3 4 8192 96).Idx → EReal := fun i => (((H (i 0)).dk (i 1) (i 2) : ℝ) : EReal)
@[inherit_doc realDq] def realDv (H : Fin 4 → Head) : (T3 4 8192 64).Idx → EReal := fun i => (((H (i 0)).dv (i 1) (i 2) : ℝ) : EReal)

theorem put_q (P : Fin 2) (b : Fin 32) (G : (T3 4 8192 96).Idx → EReal) (h : Fin 2) (x : Fin 256) (d : Fin 96) :
    G ((win0_6.blk (pt P b)).view.emb (ix3 h x d)) = G (ix3 (hd P h) (qr b x) d) := by
  have e := (idx_out (pt P b)).1
  rw [pt_mod, pt_div] at e
  unfold hd qr
  blk_ext [e]

theorem put_k (P : Fin 2) (b : Fin 32) (G : (T3 4 8192 96).Idx → EReal) (h : Fin 2) (x : Fin 8192) (d : Fin 96) :
    G ((win0_7.blk (pt P b)).view.emb (ix3 h x d)) = G (ix3 (hd P h) x d) := by
  have e := (idx_out (pt P b)).2.1
  rw [pt_div] at e
  unfold hd
  blk_ext [e]

theorem put_v (P : Fin 2) (b : Fin 32) (G : (T3 4 8192 64).Idx → EReal) (h : Fin 2) (x : Fin 8192) (d : Fin 64) :
    G ((win0_8.blk (pt P b)).view.emb (ix3 h x d)) = G (ix3 (hd P h) x d) := by
  have e := (idx_out (pt P b)).2.2
  rw [pt_div] at e
  unfold hd
  blk_ext [e]

theorem scale_apply (p : FVec Ideal S256x96 .f32 × FVec Ideal S256x96 .f32) (h : Fin 2) (x : Fin 256) (d : Fin 96) :
    (dqBlk p (ix3 h x d) : EReal) = (if h.val = 0 then p.1 (ix2 x d) else p.2 (ix2 x d) : EReal) * sc := by
  have e1 : (k0_pay13 p.1 (ix3 (0 : Fin 1) x d) : EReal) = (p.1 (ix2 x d) : EReal) * sc := by pointwise [k0_pay13, sc]
  have e2 : (k0_pay14 p.2 (ix3 (0 : Fin 1) x d) : EReal) = (p.2 (ix2 x d) : EReal) * sc := by pointwise [k0_pay14, sc]
  show (if h.val = 0 then k0_pay13 p.1 (ix3 (0 : Fin 1) x d) else k0_pay14 p.2 (ix3 (0 : Fin 1) x d) : EReal) = _
  split_ifs
  · exact e1
  · exact e2

variable (m : (ℓ : Loc nD τ sig) → Buf (Elt Ideal) ℓ) (c : Dev nD)
variable {H : Fin 4 → Head} (R : Rows H (x0 m c) (x1 m c) (x2 m c) (x3 m c))
include R

theorem final_dq : (dats m 0 c).arrAt 6 cfg0.N = realDq H := by
  refine (dats m 0 c).arrAt_eq_of_covers 6 _ (by decide +kernel) fun t hf y => ?_
  obtain ⟨P, b, rfl⟩ := pt_of t
  blk_simp
  rw [after0_6]
  obtain ⟨h, x, d, rfl⟩ : ∃ (h : Fin 2) (x : Fin 256) (d : Fin 96), y = ix3 h x d := ⟨y 0, y 1, y 2, eq_ix3 y⟩
  refine Eq.trans ((scale_apply _ h x d).trans ?_) (put_q P b (realDq H) h x d).symm
  refine Eq.trans ?_ (EReal.coe_mul _ _).symm
  refine congrArg₂ (· * ·) ?_ (R.s _).symm
  have hb := pt_mod P b
  obtain rfl | rfl : h = 0 ∨ h = 1 := by omega
  · refine (if_pos rfl).trans ((endAcc_dq1 m c (pt P b) (ix2 x d)).trans ?_)
    rw [hb]
    exact ker_sumQ m c R P b 0 x d
  · refine (if_neg one_ne_zero).trans ((endAcc_dq2 m c (pt P b) (ix2 x d)).trans ?_)
    rw [hb]
    exact ker_sumQ m c R P b 1 x d

theorem final_dk : (dats m 0 c).arrAt 7 cfg0.N = realDk H := by
  refine (dats m 0 c).arrAt_eq_of_covers 7 _ (by decide +kernel) fun t hf y => ?_
  obtain ⟨P, rfl⟩ := pt_last t ((flush0_7 t).1 hf)
  blk_simp
  rw [after0_7]
  obtain ⟨h, x, d, rfl⟩ : ∃ (h : Fin 2) (x : Fin 8192) (d : Fin 96), y = ix3 h x d := ⟨y 0, y 1, y 2, eq_ix3 y⟩
  exact (ker_dk m c R P h x d).trans (put_k P 31 (realDk H) h x d).symm

theorem final_dv : (dats m 0 c).arrAt 8 cfg0.N = realDv H := by
  refine (dats m 0 c).arrAt_eq_of_covers 8 _ (by decide +kernel) fun t hf y => ?_
  obtain ⟨P, rfl⟩ := pt_last t ((flush0_8 t).1 hf)
  blk_simp
  rw [after0_8]
  obtain ⟨h, x, d, rfl⟩ : ∃ (h : Fin 2) (x : Fin 8192) (d : Fin 64), y = ix3 h x d := ⟨y 0, y 1, y 2, eq_ix3 y⟩
  exact (ker_dv m c R P h x d).trans (put_v P 31 (realDv H) h x d).symm

end Cert.Proof.Mla
-- ==== Proof.Own.Finite.lean ====
/-
  The precondition: arguments of finite entries are the rows of four real heads.
-/
module

public import proofs.«01_k».proof.Proof.Own.RefRead
public import proofs.«01_k».proof.Proof.Gen.Pre_finite
public import Idealize.ShloMosaic.Lib.ReduceAll

@[expose] public section

set_option maxRecDepth 16384

noncomputable section

namespace Cert.Proof.Mla

open Cert.Pre_finite Cert.Pre_finite.Gen
open Idealize.ShloMosaic Idealize.ShloMosaic.TcCoe

theorem ofBits_top : Ideal.ofBits .f32 0x7F800000#32 = ⊤ := by simp [Ideal.ofBits, Ideal.ieee]

theorem scale_real : ∃ s : ℝ, ((s : ℝ) : EReal) = Ideal.ofBits .f32 0x3DD105EC#32 := by
  simp [Ideal.ofBits, Ideal.ieee, -EReal.coe_mul]

/-- One comparison of the precondition, with any format's infinity: the entry is real. -/
theorem real_of_lt_top {φ : FTy} (b : BitVec φ.bits) (hb : Ideal.ofBits φ b = ⊤) (x : EReal)
    (h : FloatOps.cmpf (F := Ideal) (φ := φ) .olt (FloatOps.hostAbsf (φ := φ) (x : Ideal φ)) (FloatOps.ofBits φ b) = 1#1) :
    x = ((x.toReal : ℝ) : EReal) := by
  have h' : max x (-x) < ⊤ := by
    by_contra hn
    have e : BitVec.ofBool (decide (max x (-x) < Ideal.ofBits φ b)) = 1#1 := h
    rw [hb, decide_eq_false hn] at e
    exact absurd e (by decide)
  refine (EReal.coe_toReal (fun e => ?_) fun e => ?_).symm
  · exact (lt_irrefl _) ((le_max_left x (-x)).trans_lt h' |>.trans_eq e.symm)
  · exact (lt_irrefl _) ((le_max_right x (-x)).trans_lt h' |>.trans_eq (by rw [e]; rfl))

theorem real_of_lt (x : EReal) (h : FloatOps.cmpf (F := Ideal) (φ := .f32) .olt (FloatOps.hostAbsf (φ := .f32) (x : Ideal .f32)) (FloatOps.ofBits .f32 0x7F800000#32) = 1#1) :
    x = ((x.toReal : ℝ) : EReal) := real_of_lt_top _ ofBits_top x h

theorem both_one {a b : IVec S_ 1} {i : S_.Idx} (h : andi a b i = 1#1) : a i = 1#1 ∧ b i = 1#1 := by
  have d : ∀ x y : BitVec 1, x &&& y = 1#1 → x = 1#1 ∧ y = 1#1 := by decide
  exact d _ _ h

instance : Subsingleton S_.Idx := ⟨fun a b => funext fun k => k.elim0⟩

theorem rows_of_finite (y0 y1 : FVec Ideal S8192x4x96 .f32) (y2 y3 : FVec Ideal S8192x4x64 .f32)
    (h : fn (F := Ideal) y0 y1 y2 y3 = fun _ => 1#1) : ∃ H, Rows H y0 y1 y2 y3 := by
  obtain ⟨s, hs⟩ := scale_real
  have h := congrFun h ix0
  unfold fn fn_part1 at h
  obtain ⟨h, h3⟩ := both_one h
  obtain ⟨h, h2⟩ := both_one h
  obtain ⟨h0, h1⟩ := both_one h
  have e0 := Host.reduce_andi_all _ _ _ _ _ h0
  have e1 := Host.reduce_andi_all _ _ _ _ _ h1
  have e2 := Host.reduce_andi_all _ _ _ _ _ h2
  have e3 := Host.reduce_andi_all _ _ _ _ _ h3
  refine ⟨fun n => ⟨fun i d => (y0 (ix3 i n d) : EReal).toReal, fun i d => (y1 (ix3 i n d) : EReal).toReal, fun i d => (y2 (ix3 i n d) : EReal).toReal,
    fun i d => (y3 (ix3 i n d) : EReal).toReal, s⟩, ?_, ?_, ?_, ?_, fun _ => hs⟩
  · exact fun i => (real_of_lt _ (e0 i)).trans (congrArg (fun j => (((y0 j : EReal).toReal : ℝ) : EReal)) (eq_ix3 i))
  · exact fun i => (real_of_lt _ (e1 i)).trans (congrArg (fun j => (((y1 j : EReal).toReal : ℝ) : EReal)) (eq_ix3 i))
  · exact fun i => (real_of_lt _ (e2 i)).trans (congrArg (fun j => (((y2 j : EReal).toReal : ℝ) : EReal)) (eq_ix3 i))
  · exact fun i => (real_of_lt _ (e3 i)).trans (congrArg (fun j => (((y3 j : EReal).toReal : ℝ) : EReal)) (eq_ix3 i))

end Cert.Proof.Mla
-- ==== Proof.Own.Frames.lean ====
/-
  The frames of the matrix products, of the norms and the gated norm's gradient, of the loss and of the optimiser. The run of each idealized kernel is its module's; the
  kernel as printed has the same text, so the run read at the bits is its own. A reference has no counter.
-/
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal.Run
public import proofs.«01_k».proof.Proof.Gen.Kernel23
public import proofs.«01_k».proof.Proof.Gen.Kernel23Ideal.Frame
public import proofs.«01_k».proof.Proof.Gen.Reference23Ideal.Run
public import proofs.«01_k».proof.Proof.Gen.Kernel24
public import proofs.«01_k».proof.Proof.Gen.Kernel24Ideal.Frame
public import proofs.«01_k».proof.Proof.Gen.Reference24Ideal.Run
public import proofs.«01_k».proof.Proof.Gen.Kernel25
public import proofs.«01_k».proof.Proof.Gen.Kernel25Ideal.Frame
public import proofs.«01_k».proof.Proof.Gen.Reference25Ideal.Run
public import proofs.«01_k».proof.Proof.Gen.Kernel26
public import proofs.«01_k».proof.Proof.Gen.Kernel26Ideal.Frame
public import proofs.«01_k».proof.Proof.Gen.Reference26Ideal.Run
public import proofs.«01_k».proof.Proof.Gen.Kernel27
public import proofs.«01_k».proof.Proof.Gen.Kernel27Ideal.Frame
public import proofs.«01_k».proof.Proof.Gen.Reference27Ideal.Run
public import proofs.«01_k».proof.Proof.Gen.Kernel28
public import proofs.«01_k».proof.Proof.Gen.Kernel28Ideal.Frame
public import proofs.«01_k».proof.Proof.Gen.Reference28Ideal.Run
public import proofs.«01_k».proof.Proof.Gen.Kernel29
public import proofs.«01_k».proof.Proof.Gen.Kernel29Ideal.Frame
public import proofs.«01_k».proof.Proof.Gen.Reference29Ideal.Run
public import proofs.«01_k».proof.Proof.Gen.Kernel30
public import proofs.«01_k».proof.Proof.Gen.Kernel30Ideal.Frame
public import proofs.«01_k».proof.Proof.Gen.Reference30Ideal.Run
public import proofs.«01_k».proof.Proof.Gen.Kernel31
public import proofs.«01_k».proof.Proof.Gen.Kernel31Ideal.Frame
public import proofs.«01_k».proof.Proof.Gen.Reference31Ideal.Run

@[expose] public section

set_option backward.isDefEq.respectTransparency.types false
set_option maxHeartbeats 8000000

namespace Cert.Proof

open Idealize.ShloMosaic Idealize.ShloMosaic.TcCoe
open Idealize.SL Idealize.SL.Sem

/-! d_up_w -/

theorem bodies_up_w : Cert.Kernel2.defs₀ (F := Bits) = Cert.Kernel2Ideal.defs₀ (F := Bits) :=
  congrArg Defs.onTc (funext fun l => funext fun a => match l, a with | 0, (t, s) => rfl)

theorem frame_up_w : Cert.quiescent_Kernel2 := fun m ρ _ => by
  rw [show Cert.Kernel2.defs (F := Bits) = Cert.Kernel2Ideal.defs (F := Bits) from congrArg (Pipeline.defs _) bodies_up_w,
    show Cert.Kernel2.main (F := Bits) = Cert.Kernel2Ideal.main (F := Bits) from rfl]
  exact Cert.Kernel2Ideal.Gen.frame (F := Bits) m ρ

theorem frame_up_w_ideal : Cert.quiescent_Kernel2Ideal := fun m ρ _ => Cert.Kernel2Ideal.Gen.frame (F := Ideal) m ρ

theorem frame_up_w_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-! d_up_x -/

theorem bodies_up_x : Cert.Kernel3.defs₀ (F := Bits) = Cert.Kernel3Ideal.defs₀ (F := Bits) :=
  congrArg Defs.onTc (funext fun l => funext fun a => match l, a with | 0, (t, s) => rfl)

theorem frame_up_x : Cert.quiescent_Kernel3 := fun m ρ _ => by
  rw [show Cert.Kernel3.defs (F := Bits) = Cert.Kernel3Ideal.defs (F := Bits) from congrArg (Pipeline.defs _) bodies_up_x,
    show Cert.Kernel3.main (F := Bits) = Cert.Kernel3Ideal.main (F := Bits) from rfl]
  exact Cert.Kernel3Ideal.Gen.frame (F := Bits) m ρ

theorem frame_up_x_ideal : Cert.quiescent_Kernel3Ideal := fun m ρ _ => Cert.Kernel3Ideal.Gen.frame (F := Ideal) m ρ

theorem frame_up_x_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-! d_down_w -/

theorem bodies_down_w : Cert.Kernel4.defs₀ (F := Bits) = Cert.Kernel4Ideal.defs₀ (F := Bits) :=
  congrArg Defs.onTc (funext fun l => funext fun a => match l, a with | 0, (t, s) => rfl)

theorem frame_down_w : Cert.quiescent_Kernel4 := fun m ρ _ => by
  rw [show Cert.Kernel4.defs (F := Bits) = Cert.Kernel4Ideal.defs (F := Bits) from congrArg (Pipeline.defs _) bodies_down_w,
    show Cert.Kernel4.main (F := Bits) = Cert.Kernel4Ideal.main (F := Bits) from rfl]
  exact Cert.Kernel4Ideal.Gen.frame (F := Bits) m ρ

theorem frame_down_w_ideal : Cert.quiescent_Kernel4Ideal := fun m ρ _ => Cert.Kernel4Ideal.Gen.frame (F := Ideal) m ρ

theorem frame_down_w_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-! d_down_x -/

theorem bodies_down_x : Cert.Kernel5.defs₀ (F := Bits) = Cert.Kernel5Ideal.defs₀ (F := Bits) :=
  congrArg Defs.onTc (funext fun l => funext fun a => match l, a with | 0, (t, s) => rfl)

theorem frame_down_x : Cert.quiescent_Kernel5 := fun m ρ _ => by
  rw [show Cert.Kernel5.defs (F := Bits) = Cert.Kernel5Ideal.defs (F := Bits) from congrArg (Pipeline.defs _) bodies_down_x,
    show Cert.Kernel5.main (F := Bits) = Cert.Kernel5Ideal.main (F := Bits) from rfl]
  exact Cert.Kernel5Ideal.Gen.frame (F := Bits) m ρ

theorem frame_down_x_ideal : Cert.quiescent_Kernel5Ideal := fun m ρ _ => Cert.Kernel5Ideal.Gen.frame (F := Ideal) m ρ

theorem frame_down_x_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-! d_proj_w -/

theorem bodies_proj_w : Cert.Kernel6.defs₀ (F := Bits) = Cert.Kernel6Ideal.defs₀ (F := Bits) :=
  congrArg Defs.onTc (funext fun l => funext fun a => match l, a with | 0, (t, s) => rfl)

theorem frame_proj_w : Cert.quiescent_Kernel6 := fun m ρ _ => by
  rw [show Cert.Kernel6.defs (F := Bits) = Cert.Kernel6Ideal.defs (F := Bits) from congrArg (Pipeline.defs _) bodies_proj_w,
    show Cert.Kernel6.main (F := Bits) = Cert.Kernel6Ideal.main (F := Bits) from rfl]
  exact Cert.Kernel6Ideal.Gen.frame (F := Bits) m ρ

theorem frame_proj_w_ideal : Cert.quiescent_Kernel6Ideal := fun m ρ _ => Cert.Kernel6Ideal.Gen.frame (F := Ideal) m ρ

theorem frame_proj_w_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-! d_proj_x -/

theorem bodies_proj_x : Cert.Kernel7.defs₀ (F := Bits) = Cert.Kernel7Ideal.defs₀ (F := Bits) :=
  congrArg Defs.onTc (funext fun l => funext fun a => match l, a with | 0, (t, s) => rfl)

theorem frame_proj_x : Cert.quiescent_Kernel7 := fun m ρ _ => by
  rw [show Cert.Kernel7.defs (F := Bits) = Cert.Kernel7Ideal.defs (F := Bits) from congrArg (Pipeline.defs _) bodies_proj_x,
    show Cert.Kernel7.main (F := Bits) = Cert.Kernel7Ideal.main (F := Bits) from rfl]
  exact Cert.Kernel7Ideal.Gen.frame (F := Bits) m ρ

theorem frame_proj_x_ideal : Cert.quiescent_Kernel7Ideal := fun m ρ _ => Cert.Kernel7Ideal.Gen.frame (F := Ideal) m ρ

theorem frame_proj_x_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-! d_out_x -/

theorem bodies_out_x : Cert.Kernel8.defs₀ (F := Bits) = Cert.Kernel8Ideal.defs₀ (F := Bits) :=
  congrArg Defs.onTc (funext fun l => funext fun a => match l, a with | 0, (t, s) => rfl)

theorem frame_out_x : Cert.quiescent_Kernel8 := fun m ρ _ => by
  rw [show Cert.Kernel8.defs (F := Bits) = Cert.Kernel8Ideal.defs (F := Bits) from congrArg (Pipeline.defs _) bodies_out_x,
    show Cert.Kernel8.main (F := Bits) = Cert.Kernel8Ideal.main (F := Bits) from rfl]
  exact Cert.Kernel8Ideal.Gen.frame (F := Bits) m ρ

theorem frame_out_x_ideal : Cert.quiescent_Kernel8Ideal := fun m ρ _ => Cert.Kernel8Ideal.Gen.frame (F := Ideal) m ρ

theorem frame_out_x_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-! d_out_w -/

theorem bodies_out_w : Cert.Kernel9.defs₀ (F := Bits) = Cert.Kernel9Ideal.defs₀ (F := Bits) :=
  congrArg Defs.onTc (funext fun l => funext fun a => match l, a with | 0, (t, s) => rfl)

theorem frame_out_w : Cert.quiescent_Kernel9 := fun m ρ _ => by
  rw [show Cert.Kernel9.defs (F := Bits) = Cert.Kernel9Ideal.defs (F := Bits) from congrArg (Pipeline.defs _) bodies_out_w,
    show Cert.Kernel9.main (F := Bits) = Cert.Kernel9Ideal.main (F := Bits) from rfl]
  exact Cert.Kernel9Ideal.Gen.frame (F := Bits) m ρ

theorem frame_out_w_ideal : Cert.quiescent_Kernel9Ideal := fun m ρ _ => Cert.Kernel9Ideal.Gen.frame (F := Ideal) m ρ

theorem frame_out_w_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-! proj -/

theorem bodies_proj : Cert.Kernel10.defs₀ (F := Bits) = Cert.Kernel10Ideal.defs₀ (F := Bits) :=
  congrArg Defs.onTc (funext fun l => funext fun a => match l, a with | 0, (t, s) => rfl)

theorem frame_proj : Cert.quiescent_Kernel10 := fun m ρ _ => by
  rw [show Cert.Kernel10.defs (F := Bits) = Cert.Kernel10Ideal.defs (F := Bits) from congrArg (Pipeline.defs _) bodies_proj,
    show Cert.Kernel10.main (F := Bits) = Cert.Kernel10Ideal.main (F := Bits) from rfl]
  exact Cert.Kernel10Ideal.Gen.frame (F := Bits) m ρ

theorem frame_proj_ideal : Cert.quiescent_Kernel10Ideal := fun m ρ _ => Cert.Kernel10Ideal.Gen.frame (F := Ideal) m ρ

theorem frame_proj_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-! up -/

theorem bodies_up : Cert.Kernel11.defs₀ (F := Bits) = Cert.Kernel11Ideal.defs₀ (F := Bits) :=
  congrArg Defs.onTc (funext fun l => funext fun a => match l, a with | 0, (t, s) => rfl)

theorem frame_up : Cert.quiescent_Kernel11 := fun m ρ _ => by
  rw [show Cert.Kernel11.defs (F := Bits) = Cert.Kernel11Ideal.defs (F := Bits) from congrArg (Pipeline.defs _) bodies_up,
    show Cert.Kernel11.main (F := Bits) = Cert.Kernel11Ideal.main (F := Bits) from rfl]
  exact Cert.Kernel11Ideal.Gen.frame (F := Bits) m ρ

theorem frame_up_ideal : Cert.quiescent_Kernel11Ideal := fun m ρ _ => Cert.Kernel11Ideal.Gen.frame (F := Ideal) m ρ

theorem frame_up_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-! down -/

theorem bodies_down : Cert.Kernel12.defs₀ (F := Bits) = Cert.Kernel12Ideal.defs₀ (F := Bits) :=
  congrArg Defs.onTc (funext fun l => funext fun a => match l, a with | 0, (t, s) => rfl)

theorem frame_down : Cert.quiescent_Kernel12 := fun m ρ _ => by
  rw [show Cert.Kernel12.defs (F := Bits) = Cert.Kernel12Ideal.defs (F := Bits) from congrArg (Pipeline.defs _) bodies_down,
    show Cert.Kernel12.main (F := Bits) = Cert.Kernel12Ideal.main (F := Bits) from rfl]
  exact Cert.Kernel12Ideal.Gen.frame (F := Bits) m ρ

theorem frame_down_ideal : Cert.quiescent_Kernel12Ideal := fun m ρ _ => Cert.Kernel12Ideal.Gen.frame (F := Ideal) m ρ

theorem frame_down_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-! outproj -/

theorem bodies_out : Cert.Kernel13.defs₀ (F := Bits) = Cert.Kernel13Ideal.defs₀ (F := Bits) :=
  congrArg Defs.onTc (funext fun l => funext fun a => match l, a with | 0, (t, s) => rfl)

theorem frame_out : Cert.quiescent_Kernel13 := fun m ρ _ => by
  rw [show Cert.Kernel13.defs (F := Bits) = Cert.Kernel13Ideal.defs (F := Bits) from congrArg (Pipeline.defs _) bodies_out,
    show Cert.Kernel13.main (F := Bits) = Cert.Kernel13Ideal.main (F := Bits) from rfl]
  exact Cert.Kernel13Ideal.Gen.frame (F := Bits) m ρ

theorem frame_out_ideal : Cert.quiescent_Kernel13Ideal := fun m ρ _ => Cert.Kernel13Ideal.Gen.frame (F := Ideal) m ρ

theorem frame_out_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-! d_ssmnorm -/

theorem bodies_norm : Cert.Kernel14.defs₀ (F := Bits) = Cert.Kernel14Ideal.defs₀ (F := Bits) :=
  congrArg Defs.onTc (funext fun l => funext fun a => match l, a with | 0, (t, s) => rfl)

theorem frame_norm : Cert.quiescent_Kernel14 := fun m ρ _ => by
  rw [show Cert.Kernel14.defs (F := Bits) = Cert.Kernel14Ideal.defs (F := Bits) from congrArg (Pipeline.defs _) bodies_norm,
    show Cert.Kernel14.main (F := Bits) = Cert.Kernel14Ideal.main (F := Bits) from rfl]
  exact Cert.Kernel14Ideal.Gen.frame (F := Bits) m ρ

theorem frame_norm_ideal : Cert.quiescent_Kernel14Ideal := fun m ρ _ => Cert.Kernel14Ideal.Gen.frame (F := Ideal) m ρ

theorem frame_norm_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-! uq -/

theorem bodies_uq : Cert.Kernel16.defs₀ (F := Bits) = Cert.Kernel16Ideal.defs₀ (F := Bits) :=
  congrArg Defs.onTc (funext fun l => funext fun a => match l, a with | 0, (t, s) => rfl)

theorem frame_uq : Cert.quiescent_Kernel16 := fun m ρ _ => by
  rw [show Cert.Kernel16.defs (F := Bits) = Cert.Kernel16Ideal.defs (F := Bits) from congrArg (Pipeline.defs _) bodies_uq,
    show Cert.Kernel16.main (F := Bits) = Cert.Kernel16Ideal.main (F := Bits) from rfl]
  exact Cert.Kernel16Ideal.Gen.frame (F := Bits) m ρ

theorem frame_uq_ideal : Cert.quiescent_Kernel16Ideal := fun m ρ _ => Cert.Kernel16Ideal.Gen.frame (F := Ideal) m ρ

theorem frame_uq_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-! ukv -/

theorem bodies_ukv : Cert.Kernel17.defs₀ (F := Bits) = Cert.Kernel17Ideal.defs₀ (F := Bits) :=
  congrArg Defs.onTc (funext fun l => funext fun a => match l, a with | 0, (t, s) => rfl)

theorem frame_ukv : Cert.quiescent_Kernel17 := fun m ρ _ => by
  rw [show Cert.Kernel17.defs (F := Bits) = Cert.Kernel17Ideal.defs (F := Bits) from congrArg (Pipeline.defs _) bodies_ukv,
    show Cert.Kernel17.main (F := Bits) = Cert.Kernel17Ideal.main (F := Bits) from rfl]
  exact Cert.Kernel17Ideal.Gen.frame (F := Bits) m ρ

theorem frame_ukv_ideal : Cert.quiescent_Kernel17Ideal := fun m ρ _ => Cert.Kernel17Ideal.Gen.frame (F := Ideal) m ρ

theorem frame_ukv_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-! d_uq_w -/

theorem bodies_uq_w : Cert.Kernel18.defs₀ (F := Bits) = Cert.Kernel18Ideal.defs₀ (F := Bits) :=
  congrArg Defs.onTc (funext fun l => funext fun a => match l, a with | 0, (t, s) => rfl)

theorem frame_uq_w : Cert.quiescent_Kernel18 := fun m ρ _ => by
  rw [show Cert.Kernel18.defs (F := Bits) = Cert.Kernel18Ideal.defs (F := Bits) from congrArg (Pipeline.defs _) bodies_uq_w,
    show Cert.Kernel18.main (F := Bits) = Cert.Kernel18Ideal.main (F := Bits) from rfl]
  exact Cert.Kernel18Ideal.Gen.frame (F := Bits) m ρ

theorem frame_uq_w_ideal : Cert.quiescent_Kernel18Ideal := fun m ρ _ => Cert.Kernel18Ideal.Gen.frame (F := Ideal) m ρ

theorem frame_uq_w_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-! d_uq_x -/

theorem bodies_uq_x : Cert.Kernel19.defs₀ (F := Bits) = Cert.Kernel19Ideal.defs₀ (F := Bits) :=
  congrArg Defs.onTc (funext fun l => funext fun a => match l, a with | 0, (t, s) => rfl)

theorem frame_uq_x : Cert.quiescent_Kernel19 := fun m ρ _ => by
  rw [show Cert.Kernel19.defs (F := Bits) = Cert.Kernel19Ideal.defs (F := Bits) from congrArg (Pipeline.defs _) bodies_uq_x,
    show Cert.Kernel19.main (F := Bits) = Cert.Kernel19Ideal.main (F := Bits) from rfl]
  exact Cert.Kernel19Ideal.Gen.frame (F := Bits) m ρ

theorem frame_uq_x_ideal : Cert.quiescent_Kernel19Ideal := fun m ρ _ => Cert.Kernel19Ideal.Gen.frame (F := Ideal) m ρ

theorem frame_uq_x_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-! d_ukv_w -/

theorem bodies_ukv_w : Cert.Kernel20.defs₀ (F := Bits) = Cert.Kernel20Ideal.defs₀ (F := Bits) :=
  congrArg Defs.onTc (funext fun l => funext fun a => match l, a with | 0, (t, s) => rfl)

theorem frame_ukv_w : Cert.quiescent_Kernel20 := fun m ρ _ => by
  rw [show Cert.Kernel20.defs (F := Bits) = Cert.Kernel20Ideal.defs (F := Bits) from congrArg (Pipeline.defs _) bodies_ukv_w,
    show Cert.Kernel20.main (F := Bits) = Cert.Kernel20Ideal.main (F := Bits) from rfl]
  exact Cert.Kernel20Ideal.Gen.frame (F := Bits) m ρ

theorem frame_ukv_w_ideal : Cert.quiescent_Kernel20Ideal := fun m ρ _ => Cert.Kernel20Ideal.Gen.frame (F := Ideal) m ρ

theorem frame_ukv_w_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-! d_ukv_x -/

theorem bodies_ukv_x : Cert.Kernel21.defs₀ (F := Bits) = Cert.Kernel21Ideal.defs₀ (F := Bits) :=
  congrArg Defs.onTc (funext fun l => funext fun a => match l, a with | 0, (t, s) => rfl)

theorem frame_ukv_x : Cert.quiescent_Kernel21 := fun m ρ _ => by
  rw [show Cert.Kernel21.defs (F := Bits) = Cert.Kernel21Ideal.defs (F := Bits) from congrArg (Pipeline.defs _) bodies_ukv_x,
    show Cert.Kernel21.main (F := Bits) = Cert.Kernel21Ideal.main (F := Bits) from rfl]
  exact Cert.Kernel21Ideal.Gen.frame (F := Bits) m ρ

theorem frame_ukv_x_ideal : Cert.quiescent_Kernel21Ideal := fun m ρ _ => Cert.Kernel21Ideal.Gen.frame (F := Ideal) m ρ

theorem frame_ukv_x_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-! place_w_in -/

theorem bodies_place : Cert.Kernel22.defs₀ (F := Bits) = Cert.Kernel22Ideal.defs₀ (F := Bits) :=
  congrArg Defs.onTc (funext fun l => funext fun a => match l, a with | 0, (t, s) => rfl)

theorem frame_place : Cert.quiescent_Kernel22 := fun m ρ _ => by
  rw [show Cert.Kernel22.defs (F := Bits) = Cert.Kernel22Ideal.defs (F := Bits) from congrArg (Pipeline.defs _) bodies_place,
    show Cert.Kernel22.main (F := Bits) = Cert.Kernel22Ideal.main (F := Bits) from rfl]
  exact Cert.Kernel22Ideal.Gen.frame (F := Bits) m ρ

theorem frame_place_ideal : Cert.quiescent_Kernel22Ideal := fun m ρ _ => Cert.Kernel22Ideal.Gen.frame (F := Ideal) m ρ

theorem frame_place_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-! unplace_w_in -/

theorem bodies_unplace : Cert.Kernel23.defs₀ (F := Bits) = Cert.Kernel23Ideal.defs₀ (F := Bits) :=
  congrArg Defs.onTc (funext fun l => funext fun a => match l, a with | 0, (t, s) => rfl)

theorem frame_unplace : Cert.quiescent_Kernel23 := fun m ρ _ => by
  rw [show Cert.Kernel23.defs (F := Bits) = Cert.Kernel23Ideal.defs (F := Bits) from congrArg (Pipeline.defs _) bodies_unplace,
    show Cert.Kernel23.main (F := Bits) = Cert.Kernel23Ideal.main (F := Bits) from rfl]
  exact Cert.Kernel23Ideal.Gen.frame (F := Bits) m ρ

theorem frame_unplace_ideal : Cert.quiescent_Kernel23Ideal := fun m ρ _ => Cert.Kernel23Ideal.Gen.frame (F := Ideal) m ρ

theorem frame_unplace_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-! mixnorm -/

theorem bodies_mixnorm : Cert.Kernel24.defs₀ (F := Bits) = Cert.Kernel24Ideal.defs₀ (F := Bits) :=
  congrArg Defs.onTc (funext fun l => funext fun a => match l, a with | 0, (t, s) => rfl)

theorem frame_mixnorm : Cert.quiescent_Kernel24 := fun m ρ _ => by
  rw [show Cert.Kernel24.defs (F := Bits) = Cert.Kernel24Ideal.defs (F := Bits) from congrArg (Pipeline.defs _) bodies_mixnorm,
    show Cert.Kernel24.main (F := Bits) = Cert.Kernel24Ideal.main (F := Bits) from rfl]
  exact Cert.Kernel24Ideal.Gen.frame (F := Bits) m ρ

theorem frame_mixnorm_ideal : Cert.quiescent_Kernel24Ideal := fun m ρ _ => Cert.Kernel24Ideal.Gen.frame (F := Ideal) m ρ

theorem frame_mixnorm_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-! finalnorm -/

theorem bodies_finalnorm : Cert.Kernel25.defs₀ (F := Bits) = Cert.Kernel25Ideal.defs₀ (F := Bits) :=
  congrArg Defs.onTc (funext fun l => funext fun a => match l, a with | 0, (t, s) => rfl)

theorem frame_finalnorm : Cert.quiescent_Kernel25 := fun m ρ _ => by
  rw [show Cert.Kernel25.defs (F := Bits) = Cert.Kernel25Ideal.defs (F := Bits) from congrArg (Pipeline.defs _) bodies_finalnorm,
    show Cert.Kernel25.main (F := Bits) = Cert.Kernel25Ideal.main (F := Bits) from rfl]
  exact Cert.Kernel25Ideal.Gen.frame (F := Bits) m ρ

theorem frame_finalnorm_ideal : Cert.quiescent_Kernel25Ideal := fun m ρ _ => Cert.Kernel25Ideal.Gen.frame (F := Ideal) m ρ

theorem frame_finalnorm_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-! sbnorm -/

theorem bodies_sbnorm : Cert.Kernel26.defs₀ (F := Bits) = Cert.Kernel26Ideal.defs₀ (F := Bits) :=
  congrArg Defs.onTc (funext fun l => funext fun a => match l, a with | 0, (t, s) => rfl)

theorem frame_sbnorm : Cert.quiescent_Kernel26 := fun m ρ _ => by
  rw [show Cert.Kernel26.defs (F := Bits) = Cert.Kernel26Ideal.defs (F := Bits) from congrArg (Pipeline.defs _) bodies_sbnorm,
    show Cert.Kernel26.main (F := Bits) = Cert.Kernel26Ideal.main (F := Bits) from rfl]
  exact Cert.Kernel26Ideal.Gen.frame (F := Bits) m ρ

theorem frame_sbnorm_ideal : Cert.quiescent_Kernel26Ideal := fun m ρ _ => Cert.Kernel26Ideal.Gen.frame (F := Ideal) m ρ

theorem frame_sbnorm_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-! kvnorm -/

theorem bodies_kvnorm : Cert.Kernel27.defs₀ (F := Bits) = Cert.Kernel27Ideal.defs₀ (F := Bits) :=
  congrArg Defs.onTc (funext fun l => funext fun a => match l, a with | 0, (t, s) => rfl)

theorem frame_kvnorm : Cert.quiescent_Kernel27 := fun m ρ _ => by
  rw [show Cert.Kernel27.defs (F := Bits) = Cert.Kernel27Ideal.defs (F := Bits) from congrArg (Pipeline.defs _) bodies_kvnorm,
    show Cert.Kernel27.main (F := Bits) = Cert.Kernel27Ideal.main (F := Bits) from rfl]
  exact Cert.Kernel27Ideal.Gen.frame (F := Bits) m ρ

theorem frame_kvnorm_ideal : Cert.quiescent_Kernel27Ideal := fun m ρ _ => Cert.Kernel27Ideal.Gen.frame (F := Ideal) m ρ

theorem frame_kvnorm_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-! ssmnorm -/

theorem bodies_ssmnorm : Cert.Kernel28.defs₀ (F := Bits) = Cert.Kernel28Ideal.defs₀ (F := Bits) :=
  congrArg Defs.onTc (funext fun l => funext fun a => match l, a with | 0, (t, s) => rfl)

theorem frame_ssmnorm : Cert.quiescent_Kernel28 := fun m ρ _ => by
  rw [show Cert.Kernel28.defs (F := Bits) = Cert.Kernel28Ideal.defs (F := Bits) from congrArg (Pipeline.defs _) bodies_ssmnorm,
    show Cert.Kernel28.main (F := Bits) = Cert.Kernel28Ideal.main (F := Bits) from rfl]
  exact Cert.Kernel28Ideal.Gen.frame (F := Bits) m ρ

theorem frame_ssmnorm_ideal : Cert.quiescent_Kernel28Ideal := fun m ρ _ => Cert.Kernel28Ideal.Gen.frame (F := Ideal) m ρ

theorem frame_ssmnorm_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-! loss -/

theorem bodies_loss : Cert.Kernel29.defs₀ (F := Bits) = Cert.Kernel29Ideal.defs₀ (F := Bits) :=
  congrArg Defs.onTc (funext fun l => funext fun a => match l, a with | 0, (t, s) => rfl)

theorem frame_loss : Cert.quiescent_Kernel29 := fun m ρ _ => by
  rw [show Cert.Kernel29.defs (F := Bits) = Cert.Kernel29Ideal.defs (F := Bits) from congrArg (Pipeline.defs _) bodies_loss,
    show Cert.Kernel29.main (F := Bits) = Cert.Kernel29Ideal.main (F := Bits) from rfl]
  exact Cert.Kernel29Ideal.Gen.frame (F := Bits) m ρ

theorem frame_loss_ideal : Cert.quiescent_Kernel29Ideal := fun m ρ _ => Cert.Kernel29Ideal.Gen.frame (F := Ideal) m ρ

theorem frame_loss_reference : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)

/-! adamw_w_in -/

theorem bodies_adam : Cert.Kernel30.defs₀ (F := Bits) = Cert.Kernel30Ideal.defs₀ (F := Bits) :=
  congrArg Defs.onTc (funext fun l => funext fun a => match l, a with | 0, (t, s) => rfl)

theorem frame_adam : Cert.quiescent_Kernel30 := fun m ρ _ => by
  rw [show Cert.Kernel30.defs (F := Bits) = Cert.Kernel30Ideal.defs (F := Bits) from congrArg (Pipeline.defs _) bodies_adam,
    show Cert.Kernel30.main (F := Bits) = Cert.Kernel30Ideal.main (F := Bits) from rfl]
  exact Cert.Kernel30Ideal.Gen.frame (F := Bits) m ρ

theorem frame_adam_ideal : Cert.quiescent_Kernel30Ideal := fun m ρ _ => Cert.Kernel30Ideal.Gen.frame (F := Ideal) m ρ

theorem frame_adam_reference : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

/-! d_sbnorm -/

theorem bodies_sbnorm_x : Cert.Kernel31.defs₀ (F := Bits) = Cert.Kernel31Ideal.defs₀ (F := Bits) :=
  congrArg Defs.onTc (funext fun l => funext fun a => match l, a with | 0, (t, s) => rfl)

theorem frame_sbnorm_x : Cert.quiescent_Kernel31 := fun m ρ _ => by
  rw [show Cert.Kernel31.defs (F := Bits) = Cert.Kernel31Ideal.defs (F := Bits) from congrArg (Pipeline.defs _) bodies_sbnorm_x,
    show Cert.Kernel31.main (F := Bits) = Cert.Kernel31Ideal.main (F := Bits) from rfl]
  exact Cert.Kernel31Ideal.Gen.frame (F := Bits) m ρ

theorem frame_sbnorm_x_ideal : Cert.quiescent_Kernel31Ideal := fun m ρ _ => Cert.Kernel31Ideal.Gen.frame (F := Ideal) m ρ

theorem frame_sbnorm_x_reference : Cert.quiescent_Reference31Ideal := fun m ρ _ =>
  (θ_run Cert.Reference31Ideal.defs _ _).mono (fun r h => ⟨fun c => (h c).2.2, sem_eq_zero_of_no_sems (by decide) r.2⟩)
    (Cert.Reference31Ideal.Value.run (F := Ideal) m ρ)

end Cert.Proof
end
-- ==== Proof.Own.Prod.lean ====
/-
  What the matrix products of the step share: a product of two blocks that starts from zero, an accumulator that is set
  at the first block of a run and added to at the others, and the two cuts of a matrix into owners' shards.
-/
module

public import proofs.«01_k».proof.Proof.Own.TileRead
public import Idealize.ShloMosaic.Lib.Pipeline.ValueKit
public import Idealize.ShloMosaic.Lib.Pipeline.Value
public import Idealize.ShloMosaic.Lib.Pipeline.ReadBack
public import Idealize.ShloMosaic.Lib.IdealHost
public import Idealize.ShloMosaic.Lib.Pointwise

@[expose] public section

set_option maxRecDepth 16384

noncomputable section

namespace Cert.Proof.Prod

open Cert.Proof.Mla (T2 T3 mm_rows mm_plain mm_cols drop_apply add_apply)
open Idealize.ShloMosaic Idealize.ShloMosaic.TcCoe Idealize.ShloMosaic.VecWindow

theorem zero_apply {S : Shape} (y : S.Idx) : ((constant S .f32 0x00000000#32 : FVec Ideal S .f32) y : EReal) = 0 := Ideal.ofBits_zero_f32

section
variable {a b k : ℕ} {φ ψ : FTy} (i : Fin a) (j : Fin b)

/-- A plain product from zero. -/
theorem plain (wf : DotDims.WF (T2 a k) (T2 k b) (T2 a b) [1] [0] [0] [1] [] []) (l : FVec Ideal (T2 a k) φ) (r : FVec Ideal (T2 k b) ψ) :
    (matmul (F := Ideal) (⟨[1], [0], [0], [1], [], [], wf⟩ : DotDims (T2 a k) (T2 k b) (T2 a b)) none l r (constant (T2 a b) .f32 0x00000000#32) (ix2 i j) : EReal)
      = ∑ t : Fin k, (l (ix2 i t) : EReal) * r (ix2 t j) := by rw [mm_plain, zero_apply, zero_add]

/-- A product of rows with rows from zero. -/
theorem rows (wf : DotDims.WF (T2 a k) (T2 b k) (T2 a b) [1] [1] [0] [0] [] []) (l : FVec Ideal (T2 a k) φ) (r : FVec Ideal (T2 b k) ψ) :
    (matmul (F := Ideal) (⟨[1], [1], [0], [0], [], [], wf⟩ : DotDims (T2 a k) (T2 b k) (T2 a b)) none l r (constant (T2 a b) .f32 0x00000000#32) (ix2 i j) : EReal)
      = ∑ t : Fin k, (l (ix2 i t) : EReal) * r (ix2 j t) := by rw [mm_rows, zero_apply, zero_add]

/-- A product of columns with columns from zero. -/
theorem cols (wf : DotDims.WF (T2 k a) (T2 k b) (T2 a b) [0] [0] [1] [1] [] []) (l : FVec Ideal (T2 k a) φ) (r : FVec Ideal (T2 k b) ψ) :
    (matmul (F := Ideal) (⟨[0], [0], [1], [1], [], [], wf⟩ : DotDims (T2 k a) (T2 k b) (T2 a b)) none l r (constant (T2 a b) .f32 0x00000000#32) (ix2 i j) : EReal)
      = ∑ t : Fin k, (l (ix2 t i) : EReal) * r (ix2 t j) := by rw [mm_cols, zero_apply, zero_add]
end

/-- An accumulator set to its block's term where a run of `J` points begins and added to elsewhere holds, at the run's last
    point, the sum of the run's terms. -/
theorem run_sum {N : ℕ} {ι : Type*} (f : (n : ℕ) → n < N → ι → EReal) (J : ℕ) [NeZero J] (term : Fin N → ι → EReal)
    (h0 : ∀ t : Fin N, t.val % J = 0 → f t.val t.isLt = term t)
    (hs : ∀ t : Fin N, ¬t.val % J = 0 → f t.val t.isLt = fun y => f (t.val - 1) (Nat.lt_of_le_of_lt (Nat.sub_le _ _) t.isLt) y + term t y)
    (t : Fin N) (hr : t.val % J = J - 1) (y : ι) :
    f t.val t.isLt y = ∑ s : Fin J, term ⟨J * (t.val / J) + s.val, Pipeline.run_point_lt_of_flush t hr s⟩ y :=
  (Pipeline.eq_sum_fin_of_reset_step_apply_of_flush f J (fun _ => 0) term (fun t h y => by rw [h0 t h, zero_add])
    (fun t h y => congrFun (hs t h) y) t hr y).trans (zero_add _)

/-- A matrix's columns cut into shards, the shard leading. -/
theorem shard_cols {α : Type} {a n b N : ℕ} (x : (T2 a N).Idx → α) (hN : N = n * b) (h : (T2 a N).ShapeCasts (⟨3, ![a, n, b]⟩ : Shape))
    (ht : (T3 a n b).Transposes [1, 0, 2] (T3 n a b)) (p : Fin n) (i : Fin a) (j : Fin b) (hl : p.val * b + j.val < N) :
    transpose (T3 n a b) [1, 0, 2] (shapeCast (T3 a n b) x h) ht (ix3 p i j) = x (ix2 i ⟨p.val * b + j.val, hl⟩) := by
  rw [transpose_apply [1, 0, 2] _ ht (ix3 p i j) (ix3 i p j) (fun d => match d with
    | ⟨0, _⟩ => rfl
    | ⟨1, _⟩ => rfl
    | ⟨2, _⟩ => rfl)]
  refine shapeCast_apply x h (ix3 i p j) (ix2 i ⟨p.val * b + j.val, hl⟩) ?_
  rw [Shape.rowMajor_val_two, Shape.rowMajor_val_three]
  show i.val * N + (p.val * b + j.val) = (i.val * n + p.val) * b + j.val
  rw [hN]; ring

/-- A matrix's rows cut into shards. -/
theorem shard_rows {α : Type} {n a b N : ℕ} (x : (T2 N b).Idx → α) (hN : N = n * a) (h : (T2 N b).ShapeCasts (T3 n a b))
    (p : Fin n) (i : Fin a) (j : Fin b) (hl : p.val * a + i.val < N) :
    shapeCast (T3 n a b) x h (ix3 p i j) = x (ix2 ⟨p.val * a + i.val, hl⟩ j) := by
  refine shapeCast_apply x h (ix3 p i j) (ix2 ⟨p.val * a + i.val, hl⟩ j) ?_
  rw [Shape.rowMajor_val_two, Shape.rowMajor_val_three]
  rfl

/-- A rank-two index is its coordinates. -/
theorem at2 {a b : ℕ} (y : (T2 a b).Idx) : ∃ (i : Fin a) (j : Fin b), y = ix2 i j := ⟨y 0, y 1, by funext d; fin_cases d <;> rfl⟩
/-- A rank-three index is its coordinates. -/
theorem at3 {a b c : ℕ} (y : (T3 a b c).Idx) : ∃ (p : Fin a) (i : Fin b) (j : Fin c), y = ix3 p i j :=
  ⟨y 0, y 1, y 2, by funext d; fin_cases d <;> rfl⟩

/-- Rank-two indices of equal coordinates are equal. -/
theorem ext2 {a b : ℕ} {y z : (T2 a b).Idx} (h0 : y 0 = z 0) (h1 : y 1 = z 1) : y = z := by
  funext d; fin_cases d
  · exact h0
  · exact h1

end Cert.Proof.Prod
end
-- ==== Proof.Own.NormReal.lean ====
/-
  The gradient of the gated root-mean-square norm over the reals: what both programs compute of a row, and the identities
  that join their formulas.
-/
module

public import proofs.«01_k».proof.Proof.Own.RefRead
public import Mathlib.Analysis.SpecialFunctions.Trigonometric.DerivHyp

@[expose] public section

noncomputable section

namespace Cert.Proof.Norm

open Cert.Proof.Mla (coe_sum div_real exp_real)
open Idealize.ShloMosaic

/-- The rows to be normed, their gates, the incoming gradient, the weights, and the small number under the root. -/
structure Rows where
  x : Fin 8192 → Fin 512 → ℝ
  z : Fin 8192 → Fin 512 → ℝ
  g : Fin 512 → ℝ
  d : Fin 8192 → Fin 512 → ℝ
  e : ℝ
  pos : 0 < e

namespace Rows
variable (H : Rows)

/-- The gate's logistic. -/
def s (i : Fin 8192) (j : Fin 512) : ℝ := (1 + Real.exp (-H.z i j))⁻¹
/-- The gated row. -/
def u (i : Fin 8192) (j : Fin 512) : ℝ := H.x i j * (H.z i j * H.s i j)
/-- Its mean square, with the small number. -/
def v (i : Fin 8192) : ℝ := (∑ j, H.u i j * H.u i j) / 512 + H.e
/-- The reciprocal root of it. -/
def r (i : Fin 8192) : ℝ := (Real.sqrt (H.v i))⁻¹
/-- The incoming gradient, weighed. -/
def w (i : Fin 8192) (j : Fin 512) : ℝ := H.d i j * H.g j
/-- Its inner product with the gated row. -/
def t (i : Fin 8192) : ℝ := ∑ j, H.w i j * H.u i j
/-- The gated row's gradient. -/
def du (i : Fin 8192) (j : Fin 512) : ℝ := H.r i * H.w i j - H.u i j * (H.r i * H.r i * H.r i * (H.t i / 512))
/-- The three gradients. -/
def dx (i : Fin 8192) (j : Fin 512) : ℝ := H.du i j * (H.z i j * H.s i j)
@[inherit_doc dx] def dz (i : Fin 8192) (j : Fin 512) : ℝ := H.du i j * H.x i j * (H.s i j * (1 + H.z i j * (1 - H.s i j)))
@[inherit_doc dx] def dg (j : Fin 512) : ℝ := ∑ i, H.d i j * H.u i j * H.r i

theorem v_pos (i : Fin 8192) : 0 < H.v i :=
  add_pos_of_nonneg_of_pos (div_nonneg (Finset.sum_nonneg fun j _ => mul_self_nonneg _) (by norm_num)) H.pos

theorem rsqrt_v (i : Fin 8192) : Ideal.rsqrt ((H.v i : ℝ) : EReal) = ((H.r i : ℝ) : EReal) := by
  rw [Ideal.rsqrt_coe, if_neg (not_lt.2 (H.v_pos i).le), if_neg (H.v_pos i).ne']; rfl

/-- The cube of the reciprocal root is the quotient that its derivative has. -/
theorem r_cube (i : Fin 8192) : H.r i / H.v i = H.r i * H.r i * H.r i := by
  have h : H.r i * H.r i = (H.v i)⁻¹ := by
    unfold r; rw [← mul_inv, Real.mul_self_sqrt (H.v_pos i).le]
  rw [h, div_eq_mul_inv, mul_comm]

/-- The gated row's gradient as the product rule gives it. -/
theorem du_eq (i : Fin 8192) (j : Fin 512) :
    H.w i j * H.r i + H.u i j * (H.t i * (-(1 / 2) * (H.r i / H.v i)) / 512) + H.t i * (-(1 / 2) * (H.r i / H.v i)) / 512 * H.u i j = H.du i j := by
  rw [r_cube]; unfold du; ring

/-- The gate's gradient as the product rule gives it. -/
theorem dz_eq (i : Fin 8192) (j : Fin 512) :
    H.x i j * H.du i j * H.s i j + H.z i j * (H.x i j * H.du i j) * (H.s i j * (1 - H.s i j)) = H.dz i j := by
  unfold dz; ring

end Rows

/-- The logistic as half the hyperbolic tangent of the half. -/
theorem half_tanh (a : ℝ) : 1 / 2 * Real.tanh (1 / 2 * a) + 1 / 2 = (1 + Real.exp (-a))⁻¹ := by
  have e : Real.exp (-a) = Real.exp (-(1 / 2 * a)) * Real.exp (-(1 / 2 * a)) := by rw [← Real.exp_add]; ring_nf
  have p := Real.exp_pos (1 / 2 * a)
  have q : Real.exp (1 / 2 * a) * Real.exp (-(1 / 2 * a)) = 1 := by rw [← Real.exp_add]; simp
  rw [Real.tanh_eq_sinh_div_cosh, Real.sinh_eq, Real.cosh_eq, e]
  set y := Real.exp (-(1 / 2 * a)) with hy
  set k := Real.exp (1 / 2 * a) with hk
  have hyp : 0 < y := Real.exp_pos _
  have h1 : k + y ≠ 0 := (add_pos p hyp).ne'
  have h2 : 1 + y * y ≠ 0 := by positivity
  field_simp
  nlinarith [q]
end Cert.Proof.Norm
-- ==== Proof.Own.NormRef.lean ====
/-
  The reference's values of the gated norm's gradient over finite arguments: every step as a real number, up to the three
  results.
-/
module

public import proofs.«01_k».proof.Proof.Own.NormReal
public import proofs.«01_k».proof.Proof.Gen.Reference14Ideal.Read

@[expose] public section

set_option maxRecDepth 16384

noncomputable section

namespace Cert.Proof.Norm

open Cert.Proof.Mla (coe_sum div_real exp_real)
open Cert.Reference14Ideal Cert.Reference14Ideal.Gen Cert.Reference14Ideal.Read
open Idealize.ShloMosaic Idealize.ShloMosaic.TcCoe

theorem ofBits_512 : Ideal.ofBits .f32 0x44000000#32 = ((512 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_one : Ideal.ofBits .f32 0x3F800000#32 = ((1 : ℝ) : EReal) := Ideal.ofBits_one_f32

theorem eps_real : ∃ e : ℝ, 0 < e ∧ Ideal.ofBits .f32 0x358637BD#32 = ((e : ℝ) : EReal) := by
  refine ⟨_, ?_, by simp [Ideal.ofBits, Ideal.ieee, -EReal.coe_mul]; rfl⟩
  positivity

/-- The four arguments are the rows, and the small number is the literal of both programs. -/
structure Holds (H : Rows) (x0 x1 : FVec Ideal S8192x512 .f32) (x2 : FVec Ideal S512 .f32) (x3 : FVec Ideal S8192x512 .f32) : Prop where
  x : ∀ i : S8192x512.Idx, x0 i = ((H.x (i 0) (i 1) : ℝ) : EReal)
  z : ∀ i : S8192x512.Idx, x1 i = ((H.z (i 0) (i 1) : ℝ) : EReal)
  g : ∀ i : S512.Idx, x2 i = ((H.g (i 0) : ℝ) : EReal)
  d : ∀ i : S8192x512.Idx, x3 i = ((H.d (i 0) (i 1) : ℝ) : EReal)
  e : Ideal.ofBits .f32 0x358637BD#32 = ((H.e : ℝ) : EReal)

section
variable {H : Rows} {x0 x1 x3 : FVec Ideal S8192x512 .f32} {x2 : FVec Ideal S512 .f32} (R : Holds H x0 x1 x2 x3)
include R

theorem ref_s (i : S8192x512.Idx) : (val_main_v0_2 (F := Ideal) x1 i : EReal) = ((H.s (i 0) (i 1) : ℝ) : EReal) := by
  rw [val_main_v0_2_apply, val_main_call0_v4_apply, val_main_call0_cst_0_apply, val_main_call0_v3_apply, val_main_call0_v2_apply,
    val_main_call0_cst_apply, val_main_call0_v1_apply, val_main_call0_v0_apply, R.z]
  have p := Real.exp_pos (-H.z (i 0) (i 1))
  refine Eq.trans (congrArg₂ Ideal.div ofBits_one
    ((congrArg₂ (· + ·) ofBits_one ((congrArg Ideal.exp (EReal.coe_neg _).symm).trans (exp_real _))).trans (EReal.coe_add _ _).symm)) ?_
  rw [div_real _ _ (by positivity), one_div]; rfl

theorem ref_act (i : S8192x512.Idx) : (val_main_v0_0 (F := Ideal) x1 i : EReal) = ((H.z (i 0) (i 1) * H.s (i 0) (i 1) : ℝ) : EReal) := by
  rw [val_main_v0_0_apply, R.z, ref_s R]; exact (EReal.coe_mul _ _).symm

theorem ref_slope (i : S8192x512.Idx) :
    (val_main_v0_1 (F := Ideal) x1 i : EReal) = ((H.s (i 0) (i 1) * (1 - H.s (i 0) (i 1)) : ℝ) : EReal) := by
  rw [val_main_v0_1_apply, val_main_call0_v7_apply, val_main_call0_v6_apply, val_main_call0_cst_1_apply, ref_s R, EReal.coe_mul, EReal.coe_sub]
  exact congrArg (fun a : EReal => _ * (a - _)) ofBits_one

theorem ref_u (i : S8192x512.Idx) : (val_main_v1 (F := Ideal) x0 x1 i : EReal) = ((H.u (i 0) (i 1) : ℝ) : EReal) := by
  rw [val_main_v1_apply, R.x, ref_act R]; exact (EReal.coe_mul _ _).symm

theorem ref_v (i : S8192x1.Idx) : (val_main_v8 (F := Ideal) x0 x1 i : EReal) = ((H.v (i 0) : ℝ) : EReal) := by
  rw [val_main_v8_apply, val_main_v6_apply, val_main_v4_apply, val_main_v3_apply, val_main_v5_apply, val_main_cst_0_apply, val_main_cst_apply,
    val_main_v7_apply, val_main_cst_1_apply]
  have e : ∀ k : Fin 512, (val_main_v2 (F := Ideal) x0 x1 (idx_main_v3 (idx_main_v4 i) k) : EReal) = ((H.u (i 0) k * H.u (i 0) k : ℝ) : EReal) := fun k => by
    rw [val_main_v2_apply, ref_u R]; exact (EReal.coe_mul _ _).symm
  refine Eq.trans (congrArg₂ (· + ·) ((congrArg₂ Ideal.div ((congrArg₂ (· + ·) Ideal.ofBits_zero_f32
    ((Finset.sum_congr rfl fun k _ => e k).trans (coe_sum _ _).symm)).trans (zero_add _)) ofBits_512).trans (div_real _ _ (by norm_num))) R.e) ?_
  exact (EReal.coe_add _ _).symm

theorem ref_r (i : S8192x1.Idx) : (val_main_v9 (F := Ideal) x0 x1 i : EReal) = ((H.r (i 0) : ℝ) : EReal) := by
  rw [val_main_v9_apply, ref_v R]; exact H.rsqrt_v _

theorem ref_w (i : S8192x512.Idx) : (val_main_v22 (F := Ideal) x2 x3 i : EReal) = ((H.w (i 0) (i 1) : ℝ) : EReal) := by
  rw [val_main_v22_apply, val_main_v21_apply, val_main_v15_apply, R.d, R.g]; exact (EReal.coe_mul _ _).symm

theorem ref_t (i : S8192.Idx) : (val_main_v25 (F := Ideal) x0 x1 x2 x3 i : EReal) = ((H.t (i 0) : ℝ) : EReal) := by
  rw [val_main_v25_apply, val_main_cst_5_apply]
  have e : ∀ k : Fin 512, (val_main_v24 (F := Ideal) x0 x1 x2 x3 (idx_main_v25 i k) : EReal) = ((H.w (i 0) k * H.u (i 0) k : ℝ) : EReal) := fun k => by
    rw [val_main_v24_apply, ref_u R, ref_w R, mul_comm]; exact (EReal.coe_mul _ _).symm
  exact (congrArg₂ (· + ·) Ideal.ofBits_zero_f32 ((Finset.sum_congr rfl fun k _ => e k).trans (coe_sum _ _).symm)).trans (zero_add _)

theorem ref_root (i : S8192x1.Idx) : (val_main_v31 (F := Ideal) x0 x1 x2 x3 i : EReal)
    = ((H.t (i 0) * (-(1 / 2) * (H.r (i 0) / H.v (i 0))) / 512 : ℝ) : EReal) := by
  rw [val_main_v31_apply, val_main_v29_apply, val_main_v26_apply, ref_t R, val_main_v12_apply, val_main_v11_apply, val_main_cst_2_apply,
    val_main_v10_apply, ref_r R, ref_v R, val_main_v30_apply, val_main_cst_6_apply]
  refine Eq.trans (congrArg₂ Ideal.div ((congrArg (_ * ·) ((congrArg₂ (· * ·) ofBits_neg_half (div_real _ _ (H.v_pos _).ne')).trans
    (EReal.coe_mul _ _).symm)).trans (EReal.coe_mul _ _).symm) ofBits_512) ?_
  refine (div_real _ 512 (by norm_num)).trans (congrArg (fun n : Fin 8192 => ((H.t n * (-(1 / 2) * (H.r (i 0) / H.v (i 0))) / 512 : ℝ) : EReal)) (Fin.ext ?_))
  have h1 : (i 1).val < 1 := (i 1).isLt
  show (i 0).val * 1 + (i 1).val = (i 0).val
  omega

theorem ref_du (i : S8192x512.Idx) : (val_main_v37 (F := Ideal) x0 x1 x2 x3 i : EReal) = ((H.du (i 0) (i 1) : ℝ) : EReal) := by
  have e : (val_main_v33 (F := Ideal) x0 x1 x2 x3 i : EReal) = ((H.t (i 0) * (-(1 / 2) * (H.r (i 0) / H.v (i 0))) / 512 : ℝ) : EReal) := by
    rw [val_main_v33_apply, val_main_v32_apply, val_main_cst_7_apply]
    exact (congrArg₂ (· + ·) Ideal.ofBits_zero_f32 ((Fin.sum_univ_one _).trans (ref_root R _))).trans (zero_add _)
  rw [val_main_v37_apply, val_main_v35_apply, val_main_v28_apply, val_main_v34_apply, val_main_v36_apply, ref_w R, val_main_v27_apply, ref_r R, ref_u R, e]
  refine Eq.trans ?_ (congrArg (fun a : ℝ => (a : EReal)) (H.du_eq (i 0) (i 1)))
  simp only [EReal.coe_add, EReal.coe_mul _ (H.r _), EReal.coe_mul (H.u _ _), EReal.coe_mul _ (H.u _ _)]
  rfl

/-- The first result: the gradient of the rows. -/
theorem ref_dx (i : S8192x512.Idx) : (val_main_v39 (F := Ideal) x0 x1 x2 x3 i : EReal) = ((H.dx (i 0) (i 1) : ℝ) : EReal) := by
  rw [val_main_v39_apply, ref_du R, ref_act R]; exact (EReal.coe_mul _ _).symm

/-- The second: the gradient of the gates. -/
theorem ref_dz (i : S8192x512.Idx) : (val_main_v40 (F := Ideal) x0 x1 x2 x3 i : EReal) = ((H.dz (i 0) (i 1) : ℝ) : EReal) := by
  have e : (val_main_v38 (F := Ideal) x0 x1 x2 x3 i : EReal) = ((H.x (i 0) (i 1) * H.du (i 0) (i 1) : ℝ) : EReal) := by
    rw [val_main_v38_apply, R.x, ref_du R]; exact (EReal.coe_mul _ _).symm
  rw [val_main_v40_apply, val_main_call1_v1_apply, val_main_call1_v2_apply, val_main_call1_v0_apply, e, ref_s R, ref_slope R, R.z]
  refine Eq.trans ?_ (congrArg (fun a : ℝ => (a : EReal)) (H.dz_eq (i 0) (i 1)))
  simp only [EReal.coe_add, EReal.coe_mul _ (H.s _ _), EReal.coe_mul _ (H.s _ _ * _), EReal.coe_mul (H.z _ _)]
  rfl

/-- The third: the gradient of the weights. -/
theorem ref_dg (i : S1x512.Idx) : (val_main_v41 (F := Ideal) x0 x1 x3 i : EReal) = ((H.dg (i 1) : ℝ) : EReal) := by
  rw [val_main_v41_apply, val_main_v23_apply, val_main_cst_4_apply]
  refine Eq.trans (congrArg₂ (· + ·) Ideal.ofBits_zero_f32 (Fin.sum_univ_one _)) ((zero_add _).trans ?_)
  rw [val_main_v20_apply, val_main_v19_apply, val_main_cst_3_apply]
  have e : ∀ k : Fin 8192, (val_main_v18 (F := Ideal) x0 x1 x3 (idx_main_v19 (idx_main_v20 (idx_main_v23 (idx_main_v41 i) 0)) k) : EReal)
      = ((H.d k (i 1) * H.u k (i 1) * H.r k : ℝ) : EReal) := fun k => by
    have q : idx_main_v20 (idx_main_v23 (idx_main_v41 i) 0) = (ix1 (i 1) : S512.Idx) := funext fun a => by
      match a with
      | ⟨0, _⟩ => exact Fin.ext (by show 0 * 512 + (i 1).val = (i 1).val; omega)
    rw [q, val_main_v18_apply, val_main_v14_apply, ref_u R, val_main_v13_apply, ref_r R, R.d]
    have c : H.d k (i 1) * H.u k (i 1) * H.r k = H.u k (i 1) * H.r k * H.d k (i 1) := by ring
    refine Eq.trans ?_ (congrArg (fun a : ℝ => (a : EReal)) c.symm)
    rw [EReal.coe_mul, EReal.coe_mul]
    rfl
  exact (congrArg₂ (· + ·) Ideal.ofBits_zero_f32 ((Finset.sum_congr rfl fun k _ => e k).trans (coe_sum _ _).symm)).trans (zero_add _)

end

end Cert.Proof.Norm
-- ==== Proof.Own.Norm.lean ====
/-
  The gradient of the gated root-mean-square norm, d_ssmnorm: eight blocks of 1024 rows, the weights' gradient summed over
  them.
-/
module

public import proofs.«01_k».proof.Proof.Own.Prod
public import proofs.«01_k».proof.Proof.Own.Finite
public import proofs.«01_k».proof.Proof.Own.NormRef
public import proofs.«01_k».proof.Proof.Gen.Kernel14Ideal.Value
public import proofs.«01_k».proof.Proof.Gen.Reference14Ideal.Run
public import proofs.«01_k».proof.Proof.Gen.Pre_finite14
public import proofs.«01_k».proof.Defs

@[expose] public section

set_option maxRecDepth 16384

noncomputable section

namespace Cert.Proof.Norm

open Cert.Kernel14Ideal Cert.Kernel14Ideal.Gen
open Cert.Proof.Mla (T2 coe_sum div_real spread_apply both_one real_of_lt)
open Cert.Proof.Prod (run_sum at2 ext2)
open Idealize.ShloMosaic Idealize.ShloMosaic.TcCoe Idealize.ShloMosaic.VecWindow
open Idealize.SL Idealize.SL.Sem

/-- A row's sum, standing in a column. -/
theorem row_sum {n k : ℕ} (x : FVec Ideal (T2 n k) .f32) (h : (T2 n k).Reduces [1] ⟨1, ![n]⟩) (hf : FKind.Formats .f32)
    (ha : (0x00000000#32 : BitVec 32) = FKind.add.neutral .f32 hf) (hc : (⟨1, ![n]⟩ : Shape).ShapeCasts (T2 n 1)) (i : Fin n) :
    (shapeCast (T2 n 1) (multiReduction .add [1] ⟨1, ![n]⟩ x 0x00000000#32 h hf ha) hc (ix2 i 0) : EReal) = ∑ j : Fin k, (x (ix2 i j) : EReal) := by
  refine (shapeCast_apply _ hc (ix2 i 0) (ix1 i) ?_).trans ((Ideal.multiReduction_add_single x _ h hf ha (ix1 i)).trans ?_)
  · rw [Shape.rowMajor_val_two, Shape.rowMajor_val_one]
    show i.val = i.val * 1 + 0
    omega
  · exact Finset.sum_congr rfl fun j _ => congrArg x (by funext d; fin_cases d <;> rfl)

/-- A column's sum, standing in a row. -/
theorem col_sum {n k : ℕ} (x : FVec Ideal (T2 n k) .f32) (h : (T2 n k).Reduces [0] ⟨1, ![k]⟩) (hf : FKind.Formats .f32)
    (ha : (0x00000000#32 : BitVec 32) = FKind.add.neutral .f32 hf) (hc : (⟨1, ![k]⟩ : Shape).ShapeCasts (T2 1 k)) (j : Fin k) :
    (shapeCast (T2 1 k) (multiReduction .add [0] ⟨1, ![k]⟩ x 0x00000000#32 h hf ha) hc (ix2 0 j) : EReal) = ∑ i : Fin n, (x (ix2 i j) : EReal) := by
  refine (shapeCast_apply _ hc (ix2 0 j) (ix1 j) ?_).trans ((Ideal.multiReduction_add_single x _ h hf ha (ix1 j)).trans ?_)
  · rw [Shape.rowMajor_val_two, Shape.rowMajor_val_one]
    show j.val = 0 * k + j.val
    omega
  · exact Finset.sum_congr rfl fun i _ => congrArg x (by funext d; fin_cases d <;> rfl)

/-- A column spread over all columns. -/
theorem fan_apply {α : Type} {n m : ℕ} (x : (T2 n 1).Idx → α) (h : (T2 n 1).Broadcasts (T2 n m)) (hn : n ≠ 1) (i : Fin n) (j : Fin m) :
    broadcastTo (T2 n m) x h (ix2 i j) = x (ix2 i 0) := by
  refine congrArg x (funext fun c => ?_)
  fin_cases c
  · exact dif_neg hn
  · rfl

/-- A block of the arguments is the rows that `row` names. -/
structure Block (H : Rows) (row : Fin 1024 → Fin 8192) (x z d : FVec Ideal S1024x512 .f32) (g : FVec Ideal S1x512 .f32) : Prop where
  x : ∀ i j, x (ix2 i j) = ((H.x (row i) j : ℝ) : EReal)
  z : ∀ i j, z (ix2 i j) = ((H.z (row i) j : ℝ) : EReal)
  d : ∀ i j, d (ix2 i j) = ((H.d (row i) j : ℝ) : EReal)
  g : ∀ j, g (ix2 0 j) = ((H.g j : ℝ) : EReal)
  e : Ideal.ofBits .f32 0x358637BD#32 = ((H.e : ℝ) : EReal)

section
variable {H : Rows} {row : Fin 1024 → Fin 8192} {x z d : FVec Ideal S1024x512 .f32} {g : FVec Ideal S1x512 .f32}
  (B : Block H row x z d g) (i : Fin 1024) (j : Fin 512)
include B

theorem pay5_apply : (k0_pay5 (F := Ideal) z (ix2 i j) : EReal) = ((H.s (row i) j : ℝ) : EReal) := by
  have h : (tanh (F := Ideal) (mulf (broadcast S1024x512 (Scalar.ofBits (F := Ideal) .f32 0x3F000000#32)) z) (ix2 i j) : EReal)
      = ((Real.tanh (1 / 2 * H.z (row i) j) : ℝ) : EReal) :=
    (congrArg Ideal.tanh ((congrArg₂ (· * ·) ofBits_half (B.z i j)).trans (EReal.coe_mul _ _).symm)).trans (Ideal.tanh_coe _)
  refine Eq.trans (congrArg₂ (· + ·) ((congrArg₂ (· * ·) ofBits_half h).trans (EReal.coe_mul _ _).symm) ofBits_half) ?_
  exact (EReal.coe_add _ _).symm.trans (congrArg (fun a : ℝ => (a : EReal)) (half_tanh _))

theorem pay6_apply : (k0_pay6 (F := Ideal) z (ix2 i j) : EReal) = ((H.z (row i) j * H.s (row i) j : ℝ) : EReal) :=
  (congrArg₂ (· * ·) (B.z i j) (pay5_apply B i j)).trans (EReal.coe_mul _ _).symm

theorem pay7_apply : (k0_pay7 (F := Ideal) x z (ix2 i j) : EReal) = ((H.u (row i) j : ℝ) : EReal) :=
  (congrArg₂ (· * ·) (B.x i j) (pay6_apply B i j)).trans (EReal.coe_mul _ _).symm

theorem pay8_apply : (k0_pay8 (F := Ideal) x z (ix2 i 0) : EReal) = ((H.r (row i) : ℝ) : EReal) := by
  have e : ∀ k, (mulf (k0_pay7 (F := Ideal) x z) (k0_pay7 x z) (ix2 i k) : EReal) = ((H.u (row i) k * H.u (row i) k : ℝ) : EReal) := fun k =>
    (congrArg₂ (· * ·) (pay7_apply B i k) (pay7_apply B i k)).trans (EReal.coe_mul _ _).symm
  refine Eq.trans (congrArg Ideal.rsqrt (congrArg₂ (· + ·) (congrArg₂ Ideal.div (row_sum _ _ _ _ _ i) ofBits_512) B.e)) ?_
  rw [Finset.sum_congr rfl fun k _ => e k, ← coe_sum, div_real _ _ (by norm_num), ← EReal.coe_add]
  exact H.rsqrt_v _

/-- The gated row's gradient. -/
theorem pay9_apply : (k0_pay9 (F := Ideal) x z d g (ix2 i j) : EReal) = ((H.du (row i) j : ℝ) : EReal) := by
  have w : ∀ k, (mulf d (broadcastTo S1024x512 (shapeCast S1x512 g shapeCasts_S1x512_S1x512) broadcasts_S1x512_S1024x512) (ix2 i k) : EReal)
      = ((H.w (row i) k : ℝ) : EReal) := fun k => by
    rw [shapeCast_self g]
    exact (congrArg₂ (· * ·) (B.d i k) ((spread_apply g _ (by decide) i k).trans (B.g k))).trans (EReal.coe_mul _ _).symm
  have t : ∀ k, (mulf (mulf d (broadcastTo S1024x512 (shapeCast S1x512 g shapeCasts_S1x512_S1x512) broadcasts_S1x512_S1024x512)) (k0_pay7 (F := Ideal) x z) (ix2 i k) : EReal)
      = ((H.w (row i) k * H.u (row i) k : ℝ) : EReal) := fun k =>
    (congrArg₂ (· * ·) (w k) (pay7_apply B i k)).trans (EReal.coe_mul _ _).symm
  have r := pay8_apply B i
  refine Eq.trans (congrArg₂ (· - ·) (congrArg₂ (· * ·) ((fan_apply _ _ (by decide) i j).trans r) (w j))
    (congrArg₂ (· * ·) (pay7_apply B i j) ((fan_apply _ _ (by decide) i j).trans (congrArg₂ (· * ·) (congrArg₂ (· * ·) (congrArg₂ (· * ·) r r) r)
      (congrArg₂ Ideal.div (row_sum _ _ _ _ _ i) ofBits_512))))) ?_
  rw [Finset.sum_congr rfl fun k _ => t k, ← coe_sum, div_real _ _ (by norm_num)]
  simp only [← EReal.coe_mul, ← EReal.coe_sub]
  rfl

theorem pay2_apply : (k0_pay2 (F := Ideal) (k0_pay6 z) (k0_pay9 x z d g) (ix2 i j) : EReal) = ((H.dx (row i) j : ℝ) : EReal) :=
  (congrArg₂ (· * ·) (pay9_apply B i j) (pay6_apply B i j)).trans (EReal.coe_mul _ _).symm

theorem pay3_apply : (k0_pay3 (F := Ideal) x z (k0_pay5 z) (k0_pay9 x z d g) (ix2 i j) : EReal) = ((H.dz (row i) j : ℝ) : EReal) := by
  refine Eq.trans (congrArg₂ (· * ·) (congrArg₂ (· * ·) (pay9_apply B i j) (B.x i j)) (congrArg₂ (· * ·) (pay5_apply B i j)
    (congrArg₂ (· + ·) ofBits_one (congrArg₂ (· * ·) (B.z i j) (congrArg₂ (· - ·) ofBits_one (pay5_apply B i j)))))) ?_
  simp only [← EReal.coe_mul, ← EReal.coe_sub, ← EReal.coe_add]
  rfl

/-- The weights' gradient grows by the block's. -/
theorem pay1_apply (a : FVec Ideal S1x512 .f32) : (k0_pay1 (F := Ideal) (k0_pay7 x z) (k0_pay8 x z) d a (ix2 0 j) : EReal)
    = (a (ix2 0 j) : EReal) + ∑ i : Fin 1024, ((H.d (row i) j * H.u (row i) j * H.r (row i) : ℝ) : EReal) := by
  unfold k0_pay1
  rw [shapeCast_self a]
  refine congrArg ((a (ix2 0 j) : EReal) + ·) ((col_sum _ _ _ _ _ j).trans (Finset.sum_congr rfl fun i _ => ?_))
  refine Eq.trans (congrArg₂ (· * ·) (congrArg₂ (· * ·) (B.d i j) (pay7_apply B i j)) ((fan_apply _ _ (by decide) i j).trans (pay8_apply B i))) ?_
  simp only [← EReal.coe_mul]

end

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] := (by decide +kernel : ∀ t : Fin grid0.N, _)

/-- The row of the arrays that a point's block row is. -/
def row (t : Fin cfg0.N) (i : Fin 1024) : Fin 8192 := ⟨t.val * 1024 + i.val, by have h : t.val < 8 := t.isLt; omega⟩

variable (m : (ℓ : Loc nD τ sig) → Buf (Elt Ideal) ℓ) (c : Dev nD)

/-- The four arrays the windows stage. -/
def aX : (T2 8192 512).Idx → EReal := V m c main_arg0
@[inherit_doc aX] def aZ : (T2 8192 512).Idx → EReal := V m c main_arg1
@[inherit_doc aX] def aG : (T2 1 512).Idx → EReal := V m c main_v0
@[inherit_doc aX] def aD : (T2 8192 512).Idx → EReal := V m c main_arg3

theorem read_x (t : Fin cfg0.N) (i : Fin 1024) (j : Fin 512) : (iblk m c 0 t (ix2 i j) : EReal) = aX m c (ix2 (row t i) j) := by
  have e := (idx t).1
  unfold aX row
  blk_ext [iblk, e]

theorem read_z (t : Fin cfg0.N) (i : Fin 1024) (j : Fin 512) : (iblk m c 1 t (ix2 i j) : EReal) = aZ m c (ix2 (row t i) j) := by
  have e := (idx t).2.1
  unfold aZ row
  blk_ext [iblk, e]

theorem read_g (t : Fin cfg0.N) (j : Fin 512) : (iblk m c 2 t (ix2 0 j) : EReal) = aG m c (ix2 0 j) := by
  have e := (idx t).2.2.1
  unfold aG
  blk_ext [iblk, e]

theorem read_d (t : Fin cfg0.N) (i : Fin 1024) (j : Fin 512) : (iblk m c 3 t (ix2 i j) : EReal) = aD m c (ix2 (row t i) j) := by
  have e := (idx t).2.2.2.1
  unfold aD row
  blk_ext [iblk, e]

/-- The arguments, at their shapes. -/
def x0 : FVec Ideal S8192x512 .f32 := m ((c : Thread nD τ).loc main_arg0)
@[inherit_doc x0] def x1 : FVec Ideal S8192x512 .f32 := m ((c : Thread nD τ).loc main_arg1)
@[inherit_doc x0] def x2 : FVec Ideal S512 .f32 := m ((c : Thread nD τ).loc main_arg2)
@[inherit_doc x0] def x3 : FVec Ideal S8192x512 .f32 := m ((c : Thread nD τ).loc main_arg3)

theorem aX_eq : aX m c = x0 m c := by
  unfold aX V
  after_results
  rfl

theorem aZ_eq : aZ m c = x1 m c := by
  unfold aZ V
  after_results
  rfl

theorem aD_eq : aD m c = x3 m c := by
  unfold aD V
  after_results
  rfl

theorem aG_apply (j : Fin 512) : aG m c (ix2 0 j) = x2 m c (ix1 j) := by
  have e : aG m c = shapeCast S1x512 (x2 m c) shapeCasts_S512_S1x512 := by
    unfold aG V
    after_results
    rfl
  rw [e]
  refine shapeCast_apply _ _ (ix2 0 j) (ix1 j) ?_
  rw [Shape.rowMajor_val_two, Shape.rowMajor_val_one]
  show j.val = 0 * 512 + j.val
  omega

/-- What a point leaves of the first two results. -/
theorem out_dx (t : Fin cfg0.N) : (outsAt0 m c t.val t.isLt).1
    = k0_pay2 (k0_pay6 (iblk m c 1 t)) (k0_pay9 (iblk m c 0 t) (iblk m c 1 t) (iblk m c 3 t) (iblk m c 2 t)) := by
  by_cases h : t.val % 8 = 0
  · rw [outsAt0_A m c t h]
    frame_out
  · rw [outsAt0_B m c t h]
    frame_out

@[inherit_doc out_dx] theorem out_dz (t : Fin cfg0.N) : (outsAt0 m c t.val t.isLt).2.1
    = k0_pay3 (iblk m c 0 t) (iblk m c 1 t) (k0_pay5 (iblk m c 1 t)) (k0_pay9 (iblk m c 0 t) (iblk m c 1 t) (iblk m c 3 t) (iblk m c 2 t)) := by
  by_cases h : t.val % 8 = 0
  · rw [outsAt0_A m c t h]
    frame_out
  · rw [outsAt0_B m c t h]
    frame_out

/-- The three results. -/
def outX (H : Rows) : (T2 8192 512).Idx → EReal := fun y => ((H.dx (y 0) (y 1) : ℝ) : EReal)
@[inherit_doc outX] def outZ (H : Rows) : (T2 8192 512).Idx → EReal := fun y => ((H.dz (y 0) (y 1) : ℝ) : EReal)
@[inherit_doc outX] def outG (H : Rows) : (T2 1 512).Idx → EReal := fun y => ((H.dg (y 1) : ℝ) : EReal)

section
variable {m c} {H : Rows} (R : Holds H (x0 m c) (x1 m c) (x2 m c) (x3 m c))
include R

/-- The blocks of a point are its rows. -/
theorem block (t : Fin cfg0.N) : Block H (row t) (iblk m c 0 t) (iblk m c 1 t) (iblk m c 3 t) (iblk m c 2 t) where
  x i j := (read_x m c t i j).trans ((congrFun (aX_eq m c) _).trans (R.x _))
  z i j := (read_z m c t i j).trans ((congrFun (aZ_eq m c) _).trans (R.z _))
  d i j := (read_d m c t i j).trans ((congrFun (aD_eq m c) _).trans (R.d _))
  g j := (read_g m c t j).trans ((aG_apply m c j).trans (R.g _))
  e := R.e

theorem point_dx (t : Fin cfg0.N) (i : Fin 1024) (j : Fin 512) : ((outsAt0 m c t.val t.isLt).1 (ix2 i j) : EReal) = ((H.dx (row t i) j : ℝ) : EReal) :=
  (congrFun (out_dx m c t) _).trans (pay2_apply (block R t) i j)

theorem point_dz (t : Fin cfg0.N) (i : Fin 1024) (j : Fin 512) : ((outsAt0 m c t.val t.isLt).2.1 (ix2 i j) : EReal) = ((H.dz (row t i) j : ℝ) : EReal) :=
  (congrFun (out_dz m c t) _).trans (pay3_apply (block R t) i j)

theorem final_dx : (dats m 0 c).arrAt 4 cfg0.N = outX H := by
  refine (dats m 0 c).arrAt_eq_of_covers 4 _ (by decide +kernel) fun t hf y => ?_
  blk_simp
  rw [after0_4]
  obtain ⟨i, j, rfl⟩ := at2 y
  refine Eq.trans (b := outX H (ix2 (row t i) j)) (point_dx R t i j) (congrArg (outX H) ?_)
  unfold row
  blk_ext [(idx t).2.2.2.2.1]

theorem final_dz : (dats m 0 c).arrAt 5 cfg0.N = outZ H := by
  refine (dats m 0 c).arrAt_eq_of_covers 5 _ (by decide +kernel) fun t hf y => ?_
  blk_simp
  rw [after0_5]
  obtain ⟨i, j, rfl⟩ := at2 y
  refine Eq.trans (b := outZ H (ix2 (row t i) j)) (point_dz R t i j) (congrArg (outZ H) ?_)
  unfold row
  blk_ext [(idx t).2.2.2.2.2.1]

/-- What a point adds to the weights' gradient. -/
theorem acc_eq (t : Fin cfg0.N) (hr : t.val % 8 = 7) (y : S1x512.Idx) : ((outsAt0 m c t.val t.isLt).2.2 y : EReal)
    = ∑ s : Fin 8, ∑ i : Fin 1024, ((H.d (row ⟨8 * (t.val / 8) + s.val, Pipeline.run_point_lt_of_flush t hr s⟩ i) (y 1)
      * H.u (row ⟨8 * (t.val / 8) + s.val, Pipeline.run_point_lt_of_flush t hr s⟩ i) (y 1)
      * H.r (row ⟨8 * (t.val / 8) + s.val, Pipeline.run_point_lt_of_flush t hr s⟩ i) : ℝ) : EReal) := by
  refine run_sum (fun n h => (outsAt0 m c n h).2.2) 8 (fun t y => ∑ i : Fin 1024, ((H.d (row t i) (y 1) * H.u (row t i) (y 1) * H.r (row t i) : ℝ) : EReal))
    (fun t h => ?_) (fun t h => ?_) t hr y
  · rw [outsAt0_A m c t h]
    frame_out
    funext y
    obtain ⟨i, j, rfl⟩ := at2 y
    obtain rfl : i = 0 := Subsingleton.elim _ _
    refine (pay1_apply (block R t) j _).trans ?_
    exact (congrArg (· + _) Ideal.ofBits_zero_f32).trans (zero_add _)
  · rw [outsAt0_B m c t h]
    frame_out
    funext y
    obtain ⟨i, j, rfl⟩ := at2 y
    obtain rfl : i = 0 := Subsingleton.elim _ _
    exact pay1_apply (block R t) j _

theorem final_dg : (dats m 0 c).arrAt 6 cfg0.N = outG H := by
  refine (dats m 0 c).arrAt_eq_of_covers 6 _ (by decide +kernel) fun t hf y => ?_
  have hr := (flush0_6 t).mp hf
  have hN : t.val < 8 := t.isLt
  blk_simp
  rw [after0_6]
  refine (acc_eq R t hr y).trans ?_
  unfold outG Rows.dg
  rw [coe_sum]
  obtain ⟨i, j, rfl⟩ := at2 y
  obtain rfl : i = 0 := Subsingleton.elim _ _
  refine Fin.sum_mul_add_congr fun s k hl => congrArg₂ (fun (n : Fin 8192) (z : (T2 1 512).Idx) => ((H.d n (z 1) * H.u n (z 1) * H.r n : ℝ) : EReal))
    (Fin.ext ?_) (?_ : ix2 0 j = _)
  · show (8 * (t.val / 8) + s.val) * 1024 + k.val = s.val * 1024 + k.val
    omega
  · blk_ext [(idx t).2.2.2.2.2.2]

end

/-- Finite arguments are rows of real numbers. -/
theorem holds_of_finite (y0 y1 : FVec Ideal S8192x512 .f32) (y2 : FVec Ideal S512 .f32) (y3 : FVec Ideal S8192x512 .f32)
    (h : Cert.Pre_finite14.fn (F := Ideal) y0 y1 y2 y3 = fun _ => 1#1) : ∃ H, Holds H y0 y1 y2 y3 := by
  obtain ⟨e, he, hs⟩ := eps_real
  have h := congrFun h ix0
  unfold Cert.Pre_finite14.fn Cert.Pre_finite14.fn_part1 at h
  obtain ⟨h, h3⟩ := both_one h
  obtain ⟨h, h2⟩ := both_one h
  obtain ⟨h0, h1⟩ := both_one h
  have e0 := Host.reduce_andi_all _ _ _ _ _ h0
  have e1 := Host.reduce_andi_all _ _ _ _ _ h1
  have e2 := Host.reduce_andi_all _ _ _ _ _ h2
  have e3 := Host.reduce_andi_all _ _ _ _ _ h3
  refine ⟨⟨fun i j => (y0 (ix2 i j) : EReal).toReal, fun i j => (y1 (ix2 i j) : EReal).toReal, fun j => (y2 (ix1 j) : EReal).toReal,
    fun i j => (y3 (ix2 i j) : EReal).toReal, e, he⟩, ?_, ?_, ?_, ?_, hs⟩
  · exact fun i => (real_of_lt _ (e0 i)).trans (congrArg (fun j => (((y0 j : EReal).toReal : ℝ) : EReal)) (ext2 rfl rfl))
  · exact fun i => (real_of_lt _ (e1 i)).trans (congrArg (fun j => (((y1 j : EReal).toReal : ℝ) : EReal)) (ext2 rfl rfl))
  · exact fun i => (real_of_lt _ (e2 i)).trans (congrArg (fun j => (((y2 j : EReal).toReal : ℝ) : EReal)) (eq_ix1 i))
  · exact fun i => (real_of_lt _ (e3 i)).trans (congrArg (fun j => (((y3 j : EReal).toReal : ℝ) : EReal)) (ext2 rfl rfl))

theorem value : Cert.algebraic_Kernel14Ideal_Reference14Ideal_pre_finite14 := by
  intro m ρ m' ρ' hfin hargs
  choose H R using fun c => holds_of_finite _ _ _ _ (hfin c)
  refine ⟨fun c => outX (H c), fun c => outZ (H c), fun c => outG (H c), ?_, ?_⟩
  · refine (θ_run Cert.Kernel14Ideal.defs _ _).mono (fun r h c => ?_) (Value.run_blocks (F := Ideal) m ρ)
    exact ⟨(h c).1.trans (final_dx (R c)), (h c).2.1.trans (final_dz (R c)), (h c).2.2.1.trans (final_dg (R c)), (h c).2.2.2⟩
  · refine (θ_run Cert.Reference14Ideal.defs _ _).mono (fun r h c => ?_) (Cert.Reference14Ideal.Value.run (F := Ideal) m' ρ')
    have R' := R c
    rw [← (hargs c).1, ← (hargs c).2.1, ← (hargs c).2.2.1, ← (hargs c).2.2.2] at R'
    exact ⟨(h c).1.trans (funext fun i => ref_dx R' i), (h c).2.1.trans (funext fun i => ref_dz R' i),
      (h c).2.2.1.trans (funext fun i => ref_dg R' i), (h c).2.2.2⟩

end Cert.Proof.Norm
end
-- ==== Proof.Own.FwdTile.lean ====
/-
  One tile of the attention's forward pass as plain values: the scores of 256 queries against `n` keys, and the step of the
  running softmax they give (the greatest score so far, the sum of exponentials over it, the weighted sum of the values).
-/
module

public import proofs.«01_k».proof.Proof.Gen.Kernel15Ideal.Frame
public import proofs.«01_k».proof.Proof.Gen.Kernel15Ideal.Loops
public import proofs.«01_k».proof.Proof.Own.TileRead

@[expose] public section

noncomputable section

namespace Cert.Proof.Fwd

open Cert.Kernel15Ideal Cert.Kernel15Ideal.Gen
open Idealize.ShloMosaic
open Cert.Proof.Mla (T2 T3)

variable {F : FTy → Type} [FloatOps F] [Named F]

/-- The side conditions of the tile's operations at `n` keys. -/
structure Fits (n : ℕ) : Prop where
  ck : (T3 1 n 96).ShapeCasts (T2 n 96)
  cv : (T3 1 n 64).ShapeCasts (T2 n 64)
  bn : S256x1.Broadcasts (T2 256 n)
  i0 : (T2 256 n).Iotas .tc 32 [0]
  i1 : (T2 256 n).Iotas .tc 32 [1]
  red : (T2 256 n).Reduces [1] S256
  wqk : DotDims.WF (T2 256 96) (T2 n 96) (T2 256 n) [1] [1] [0] [0] [] []
  wpv : DotDims.WF (T2 256 n) (T2 n 64) (T2 256 64) [1] [0] [0] [1] [] []

/-- What one head carries: the greatest score, the sum of exponentials, the weighted sum. -/
abbrev One (F : FTy → Type) := FVec F S256x1 .f32 × FVec F S256x1 .f32 × FVec F S256x64 .f32
/-- What two heads carry, as the loop does. -/
abbrev Car (F : FTy → Type) :=
  FVec F S256x1 .f32 × FVec F S256x1 .f32 × FVec F S256x64 .f32 × FVec F S256x1 .f32 × FVec F S256x1 .f32 × FVec F S256x64 .f32

/-- The two heads' parts. -/
def fst (a : Car F) : One F := (a.1, a.2.1, a.2.2.1)
@[inherit_doc fst] def snd (a : Car F) : One F := (a.2.2.2.1, a.2.2.2.2.1, a.2.2.2.2.2)
/-- Two heads' parts together. -/
def both (x y : One F) : Car F := (x.1, x.2.1, x.2.2, y.1, y.2.1, y.2.2)

/-- What every head carries at the beginning. -/
def none₀ : Car F := (k0_pay73 (F := F), k0_pay74 (F := F), k0_pay75 (F := F), k0_pay73 (F := F), k0_pay74 (F := F), k0_pay75 (F := F))

namespace Fits
variable {n : ℕ} (w : Fits n)

/-- The scores. -/
def score (q : Vec F (T3 1 256 96) .bf16) (k : Vec F (T3 1 n 96) .bf16) : FVec F (T2 256 n) .f32 :=
  mulf (matmul (⟨[1], [1], [0], [0], [], [], w.wqk⟩ : DotDims (T2 256 96) (T2 n 96) (T2 256 n)) none
      (shapeCast S256x96 q shapeCasts_S1x256x96_S256x96) (shapeCast (T2 n 96) k w.ck) (constant (T2 256 n) .f32 0x00000000#32))
    (broadcast (T2 256 n) (Scalar.ofBits .f32 0x3DD105EC#32))

/-- The scores with the keys past the query masked: query block `b`, key block `base`. -/
def cutScore (b base : BitVec 32) (q : Vec F (T3 1 256 96) .bf16) (k : Vec F (T3 1 n 96) .bf16) : FVec F (T2 256 n) .f32 :=
  select (cmpi .sle (iota .tc (T2 256 n) 32 [1] w.i1)
      (addi (iota .tc (T2 256 n) 32 [0] w.i0) (broadcast (T2 256 n) (Scalar.muli (Scalar.subi b base) 256#32 : BitVec 32))))
    (w.score q k) (broadcast (T2 256 n) (Named.named κ "mask" (φ := .f32) 0xF149F2CA#32))

/-- The greatest score so far. -/
def newM (s : FVec F (T2 256 n) .f32) (m : FVec F S256x1 .f32) : FVec F S256x1 .f32 :=
  maximumf m (shapeCast S256x1 (multiReduction .maximumf [1] S256 s 0xFF800000#32 w.red (.inl rfl) rfl) shapeCasts_S256_S256x1)
/-- The scores' exponentials over it. -/
def newP (s : FVec F (T2 256 n) .f32) (m : FVec F S256x1 .f32) : FVec F (T2 256 n) .f32 :=
  exp (subf s (broadcastTo (T2 256 n) (w.newM s m) w.bn))
/-- The factor of what was carried. -/
def newA (s : FVec F (T2 256 n) .f32) (m : FVec F S256x1 .f32) : FVec F S256x1 .f32 := exp (subf m (w.newM s m))

/-- The step of one head. -/
def step (s : FVec F (T2 256 n) .f32) (v : Vec F (T3 1 n 64) .bf16) (a : One F) : One F :=
  (w.newM s a.1,
    addf (mulf (w.newA s a.1) a.2.1)
      (shapeCast S256x1 (multiReduction .add [1] S256 (w.newP s a.1) 0x00000000#32 w.red (.inl rfl) rfl) shapeCasts_S256_S256x1),
    addf (mulf (broadcastTo S256x64 (w.newA s a.1) broadcasts_S256x1_S256x64) a.2.2)
      (matmul (⟨[1], [0], [0], [1], [], [], w.wpv⟩ : DotDims (T2 256 n) (T2 n 64) (T2 256 64)) none
        (truncf .bf16 (w.newP s a.1) bitsLt_bf16_f32) (shapeCast (T2 n 64) v w.cv) (constant S256x64 .f32 0x00000000#32)))

end Fits

theorem fits1024 : Fits 1024 where
  ck := shapeCasts_S1x1024x96_S1024x96
  cv := shapeCasts_S1x1024x64_S1024x64
  bn := broadcasts_S256x1_S256x1024
  i0 := iota_S256x1024_d0_w32
  i1 := iota_S256x1024_d1_w32
  red := reduces_S256x1024_S256
  wqk := dot_S256x96_S1024x96_S256x1024_1_1_0_0_n_n.wf
  wpv := dot_S256x1024_S1024x64_S256x64_1_0_0_1_n_n.wf

theorem fits768 : Fits 768 where
  ck := shapeCasts_S1x768x96_S768x96
  cv := shapeCasts_S1x768x64_S768x64
  bn := broadcasts_S256x1_S256x768
  i0 := iota_S256x768_d0_w32
  i1 := iota_S256x768_d1_w32
  red := reduces_S256x768_S256
  wqk := dot_S256x96_S768x96_S256x768_1_1_0_0_n_n.wf
  wpv := dot_S256x768_S768x64_S256x64_1_0_0_1_n_n.wf

theorem fits512 : Fits 512 where
  ck := shapeCasts_S1x512x96_S512x96
  cv := shapeCasts_S1x512x64_S512x64
  bn := broadcasts_S256x1_S256x512
  i0 := iota_S256x512_d0_w32
  i1 := iota_S256x512_d1_w32
  red := reduces_S256x512_S256
  wqk := dot_S256x96_S512x96_S256x512_1_1_0_0_n_n.wf
  wpv := dot_S256x512_S512x64_S256x64_1_0_0_1_n_n.wf

theorem fits256 : Fits 256 where
  ck := shapeCasts_S1x256x96_S256x96
  cv := shapeCasts_S1x256x64_S256x64
  bn := broadcasts_S256x1_S256x256
  i0 := iota_S256x256_d0_w32
  i1 := iota_S256x256_d1_w32
  red := reduces_S256x256_S256
  wqk := dot_S256x96_S256x96_S256x256_1_1_0_0_n_n.wf
  wpv := dot_S256x256_S256x64_S256x64_1_0_0_1_n_n.wf

/-- The payloads of the first head's tiles are the step's. -/
theorem pay_loop (q : Vec F S1x256x96 .bf16) (k : Vec F S1x1024x96 .bf16) (v : Vec F S1x1024x64 .bf16) (a : One F) :
    (k0_pay30 a.1 q k, k0_pay33 a.1 a.2.1 q k, k0_pay34 a.1 a.2.2 q k v) = fits1024.step (fits1024.score q k) v a := rfl

theorem pay_cut (b base : BitVec 32) (q : Vec F S1x256x96 .bf16) (k : Vec F S1x1024x96 .bf16) (v : Vec F S1x1024x64 .bf16) (a : One F) :
    (k0_pay46 b a.1 base q k, k0_pay49 b a.1 a.2.1 base q k, k0_pay50 b a.1 a.2.2 base q k v)
      = fits1024.step (fits1024.cutScore b base q k) v a := rfl

end Cert.Proof.Fwd

end
-- ==== Proof.Own.FwdBody.lean ====
/-
  The forward attention's grid point: what its loads are, a trip of its counted loop, the query block's own cut group of keys,
  and the whole body, from what its buffers hold at the beginning to what they hold at the end. At query block `b` the keys
  before the block's own group of 1024 are gone through by the counted loop, `b / 4` groups, then the group itself is cut off
  after the query block.
-/
module

public import proofs.«01_k».proof.Proof.Own.FwdTile
public import Idealize.ShloMosaic.Lib.VecWindow
public import Idealize.ShloMosaic.Lib.LoopRemainder
public import Idealize.ShloMosaic.Lib.Pipeline.TableIdle
public import Idealize.ShloMosaic.Lib.Pointwise.Index

@[expose] public section

noncomputable section

namespace Cert.Proof.Fwd

open Cert.Kernel15Ideal Cert.Kernel15Ideal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Cert.Proof.Mla (T2 T3 𝒱₀)

variable {F : FTy → Type} [FloatOps F] [Named F]

local notation "𝕄" => MT nD τ sig Unit (Elt F) ℕ (UR sig nD τ) ℕ

theorem trips_eq : ∀ i : grid0.Coords, (k0_t1_loop i).trips = (i 1).val / 4 := by decide +kernel
theorem off1_eq : ∀ (i : grid0.Coords) (k : Fin (k0_t1_loop i).trips), k0_off1 i k = ![0, 1024 * k.val, 0] := by decide +kernel
instance (i : grid0.Coords) (k : Fin (k0_t1_loop i).trips) : ClosedOff (k0_off1 i k) := ⟨_, off1_eq i k⟩
theorem off2_eq : ∀ (i : grid0.Coords) (k : Fin (k0_t1_loop i).trips), k0_off2 i k = ![0, 1024 * k.val, 0] := by decide +kernel
instance (i : grid0.Coords) (k : Fin (k0_t1_loop i).trips) : ClosedOff (k0_off2 i k) := ⟨_, off2_eq i k⟩
theorem off3_eq : ∀ (i : grid0.Coords) (k : Fin (k0_t1_loop i).trips), k0_off3 i k = ![1, 1024 * k.val, 0] := by decide +kernel
instance (i : grid0.Coords) (k : Fin (k0_t1_loop i).trips) : ClosedOff (k0_off3 i k) := ⟨_, off3_eq i k⟩
theorem off4_eq : ∀ (i : grid0.Coords) (k : Fin (k0_t1_loop i).trips), k0_off4 i k = ![1, 1024 * k.val, 0] := by decide +kernel
instance (i : grid0.Coords) (k : Fin (k0_t1_loop i).trips) : ClosedOff (k0_off4 i k) := ⟨_, off4_eq i k⟩
theorem off9_eq : ∀ i : grid0.Coords, k0_off9 i = ![0, 1024 * ((i 1).val / 4), 0] := by decide +kernel
instance (i : grid0.Coords) : ClosedOff (k0_off9 i) := ⟨_, off9_eq i⟩
theorem off10_eq : ∀ i : grid0.Coords, k0_off10 i = ![0, 1024 * ((i 1).val / 4), 0] := by decide +kernel
instance (i : grid0.Coords) : ClosedOff (k0_off10 i) := ⟨_, off10_eq i⟩
theorem off11_eq : ∀ i : grid0.Coords, k0_off11 i = ![1, 1024 * ((i 1).val / 4), 0] := by decide +kernel
instance (i : grid0.Coords) : ClosedOff (k0_off11 i) := ⟨_, off11_eq i⟩
theorem off12_eq : ∀ i : grid0.Coords, k0_off12 i = ![1, 1024 * ((i 1).val / 4), 0] := by decide +kernel
instance (i : grid0.Coords) : ClosedOff (k0_off12 i) := ⟨_, off12_eq i⟩
theorem off13_eq : ∀ i : grid0.Coords, k0_off13 i = ![0, 1024 * ((i 1).val / 4), 0] := by decide +kernel
instance (i : grid0.Coords) : ClosedOff (k0_off13 i) := ⟨_, off13_eq i⟩
theorem off14_eq : ∀ i : grid0.Coords, k0_off14 i = ![0, 1024 * ((i 1).val / 4), 0] := by decide +kernel
instance (i : grid0.Coords) : ClosedOff (k0_off14 i) := ⟨_, off14_eq i⟩
theorem off15_eq : ∀ i : grid0.Coords, k0_off15 i = ![1, 1024 * ((i 1).val / 4), 0] := by decide +kernel
instance (i : grid0.Coords) : ClosedOff (k0_off15 i) := ⟨_, off15_eq i⟩
theorem off16_eq : ∀ i : grid0.Coords, k0_off16 i = ![1, 1024 * ((i 1).val / 4), 0] := by decide +kernel
instance (i : grid0.Coords) : ClosedOff (k0_off16 i) := ⟨_, off16_eq i⟩
theorem off17_eq : ∀ i : grid0.Coords, k0_off17 i = ![0, 1024 * ((i 1).val / 4), 0] := by decide +kernel
instance (i : grid0.Coords) : ClosedOff (k0_off17 i) := ⟨_, off17_eq i⟩
theorem off18_eq : ∀ i : grid0.Coords, k0_off18 i = ![0, 1024 * ((i 1).val / 4), 0] := by decide +kernel
instance (i : grid0.Coords) : ClosedOff (k0_off18 i) := ⟨_, off18_eq i⟩
theorem off19_eq : ∀ i : grid0.Coords, k0_off19 i = ![1, 1024 * ((i 1).val / 4), 0] := by decide +kernel
instance (i : grid0.Coords) : ClosedOff (k0_off19 i) := ⟨_, off19_eq i⟩
theorem off20_eq : ∀ i : grid0.Coords, k0_off20 i = ![1, 1024 * ((i 1).val / 4), 0] := by decide +kernel
instance (i : grid0.Coords) : ClosedOff (k0_off20 i) := ⟨_, off20_eq i⟩
theorem off21_eq : ∀ i : grid0.Coords, k0_off21 i = ![0, 1024 * ((i 1).val / 4), 0] := by decide +kernel
instance (i : grid0.Coords) : ClosedOff (k0_off21 i) := ⟨_, off21_eq i⟩
theorem off22_eq : ∀ i : grid0.Coords, k0_off22 i = ![0, 1024 * ((i 1).val / 4), 0] := by decide +kernel
instance (i : grid0.Coords) : ClosedOff (k0_off22 i) := ⟨_, off22_eq i⟩
theorem off23_eq : ∀ i : grid0.Coords, k0_off23 i = ![1, 1024 * ((i 1).val / 4), 0] := by decide +kernel
instance (i : grid0.Coords) : ClosedOff (k0_off23 i) := ⟨_, off23_eq i⟩
theorem off24_eq : ∀ i : grid0.Coords, k0_off24 i = ![1, 1024 * ((i 1).val / 4), 0] := by decide +kernel
instance (i : grid0.Coords) : ClosedOff (k0_off24 i) := ⟨_, off24_eq i⟩

/-- Which cut group the query block takes: 256 keys more for each block past a multiple of four. -/
theorem cond1_iff : ∀ i : grid0.Coords, k0_cond1 i = 1#1 ↔ 1 ≤ (i 1).val % 4 := by decide +kernel
theorem cond2_iff : ∀ i : grid0.Coords, 1 ≤ (i 1).val % 4 → (k0_cond2 i = 1#1 ↔ 2 ≤ (i 1).val % 4) := by decide +kernel
theorem cond3_iff : ∀ i : grid0.Coords, 2 ≤ (i 1).val % 4 → (k0_cond3 i = 1#1 ↔ 3 ≤ (i 1).val % 4) := by decide +kernel

/-- A staging buffer wholly owned, at the values `X`. -/
abbrev at_ (c : Dev nD) {sh : Shape} {e : EltTy} (M : Memref sig .tc .vmem sh e) (X : Vec F sh e) : sProp 𝕄 :=
  M.view.loc (c : Thread nD τ) ↦[M.view.set]{fullShare} M.view.rep X

/-- The blocks of the queries, keys and values. -/
structure Blk (F : FTy → Type) where
  q : Vec F S2x256x96 .bf16
  k : Vec F S2x8192x96 .bf16
  v : Vec F S2x8192x64 .bf16

namespace Blk
variable (x : Blk F)
abbrev q0 : Vec F S1x256x96 .bf16 := window x.q ![0, 0, 0] S1x256x96.size inb_S2x256x96_S1x256x96_0_0_0
abbrev q1 : Vec F S1x256x96 .bf16 := window x.q ![1, 0, 0] S1x256x96.size inb_S2x256x96_S1x256x96_1_0_0
end Blk

/-- One tile's step of both heads, the score being `sc`. -/
def Fits.pair {n : ℕ} (w : Fits n) (sc : Vec F (T3 1 256 96) .bf16 → Vec F (T3 1 n 96) .bf16 → FVec F (T2 256 n) .f32) (x : Blk F)
    (k0 : Vec F (T3 1 n 96) .bf16) (v0 : Vec F (T3 1 n 64) .bf16) (k1 : Vec F (T3 1 n 96) .bf16) (v1 : Vec F (T3 1 n 64) .bf16) (a : Car F) : Car F :=
  both (w.step (sc x.q0 k0) v0 (fst a)) (w.step (sc x.q1 k1) v1 (snd a))

/-- One trip of the counted loop. -/
def tripStep (i : grid0.Coords) (x : Blk F) (k : Fin (k0_t1_loop i).trips) (a : Car F) : Car F :=
  fits1024.pair fits1024.score x
    (window x.k (k0_off1 i k) S1x1024x96.size (k0_off1_inb i k)) (window x.v (k0_off2 i k) S1x1024x64.size (k0_off2_inb i k))
    (window x.k (k0_off3 i k) S1x1024x96.size (k0_off3_inb i k)) (window x.v (k0_off4 i k) S1x1024x64.size (k0_off4_inb i k)) a

/-- What is carried before trip `n`, from `a` at the loop's entry. -/
def before (i : grid0.Coords) (x : Blk F) (a : Car F) : ℕ → Car F
  | 0 => a
  | n + 1 => if h : n < (k0_t1_loop i).trips then tripStep i x ⟨n, h⟩ (before i x a n) else before i x a n

theorem before_succ (i : grid0.Coords) (x : Blk F) (a : Car F) (k : Fin (k0_t1_loop i).trips) :
    before i x a (k.val + 1) = tripStep i x k (before i x a k.val) := by
  rw [before, dif_pos k.isLt]

/-- The cut group of 1024 keys. -/
def cut1024 (i : grid0.Coords) (h1 : k0_cond1 i = 1#1) (h2 : k0_cond2 i = 1#1) (h3 : k0_cond3 i = 1#1) (x : Blk F) (a : Car F) : Car F :=
  fits1024.pair (fits1024.cutScore (BitVec.ofNat 32 (i 1).val) (Mla.baseWord i)) x
    (window x.k (k0_off9 i) S1x1024x96.size (k0_off9_inb i h1 h2 h3)) (window x.v (k0_off10 i) S1x1024x64.size (k0_off10_inb i h1 h2 h3))
    (window x.k (k0_off11 i) S1x1024x96.size (k0_off11_inb i h1 h2 h3)) (window x.v (k0_off12 i) S1x1024x64.size (k0_off12_inb i h1 h2 h3)) a

/-- The cut group of 768 keys. -/
def cut768 (i : grid0.Coords) (h1 : k0_cond1 i = 1#1) (h2 : k0_cond2 i = 1#1) (h3 : ¬(k0_cond3 i = 1#1)) (x : Blk F) (a : Car F) : Car F :=
  fits768.pair (fits768.cutScore (BitVec.ofNat 32 (i 1).val) (Mla.baseWord i)) x
    (window x.k (k0_off13 i) S1x768x96.size (k0_off13_inb i h1 h2 h3)) (window x.v (k0_off14 i) S1x768x64.size (k0_off14_inb i h1 h2 h3))
    (window x.k (k0_off15 i) S1x768x96.size (k0_off15_inb i h1 h2 h3)) (window x.v (k0_off16 i) S1x768x64.size (k0_off16_inb i h1 h2 h3)) a

/-- The cut group of 512 keys. -/
def cut512 (i : grid0.Coords) (h1 : k0_cond1 i = 1#1) (h2 : ¬(k0_cond2 i = 1#1)) (x : Blk F) (a : Car F) : Car F :=
  fits512.pair (fits512.cutScore (BitVec.ofNat 32 (i 1).val) (Mla.baseWord i)) x
    (window x.k (k0_off17 i) S1x512x96.size (k0_off17_inb i h1 h2)) (window x.v (k0_off18 i) S1x512x64.size (k0_off18_inb i h1 h2))
    (window x.k (k0_off19 i) S1x512x96.size (k0_off19_inb i h1 h2)) (window x.v (k0_off20 i) S1x512x64.size (k0_off20_inb i h1 h2)) a

/-- The cut group of 256 keys. -/
def cut256 (i : grid0.Coords) (h1 : ¬(k0_cond1 i = 1#1)) (x : Blk F) (a : Car F) : Car F :=
  fits256.pair (fits256.cutScore (BitVec.ofNat 32 (i 1).val) (Mla.baseWord i)) x
    (window x.k (k0_off21 i) S1x256x96.size (k0_off21_inb i h1)) (window x.v (k0_off22 i) S1x256x64.size (k0_off22_inb i h1))
    (window x.k (k0_off23 i) S1x256x96.size (k0_off23_inb i h1)) (window x.v (k0_off24 i) S1x256x64.size (k0_off24_inb i h1)) a

/-- The cut group the query block takes. -/
def cut (i : grid0.Coords) (x : Blk F) (a : Car F) : Car F :=
  if h1 : k0_cond1 i = 1#1 then
    if h2 : k0_cond2 i = 1#1 then
      if h3 : k0_cond3 i = 1#1 then cut1024 i h1 h2 h3 x a else cut768 i h1 h2 h3 x a
    else cut512 i h1 h2 x a
  else cut256 i h1 x a

/-- What both heads carry at the grid point's end. -/
def pointCar (i : grid0.Coords) (x : Blk F) : Car F := cut i x (before i x none₀ (k0_t1_loop i).trips)

theorem cut_1024 (i : grid0.Coords) (h1 : k0_cond1 i = 1#1) (h2 : k0_cond2 i = 1#1) (h3 : k0_cond3 i = 1#1) (x : Blk F) :
    pointCar i x = cut1024 i h1 h2 h3 x (before i x none₀ (k0_t1_loop i).trips) := (dif_pos h1).trans ((dif_pos h2).trans (dif_pos h3))
theorem cut_768 (i : grid0.Coords) (h1 : k0_cond1 i = 1#1) (h2 : k0_cond2 i = 1#1) (h3 : ¬(k0_cond3 i = 1#1)) (x : Blk F) :
    pointCar i x = cut768 i h1 h2 h3 x (before i x none₀ (k0_t1_loop i).trips) := (dif_pos h1).trans ((dif_pos h2).trans (dif_neg h3))
theorem cut_512 (i : grid0.Coords) (h1 : k0_cond1 i = 1#1) (h2 : ¬(k0_cond2 i = 1#1)) (x : Blk F) :
    pointCar i x = cut512 i h1 h2 x (before i x none₀ (k0_t1_loop i).trips) := (dif_pos h1).trans (dif_neg h2)
theorem cut_256 (i : grid0.Coords) (h1 : ¬(k0_cond1 i = 1#1)) (x : Blk F) :
    pointCar i x = cut256 i h1 x (before i x none₀ (k0_t1_loop i).trips) := dif_neg h1

/-- A block of two heads from one block per head. -/
def two {n d : ℕ} (a b : Vec F (T3 1 n d) .f32) : Vec F (T3 2 n d) .f32 :=
  fun y => if (y 0).val = 0 then a (ix3 (0 : Fin 1) (y 1) (y 2)) else b (ix3 (0 : Fin 1) (y 1) (y 2))

theorem put_both {n d : ℕ} (X : Vec F (T3 2 n d) .f32) (a b : Vec F (T3 1 n d) .f32) :
    put (put X ![0, 0, 0] (T3 1 n d).size a) ![1, 0, 0] (T3 1 n d).size b = two a b := by
  funext y
  have h0 : (y 0).val < 2 := (y 0).isLt
  have h1 : (y 1).val < n := (y 1).isLt
  have h2 : (y 2).val < d := (y 2).isLt
  unfold put two
  by_cases h : (y 0).val = 0
  · rw [if_pos h, dif_neg, dif_pos]
    · congr 1; funext a; fin_cases a <;> simp [Rect.unitLocal, ix3, h] <;> rfl
    · intro a; fin_cases a <;> simp <;> omega
    · intro hh; have := (hh 0).1; simp at this; omega
  · rw [if_neg h, dif_pos]
    · congr 1; funext a; fin_cases a <;> simp [Rect.unitLocal, ix3] <;> first | rfl | omega
    · intro a; fin_cases a <;> simp <;> omega

/-- The block of outputs the point writes. -/
def yBlk (a : Car F) : Vec F S2x256x64 .f32 := two (n := 256) (d := 64) (k0_pay25 (fst a).2.1 (fst a).2.2) (k0_pay27 (snd a).2.1 (snd a).2.2)
/-- The block of log-sum-exps the point writes, each along 128 lanes. -/
def lBlk (a : Car F) : Vec F S2x256x128 .f32 := two (n := 256) (d := 128) (k0_pay26 (fst a).1 (fst a).2.1) (k0_pay28 (snd a).1 (snd a).2.1)

/-- A load of the values `X` reads a window of them. -/
theorem load_rep {sp : Space} {s : Shape} {e : EltTy} (v : View sig .tc sp s e) (X : s.Idx → Elt F e) {off size : Fin s.rank → ℕ}
    (inb : ∀ a, off a + size a ≤ s.size a) : v.readAt (Elt F) (Rect.unit off size inb).toLoadRect (v.rep X) = window X off size inb :=
  View.readAt_rep_unit v X inb rfl inb

section
variable (c : Dev nD) (i : grid0.Coords)
  (arg2 : Memref sig .tc .vmem S2x256x96 .bf16) (harg2 : arg2.IsWhole) (arg3 : Memref sig .tc .vmem S2x8192x96 .bf16) (harg3 : arg3.IsWhole)
  (arg4 : Memref sig .tc .vmem S2x8192x64 .bf16) (harg4 : arg4.IsWhole) (arg5 : Memref sig .tc .vmem S2x256x64 .f32) (harg5 : arg5.IsWhole)
  (arg6 : Memref sig .tc .vmem S2x256x128 .f32) (harg6 : arg6.IsWhole)

/-- What a tile holds: the three operand blocks. -/
abbrev tileRes (x : Blk F) : sProp 𝕄 := iprop(at_ c arg2 x.q ∗ at_ c arg3 x.k ∗ at_ c arg4 x.v)

/-- Contents read as `X` are, for ownership, the representative of `X`. -/
theorem at_of_read {sh : Shape} {e : EltTy} (M : Memref sig .tc .vmem sh e) (f : M.view.ty.Contents (Elt F)) (X : Vec F sh e)
    (h : M.view.read (Elt F) f = X) : (M.view.loc (c : Thread nD τ) ↦[M.view.set]{fullShare} f : sProp 𝕄) ⊢ at_ c M X := by
  subst h
  refine (?_ : _ ⊢ owns (c : Thread nD τ) M fullShare (M.view.read (Elt F) f)).trans (rep_of_owns (c : Thread nD τ) M fullShare _)
  unfold owns
  iintro H
  iexists f
  isplitr
  · ipureintro; rfl
  · iexact H

set_option maxHeartbeats 4000000 in
theorem trip (x : Blk F) (k : Fin (k0_t1_loop i).trips) (a : Car F) :
    tileRes c arg2 arg3 arg4 x
      ⊢ wp frame (wpE (defs₀ (F := F)) 𝒱₀ (c : Thread nD τ) none) Set.univ
        (k0_t1_body i arg2 harg2 arg3 harg3 arg4 harg4 arg5 harg5 arg6 harg6 k a)
        (fun r => iprop(⌜r = tripStep i x k a⌝ ∗ tileRes c arg2 arg3 arg4 x)) := by
  unfold k0_t1_body
  iintro ⟨H2, H3, H4⟩
  sl_exec
  sl_step
  isplitr
  · ipureintro
    sl_unfold_run_names
    simp only [load_rep]
    rfl
  isplitl [H2]; · iexact H2
  isplitl [H3]; · iexact H3
  iexact H4

set_option warn.classDefReducibility false in
/-- The counted loop's invariant: before trip `n` what is carried is `before … n`. -/
@[sl_loop] def loopInv (q : Vec F S2x256x96 .bf16) (kk : Vec F S2x8192x96 .bf16) (v : Vec F S2x8192x64 .bf16) (a : Car F) :
    LoopInvTy_k0_t1 (F := F) Unit ℕ (UR sig nD τ) ℕ 𝒱₀ c none Set.univ i arg2 harg2 arg3 harg3 arg4 harg4 arg5 harg5 arg6 harg6 a where
  inv n acc := iprop(⌜acc = before i ⟨q, kk, v⟩ a n⌝ ∗ at_ c arg2 q ∗ at_ c arg3 kk ∗ at_ c arg4 v)
  step n acc := by
    rw [before_succ]
    iintro ⟨%h, H⟩
    subst h
    iapply (trip c i arg2 harg2 arg3 harg3 arg4 harg4 arg5 harg5 arg6 harg6 ⟨q, kk, v⟩ n _)
    iexact H

set_option maxHeartbeats 16000000 in
/-- The grid point's body, from its buffers' contents to what it leaves. -/
theorem body_run (q : Vec F S2x256x96 .bf16) (k : Vec F S2x8192x96 .bf16) (v : Vec F S2x8192x64 .bf16) (y : Vec F S2x256x64 .f32)
    (l : Vec F S2x256x128 .f32) :
    iprop(at_ c arg2 q ∗ at_ c arg3 k ∗ at_ c arg4 v ∗ at_ c arg5 y ∗ at_ c arg6 l)
      ⊢ wp frame (wpE (defs₀ (F := F)) 𝒱₀ (c : Thread nD τ) none) Set.univ
        (cc0_mla_fwd i arg2 harg2 arg3 harg3 arg4 harg4 arg5 harg5 arg6 harg6)
        (fun _ => iprop(at_ c arg2 q ∗ at_ c arg3 k ∗ at_ c arg4 v ∗ at_ c arg5 (yBlk (pointCar i ⟨q, k, v⟩))
          ∗ at_ c arg6 (lBlk (pointCar i ⟨q, k, v⟩)))) := by
  by_cases h1 : k0_cond1 i = 1#1
  · by_cases h2 : k0_cond2 i = 1#1
    · by_cases h3 : k0_cond3 i = 1#1
      · rw [cut_1024 i h1 h2 h3]
        sl_unfold [cc0_mla_fwd]
        iintro ⟨H2, H3, H4, H5, H6⟩
        sl_exec
        sl_step
        isplitl [H2]; · iexact H2
        isplitl [H3]; · iexact H3
        isplitl [H4]; · iexact H4
        isplitl [H5]
        · istop
          refine at_of_read c arg5 _ _ ?_
          rw [View.read_writes_cons_put _ _ _ _ _ rfl, View.read_writes_cons_put _ _ _ _ _ rfl, View.writes_nil, View.read_rep]
          refine (put_both _ _ _).trans ?_
          sl_unfold_run_names
          simp only [load_rep]
          rfl
        istop
        refine at_of_read c arg6 _ _ ?_
        rw [View.read_writes_cons_put _ _ _ _ _ rfl, View.read_writes_cons_put _ _ _ _ _ rfl, View.writes_nil, View.read_rep]
        refine (put_both _ _ _).trans ?_
        sl_unfold_run_names
        simp only [load_rep]
        rfl
      · rw [cut_768 i h1 h2 h3]
        sl_unfold [cc0_mla_fwd]
        iintro ⟨H2, H3, H4, H5, H6⟩
        sl_exec
        sl_step
        isplitl [H2]; · iexact H2
        isplitl [H3]; · iexact H3
        isplitl [H4]; · iexact H4
        isplitl [H5]
        · istop
          refine at_of_read c arg5 _ _ ?_
          rw [View.read_writes_cons_put _ _ _ _ _ rfl, View.read_writes_cons_put _ _ _ _ _ rfl, View.writes_nil, View.read_rep]
          refine (put_both _ _ _).trans ?_
          sl_unfold_run_names
          simp only [load_rep]
          rfl
        istop
        refine at_of_read c arg6 _ _ ?_
        rw [View.read_writes_cons_put _ _ _ _ _ rfl, View.read_writes_cons_put _ _ _ _ _ rfl, View.writes_nil, View.read_rep]
        refine (put_both _ _ _).trans ?_
        sl_unfold_run_names
        simp only [load_rep]
        rfl
    · rw [cut_512 i h1 h2]
      sl_unfold [cc0_mla_fwd]
      iintro ⟨H2, H3, H4, H5, H6⟩
      sl_exec
      sl_step
      isplitl [H2]; · iexact H2
      isplitl [H3]; · iexact H3
      isplitl [H4]; · iexact H4
      isplitl [H5]
      · istop
        refine at_of_read c arg5 _ _ ?_
        rw [View.read_writes_cons_put _ _ _ _ _ rfl, View.read_writes_cons_put _ _ _ _ _ rfl, View.writes_nil, View.read_rep]
        refine (put_both _ _ _).trans ?_
        sl_unfold_run_names
        simp only [load_rep]
        rfl
      istop
      refine at_of_read c arg6 _ _ ?_
      rw [View.read_writes_cons_put _ _ _ _ _ rfl, View.read_writes_cons_put _ _ _ _ _ rfl, View.writes_nil, View.read_rep]
      refine (put_both _ _ _).trans ?_
      sl_unfold_run_names
      simp only [load_rep]
      rfl
  · rw [cut_256 i h1]
    sl_unfold [cc0_mla_fwd]
    iintro ⟨H2, H3, H4, H5, H6⟩
    sl_exec
    sl_step
    isplitl [H2]; · iexact H2
    isplitl [H3]; · iexact H3
    isplitl [H4]; · iexact H4
    isplitl [H5]
    · istop
      refine at_of_read c arg5 _ _ ?_
      rw [View.read_writes_cons_put _ _ _ _ _ rfl, View.read_writes_cons_put _ _ _ _ _ rfl, View.writes_nil, View.read_rep]
      refine (put_both _ _ _).trans ?_
      sl_unfold_run_names
      simp only [load_rep]
      rfl
    istop
    refine at_of_read c arg6 _ _ ?_
    rw [View.read_writes_cons_put _ _ _ _ _ rfl, View.read_writes_cons_put _ _ _ _ _ rfl, View.writes_nil, View.read_rep]
    refine (put_both _ _ _).trans ?_
    sl_unfold_run_names
    simp only [load_rep]
    rfl
end

end Cert.Proof.Fwd

end
-- ==== Proof.Own.FwdRun.lean ====
/-
  The forward attention's run: what every buffer holds after each grid point, the body's obligation to the pipeline, and the
  whole program's run with it, over any reading of the floats and of the named constant.
-/
module

public import proofs.«01_k».proof.Proof.Own.FwdBody

@[expose] public section

noncomputable section

namespace Cert.Proof.Fwd

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Proof.Mla (𝒱₀)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What both heads carry at point `t`'s end. -/
def carAt (c : Dev nD) (t : Fin cfg0.N) : Car F := pointCar (grid0.coords t) ⟨iblk m c 0 t, iblk m c 1 t, iblk m c 2 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (carAt m c t)
    | ⟨4, _⟩ => lBlk (carAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlk (carAt m c t) := by dsimp only [dats]
theorem after0_4 (c : Dev nD) (t : Fin cfg0.N) : (dats m 0 c).after 4 t = lBlk (carAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem owns_at {s : Shape} {e : EltTy} (c : Dev nD) (M : Memref sig .tc .vmem s e) (X : s.Idx → Elt F e) :
    (owns (c : Thread nD τ) M fullShare X : sProp 𝕄) = at_ c M X := owns_eq_rep _ _ _ _

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4]
  simp only [owns_at]
  iintro ⟨HΦ, Ho, ⟨%d0, H0⟩, ⟨%d1, H1⟩, ⟨%d2, H2⟩, ⟨%d3, H3⟩, ⟨%d4, H4⟩⟩
  iapply (wp_wand_r frame (wpE (defs₀ (F := F)) 𝒱₀ (c : Thread nD τ) none) Set.univ
    (Q := fun _ => iprop(at_ c (st0_0 t) (iblk m c 0 t) ∗ at_ c (st0_1 t) (iblk m c 1 t) ∗ at_ c (st0_2 t) (iblk m c 2 t)
      ∗ at_ c (st0_3 t) (yBlk (carAt m c t)) ∗ at_ c (st0_4 t) (lBlk (carAt m c t)))))
  isplitr [HΦ Ho]
  · have h := body_run (F := F) c (grid0.coords t) (st0_0 t) (hstage0_0 ((cfg0.slots t 0).cast nbuf0_0)) (st0_1 t)
      (hstage0_1 ((cfg0.slots t 1).cast nbuf0_1)) (st0_2 t) (hstage0_2 ((cfg0.slots t 2).cast nbuf0_2)) (st0_3 t)
      (hstage0_3 ((cfg0.slots t 3).cast nbuf0_3)) (st0_4 t) (hstage0_4 ((cfg0.slots t 4).cast nbuf0_4))
      (iblk m c 0 t) (iblk m c 1 t) (iblk m c 2 t) ((dats m 0 c).before 3 t d3) ((dats m 0 c).before 4 t d4)
    iapply h
    isplitl [H0]; · iexact H0
    isplitl [H1]; · iexact H1
    isplitl [H2]; · iexact H2
    isplitl [H3]; · iexact H3
    iexact H4
  iintro %a ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Fwd

end
-- ==== Proof.Own.FwdReal.lean ====
/-
  The running softmax over the reals: going through a query's keys group by group, the greatest score so far, the sum of
  exponentials over it and the weighted sum of the values, each group rescaling what was carried.
-/
module

public import proofs.«01_k».proof.Proof.Own.Real

@[expose] public section

noncomputable section

namespace Cert.Proof.Mla

open Idealize.ShloMosaic

/-- The keys before `n`. -/
abbrev keys (n : ℕ) : Finset (Fin 8192) := Finset.univ.filter fun j => j.val < n

/-- The key at place `c` of a group beginning at `n`. -/
abbrev keyAt {n w : ℕ} (h : n + w ≤ 8192) (c : Fin w) : Fin 8192 := ⟨n + c.val, by have := c.isLt; omega⟩

theorem keys_add {n w : ℕ} (h : n + w ≤ 8192) : keys (n + w) = keys n ∪ Finset.univ.image (keyAt h) := by
  ext j
  simp only [Finset.mem_filter, Finset.mem_univ, true_and, Finset.mem_union, Finset.mem_image]
  constructor
  · intro hj
    by_cases h' : j.val < n
    · exact .inl h'
    · exact .inr ⟨⟨j.val - n, by omega⟩, Fin.ext (by show n + (j.val - n) = j.val; omega)⟩
  · rintro (hj | ⟨c, rfl⟩)
    · omega
    · have := c.isLt; show n + c.val < n + w; omega

theorem sum_keys_add {n w : ℕ} (h : n + w ≤ 8192) (f : Fin 8192 → ℝ) :
    ∑ j ∈ keys (n + w), f j = ∑ j ∈ keys n, f j + ∑ c : Fin w, f (keyAt h c) := by
  rw [keys_add h, Finset.sum_union, Finset.sum_image]
  · intro a _ b _ e
    have := congrArg Fin.val e
    dsimp only at this
    exact Fin.ext (by omega)
  · rw [Finset.disjoint_left]
    intro j hj hc
    obtain ⟨c, -, rfl⟩ := Finset.mem_image.1 hc
    have := (Finset.mem_filter.1 hj).2
    dsimp only at this
    omega

namespace Head
variable (H : Head)

/-- The greatest score among the keys before `n`. -/
def upto (i : Fin 8192) (n : ℕ) : EReal := (keys n).sup (H.masked i)
/-- A score's exponential over `M`. -/
def exOver (M : ℝ) (i j : Fin 8192) : ℝ := if j ≤ i then Real.exp (H.score i j - M) else 0

theorem upto_add (i : Fin 8192) {n w : ℕ} (h : n + w ≤ 8192) :
    H.upto i (n + w) = max (H.upto i n) (Finset.univ.fold max ⊥ fun c : Fin w => H.masked i (keyAt h c)) := by
  unfold upto
  rw [keys_add h, Finset.sup_union, Finset.sup_image]
  rfl

theorem masked_ne_top (i j : Fin 8192) : H.masked i j < ⊤ := by
  unfold masked; split_ifs
  · exact EReal.coe_lt_top _
  · exact bot_lt_top

theorem upto_ne_top (i : Fin 8192) (n : ℕ) : H.upto i n ≠ ⊤ :=
  ne_of_lt ((Finset.sup_lt_iff bot_lt_top).2 fun j _ => H.masked_ne_top i j)

/-- With a kept key before `n` the greatest score is a real. -/
theorem upto_real (i j : Fin 8192) (n : ℕ) (hj : j.val < n) (hi : j ≤ i) : H.upto i n = (((H.upto i n).toReal : ℝ) : EReal) := by
  refine (EReal.coe_toReal (H.upto_ne_top i n) fun e => ?_).symm
  have h : H.masked i j ≤ H.upto i n := Finset.le_sup (f := H.masked i) (Finset.mem_filter.2 ⟨Finset.mem_univ _, hj⟩)
  rw [e] at h
  unfold masked at h
  rw [if_pos hi] at h
  exact absurd h (not_le_of_gt (EReal.bot_lt_coe _))

theorem exp_over (M : ℝ) (i j : Fin 8192) : Ideal.exp (H.masked i j - (M : EReal)) = ((H.exOver M i j : ℝ) : EReal) := by
  unfold masked exOver
  split_ifs
  · rw [← EReal.coe_sub]; rfl
  · rw [EReal.bot_sub]; rfl

/-- The factor that takes exponentials over the old greatest score to ones over `M`. -/
theorem rescale (i : Fin 8192) (n : ℕ) (M : ℝ) :
    ∃ a : ℝ, Ideal.exp (H.upto i n - (M : EReal)) = (a : EReal) ∧ ∀ j ∈ keys n, a * H.exOver (H.upto i n).toReal i j = H.exOver M i j := by
  by_cases hb : H.upto i n = ⊥
  · refine ⟨0, by rw [hb, EReal.bot_sub]; rfl, fun j hj => ?_⟩
    have : ¬j ≤ i := fun hi => by
      have h := H.upto_real i j n (Finset.mem_filter.1 hj).2 hi
      rw [hb] at h
      exact absurd h.symm (EReal.coe_ne_bot _)
    unfold exOver
    rw [if_neg this, if_neg this, mul_zero]
  · have e : (((H.upto i n).toReal : ℝ) : EReal) = H.upto i n := EReal.coe_toReal (H.upto_ne_top i n) hb
    refine ⟨Real.exp ((H.upto i n).toReal - M), ?_, fun j _ => ?_⟩
    · rw [← e, ← EReal.coe_sub, EReal.toReal_coe]; rfl
    · unfold exOver
      split_ifs
      · rw [← Real.exp_add]; congr 1; ring
      · rw [mul_zero]

/-- What a query's row carries when the keys before `n` have been gone through. -/
structure Run (i : Fin 8192) (n : ℕ) (m l : EReal) (o : Fin 64 → EReal) : Prop where
  m : m = H.upto i n
  l : l = ((∑ j ∈ keys n, H.exOver (H.upto i n).toReal i j : ℝ) : EReal)
  o : ∀ e, o e = ((∑ j ∈ keys n, H.exOver (H.upto i n).toReal i j * H.v j e : ℝ) : EReal)

theorem Run.init (i : Fin 8192) : H.Run i 0 ⊥ 0 fun _ => 0 := by
  have e : keys 0 = ∅ := Finset.filter_eq_empty_iff.2 fun j _ => Nat.not_lt_zero _
  constructor
  · unfold upto; rw [e]; rfl
  · rw [e]; rfl
  · intro _; rw [e]; rfl

variable {H}

/-- One group's step. -/
theorem Run.step {i : Fin 8192} {n w : ℕ} (hw : n + w ≤ 8192) (hpos : 0 < w) (hi : n ≤ i.val) {m l : EReal} {o : Fin 64 → EReal} (R : H.Run i n m l o)
    {s : Fin w → EReal} (hs : ∀ c, s c = H.masked i (keyAt hw c)) {m' : EReal} (hm : m' = max m (Finset.univ.fold max ⊥ s))
    {l' : EReal} (hl : l' = Ideal.exp (m - m') * l + ∑ c, Ideal.exp (s c - m'))
    {o' : Fin 64 → EReal} (ho : ∀ e, o' e = Ideal.exp (m - m') * o e + ∑ c, Ideal.exp (s c - m') * ((H.v (keyAt hw c) e : ℝ) : EReal)) :
    H.Run i (n + w) m' l' o' := by
  have em : m' = H.upto i (n + w) := by
    rw [hm, R.m, upto_add _ _ hw, show s = fun c => H.masked i (keyAt hw c) from funext hs]
  have er := H.upto_real i (keyAt hw ⟨0, hpos⟩) (n + w) (by show n + 0 < n + w; omega) (by show n + 0 ≤ i.val; omega)
  rw [er] at em
  obtain ⟨a, ea, ha⟩ := H.rescale i n (H.upto i (n + w)).toReal
  have ep : ∀ c, Ideal.exp (s c - m') = ((H.exOver (H.upto i (n + w)).toReal i (keyAt hw c) : ℝ) : EReal) := fun c => by
    rw [hs, em, exp_over]
  refine ⟨em.trans er.symm, ?_, fun e => ?_⟩
  · rw [hl, Finset.sum_congr rfl fun c _ => ep c, R.l, R.m, em, ea, ← EReal.coe_mul, ← coe_sum, ← EReal.coe_add, sum_keys_add hw, Finset.mul_sum,
      Finset.sum_congr rfl ha]
  · rw [ho, Finset.sum_congr rfl fun c _ => by rw [ep c, ← EReal.coe_mul], R.o, R.m, em, ea, ← EReal.coe_mul, ← coe_sum, ← EReal.coe_add,
      sum_keys_add hw, Finset.mul_sum, Finset.sum_congr rfl fun j hj => by rw [← mul_assoc, ha j hj]]

/-- When every kept key has been gone through, the carried values are the softmax's. -/
theorem upto_top (H : Head) (i : Fin 8192) (n : ℕ) (hn : i.val < n) : H.upto i n = ((H.top i : ℝ) : EReal) := by
  rw [← H.fold_top i]
  refine le_antisymm (Finset.sup_mono (Finset.filter_subset _ _)) (Finset.sup_le fun j _ => ?_)
  by_cases hj : j.val < n
  · exact Finset.le_sup (f := H.masked i) (Finset.mem_filter.2 ⟨Finset.mem_univ _, hj⟩)
  · unfold masked
    rw [if_neg (fun h : j ≤ i => hj (lt_of_le_of_lt h hn))]
    exact bot_le

theorem sum_keys (H : Head) (i : Fin 8192) (n : ℕ) (hn : i.val < n) (f : Fin 8192 → ℝ) :
    ∑ j ∈ keys n, H.exOver (H.top i) i j * f j = ∑ j, H.ex i j * f j := by
  have e : ∀ j, H.exOver (H.top i) i j = H.ex i j := fun j => rfl
  simp only [e]
  refine Finset.sum_subset (Finset.filter_subset _ _) fun j _ hj => ?_
  have : ¬j.val < n := fun h => hj (Finset.mem_filter.2 ⟨Finset.mem_univ _, h⟩)
  unfold ex
  rw [if_neg (fun h : j ≤ i => this (lt_of_le_of_lt h hn)), zero_mul]

variable {i : Fin 8192} {n : ℕ} {m l : EReal} {o : Fin 64 → EReal}

theorem Run.end_m (R : H.Run i n m l o) (hn : i.val < n) : m = ((H.top i : ℝ) : EReal) := R.m.trans (H.upto_top i n hn)

theorem Run.end_l (R : H.Run i n m l o) (hn : i.val < n) : l = ((H.z i : ℝ) : EReal) := by
  have h := H.sum_keys i n hn fun _ => 1
  simp only [mul_one] at h
  rw [R.l, H.upto_top i n hn, EReal.toReal_coe, h]
  rfl

theorem Run.end_o (R : H.Run i n m l o) (hn : i.val < n) (e : Fin 64) : o e = ((H.z i * H.out i e : ℝ) : EReal) := by
  rw [R.o, H.upto_top i n hn, EReal.toReal_coe, H.sum_keys i n hn]
  refine congrArg (fun a : ℝ => (a : EReal)) ?_
  have hz := (H.z_pos i).ne'
  unfold out p
  rw [Finset.mul_sum]
  exact Finset.sum_congr rfl fun j _ => by field_simp

end Head

end Cert.Proof.Mla
end
-- ==== Proof.Own.FwdStep.lean ====
/-
  One tile of the forward attention in exact arithmetic: the scores entry by entry, and the step of the running softmax, which
  takes a head's rows over the first keys to the same over the tile's keys too.
-/
module

public import proofs.«01_k».proof.Proof.Own.FwdTile
public import proofs.«01_k».proof.Proof.Own.FwdReal
public import proofs.«01_k».proof.Proof.Own.RefRead
public import proofs.«01_k».proof.Proof.Own.Norm

@[expose] public section

set_option maxRecDepth 16384

noncomputable section

namespace Cert.Proof.Fwd

open Cert.Kernel15Ideal Cert.Kernel15Ideal.Gen
open Idealize.ShloMosaic Idealize.ShloMosaic.TcCoe
open Cert.Proof.Mla (T2 T3 Head keyAt ofBits_bot coe_sum mm_rows mm_plain drop_apply keep_word)
open Cert.Proof.Norm (row_sum fan_apply)

/-- A row's greatest entry, standing in a column. -/
theorem row_max {n k : ℕ} (x : FVec Ideal (T2 n k) .f32) (h : (T2 n k).Reduces [1] ⟨1, ![n]⟩) (hf : FKind.Formats .f32)
    (ha : (0xFF800000#32 : BitVec 32) = FKind.maximumf.neutral .f32 hf) (hc : (⟨1, ![n]⟩ : Shape).ShapeCasts (T2 n 1)) (i : Fin n) :
    (shapeCast (T2 n 1) (multiReduction .maximumf [1] ⟨1, ![n]⟩ x 0xFF800000#32 h hf ha) hc (ix2 i 0) : EReal)
      = Finset.univ.fold max ⊥ fun j : Fin k => (x (ix2 i j) : EReal) := by
  refine (shapeCast_apply _ hc (ix2 i 0) (ix1 i) ?_).trans ((Ideal.multiReduction_maximumf_single x _ h hf ha (ix1 i)).trans ?_)
  · rw [Shape.rowMajor_val_two, Shape.rowMajor_val_one]
    show i.val = i.val * 1 + 0
    omega
  · refine Eq.trans (congrArg (fun b => Finset.univ.fold max b _) (show (FloatOps.ofBits .f32 0xFF800000#32 : Ideal .f32) = (⊥ : EReal) from ofBits_bot)) ?_
    exact congrArg (fun f => Finset.univ.fold max (⊥ : EReal) f) (funext fun j => congrArg x (by funext d; fin_cases d <;> rfl))

namespace Fits
variable {n : ℕ} (w : Fits n)

theorem score_apply (q : Vec Ideal (T3 1 256 96) .bf16) (k : Vec Ideal (T3 1 n 96) .bf16) (x : Fin 256) (r : Fin n) :
    w.score q k (ix2 x r) = (∑ d : Fin 96, (q (ix3 0 x d) : EReal) * k (ix3 0 r d)) * Ideal.ofBits .f32 0x3DD105EC#32 := by
  refine congrArg (· * Ideal.ofBits .f32 0x3DD105EC#32) ?_
  refine (mm_rows w.wqk none _ _ _ x r).trans ?_
  refine Eq.trans (congrArg₂ (· + ·) (show _ = (0 : EReal) from Ideal.ofBits_zero_f32) (Finset.sum_congr rfl fun d _ => ?_)) (zero_add _)
  exact congrArg₂ (· * ·) (drop_apply q _ x d) (drop_apply k _ r d)

theorem cutScore_apply (hn : n ≤ 1024) (b base : ℕ) (hb : base ≤ b) (hb' : b < 32) (q : Vec Ideal (T3 1 256 96) .bf16)
    (k : Vec Ideal (T3 1 n 96) .bf16) (x : Fin 256) (r : Fin n) :
    w.cutScore (BitVec.ofNat 32 b) (BitVec.ofNat 32 base) q k (ix2 x r)
      = if r.val ≤ x.val + 256 * (b - base) then w.score q k (ix2 x r) else (⊥ : EReal) :=
  Eq.trans rfl (keep_word b base hb hb' n r.val 256 x.val (lt_of_lt_of_le r.isLt hn) x.isLt (w.score q k (ix2 x r)) (⊥ : EReal))

theorem newM_apply (s : FVec Ideal (T2 256 n) .f32) (m : FVec Ideal S256x1 .f32) (x : Fin 256) :
    w.newM s m (ix2 x 0) = max (m (ix2 x 0) : EReal) (Finset.univ.fold max ⊥ fun r : Fin n => (s (ix2 x r) : EReal)) :=
  congrArg (max (m (ix2 x 0) : EReal)) (row_max s _ _ _ _ x)

theorem newP_apply (s : FVec Ideal (T2 256 n) .f32) (m : FVec Ideal S256x1 .f32) (x : Fin 256) (r : Fin n) :
    w.newP s m (ix2 x r) = Ideal.exp ((s (ix2 x r) : EReal) - w.newM s m (ix2 x 0)) :=
  congrArg (fun a : EReal => Ideal.exp ((s (ix2 x r) : EReal) - a)) (fan_apply (w.newM s m) w.bn (by decide) x r)

theorem step_l (s : FVec Ideal (T2 256 n) .f32) (v : Vec Ideal (T3 1 n 64) .bf16) (a : One Ideal) (x : Fin 256) :
    (w.step s v a).2.1 (ix2 x 0) = Ideal.exp ((a.1 (ix2 x 0) : EReal) - w.newM s a.1 (ix2 x 0)) * a.2.1 (ix2 x 0)
      + ∑ r : Fin n, Ideal.exp ((s (ix2 x r) : EReal) - w.newM s a.1 (ix2 x 0)) :=
  congrArg (Ideal.exp ((a.1 (ix2 x 0) : EReal) - w.newM s a.1 (ix2 x 0)) * a.2.1 (ix2 x 0) + ·)
    ((row_sum (w.newP s a.1) _ _ _ _ x).trans (Finset.sum_congr rfl fun r _ => w.newP_apply s a.1 x r))

theorem step_o (s : FVec Ideal (T2 256 n) .f32) (v : Vec Ideal (T3 1 n 64) .bf16) (a : One Ideal) (x : Fin 256) (e : Fin 64) :
    (w.step s v a).2.2 (ix2 x e) = Ideal.exp ((a.1 (ix2 x 0) : EReal) - w.newM s a.1 (ix2 x 0)) * a.2.2 (ix2 x e)
      + ∑ r : Fin n, Ideal.exp ((s (ix2 x r) : EReal) - w.newM s a.1 (ix2 x 0)) * v (ix3 0 r e) := by
  refine congrArg₂ (· + ·) (congrArg (· * (a.2.2 (ix2 x e) : EReal)) (fan_apply (w.newA s a.1) _ (by decide) x e)) ?_
  refine (mm_plain w.wpv none _ _ _ x e).trans ?_
  refine Eq.trans (congrArg₂ (· + ·) (show _ = (0 : EReal) from Ideal.ofBits_zero_f32) (Finset.sum_congr rfl fun r _ => ?_)) (zero_add _)
  exact congrArg₂ (· * ·) (w.newP_apply s a.1 x r) (drop_apply v _ r e)

end Fits

/-- One head's rows `i`, run over the first `n` keys. -/
def At (H : Head) (i : Fin 256 → Fin 8192) (n : ℕ) (a : One Ideal) : Prop :=
  ∀ x, H.Run (i x) n (a.1 (ix2 x 0)) (a.2.1 (ix2 x 0)) fun e => a.2.2 (ix2 x e)

/-- Two heads' rows. -/
def Both (H : Fin 2 → Head) (i : Fin 256 → Fin 8192) (n : ℕ) (a : Car Ideal) : Prop := At (H 0) i n (fst a) ∧ At (H 1) i n (snd a)

theorem both_none (H : Fin 2 → Head) (i : Fin 256 → Fin 8192) : Both H i 0 none₀ := by
  have h0 : (k0_pay74 (F := Ideal)) = fun _ => (0 : EReal) := funext fun _ => Ideal.ofBits_zero_f32
  have h1 : (k0_pay75 (F := Ideal)) = fun _ => (0 : EReal) := funext fun _ => Ideal.ofBits_zero_f32
  have h2 : (k0_pay73 (F := Ideal)) = fun _ => (⊥ : EReal) := rfl
  unfold none₀
  rw [h0, h1, h2]
  exact ⟨fun x => Head.Run.init (H 0) (i x), fun x => Head.Run.init (H 1) (i x)⟩

section
variable {H : Head} {i : Fin 256 → Fin 8192} {n k : ℕ} (w : Fits k) (hw : n + k ≤ 8192)

/-- A tile's step. -/
theorem step_at (hk : 0 < k) (hi : ∀ x, n ≤ (i x).val) {s : FVec Ideal (T2 256 k) .f32} {v : Vec Ideal (T3 1 k 64) .bf16} {a : One Ideal}
    (hs : ∀ x r, s (ix2 x r) = H.masked (i x) (keyAt hw r)) (hv : ∀ r e, v (ix3 0 r e) = ((H.v (keyAt hw r) e : ℝ) : EReal))
    (R : At H i n a) : At H i (n + k) (w.step s v a) := fun x =>
  (R x).step hw hk (hi x) (s := fun r => s (ix2 x r)) (fun r => hs x r) (w.newM_apply s a.1 x) (w.step_l s v a x)
    fun e => (w.step_o s v a x e).trans (congrArg (_ + ·) (Finset.sum_congr rfl fun r _ => congrArg (_ * ·) (hv r e)))

variable {q : Vec Ideal (T3 1 256 96) .bf16} {kk : Vec Ideal (T3 1 k 96) .bf16}
  (hq : ∀ x d, q (ix3 0 x d) = ((H.q (i x) d : ℝ) : EReal)) (hk : ∀ r d, kk (ix3 0 r d) = ((H.k (keyAt hw r) d : ℝ) : EReal))
  (hsc : ((H.s : ℝ) : EReal) = Ideal.ofBits .f32 0x3DD105EC#32)
include hq hk hsc

theorem score_eq (x : Fin 256) (r : Fin k) : w.score q kk (ix2 x r) = ((H.score (i x) (keyAt hw r) : ℝ) : EReal) := by
  rw [w.score_apply, ← hsc]
  unfold Head.score
  rw [EReal.coe_mul, coe_sum]
  exact congrArg (· * _) (Finset.sum_congr rfl fun d _ => (congrArg₂ (· * ·) (hq x d) (hk r d)).trans (EReal.coe_mul _ _).symm)

/-- Keys up to every query. -/
theorem score_masked (hi : ∀ x, n + k ≤ (i x).val) (x : Fin 256) (r : Fin k) : w.score q kk (ix2 x r) = H.masked (i x) (keyAt hw r) :=
  (score_eq w hw hq hk hsc x r).trans (if_pos (c := keyAt hw r ≤ i x) (by have := hi x; have := r.isLt; show n + r.val ≤ (i x).val; omega)).symm

/-- Keys that reach past the queries of block `b`. -/
theorem cut_masked (hn : k ≤ 1024) (b base : ℕ) (hb : base ≤ b) (hb' : b < 32) (hbase : n = 256 * base) (hi : ∀ x, (i x).val = b * 256 + x.val)
    (x : Fin 256) (r : Fin k) : w.cutScore (BitVec.ofNat 32 b) (BitVec.ofNat 32 base) q kk (ix2 x r) = H.masked (i x) (keyAt hw r) := by
  rw [w.cutScore_apply hn b base hb hb', score_eq w hw hq hk hsc]
  have h := hi x
  by_cases c : r.val ≤ x.val + 256 * (b - base)
  · rw [if_pos c]
    exact (if_pos (c := keyAt hw r ≤ i x) (by show n + r.val ≤ (i x).val; omega)).symm
  · rw [if_neg c]
    exact (if_neg (c := keyAt hw r ≤ i x) (by show ¬ n + r.val ≤ (i x).val; omega)).symm

end

end Cert.Proof.Fwd

end
-- ==== Proof.Own.FwdPoint.lean ====
/-
  A grid point of the forward attention in exact arithmetic: what both heads carry at its end is the rows run over all keys up to
  the queries, and the two blocks it writes are the outputs and the log-sum-exps.
-/
module

public import proofs.«01_k».proof.Proof.Own.FwdRun
public import proofs.«01_k».proof.Proof.Own.FwdStep
public import proofs.«01_k».proof.Proof.Own.Span

@[expose] public section

set_option maxRecDepth 16384

noncomputable section

namespace Cert.Proof.Fwd

open Cert.Kernel15Ideal Cert.Kernel15Ideal.Gen
open Idealize.ShloMosaic Idealize.ShloMosaic.TcCoe
open Idealize.ShloMosaic.VecWindow
open Cert.Proof.Mla (T2 T3 Head keyAt window_rows div_real)
open Cert.Proof.Norm (fan_apply)

/-- The blocks are two heads' rows, the queries being the rows `i`. -/
structure Holds (H : Fin 2 → Head) (i : Fin 256 → Fin 8192) (x : Blk Ideal) : Prop where
  q : ∀ (h : Fin 2) (c : Fin 256) (d : Fin 96), x.q (ix3 h c d) = (((H h).q (i c) d : ℝ) : EReal)
  k : ∀ (h : Fin 2) (r : Fin 8192) (d : Fin 96), x.k (ix3 h r d) = (((H h).k r d : ℝ) : EReal)
  v : ∀ (h : Fin 2) (r : Fin 8192) (e : Fin 64), x.v (ix3 h r e) = (((H h).v r e : ℝ) : EReal)
  s : ∀ h, (((H h).s : ℝ) : EReal) = Ideal.ofBits .f32 0x3DD105EC#32

section
variable {H : Fin 2 → Head} {i : Fin 256 → Fin 8192} {x : Blk Ideal} (B : Holds H i x)
include B

theorem Holds.q0 (c : Fin 256) (d : Fin 96) : x.q0 (ix3 0 c d) = (((H 0).q (i c) d : ℝ) : EReal) :=
  (window_rows x.q 0 0 ![0, 0, 0] rfl inb_S2x256x96_S1x256x96_0_0_0 c d (by omega)).trans
    ((congrArg (fun r => x.q (ix3 0 r d)) (Fin.ext (Nat.zero_add c.val))).trans (B.q 0 c d))
theorem Holds.q1 (c : Fin 256) (d : Fin 96) : x.q1 (ix3 0 c d) = (((H 1).q (i c) d : ℝ) : EReal) :=
  (window_rows x.q 1 0 ![1, 0, 0] rfl inb_S2x256x96_S1x256x96_1_0_0 c d (by omega)).trans
    ((congrArg (fun r => x.q (ix3 1 r d)) (Fin.ext (Nat.zero_add c.val))).trans (B.q 1 c d))

/-- Both heads' step over the keys from `n`. -/
theorem pair_at {n k : ℕ} (w : Fits k) (hw : n + k ≤ 8192) (hk : 0 < k) (hi : ∀ c, n ≤ (i c).val)
    {sc : Vec Ideal (T3 1 256 96) .bf16 → Vec Ideal (T3 1 k 96) .bf16 → FVec Ideal (T2 256 k) .f32}
    (hsc : ∀ (h : Fin 2) (q : Vec Ideal (T3 1 256 96) .bf16) (kk : Vec Ideal (T3 1 k 96) .bf16), (∀ c d, q (ix3 0 c d) = (((H h).q (i c) d : ℝ) : EReal)) →
      (∀ r d, kk (ix3 0 r d) = (((H h).k (keyAt hw r) d : ℝ) : EReal)) → ∀ c r, sc q kk (ix2 c r) = (H h).masked (i c) (keyAt hw r))
    {o0 o1 o2 o3 : Fin 3 → ℕ} (e0 : o0 = ![0, n, 0]) (e1 : o1 = ![0, n, 0]) (e2 : o2 = ![1, n, 0]) (e3 : o3 = ![1, n, 0])
    (b0 : ∀ a, o0 a + (T3 1 k 96).size a ≤ S2x8192x96.size a) (b1 : ∀ a, o1 a + (T3 1 k 64).size a ≤ S2x8192x64.size a)
    (b2 : ∀ a, o2 a + (T3 1 k 96).size a ≤ S2x8192x96.size a) (b3 : ∀ a, o3 a + (T3 1 k 64).size a ≤ S2x8192x64.size a)
    {a : Car Ideal} (A : Both H i n a) :
    Both H i (n + k) (w.pair sc x (window x.k o0 (T3 1 k 96).size b0) (window x.v o1 (T3 1 k 64).size b1)
      (window x.k o2 (T3 1 k 96).size b2) (window x.v o3 (T3 1 k 64).size b3) a) := by
  have lt : ∀ r : Fin k, n + r.val < 8192 := fun r => by omega
  exact ⟨step_at w hw hk hi (hsc 0 _ _ B.q0 fun r d => (window_rows x.k 0 n o0 e0 b0 r d (lt r)).trans (B.k 0 _ d))
      (fun r e => (window_rows x.v 0 n o1 e1 b1 r e (lt r)).trans (B.v 0 _ e)) A.1,
    step_at w hw hk hi (hsc 1 _ _ B.q1 fun r d => (window_rows x.k 1 n o2 e2 b2 r d (lt r)).trans (B.k 1 _ d))
      (fun r e => (window_rows x.v 1 n o3 e3 b3 r e (lt r)).trans (B.v 1 _ e)) A.2⟩

variable (t : grid0.Coords) (hi : ∀ c, (i c).val = (t 1).val * 256 + c.val)
include hi

/-- The loop's trips take whole tiles of 1024 keys, all before the queries. -/
theorem before_at : ∀ j, j ≤ (k0_t1_loop t).trips → Both H i (1024 * j) (before t x none₀ j)
  | 0, _ => both_none H i
  | j + 1, h => by
    have ht := trips_eq t
    have hb : (t 1).val < 32 := (t 1).isLt
    have hw : 1024 * j + 1024 ≤ 8192 := by omega
    rw [show before t x none₀ (j + 1) = tripStep t x ⟨j, h⟩ (before t x none₀ j) from before_succ t x none₀ ⟨j, h⟩]
    exact pair_at B fits1024 hw (by decide) (fun c => by have := hi c; omega)
      (fun h q kk hq hk => score_masked fits1024 hw hq hk (B.s h) fun c => by have := hi c; omega)
      (off1_eq t ⟨j, h⟩) (off2_eq t ⟨j, h⟩) (off3_eq t ⟨j, h⟩) (off4_eq t ⟨j, h⟩) _ _ _ _ (before_at j (by omega))

/-- The cut group takes the keys past them, up to the last query. -/
theorem point_at : ∃ n, (∀ c, (i c).val < n) ∧ Both H i n (pointCar t x) := by
  have hb : (t 1).val < 32 := (t 1).isLt
  have A : Both H i (1024 * ((t 1).val / 4)) (before t x none₀ (k0_t1_loop t).trips) :=
    congrArg (1024 * ·) (trips_eq t) ▸ before_at B t hi _ le_rfl
  have sc : ∀ {k : ℕ} (w : Fits k) (hw : 1024 * ((t 1).val / 4) + k ≤ 8192) (hk : k ≤ 1024) (h : Fin 2) (q : Vec Ideal (T3 1 256 96) .bf16)
      (kk : Vec Ideal (T3 1 k 96) .bf16), (∀ c d, q (ix3 0 c d) = (((H h).q (i c) d : ℝ) : EReal)) →
      (∀ r d, kk (ix3 0 r d) = (((H h).k (keyAt hw r) d : ℝ) : EReal)) →
      ∀ c r, w.cutScore (BitVec.ofNat 32 (t 1).val) (Mla.baseWord t) q kk (ix2 c r) = (H h).masked (i c) (keyAt hw r) :=
    fun w hw hk h q kk hq hkk => by
      rw [Mla.baseWord_eq]
      exact cut_masked w hw hq hkk (B.s h) hk (t 1).val (4 * ((t 1).val / 4)) (by omega) hb (by omega) hi
  have le : ∀ c, 1024 * ((t 1).val / 4) ≤ (i c).val := fun c => by have := hi c; omega
  by_cases h1 : k0_cond1 t = 1#1
  · have g1 := (cond1_iff t).1 h1
    by_cases h2 : k0_cond2 t = 1#1
    · have g2 := (cond2_iff t g1).1 h2
      by_cases h3 : k0_cond3 t = 1#1
      · have g3 := (cond3_iff t g2).1 h3
        refine ⟨_, fun c => ?_, (congrArg (Both H i _) (cut_1024 t h1 h2 h3 x)).mpr (pair_at B fits1024 (by omega) (by decide) le (sc fits1024 _ (by decide))
          (off9_eq t) (off10_eq t) (off11_eq t) (off12_eq t) _ _ _ _ A)⟩
        have := hi c; omega
      · have g3 : ¬ 3 ≤ (t 1).val % 4 := fun h => h3 ((cond3_iff t g2).2 h)
        refine ⟨_, fun c => ?_, (congrArg (Both H i _) (cut_768 t h1 h2 h3 x)).mpr (pair_at B fits768 (by omega) (by decide) le (sc fits768 _ (by decide))
          (off13_eq t) (off14_eq t) (off15_eq t) (off16_eq t) _ _ _ _ A)⟩
        have := hi c; omega
    · have g2 : ¬ 2 ≤ (t 1).val % 4 := fun h => h2 ((cond2_iff t g1).2 h)
      refine ⟨_, fun c => ?_, (congrArg (Both H i _) (cut_512 t h1 h2 x)).mpr (pair_at B fits512 (by omega) (by decide) le (sc fits512 _ (by decide))
        (off17_eq t) (off18_eq t) (off19_eq t) (off20_eq t) _ _ _ _ A)⟩
      have := hi c; omega
  · have g1 : ¬ 1 ≤ (t 1).val % 4 := fun h => h1 ((cond1_iff t).2 h)
    refine ⟨_, fun c => ?_, (congrArg (Both H i _) (cut_256 t h1 x)).mpr (pair_at B fits256 (by omega) (by decide) le (sc fits256 _ (by decide))
      (off21_eq t) (off22_eq t) (off23_eq t) (off24_eq t) _ _ _ _ A)⟩
    have := hi c; omega

end

/-- A row's output, from its sum of exponentials and weighted sum. -/
theorem pay_y (l : FVec Ideal S256x1 .f32) (o : FVec Ideal S256x64 .f32) (c : Fin 256) (e : Fin 64) :
    (k0_pay25 l o (ix3 0 c e) : EReal) = Ideal.div (o (ix2 c e)) (l (ix2 c 0)) :=
  (Mla.add_apply (divf o (broadcastTo S256x64 l broadcasts_S256x1_S256x64)) shapeCasts_S256x64_S1x256x64 c e).trans (congrArg (Ideal.div (o (ix2 c e))) (fan_apply l _ (by decide) c e))

/-- A row's log-sum-exp, from its greatest score and sum of exponentials. -/
theorem pay_l (m l : FVec Ideal S256x1 .f32) (c : Fin 256) (j : Fin 128) :
    (k0_pay26 m l (ix3 0 c j) : EReal) = m (ix2 c 0) + Ideal.log (l (ix2 c 0)) :=
  (Mla.add_apply (broadcastTo S256x128 (shapeCast S256x1 (addf m (log l)) shapeCasts_S256x1_S256x1) broadcasts_S256x1_S256x128)
      shapeCasts_S256x128_S1x256x128 c j).trans
    ((fan_apply (shapeCast S256x1 (addf m (log l)) shapeCasts_S256x1_S256x1) _ (by decide) c j).trans
      (shapeCast_apply (addf m (log l)) shapeCasts_S256x1_S256x1 (ix2 c 0) (ix2 c 0) rfl))

section
variable {H : Head} {i : Fin 256 → Fin 8192} {n : ℕ} (hn : ∀ c, (i c).val < n) {a : One Ideal} (A : At H i n a) (c : Fin 256)
include hn A

theorem end_y (e : Fin 64) : (k0_pay25 a.2.1 a.2.2 (ix3 0 c e) : EReal) = ((H.out (i c) e : ℝ) : EReal) := by
  have hz := (H.z_pos (i c)).ne'
  rw [pay_y, (A c).end_l (hn c)]
  refine Eq.trans (congrArg (fun y : EReal => Ideal.div y _) ((A c).end_o (hn c) e)) ((div_real _ _ hz).trans (congrArg _ ?_))
  field_simp

theorem end_l (j : Fin 128) : (k0_pay26 a.1 a.2.1 (ix3 0 c j) : EReal) = ((H.top (i c) + Real.log (H.z (i c)) : ℝ) : EReal) := by
  rw [pay_l, (A c).end_m (hn c), (A c).end_l (hn c), EReal.coe_add]
  exact congrArg _ (if_neg (not_le.2 (H.z_pos (i c))))

end

section
variable {H : Fin 2 → Head} {i : Fin 256 → Fin 8192} {n : ℕ} (hn : ∀ c, (i c).val < n) {a : Car Ideal} (A : Both H i n a) (h : Fin 2) (c : Fin 256)
include hn A

theorem yBlk_eq (e : Fin 64) : (yBlk a (ix3 h c e) : EReal) = (((H h).out (i c) e : ℝ) : EReal) := by
  obtain rfl | rfl : h = 0 ∨ h = 1 := by omega
  · exact end_y hn A.1 c e
  · exact end_y hn A.2 c e

theorem lBlk_eq (j : Fin 128) : (lBlk a (ix3 h c j) : EReal) = (((H h).top (i c) + Real.log ((H h).z (i c)) : ℝ) : EReal) := by
  obtain rfl | rfl : h = 0 ∨ h = 1 := by omega
  · exact end_l hn A.1 c j
  · exact end_l hn A.2 c j

end

end Cert.Proof.Fwd

end
-- ==== Proof.Own.FwdRef.lean ====
/-
  The forward attention's reference over finite arguments: its two results are the softmax's weighted sums and the rows'
  log-sum-exp.
-/
module

public import proofs.«01_k».proof.Proof.Own.RefRead
public import proofs.«01_k».proof.Proof.Gen.Reference15Ideal.Read

@[expose] public section

set_option maxRecDepth 16384

noncomputable section

namespace Cert.Proof.Fwd

open Cert.Reference15Ideal Cert.Reference15Ideal.Gen Cert.Reference15Ideal.Read
open Idealize.ShloMosaic Idealize.ShloMosaic.TcCoe
open Cert.Proof.Mla (Head ofBits_bot div_real coe_sum)

/-- The three arguments are the heads' rows. -/
structure Rows (H : Fin 4 → Head) (x0 x1 : FVec Ideal S4x8192x96 .bf16) (x2 : FVec Ideal S4x8192x64 .bf16) : Prop where
  q : ∀ i : S4x8192x96.Idx, x0 i = (((H (i 0)).q (i 1) (i 2) : ℝ) : EReal)
  k : ∀ i : S4x8192x96.Idx, x1 i = (((H (i 0)).k (i 1) (i 2) : ℝ) : EReal)
  v : ∀ i : S4x8192x64.Idx, x2 i = (((H (i 0)).v (i 1) (i 2) : ℝ) : EReal)
  s : ∀ h, (((H h).s : ℝ) : EReal) = Ideal.ofBits .f32 0x3DD105EC#32

section
variable {H : Fin 4 → Head} {x0 x1 : FVec Ideal S4x8192x96 .bf16} {x2 : FVec Ideal S4x8192x64 .bf16} (R : Rows H x0 x1 x2)
include R

theorem ref_score (i : S4x8192x8192.Idx) : (val_main_v5 (F := Ideal) x0 x1 i : EReal) = (((H (i 0)).score (i 1) (i 2) : ℝ) : EReal) := by
  rw [val_main_v5_apply, val_main_v3_apply, val_main_v4_apply, val_main_cst_apply]
  refine Eq.trans (congrArg₂ (· * ·) (Finset.sum_congr rfl fun d _ => congrArg₂ (· * ·) ((val_main_v0_apply _ _).trans (R.q _)) ((val_main_v1_apply _ _).trans (R.k _))) (R.s (i 0)).symm) ?_
  unfold Head.score
  rw [EReal.coe_mul, coe_sum]
  exact congrArg (· * _) (Finset.sum_congr rfl fun d _ => (EReal.coe_mul _ _).symm)

omit R in
theorem ref_mask (i : S4x8192x8192.Idx) : val_main_call0_v1 (F := Ideal) i = if i 2 ≤ i 1 then 1#1 else 0#1 := by
  rw [val_main_call0_v1_apply, val_main_v11_apply, val_main_v9_apply, val_main_v10_apply, val_main_v7_apply, val_main_v8_apply,
    val_main_v6_apply, val_main_v6_apply]
  have h1 : (i 1).val < 8192 := (i 1).isLt
  have h2 : (i 2).val < 8192 := (i 2).isLt
  show IntOp.cmpi .sle (BitVec.ofNat 32 (i 2).val) (BitVec.ofNat 32 (i 1).val) = if (i 2).val ≤ (i 1).val then 1#1 else 0#1
  split_ifs with h <;> word_cmp

theorem ref_masked (i : S4x8192x8192.Idx) : (val_main_v12 (F := Ideal) x0 x1 i : EReal) = (H (i 0)).masked (i 1) (i 2) := by
  rw [val_main_v12_apply, ref_mask, ref_score R, val_main_call0_v2_apply, val_main_call0_v0_apply, val_main_cst_0_apply]
  by_cases h : i 2 ≤ i 1
  · rw [if_pos h]; exact (if_pos (c := i 2 ≤ i 1) h).symm
  · rw [if_neg h]; exact ofBits_bot.trans (if_neg (c := i 2 ≤ i 1) h).symm

/-- A row's greatest score, as either maximum over the keys gives it. -/
theorem max_row (s : FVec Ideal S4x8192x8192 .f32) (hs : ∀ i : S4x8192x8192.Idx, s i = (H (i 0)).masked (i 1) (i 2)) (i : S4x8192.Idx) :
    Finset.univ.fold max (Ideal.ofBits .f32 0xFF800000#32) (fun k : Fin 8192 => (s (ix3 (i 0) (i 1) k) : EReal)) = (((H (i 0)).top (i 1) : ℝ) : EReal) := by
  rw [ofBits_bot]
  refine Eq.trans ?_ ((H (i 0)).fold_top (i 1))
  exact congrArg (fun f => Finset.univ.fold max ⊥ f) (funext fun k => hs (ix3 (i 0) (i 1) k))

theorem ref_top (i : S4x8192.Idx) : (val_main_v13 (F := Ideal) x0 x1 i : EReal) = (((H (i 0)).top (i 1) : ℝ) : EReal) := by
  refine Eq.trans ?_ (max_row R _ (ref_masked R) i)
  idx_vars i
  pointwise [val_main_v13, val_main_cst_1]

theorem ref_top' (i : S4x8192.Idx) : (val_main_v22 (F := Ideal) x0 x1 i : EReal) = (((H (i 0)).top (i 1) : ℝ) : EReal) := by
  refine Eq.trans ?_ (max_row R _ (ref_masked R) i)
  idx_vars i
  pointwise [val_main_v22, val_main_cst_3]

theorem ref_ex (i : S4x8192x8192.Idx) : (val_main_v17 (F := Ideal) x0 x1 i : EReal) = (((H (i 0)).ex (i 1) (i 2) : ℝ) : EReal) := by
  rw [val_main_v17_apply, val_main_v16_apply, ref_masked R, val_main_v15_apply, val_main_v14_apply, ref_top R]
  exact (H (i 0)).exp_masked (i 1) (i 2)

theorem ref_z (i : S4x8192.Idx) : (val_main_v18 (F := Ideal) x0 x1 i : EReal) = (((H (i 0)).z (i 1) : ℝ) : EReal) := by
  rw [val_main_v18_apply, val_main_cst_2_apply]
  refine Eq.trans (congrArg₂ (· + ·) Ideal.ofBits_zero_f32 (Finset.sum_congr rfl fun k _ => ref_ex R _)) ?_
  rw [zero_add]
  exact (coe_sum _ _).symm

/-- The log-sum-exp. -/
theorem ref_l (i : S4x8192x128.Idx) : (val_main_v34 (F := Ideal) x0 x1 i : EReal)
    = (((H (i 0)).top (i 1) + Real.log ((H (i 0)).z (i 1)) : ℝ) : EReal) := by
  rw [val_main_v34_apply, val_main_v21_apply, val_main_v14_apply, ref_top R, val_main_v20_apply, val_main_v19_apply, ref_z R, EReal.coe_add]
  exact congrArg (_ + ·) (if_neg (not_le.2 ((H (i 0)).z_pos (i 1))))

theorem ref_ex' (i : S4x8192x8192.Idx) : (val_main_v28 (F := Ideal) x0 x1 i : EReal) = (((H (i 0)).ex (i 1) (i 2) : ℝ) : EReal) := by
  rw [val_main_v28_apply, val_main_v27_apply, ref_masked R, val_main_v26_apply, val_main_v25_apply, val_main_v24_apply, val_main_v23_apply,
    val_main_cst_4_apply, ref_top' R]
  refine Eq.trans (congrArg (fun z => Ideal.exp (_ - z)) ((congrArg (fun z => max z _) ofBits_bot).trans (max_eq_right bot_le))) ?_
  exact (H (i 0)).exp_masked (i 1) (i 2)

theorem ref_z' (i : S4x8192.Idx) : (val_main_v29 (F := Ideal) x0 x1 i : EReal) = (((H (i 0)).z (i 1) : ℝ) : EReal) := by
  rw [val_main_v29_apply, val_main_cst_5_apply]
  refine Eq.trans (congrArg₂ (· + ·) Ideal.ofBits_zero_f32 (Finset.sum_congr rfl fun k _ => ref_ex' R _)) ?_
  rw [zero_add]
  exact (coe_sum _ _).symm

theorem ref_p (i : S4x8192x8192.Idx) : (val_main_v32 (F := Ideal) x0 x1 i : EReal) = (((H (i 0)).p (i 1) (i 2) : ℝ) : EReal) := by
  rw [val_main_v32_apply, ref_ex' R, val_main_v31_apply, val_main_v30_apply, ref_z' R]
  exact div_real _ _ ((H (i 0)).z_pos (i 1)).ne'

/-- The output. -/
theorem ref_y (i : S4x8192x64.Idx) : (val_main_v33 (F := Ideal) x0 x1 x2 i : EReal) = (((H (i 0)).out (i 1) (i 2) : ℝ) : EReal) := by
  rw [val_main_v33_apply]
  refine Eq.trans (Finset.sum_congr rfl fun k _ =>
    (congrArg₂ (· * ·) (ref_p R _) ((val_main_v2_apply _ _).trans (R.v _))).trans (EReal.coe_mul _ _).symm) ?_
  exact (coe_sum _ _).symm

end

end Cert.Proof.Fwd
-- ==== Proof.Own.FwdValue.lean ====
/-
  The forward attention's two result arrays over finite arguments, and the value claim: each output is its row's softmax sum and
  each log-sum-exp its row's, as the reference has them.
-/
module

public import proofs.«01_k».proof.Defs
public import proofs.«01_k».proof.Proof.Gen.Kernel15
public import proofs.«01_k».proof.Proof.Gen.Pre_finite15
public import proofs.«01_k».proof.Proof.Gen.Reference15Ideal.Run
public import proofs.«01_k».proof.Proof.Own.BlkRead
public import proofs.«01_k».proof.Proof.Own.Finite
public import proofs.«01_k».proof.Proof.Own.FwdPoint
public import proofs.«01_k».proof.Proof.Own.FwdRef

@[expose] public section

set_option maxRecDepth 16384
set_option maxHeartbeats 8000000

noncomputable section

namespace Cert.Proof.Fwd

open Cert.Kernel15Ideal Cert.Kernel15Ideal.Gen
open Idealize.ShloMosaic Idealize.ShloMosaic.TcCoe Idealize.ShloMosaic.VecWindow
open Idealize.SL Idealize.SL.Sem
open Cert.Proof.Mla (T3 Head hd qr)

theorem N_eq : cfg0.N = 64 := by decide +kernel

/-- Point of pair `P` and query block `b`. -/
def pt (P : Fin 2) (b : Fin 32) : Fin cfg0.N := ⟨32 * P.val + b.val, by rw [N_eq]; omega⟩

theorem pt_mod (P : Fin 2) (b : Fin 32) : (pt P b).val % 32 = b.val := by unfold pt; dsimp only; omega
theorem pt_div (P : Fin 2) (b : Fin 32) : (pt P b).val / 32 = P.val := by unfold pt; dsimp only; omega

/-- Every point is a pair's and a block's. -/
theorem pt_of (t : Fin cfg0.N) : ∃ P b, t = pt P b := by
  have h : t.val < 64 := N_eq ▸ t.isLt
  exact ⟨⟨t.val / 32, by omega⟩, ⟨t.val % 32, by omega⟩, Fin.ext (by unfold pt; dsimp only; omega)⟩

theorem coords_1 : ∀ t : Fin cfg0.N, (grid0.coords t 1).val = t.val % 32 := (by decide +kernel : ∀ t : Fin grid0.N, _)

theorem idx : ∀ t : Fin cfg0.N, win0_0.index t = ![t.val / 32, t.val % 32, 0] ∧ win0_1.index t = ![t.val / 32, 0, 0]
    ∧ win0_2.index t = ![t.val / 32, 0, 0] ∧ win0_3.index t = ![t.val / 32, t.val % 32, 0] ∧ win0_4.index t = ![t.val / 32, t.val % 32, 0] :=
  (by decide +kernel : ∀ t : Fin grid0.N, _)

variable (m : (ℓ : Loc nD τ sig) → Buf (Elt Ideal) ℓ) (c : Dev nD)

theorem read_q (P : Fin 2) (b : Fin 32) (A : Buf (Elt Ideal) ((c : Thread nD τ).loc (Pipeline.arrRef spec0 0))) (B : (T3 4 8192 96).Idx → EReal) (hA : A = B)
    (h : Fin 2) (x : Fin 256) (d : Fin 96) : (((cfg0.win 0).blk (pt P b)).view.read (Elt Ideal) A (ix3 h x d) : EReal) = B (ix3 (hd P h) (qr b x) d) := by
  have e := (idx (pt P b)).1
  rw [pt_mod, pt_div] at e
  subst hA
  unfold hd qr
  blk_ext [e]

theorem read_k (P : Fin 2) (b : Fin 32) (A : Buf (Elt Ideal) ((c : Thread nD τ).loc (Pipeline.arrRef spec0 1))) (B : (T3 4 8192 96).Idx → EReal) (hA : A = B)
    (h : Fin 2) (x : Fin 8192) (d : Fin 96) : (((cfg0.win 1).blk (pt P b)).view.read (Elt Ideal) A (ix3 h x d) : EReal) = B (ix3 (hd P h) x d) := by
  have e := (idx (pt P b)).2.1
  rw [pt_div] at e
  subst hA
  unfold hd
  blk_ext [e]

theorem read_v (P : Fin 2) (b : Fin 32) (A : Buf (Elt Ideal) ((c : Thread nD τ).loc (Pipeline.arrRef spec0 2))) (B : (T3 4 8192 64).Idx → EReal) (hA : A = B)
    (h : Fin 2) (x : Fin 8192) (d : Fin 64) : (((cfg0.win 2).blk (pt P b)).view.read (Elt Ideal) A (ix3 h x d) : EReal) = B (ix3 (hd P h) x d) := by
  have e := (idx (pt P b)).2.2.1
  rw [pt_div] at e
  subst hA
  unfold hd
  blk_ext [e]

theorem put_y (P : Fin 2) (b : Fin 32) (G : (T3 4 8192 64).Idx → EReal) (h : Fin 2) (x : Fin 256) (d : Fin 64) :
    G ((win0_3.blk (pt P b)).view.emb (ix3 h x d)) = G (ix3 (hd P h) (qr b x) d) := by
  have e := (idx (pt P b)).2.2.2.1
  rw [pt_mod, pt_div] at e
  unfold hd qr
  blk_ext [e]

theorem put_l (P : Fin 2) (b : Fin 32) (G : (T3 4 8192 128).Idx → EReal) (h : Fin 2) (x : Fin 256) (d : Fin 128) :
    G ((win0_4.blk (pt P b)).view.emb (ix3 h x d)) = G (ix3 (hd P h) (qr b x) d) := by
  have e := (idx (pt P b)).2.2.2.2
  rw [pt_mod, pt_div] at e
  unfold hd qr
  blk_ext [e]

/-- The results, at the arrays' shapes. -/
def realY (H : Fin 4 → Head) : (T3 4 8192 64).Idx → EReal := fun i => (((H (i 0)).out (i 1) (i 2) : ℝ) : EReal)
@[inherit_doc realY] def realL (H : Fin 4 → Head) : (T3 4 8192 128).Idx → EReal :=
  fun i => (((H (i 0)).top (i 1) + Real.log ((H (i 0)).z (i 1)) : ℝ) : EReal)

section
variable {H : Fin 4 → Head} (R : Rows H (m ((c : Thread nD τ).loc main_arg0)) (m ((c : Thread nD τ).loc main_arg1)) (m ((c : Thread nD τ).loc main_arg2)))
include R

theorem holds (P : Fin 2) (b : Fin 32) :
    Holds (fun h => H (hd P h)) (qr b) ⟨iblk m c 0 (pt P b), iblk m c 1 (pt P b), iblk m c 2 (pt P b)⟩ where
  q h x d := (read_q c P b (V m c (Pipeline.arrRef spec0 0)) (m ((c : Thread nD τ).loc main_arg0)) rfl h x d).trans (R.q _)
  k h r d := (read_k c P b (V m c (Pipeline.arrRef spec0 1)) (m ((c : Thread nD τ).loc main_arg1)) rfl h r d).trans (R.k _)
  v h r e := (read_v c P b (V m c (Pipeline.arrRef spec0 2)) (m ((c : Thread nD τ).loc main_arg2)) rfl h r e).trans (R.v _)
  s h := R.s _

theorem car_at (P : Fin 2) (b : Fin 32) : ∃ n, (∀ x, (qr b x).val < n) ∧ Both (fun h => H (hd P h)) (qr b) n (carAt m c (pt P b)) :=
  point_at (holds m c R P b) (grid0.coords (pt P b)) fun x => by rw [coords_1, pt_mod]; rfl

theorem final_y : (dats m 0 c).arrAt 3 cfg0.N = realY H := by
  refine (dats m 0 c).arrAt_eq_of_covers 3 _ (by decide +kernel) fun t hf y => ?_
  obtain ⟨P, b, rfl⟩ := pt_of t
  blk_simp
  rw [after0_3]
  obtain ⟨h, x, d, rfl⟩ : ∃ (h : Fin 2) (x : Fin 256) (d : Fin 64), y = ix3 h x d := ⟨y 0, y 1, y 2, eq_ix3 y⟩
  obtain ⟨n, hn, A⟩ := car_at m c R P b
  exact (yBlk_eq hn A h x d).trans (put_y P b (realY H) h x d).symm

theorem final_l : (dats m 0 c).arrAt 4 cfg0.N = realL H := by
  refine (dats m 0 c).arrAt_eq_of_covers 4 _ (by decide +kernel) fun t hf y => ?_
  obtain ⟨P, b, rfl⟩ := pt_of t
  blk_simp
  rw [after0_4]
  obtain ⟨h, x, d, rfl⟩ : ∃ (h : Fin 2) (x : Fin 256) (d : Fin 128), y = ix3 h x d := ⟨y 0, y 1, y 2, eq_ix3 y⟩
  obtain ⟨n, hn, A⟩ := car_at m c R P b
  exact (lBlk_eq hn A h x d).trans (put_l P b (realL H) h x d).symm

end

theorem ofBits_top16 : Ideal.ofBits .bf16 0x7F80#16 = ⊤ := by simp [Ideal.ofBits, Ideal.ieee]

/-- The precondition: arguments of finite entries are four heads' rows. -/
theorem rows_of_finite (x0 x1 : FVec Ideal S4x8192x96 .bf16) (x2 : FVec Ideal S4x8192x64 .bf16)
    (h : Cert.Pre_finite15.fn (F := Ideal) x0 x1 x2 = fun _ => 1#1) : ∃ H, Rows H x0 x1 x2 := by
  obtain ⟨s, hs⟩ := Mla.scale_real
  have h := congrFun h ix0
  unfold Cert.Pre_finite15.fn at h
  obtain ⟨h, h2⟩ := Mla.both_one h
  obtain ⟨h0, h1⟩ := Mla.both_one h
  have e0 := Host.reduce_andi_all _ _ _ _ _ h0
  have e1 := Host.reduce_andi_all _ _ _ _ _ h1
  have e2 := Host.reduce_andi_all _ _ _ _ _ h2
  refine ⟨fun n => ⟨fun i d => (x0 (ix3 n i d) : EReal).toReal, fun i d => (x1 (ix3 n i d) : EReal).toReal, fun i d => (x2 (ix3 n i d) : EReal).toReal,
    fun _ _ => 0, s⟩, ?_, ?_, ?_, fun _ => hs⟩
  · exact fun i => (Mla.real_of_lt_top _ ofBits_top16 _ (e0 i)).trans (congrArg (fun j => (((x0 j : EReal).toReal : ℝ) : EReal)) (eq_ix3 i))
  · exact fun i => (Mla.real_of_lt_top _ ofBits_top16 _ (e1 i)).trans (congrArg (fun j => (((x1 j : EReal).toReal : ℝ) : EReal)) (eq_ix3 i))
  · exact fun i => (Mla.real_of_lt_top _ ofBits_top16 _ (e2 i)).trans (congrArg (fun j => (((x2 j : EReal).toReal : ℝ) : EReal)) (eq_ix3 i))

/-- Over any reading of the floats and of the constant the program terminates, keeps its arguments and leaves every counter at zero. -/
theorem frame_any {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

theorem value : Cert.algebraic_Kernel15Ideal_Reference15Ideal_pre_finite15 := by
  intro m ρ m' ρ' hfin hargs
  choose H R using fun c => rows_of_finite _ _ _ (hfin c)
  refine ⟨fun c => realY (H c), fun c => realL (H c), ?_, ?_⟩
  · refine (θ_run Cert.Kernel15Ideal.defs _ _).mono (fun r h c => ?_) (θ_run_and (run_main (F := Ideal) m ρ) (frame_any (F := Ideal) m ρ))
    exact ⟨((h.1.1 c).1 3).trans (final_y m c (R c)), ((h.1.1 c).1 4).trans (final_l m c (R c)), h.2.1 c⟩
  · refine (θ_run Cert.Reference15Ideal.defs _ _).mono (fun r h c => ?_) (Cert.Reference15Ideal.Value.run (F := Ideal) m' ρ')
    have R' := R c
    rw [← (hargs c).1, ← (hargs c).2.1, ← (hargs c).2.2] at R'
    exact ⟨(h c).1.trans ((Cert.Reference15Ideal.Read.val_main_v33_eq m' c).trans (funext fun i => ref_y R' i)),
      (h c).2.1.trans (funext fun i => ref_l R' i), (h c).2.2⟩

/-- The mask's literal is named as −∞, and read as it. -/
theorem preserves : Cert.preserves_Kernel15_Kernel15Ideal := IdealRules.named_const.statement Cert.Kernel15Ideal.κ "mask" .f32 0xF149F2CA#32 ⊥ rfl

end Cert.Proof.Fwd

end
-- ==== Proof.Own.FwdFrame.lean ====
/-
  The frames of the forward attention. The kernel as printed has the idealized kernel's text with the mask's literal in the named
  constant's place, so the one run, with the constant read as that literal, is its own.
-/
module

public import proofs.«01_k».proof.Proof.Own.FwdValue

@[expose] public section

set_option backward.isDefEq.respectTransparency.types false
set_option maxHeartbeats 8000000

noncomputable section

namespace Cert.Proof

open Idealize.ShloMosaic Idealize.ShloMosaic.TcCoe
open Idealize.SL Idealize.SL.Sem

/-- A named constant read as the literal it stands for. -/
local instance literal : Named Bits := ⟨fun _ _ _ b => FloatOps.ofBits _ b⟩

theorem bodies_fwd : Cert.Kernel15.defs₀ (F := Bits) = Cert.Kernel15Ideal.defs₀ (F := Bits) :=
  congrArg Defs.onTc (funext fun l => funext fun a => match l, a with | 0, (t, s) => rfl)

theorem frame_fwd : Cert.quiescent_Kernel15 := fun m ρ _ => by
  rw [show Cert.Kernel15.defs (F := Bits) = Cert.Kernel15Ideal.defs (F := Bits) from congrArg (Pipeline.defs _) bodies_fwd,
    show Cert.Kernel15.main (F := Bits) = Cert.Kernel15Ideal.main (F := Bits) from rfl]
  exact Fwd.frame_any (F := Bits) m ρ

theorem frame_fwd_ideal : Cert.quiescent_Kernel15Ideal := fun m ρ _ => Fwd.frame_any (F := Ideal) m ρ

theorem frame_fwd_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

end Cert.Proof

end
-- ==== Proof.Own.UpW.lean ====
/-
  The gradient of the first FFN product in its weights, d_up_w: the sum over the 8192 rows in four blocks of 2048, one
  owner's 704 columns at a time.
-/
module

public import proofs.«01_k».proof.Proof.Own.Prod
public import proofs.«01_k».proof.Proof.Gen.Kernel2Ideal.Value
public import proofs.«01_k».proof.Proof.Gen.Reference2Ideal.Read
public import proofs.«01_k».proof.Proof.Gen.Reference2Ideal.Run
public import proofs.«01_k».proof.Defs

@[expose] public section

set_option maxRecDepth 16384

noncomputable section

namespace Cert.Proof.UpW

open Cert.Kernel2Ideal Cert.Kernel2Ideal.Gen
open Cert.Reference2Ideal.Read (val_main_v6_apply val_main_v5_apply val_main_v4_apply val_main_v3_apply val_main_v2_apply)
open Cert.Proof.Mla (T2 T3 drop_apply add_apply)
open Cert.Proof.Prod (cols run_sum shard_cols at2 at3)
open Idealize.ShloMosaic Idealize.ShloMosaic.TcCoe Idealize.ShloMosaic.VecWindow
open Idealize.SL Idealize.SL.Sem

theorem idx : ∀ t : Fin cfg0.N, win0_0.index t = ![t.val % 4, 0] ∧ win0_1.index t = ![t.val / 4, t.val % 4, 0]
    ∧ win0_2.index t = ![t.val / 4, 0, 0] := (by decide +kernel : ∀ t : Fin grid0.N, _)

variable (m : (ℓ : Loc nD τ sig) → Buf (Elt Ideal) ℓ) (c : Dev nD)

/-- The two arrays the windows stage. -/
def aX : (T2 8192 1024).Idx → EReal := V m c main_v0
@[inherit_doc aX] def aG : (T3 8 8192 704).Idx → EReal := V m c main_v3

/-- A point's product at an index. -/
theorem pay1_apply (x : FVec Ideal S2048x1024 .bf16) (g : FVec Ideal S1x2048x704 .bf16) (i : Fin 1024) (j : Fin 704) :
    (k0_pay1 (F := Ideal) x g (ix2 i j) : EReal) = ∑ k : Fin 2048, (x (ix2 k i) : EReal) * g (ix3 0 k j) := by
  unfold k0_pay1 dot_S2048x1024_S2048x704_S1024x704_0_0_1_1_n_n
  refine (cols i j _ _ _).trans (Finset.sum_congr rfl fun k _ => congrArg₂ (· * ·) (congrFun (shapeCast_self x _) _) (drop_apply g _ k j))

theorem pay4_apply (x : FVec Ideal S1024x704 .f32) (i : Fin 1024) (j : Fin 704) :
    (k0_pay4 (F := Ideal) x (ix3 0 i j) : EReal) = x (ix2 i j) := by
  unfold k0_pay4
  exact add_apply _ _ i j

theorem read_x (t : Fin cfg0.N) (k : Fin 2048) (i : Fin 1024) :
    (iblk m c 0 t (ix2 k i) : EReal) = aX m c (ix2 ⟨t.val % 4 * 2048 + k.val, by omega⟩ i) := by
  have e := (idx t).1
  unfold aX
  blk_ext [iblk, e]

theorem read_g (t : Fin cfg0.N) (k : Fin 2048) (j : Fin 704) :
    (iblk m c 1 t (ix3 0 k j) : EReal)
      = aG m c (ix3 ⟨t.val / 4, by have h : t.val < 32 := t.isLt; omega⟩ ⟨t.val % 4 * 2048 + k.val, by omega⟩ j) := by
  have e := (idx t).2.1
  unfold aG
  blk_ext [iblk, e]

/-- The accumulator at a run's last point. -/
theorem acc_eq (t : Fin cfg0.N) (hr : t.val % 4 = 3) (y : S1024x704.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  refine run_sum (fun n h => (outsAt0 m c n h).2) 4 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T3 8 1024 704).Idx → EReal := fun y => ∑ k : Fin 8192, aX m c (ix2 k (y 1)) * aG m c (ix3 (y 0) k (y 2))

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = k0_pay4 (outsAt0 m c t.val t.isLt).2 := by
    rw [outsAt0_C m c t (by omega) (by omega) hr]
    frame_out
  rw [e]
  obtain ⟨a, i, j, rfl⟩ := at3 y
  obtain rfl : a = 0 := Subsingleton.elim _ _
  refine (pay4_apply _ i j).trans ((acc_eq m c t hr _).trans ?_)
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x1024 .f32 := m ((c : Thread nD τ).loc main_arg0)
@[inherit_doc x0] def x1 : FVec Ideal S8192x5632 .f32 := m ((c : Thread nD τ).loc main_arg1)

theorem aX_eq (k : Fin 8192) (i : Fin 1024) : aX m c (ix2 k i) = x0 m c (ix2 k i) := by
  have e : aX m c = truncf .bf16 (x0 m c) bitsLt_bf16_f32 := by
    unfold aX V
    after_results
    rfl
  rw [e]
  rfl

theorem aG_eq (p : Fin 8) (k : Fin 8192) (j : Fin 704) :
    aG m c (ix3 p k j) = x1 m c (ix2 k ⟨p.val * 704 + j.val, by omega⟩) := by
  have e : aG m c = truncf .bf16 (transpose S8x8192x704 [1, 0, 2] (shapeCast S8192x8x704 (x1 m c) shapeCasts_S8192x5632_S8192x8x704)
      transposes_S8192x8x704_S8x8192x704_1_0_2) bitsLt_bf16_f32 := by
    unfold aG V
    after_results
    rfl
  rw [e]
  exact shard_cols _ rfl _ _ p k j _

/-- The reference's gradient is the same sum. -/
theorem ref_eq : Cert.Reference2Ideal.Read.val_main_v6 (F := Ideal) (x0 m c) (x1 m c) = R m c := by
  funext y
  obtain ⟨p, i, j, rfl⟩ := at3 y
  rw [val_main_v6_apply, val_main_v5_apply, val_main_v4_apply, val_main_v3_apply]
  refine (val_main_v2_apply _ _ _).trans (Finset.sum_congr rfl fun k _ => ?_)
  refine (mul_comm _ _).trans (congrArg₂ (· * ·) (Eq.trans (congrArg (x0 m c) (funext fun d => ?_)) (aX_eq m c k i).symm)
    (Eq.trans (congrArg (x1 m c) (funext fun d => ?_)) (aG_eq m c p k j).symm))
  · match d with
    | ⟨0, _⟩ => rfl
    | ⟨1, _⟩ => exact Fin.ext (show ((i.val * 8 + p.val) * 704 + j.val) / 5632 = i.val by omega)
  · match d with
    | ⟨0, _⟩ => rfl
    | ⟨1, _⟩ => exact Fin.ext (show ((i.val * 8 + p.val) * 704 + j.val) % 5632 = p.val * 704 + j.val by omega)

theorem value : Cert.algebraic_Kernel2Ideal_Reference2Ideal := by
  intro m ρ m' ρ' _ hargs
  refine ⟨fun c => R m c, ?_, ?_⟩
  · refine (θ_run Cert.Kernel2Ideal.defs _ _).mono (fun r h c => ?_) (Value.run_blocks (F := Ideal) m ρ)
    exact ⟨(h c).1.trans (final m c), (h c).2⟩
  · refine (θ_run Cert.Reference2Ideal.defs _ _).mono (fun r h c => ?_) (Cert.Reference2Ideal.Value.run (F := Ideal) m' ρ')
    refine ⟨(h c).1.trans ?_, (h c).2⟩
    rw [(hargs c).1, (hargs c).2]
    exact ref_eq m c

end Cert.Proof.UpW
end
-- ==== Proof.Own.UpX.lean ====
/-
  The gradient of the first FFN product in its input, d_up_x: the sum over the 5632 columns, one owner's 704 at a time.
-/
module

public import proofs.«01_k».proof.Proof.Own.Prod
public import proofs.«01_k».proof.Proof.Gen.Kernel3Ideal.Value
public import proofs.«01_k».proof.Proof.Gen.Reference3Ideal.Read
public import proofs.«01_k».proof.Proof.Gen.Reference3Ideal.Run
public import proofs.«01_k».proof.Defs

@[expose] public section

set_option maxRecDepth 16384

noncomputable section

namespace Cert.Proof.UpX

open Cert.Kernel3Ideal Cert.Kernel3Ideal.Gen
open Cert.Proof.Mla (T2 T3 drop_apply)
open Cert.Proof.Prod (rows run_sum shard_cols at2 ext2)
open Idealize.ShloMosaic Idealize.ShloMosaic.TcCoe Idealize.ShloMosaic.VecWindow
open Idealize.SL Idealize.SL.Sem

theorem idx : ∀ t : Fin cfg0.N, win0_0.index t = ![t.val % 8, t.val / 8, 0] ∧ win0_1.index t = ![t.val % 8, 0, 0]
    ∧ win0_2.index t = ![t.val / 8, 0] := (by decide +kernel : ∀ t : Fin grid0.N, _)

variable (m : (ℓ : Loc nD τ sig) → Buf (Elt Ideal) ℓ) (c : Dev nD)

/-- The two arrays the windows stage: the gradient by owner, the weights by owner. -/
def aG : (T3 8 8192 704).Idx → EReal := V m c main_v2
@[inherit_doc aG] def aW : (T3 8 1024 704).Idx → EReal := V m c main_v5

/-- A point's product at an index. -/
theorem pay1_apply (g : FVec Ideal S1x2048x704 .bf16) (w : FVec Ideal S1x1024x704 .bf16) (i : Fin 2048) (j : Fin 1024) :
    (k0_pay1 (F := Ideal) g w (ix2 i j) : EReal) = ∑ k : Fin 704, (g (ix3 0 i k) : EReal) * w (ix3 0 j k) := by
  unfold k0_pay1 dot_S2048x704_S1024x704_S2048x1024_1_1_0_0_n_n
  refine (rows i j _ _ _).trans (Finset.sum_congr rfl fun k _ => congrArg₂ (· * ·) (drop_apply g _ i k) (drop_apply w _ j k))

theorem read_g (t : Fin cfg0.N) (i : Fin 2048) (k : Fin 704) :
    (iblk m c 0 t (ix3 0 i k) : EReal)
      = aG m c (ix3 ⟨t.val % 8, by omega⟩ ⟨t.val / 8 * 2048 + i.val, by have h : t.val < 32 := t.isLt; omega⟩ k) := by
  have e := (idx t).1
  unfold aG
  blk_ext [iblk, e]

theorem read_w (t : Fin cfg0.N) (j : Fin 1024) (k : Fin 704) :
    (iblk m c 1 t (ix3 0 j k) : EReal) = aW m c (ix3 ⟨t.val % 8, by omega⟩ j k) := by
  have e := (idx t).2.1
  unfold aW
  blk_ext [iblk, e]

/-- The accumulator at a run's last point. -/
theorem acc_eq (t : Fin cfg0.N) (hr : t.val % 8 = 7) (y : S2048x1024.Idx) :
    ((outsAt0 m c t.val t.isLt).2 y : EReal) = ∑ s : Fin 8, (k0_pay1 (F := Ideal)
      (iblk m c 0 ⟨8 * (t.val / 8) + s.val, Pipeline.run_point_lt_of_flush t hr s⟩)
      (iblk m c 1 ⟨8 * (t.val / 8) + s.val, Pipeline.run_point_lt_of_flush t hr s⟩) y : EReal) := by
  refine run_sum (fun n h => (outsAt0 m c n h).2) 8 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 8 = 7
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result, the sum taken owner by owner. -/
def R : (T2 8192 1024).Idx → EReal := fun y => ∑ p : Fin 8, ∑ k : Fin 704, aG m c (ix3 p (y 0) k) * aW m c (ix3 p (y 1) k)

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = (outsAt0 m c t.val t.isLt).2 := by
    rw [outsAt0_C m c t (by omega) (by omega) hr]
    frame_out
  rw [e]
  obtain ⟨i, j, rfl⟩ := at2 y
  refine (acc_eq m c t hr _).trans (Finset.sum_congr rfl fun p _ => ?_)
  refine (pay1_apply _ _ i j).trans (Finset.sum_congr rfl fun k _ => congrArg₂ (· * ·) ((read_g m c _ i k).trans (congrArg _ ?_))
    ((read_w m c _ j k).trans (congrArg _ ?_)))
  · blk_ext [(idx t).2.2]
  · blk_ext [(idx t).2.2]

/-- The arguments, at their shapes. -/
def x0 : FVec Ideal S1024x5632 .f32 := m ((c : Thread nD τ).loc main_arg0)
@[inherit_doc x0] def x1 : FVec Ideal S8192x5632 .f32 := m ((c : Thread nD τ).loc main_arg1)

theorem aG_eq (p : Fin 8) (i : Fin 8192) (k : Fin 704) : aG m c (ix3 p i k) = x1 m c (ix2 i ⟨p.val * 704 + k.val, by omega⟩) := by
  have e : aG m c = truncf .bf16 (transpose S8x8192x704 [1, 0, 2] (shapeCast S8192x8x704 (x1 m c) shapeCasts_S8192x5632_S8192x8x704)
      transposes_S8192x8x704_S8x8192x704_1_0_2) bitsLt_bf16_f32 := by
    unfold aG V
    after_results
    rfl
  rw [e]
  exact shard_cols _ rfl _ _ p i k _

theorem aW_eq (p : Fin 8) (j : Fin 1024) (k : Fin 704) : aW m c (ix3 p j k) = x0 m c (ix2 j ⟨p.val * 704 + k.val, by omega⟩) := by
  have e : aW m c = truncf .bf16 (transpose S8x1024x704 [1, 0, 2] (shapeCast S1024x8x704 (x0 m c) shapeCasts_S1024x5632_S1024x8x704)
      transposes_S1024x8x704_S8x1024x704_1_0_2) bitsLt_bf16_f32 := by
    unfold aW V
    after_results
    rfl
  rw [e]
  exact shard_cols _ rfl _ _ p j k _

/-- The reference's gradient is the same sum. -/
theorem ref_eq : Cert.Reference3Ideal.Read.val_main_v2 (F := Ideal) (x0 m c) (x1 m c) = R m c := by
  funext y
  obtain ⟨i, j, rfl⟩ := at2 y
  refine (Cert.Reference3Ideal.Read.val_main_v2_apply _ _ _).trans (Eq.symm ?_)
  refine Fin.sum_mul_add_congr fun p k hl => ?_
  exact congrArg₂ (· * ·) ((aG_eq m c p i k).trans (congrArg (x1 m c) (ext2 rfl rfl)))
    ((aW_eq m c p j k).trans (congrArg (x0 m c) (ext2 rfl rfl)))

theorem value : Cert.algebraic_Kernel3Ideal_Reference3Ideal := by
  intro m ρ m' ρ' _ hargs
  refine ⟨fun c => R m c, ?_, ?_⟩
  · refine (θ_run Cert.Kernel3Ideal.defs _ _).mono (fun r h c => ?_) (Value.run_blocks (F := Ideal) m ρ)
    exact ⟨(h c).1.trans (final m c), (h c).2⟩
  · refine (θ_run Cert.Reference3Ideal.defs _ _).mono (fun r h c => ?_) (Cert.Reference3Ideal.Value.run (F := Ideal) m' ρ')
    refine ⟨(h c).1.trans ?_, (h c).2⟩
    rw [(hargs c).1, (hargs c).2]
    exact ref_eq m c

end Cert.Proof.UpX
end
-- ==== Proof.Own.DownW.lean ====
/-
  The gradient of the second FFN product in its weights, d_down_w: the sum over the 8192 rows in four blocks of 2048, one
  owner's 704 rows of the weights at a time.
-/
module

public import proofs.«01_k».proof.Proof.Own.Prod
public import proofs.«01_k».proof.Proof.Gen.Kernel4Ideal.Value
public import proofs.«01_k».proof.Proof.Gen.Reference4Ideal.Read
public import proofs.«01_k».proof.Proof.Gen.Reference4Ideal.Run
public import proofs.«01_k».proof.Defs

@[expose] public section

set_option maxRecDepth 16384

noncomputable section

namespace Cert.Proof.DownW

open Cert.Kernel4Ideal Cert.Kernel4Ideal.Gen
open Cert.Reference4Ideal.Read (val_main_v5_apply val_main_v4_apply val_main_v3_apply val_main_v2_apply)
open Cert.Proof.Mla (T2 T3 drop_apply add_apply)
open Cert.Proof.Prod (cols run_sum shard_cols at3)
open Idealize.ShloMosaic Idealize.ShloMosaic.TcCoe Idealize.ShloMosaic.VecWindow
open Idealize.SL Idealize.SL.Sem

theorem idx : ∀ t : Fin cfg0.N, win0_0.index t = ![t.val / 4, t.val % 4, 0] ∧ win0_1.index t = ![t.val % 4, 0]
    ∧ win0_2.index t = ![t.val / 4, 0, 0] := (by decide +kernel : ∀ t : Fin grid0.N, _)

variable (m : (ℓ : Loc nD τ sig) → Buf (Elt Ideal) ℓ) (c : Dev nD)

/-- The two arrays the windows stage: the activations by owner, the gradient. -/
def aX : (T3 4 8192 704).Idx → EReal := V m c main_v2
@[inherit_doc aX] def aG : (T2 8192 1024).Idx → EReal := V m c main_arg1

/-- A point's product at an index. -/
theorem pay1_apply (x : FVec Ideal S1x2048x704 .bf16) (g : FVec Ideal S2048x1024 .f32) (i : Fin 704) (j : Fin 1024) :
    (k0_pay1 (F := Ideal) x g (ix2 i j) : EReal) = ∑ k : Fin 2048, (x (ix3 0 k i) : EReal) * g (ix2 k j) := by
  unfold k0_pay1 dot_S2048x704_S2048x1024_S704x1024_0_0_1_1_n_n
  refine (cols i j _ _ _).trans (Finset.sum_congr rfl fun k _ => congrArg₂ (· * ·) (drop_apply x _ k i) rfl)

theorem pay4_apply (x : FVec Ideal S704x1024 .f32) (i : Fin 704) (j : Fin 1024) :
    (k0_pay4 (F := Ideal) x (ix3 0 i j) : EReal) = x (ix2 i j) := by
  unfold k0_pay4
  exact add_apply _ _ i j

theorem read_x (t : Fin cfg0.N) (k : Fin 2048) (i : Fin 704) :
    (iblk m c 0 t (ix3 0 k i) : EReal)
      = aX m c (ix3 ⟨t.val / 4, by have h : t.val < 16 := t.isLt; omega⟩ ⟨t.val % 4 * 2048 + k.val, by omega⟩ i) := by
  have e := (idx t).1
  unfold aX
  blk_ext [iblk, e]

theorem read_g (t : Fin cfg0.N) (k : Fin 2048) (j : Fin 1024) :
    (iblk m c 1 t (ix2 k j) : EReal) = aG m c (ix2 ⟨t.val % 4 * 2048 + k.val, by omega⟩ j) := by
  have e := (idx t).2.1
  unfold aG
  blk_ext [iblk, e]

/-- The accumulator at a run's last point. -/
theorem acc_eq (t : Fin cfg0.N) (hr : t.val % 4 = 3) (y : S704x1024.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  refine run_sum (fun n h => (outsAt0 m c n h).2) 4 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T3 4 704 1024).Idx → EReal := fun y => ∑ k : Fin 8192, aX m c (ix3 (y 0) k (y 1)) * aG m c (ix2 k (y 2))

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = k0_pay4 (outsAt0 m c t.val t.isLt).2 := by
    rw [outsAt0_C m c t (by omega) (by omega) hr]
    frame_out
  rw [e]
  obtain ⟨a, i, j, rfl⟩ := at3 y
  obtain rfl : a = 0 := Subsingleton.elim _ _
  refine (pay4_apply _ i j).trans ((acc_eq m c t hr _).trans ?_)
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x2816 .f32 := m ((c : Thread nD τ).loc main_arg0)
@[inherit_doc x0] def x1 : FVec Ideal S8192x1024 .f32 := m ((c : Thread nD τ).loc main_arg1)

theorem aX_eq (p : Fin 4) (k : Fin 8192) (i : Fin 704) : aX m c (ix3 p k i) = x0 m c (ix2 k ⟨p.val * 704 + i.val, by omega⟩) := by
  have e : aX m c = truncf .bf16 (transpose S4x8192x704 [1, 0, 2] (shapeCast S8192x4x704 (x0 m c) shapeCasts_S8192x2816_S8192x4x704)
      transposes_S8192x4x704_S4x8192x704_1_0_2) bitsLt_bf16_f32 := by
    unfold aX V
    after_results
    rfl
  rw [e]
  exact shard_cols _ rfl _ _ p k i _

theorem aG_eq (k : Fin 8192) (j : Fin 1024) : aG m c (ix2 k j) = x1 m c (ix2 k j) := by
  have e : aG m c = x1 m c := by
    unfold aG V
    after_results
    rfl
  rw [e]

/-- The reference's gradient is the same sum. -/
theorem ref_eq : Cert.Reference4Ideal.Read.val_main_v5 (F := Ideal) (x0 m c) (x1 m c) = R m c := by
  funext y
  obtain ⟨p, i, j, rfl⟩ := at3 y
  rw [val_main_v5_apply, val_main_v4_apply, val_main_v3_apply]
  refine (val_main_v2_apply _ _ _).trans (Finset.sum_congr rfl fun k _ => ?_)
  refine (mul_comm _ _).trans (congrArg₂ (· * ·) (Eq.trans (congrArg (x0 m c) (funext fun d => ?_)) (aX_eq m c p k i).symm)
    (Eq.trans (congrArg (x1 m c) (funext fun d => ?_)) (aG_eq m c k j).symm))
  · match d with
    | ⟨0, _⟩ => rfl
    | ⟨1, _⟩ => exact Fin.ext (show ((p.val * 704 + i.val) * 1024 + j.val) / 1024 = p.val * 704 + i.val by omega)
  · match d with
    | ⟨0, _⟩ => rfl
    | ⟨1, _⟩ => exact Fin.ext (show ((p.val * 704 + i.val) * 1024 + j.val) % 1024 = j.val by omega)

theorem value : Cert.algebraic_Kernel4Ideal_Reference4Ideal := by
  intro m ρ m' ρ' _ hargs
  refine ⟨fun c => R m c, ?_, ?_⟩
  · refine (θ_run Cert.Kernel4Ideal.defs _ _).mono (fun r h c => ?_) (Value.run_blocks (F := Ideal) m ρ)
    exact ⟨(h c).1.trans (final m c), (h c).2⟩
  · refine (θ_run Cert.Reference4Ideal.defs _ _).mono (fun r h c => ?_) (Cert.Reference4Ideal.Value.run (F := Ideal) m' ρ')
    refine ⟨(h c).1.trans ?_, (h c).2⟩
    rw [(hargs c).1, (hargs c).2]
    exact ref_eq m c

end Cert.Proof.DownW
end
-- ==== Proof.Own.DownX.lean ====
/-
  The gradient of the second FFN product in its input, d_down_x: rows of the gradient with rows of the weights, one owner's
  704 at a time.
-/
module

public import proofs.«01_k».proof.Proof.Own.Prod
public import proofs.«01_k».proof.Proof.Gen.Kernel5Ideal.Value
public import proofs.«01_k».proof.Proof.Gen.Reference5Ideal.Read
public import proofs.«01_k».proof.Proof.Gen.Reference5Ideal.Run
public import proofs.«01_k».proof.Defs

@[expose] public section

set_option maxRecDepth 16384

noncomputable section

namespace Cert.Proof.DownX

open Cert.Kernel5Ideal Cert.Kernel5Ideal.Gen
open Cert.Reference5Ideal.Read (val_main_v4_apply val_main_v3_apply val_main_v2_apply)
open Cert.Proof.Mla (T2 T3 drop_apply add_apply)
open Cert.Proof.Prod (rows shard_rows at3)
open Idealize.ShloMosaic Idealize.ShloMosaic.TcCoe Idealize.ShloMosaic.VecWindow
open Idealize.SL Idealize.SL.Sem

theorem idx : ∀ t : Fin cfg0.N, win0_0.index t = ![t.val % 4, 0] ∧ win0_1.index t = ![t.val / 4, 0, 0]
    ∧ win0_2.index t = ![t.val / 4, t.val % 4, 0] := (by decide +kernel : ∀ t : Fin grid0.N, _)

variable (m : (ℓ : Loc nD τ sig) → Buf (Elt Ideal) ℓ) (c : Dev nD)

/-- The two arrays the windows stage: the gradient, the weights by owner. -/
def aG : (T2 8192 1024).Idx → EReal := V m c main_arg1
@[inherit_doc aG] def aW : (T3 4 704 1024).Idx → EReal := V m c main_v1

/-- A point's product at an index. -/
theorem pay1_apply (g : FVec Ideal S2048x1024 .f32) (w : FVec Ideal S1x704x1024 .bf16) (i : Fin 2048) (j : Fin 704) :
    (k0_pay1 (F := Ideal) g w (ix3 0 i j) : EReal) = ∑ k : Fin 1024, (g (ix2 i k) : EReal) * w (ix3 0 j k) := by
  unfold k0_pay1 dot_S2048x1024_S704x1024_S2048x704_1_1_0_0_n_n
  refine (add_apply _ _ i j).trans ((rows i j _ _ _).trans (Finset.sum_congr rfl fun k _ => congrArg₂ (· * ·) rfl (drop_apply w _ j k)))

theorem read_g (t : Fin cfg0.N) (i : Fin 2048) (k : Fin 1024) :
    (iblk m c 0 t (ix2 i k) : EReal) = aG m c (ix2 ⟨t.val % 4 * 2048 + i.val, by omega⟩ k) := by
  have e := (idx t).1
  unfold aG
  blk_ext [iblk, e]

theorem read_w (t : Fin cfg0.N) (j : Fin 704) (k : Fin 1024) :
    (iblk m c 1 t (ix3 0 j k) : EReal) = aW m c (ix3 ⟨t.val / 4, by have h : t.val < 16 := t.isLt; omega⟩ j k) := by
  have e := (idx t).2.1
  unfold aW
  blk_ext [iblk, e]

/-- The whole result. -/
def R : (T3 4 8192 704).Idx → EReal := fun y => ∑ k : Fin 1024, aG m c (ix2 (y 1) k) * aW m c (ix3 (y 0) (y 2) k)

theorem final : (dats m 0 c).arrAt 2 cfg0.N = R m c := by
  refine (dats m 0 c).arrAt_eq_of_covers 2 _ (by decide +kernel) fun t hf y => ?_
  blk_simp
  rw [after0_2]
  frame_out
  obtain ⟨a, i, j, rfl⟩ := at3 y
  obtain rfl : a = 0 := Subsingleton.elim _ _
  refine (pay1_apply _ _ i j).trans (Finset.sum_congr rfl fun k _ => congrArg₂ (· * ·) ((read_g m c _ i k).trans (congrArg _ ?_))
    ((read_w m c _ j k).trans (congrArg _ ?_)))
  · blk_ext [(idx t).2.2]
  · blk_ext [(idx t).2.2]

/-- The arguments, at their shapes. -/
def x0 : FVec Ideal S2816x1024 .f32 := m ((c : Thread nD τ).loc main_arg0)
@[inherit_doc x0] def x1 : FVec Ideal S8192x1024 .f32 := m ((c : Thread nD τ).loc main_arg1)

theorem aG_eq (i : Fin 8192) (k : Fin 1024) : aG m c (ix2 i k) = x1 m c (ix2 i k) := by
  have e : aG m c = x1 m c := by
    unfold aG V
    after_results
    rfl
  rw [e]

theorem aW_eq (p : Fin 4) (j : Fin 704) (k : Fin 1024) : aW m c (ix3 p j k) = x0 m c (ix2 ⟨p.val * 704 + j.val, by omega⟩ k) := by
  have e : aW m c = truncf .bf16 (shapeCast S4x704x1024 (x0 m c) shapeCasts_S2816x1024_S4x704x1024) bitsLt_bf16_f32 := by
    unfold aW V
    after_results
    rfl
  rw [e]
  exact shard_rows _ rfl _ p j k _

/-- The reference's gradient is the same sum. -/
theorem ref_eq : Cert.Reference5Ideal.Read.val_main_v4 (F := Ideal) (x0 m c) (x1 m c) = R m c := by
  funext y
  obtain ⟨p, i, j, rfl⟩ := at3 y
  rw [val_main_v4_apply, val_main_v3_apply]
  refine (val_main_v2_apply _ _ _).trans (Finset.sum_congr rfl fun k _ => ?_)
  refine congrArg₂ (· * ·) (Eq.trans (congrArg (x1 m c) (funext fun d => ?_)) (aG_eq m c i k).symm)
    (Eq.trans (congrArg (x0 m c) (funext fun d => ?_)) (aW_eq m c p j k).symm)
  · match d with
    | ⟨0, _⟩ => exact Fin.ext (show ((i.val * 4 + p.val) * 704 + j.val) / 2816 = i.val by omega)
    | ⟨1, _⟩ => rfl
  · match d with
    | ⟨0, _⟩ => exact Fin.ext (show ((i.val * 4 + p.val) * 704 + j.val) % 2816 = p.val * 704 + j.val by omega)
    | ⟨1, _⟩ => rfl

theorem value : Cert.algebraic_Kernel5Ideal_Reference5Ideal := by
  intro m ρ m' ρ' _ hargs
  refine ⟨fun c => R m c, ?_, ?_⟩
  · refine (θ_run Cert.Kernel5Ideal.defs _ _).mono (fun r h c => ?_) (Value.run_blocks (F := Ideal) m ρ)
    exact ⟨(h c).1.trans (final m c), (h c).2⟩
  · refine (θ_run Cert.Reference5Ideal.defs _ _).mono (fun r h c => ?_) (Cert.Reference5Ideal.Value.run (F := Ideal) m' ρ')
    refine ⟨(h c).1.trans ?_, (h c).2⟩
    rw [(hargs c).1, (hargs c).2]
    exact ref_eq m c

end Cert.Proof.DownX
end
-- ==== Proof.Own.ProjW.lean ====
/-
  The gradient of the input product in its weights, d_proj_w: the sum over the 8192 rows in four blocks of 2048, half of the
  2560 columns at a time.
-/
module

public import proofs.«01_k».proof.Proof.Own.Prod
public import proofs.«01_k».proof.Proof.Gen.Kernel6Ideal.Value
public import proofs.«01_k».proof.Proof.Gen.Reference6Ideal.Read
public import proofs.«01_k».proof.Proof.Gen.Reference6Ideal.Run
public import proofs.«01_k».proof.Defs

@[expose] public section

set_option maxRecDepth 16384

noncomputable section

namespace Cert.Proof.ProjW

open Cert.Kernel6Ideal Cert.Kernel6Ideal.Gen
open Cert.Reference6Ideal.Read (val_main_v4_apply val_main_v3_apply val_main_v2_apply)
open Cert.Proof.Mla (T2)
open Cert.Proof.Prod (cols run_sum at2 ext2)
open Idealize.ShloMosaic Idealize.ShloMosaic.TcCoe Idealize.ShloMosaic.VecWindow
open Idealize.SL Idealize.SL.Sem

theorem idx : ∀ t : Fin cfg0.N, win0_0.index t = ![t.val % 4, 0] ∧ win0_1.index t = ![t.val % 4, t.val / 4]
    ∧ win0_2.index t = ![0, t.val / 4] := (by decide +kernel : ∀ t : Fin grid0.N, _)

variable (m : (ℓ : Loc nD τ sig) → Buf (Elt Ideal) ℓ) (c : Dev nD)

/-- The two arrays the windows stage. -/
def aX : (T2 8192 1024).Idx → EReal := V m c main_v0
@[inherit_doc aX] def aG : (T2 8192 2560).Idx → EReal := V m c main_v1

/-- A point's product at an index. -/
theorem pay1_apply (x : FVec Ideal S2048x1024 .bf16) (g : FVec Ideal S2048x1280 .bf16) (i : Fin 1024) (j : Fin 1280) :
    (k0_pay1 (F := Ideal) x g (ix2 i j) : EReal) = ∑ k : Fin 2048, (x (ix2 k i) : EReal) * g (ix2 k j) := by
  unfold k0_pay1 dot_S2048x1024_S2048x1280_S1024x1280_0_0_1_1_n_n
  rw [shapeCast_self x, shapeCast_self g]
  exact cols i j _ _ _

theorem read_x (t : Fin cfg0.N) (k : Fin 2048) (i : Fin 1024) :
    (iblk m c 0 t (ix2 k i) : EReal) = aX m c (ix2 ⟨t.val % 4 * 2048 + k.val, by omega⟩ i) := by
  have e := (idx t).1
  unfold aX
  blk_ext [iblk, e]

theorem read_g (t : Fin cfg0.N) (k : Fin 2048) (j : Fin 1280) :
    (iblk m c 1 t (ix2 k j) : EReal)
      = aG m c (ix2 ⟨t.val % 4 * 2048 + k.val, by omega⟩ ⟨t.val / 4 * 1280 + j.val, by have h : t.val < 8 := t.isLt; omega⟩) := by
  have e := (idx t).2.1
  unfold aG
  blk_ext [iblk, e]

/-- The accumulator at a run's last point. -/
theorem acc_eq (t : Fin cfg0.N) (hr : t.val % 4 = 3) (y : S1024x1280.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  refine run_sum (fun n h => (outsAt0 m c n h).2) 4 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T2 1024 2560).Idx → EReal := fun y => ∑ k : Fin 8192, aX m c (ix2 k (y 0)) * aG m c (ix2 k (y 1))

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = k0_pay4 (outsAt0 m c t.val t.isLt).2 := by
    rw [outsAt0_C m c t (by omega) (by omega) hr]
    frame_out
  rw [e]
  obtain ⟨i, j, rfl⟩ := at2 y
  refine (acc_eq m c t hr _).trans ?_
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x1024 .f32 := m ((c : Thread nD τ).loc main_arg0)
@[inherit_doc x0] def x1 : FVec Ideal S8192x2560 .f32 := m ((c : Thread nD τ).loc main_arg1)

theorem aX_eq : aX m c = x0 m c := by
  have e : aX m c = truncf .bf16 (x0 m c) bitsLt_bf16_f32 := by
    unfold aX V
    after_results
    rfl
  exact e

theorem aG_eq : aG m c = x1 m c := by
  have e : aG m c = truncf .bf16 (x1 m c) bitsLt_bf16_f32 := by
    unfold aG V
    after_results
    rfl
  exact e

/-- The reference's gradient is the same sum. -/
theorem ref_eq : Cert.Reference6Ideal.Read.val_main_v4 (F := Ideal) (x0 m c) (x1 m c) = R m c := by
  funext y
  obtain ⟨i, j, rfl⟩ := at2 y
  rw [val_main_v4_apply, val_main_v3_apply]
  refine (val_main_v2_apply _ _ _).trans ?_
  unfold R
  rw [aX_eq, aG_eq]
  refine Finset.sum_congr rfl fun k _ => (mul_comm _ _).trans ?_
  exact congrArg₂ (· * ·) (congrArg (x0 m c) (ext2 rfl rfl)) (congrArg (x1 m c) (ext2 rfl rfl))

theorem value : Cert.algebraic_Kernel6Ideal_Reference6Ideal := by
  intro m ρ m' ρ' _ hargs
  refine ⟨fun c => R m c, ?_, ?_⟩
  · refine (θ_run Cert.Kernel6Ideal.defs _ _).mono (fun r h c => ?_) (Value.run_blocks (F := Ideal) m ρ)
    exact ⟨(h c).1.trans (final m c), (h c).2⟩
  · refine (θ_run Cert.Reference6Ideal.defs _ _).mono (fun r h c => ?_) (Cert.Reference6Ideal.Value.run (F := Ideal) m' ρ')
    refine ⟨(h c).1.trans ?_, (h c).2⟩
    rw [(hargs c).1, (hargs c).2]
    exact ref_eq m c

end Cert.Proof.ProjW
end
-- ==== Proof.Own.ProjX.lean ====
/-
  The gradient of the input product in its input, d_proj_x: the sum over the 2560 columns in two halves.
-/
module

public import proofs.«01_k».proof.Proof.Own.Prod
public import proofs.«01_k».proof.Proof.Gen.Kernel7Ideal.Value
public import proofs.«01_k».proof.Proof.Gen.Reference7Ideal.Read
public import proofs.«01_k».proof.Proof.Gen.Reference7Ideal.Run
public import proofs.«01_k».proof.Defs

@[expose] public section

set_option maxRecDepth 16384

noncomputable section

namespace Cert.Proof.ProjX

open Cert.Kernel7Ideal Cert.Kernel7Ideal.Gen
open Cert.Proof.Mla (T2)
open Cert.Proof.Prod (rows run_sum at2 ext2)
open Idealize.ShloMosaic Idealize.ShloMosaic.TcCoe Idealize.ShloMosaic.VecWindow
open Idealize.SL Idealize.SL.Sem

theorem idx : ∀ t : Fin cfg0.N, win0_0.index t = ![t.val / 2, t.val % 2] ∧ win0_1.index t = ![0, t.val % 2]
    ∧ win0_2.index t = ![t.val / 2, 0] := (by decide +kernel : ∀ t : Fin grid0.N, _)

variable (m : (ℓ : Loc nD τ sig) → Buf (Elt Ideal) ℓ) (c : Dev nD)

/-- The two arrays the windows stage: the gradient, the weights. -/
def aG : (T2 8192 2560).Idx → EReal := V m c main_v0
@[inherit_doc aG] def aW : (T2 1024 2560).Idx → EReal := V m c main_v1

/-- A point's product at an index. -/
theorem pay1_apply (g : FVec Ideal S2048x1280 .bf16) (w : FVec Ideal S1024x1280 .bf16) (i : Fin 2048) (j : Fin 1024) :
    (k0_pay1 (F := Ideal) g w (ix2 i j) : EReal) = ∑ k : Fin 1280, (g (ix2 i k) : EReal) * w (ix2 j k) := by
  unfold k0_pay1 dot_S2048x1280_S1024x1280_S2048x1024_1_1_0_0_n_n
  rw [shapeCast_self g, shapeCast_self w]
  exact rows i j _ _ _

theorem read_g (t : Fin cfg0.N) (i : Fin 2048) (k : Fin 1280) :
    (iblk m c 0 t (ix2 i k) : EReal)
      = aG m c (ix2 ⟨t.val / 2 * 2048 + i.val, by have h : t.val < 8 := t.isLt; omega⟩ ⟨t.val % 2 * 1280 + k.val, by omega⟩) := by
  have e := (idx t).1
  unfold aG
  blk_ext [iblk, e]

theorem read_w (t : Fin cfg0.N) (j : Fin 1024) (k : Fin 1280) :
    (iblk m c 1 t (ix2 j k) : EReal) = aW m c (ix2 j ⟨t.val % 2 * 1280 + k.val, by omega⟩) := by
  have e := (idx t).2.1
  unfold aW
  blk_ext [iblk, e]

/-- The accumulator at a run's last point. -/
theorem acc_eq (t : Fin cfg0.N) (hr : t.val % 2 = 1) (y : S2048x1024.Idx) :
    ((outsAt0 m c t.val t.isLt).2 y : EReal) = ∑ s : Fin 2, (k0_pay1 (F := Ideal)
      (iblk m c 0 ⟨2 * (t.val / 2) + s.val, Pipeline.run_point_lt_of_flush t hr s⟩)
      (iblk m c 1 ⟨2 * (t.val / 2) + s.val, Pipeline.run_point_lt_of_flush t hr s⟩) y : EReal) := by
  refine run_sum (fun n h => (outsAt0 m c n h).2) 2 (fun t => k0_pay1 (F := Ideal) (iblk m c 0 t) (iblk m c 1 t)) (fun t h => ?_)
    (fun t h => ?_) t hr y
  · rw [outsAt0_A m c t h (by omega) (by omega)]
    frame_out
    exact shapeCast_self _ _
  · rw [outsAt0_B m c t h (by omega) (by omega)]
    frame_out
    simp only [read_unread_whole]
    exact shapeCast_self _ _

/-- The whole result. -/
def R : (T2 8192 1024).Idx → EReal := fun y => ∑ k : Fin 2560, aG m c (ix2 (y 0) k) * aW m c (ix2 (y 1) k)

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = (outsAt0 m c t.val t.isLt).2 := by
    rw [outsAt0_B m c t (by omega) hr hr]
    frame_out
  rw [e]
  obtain ⟨i, j, rfl⟩ := at2 y
  refine (acc_eq m c t hr _).trans ?_
  simp only [pay1_apply]
  refine Fin.sum_mul_add_congr fun s k hl => congrArg₂ (· * ·) ((read_g m c _ i k).trans (congrArg _ ?_)) ((read_w m c _ j k).trans (congrArg _ ?_))
  · blk_ext [(idx t).2.2]
  · blk_ext [(idx t).2.2]

/-- The arguments, at their shapes. -/
def x0 : FVec Ideal S1024x2560 .f32 := m ((c : Thread nD τ).loc main_arg0)
@[inherit_doc x0] def x1 : FVec Ideal S8192x2560 .f32 := m ((c : Thread nD τ).loc main_arg1)

theorem aG_eq : aG m c = x1 m c := by
  have e : aG m c = truncf .bf16 (x1 m c) bitsLt_bf16_f32 := by
    unfold aG V
    after_results
    rfl
  exact e

theorem aW_eq : aW m c = x0 m c := by
  have e : aW m c = truncf .bf16 (x0 m c) bitsLt_bf16_f32 := by
    unfold aW V
    after_results
    rfl
  exact e

/-- The reference's gradient is the same sum. -/
theorem ref_eq : Cert.Reference7Ideal.Read.val_main_v2 (F := Ideal) (x0 m c) (x1 m c) = R m c := by
  funext y
  obtain ⟨i, j, rfl⟩ := at2 y
  refine (Cert.Reference7Ideal.Read.val_main_v2_apply _ _ _).trans ?_
  unfold R
  rw [aG_eq, aW_eq]
  refine Finset.sum_congr rfl fun k _ => ?_
  exact congrArg₂ (· * ·) (congrArg (x1 m c) (ext2 rfl rfl)) (congrArg (x0 m c) (ext2 rfl rfl))

theorem value : Cert.algebraic_Kernel7Ideal_Reference7Ideal := by
  intro m ρ m' ρ' _ hargs
  refine ⟨fun c => R m c, ?_, ?_⟩
  · refine (θ_run Cert.Kernel7Ideal.defs _ _).mono (fun r h c => ?_) (Value.run_blocks (F := Ideal) m ρ)
    exact ⟨(h c).1.trans (final m c), (h c).2⟩
  · refine (θ_run Cert.Reference7Ideal.defs _ _).mono (fun r h c => ?_) (Cert.Reference7Ideal.Value.run (F := Ideal) m' ρ')
    refine ⟨(h c).1.trans ?_, (h c).2⟩
    rw [(hargs c).1, (hargs c).2]
    exact ref_eq m c

end Cert.Proof.ProjX
end
-- ==== Proof.Own.OutX.lean ====
/-
  The gradient of the output product in its input, d_out_x: 2048 rows of the gradient with the rows of the weights.
-/
module

public import proofs.«01_k».proof.Proof.Own.Prod
public import proofs.«01_k».proof.Proof.Gen.Kernel8Ideal.Value
public import proofs.«01_k».proof.Proof.Gen.Reference8Ideal.Read
public import proofs.«01_k».proof.Proof.Gen.Reference8Ideal.Run
public import proofs.«01_k».proof.Defs

@[expose] public section

set_option maxRecDepth 16384

noncomputable section

namespace Cert.Proof.OutX

open Cert.Kernel8Ideal Cert.Kernel8Ideal.Gen
open Cert.Proof.Mla (T2)
open Cert.Proof.Prod (rows at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

/-- The two arrays the windows stage: the gradient, the weights. -/
def aG : (T2 8192 1024).Idx → EReal := V m c main_arg1
@[inherit_doc aG] def aW : (T2 1024 1024).Idx → EReal := V m c main_v0

/-- A point's product at an index. -/
theorem pay1_apply (g : FVec Ideal S2048x1024 .f32) (w : FVec Ideal S1024x1024 .bf16) (i : Fin 2048) (j : Fin 1024) :
    (k0_pay1 (F := Ideal) g w (ix2 i j) : EReal) = ∑ k : Fin 1024, (g (ix2 i k) : EReal) * w (ix2 j k) := by
  unfold k0_pay1 dot_S2048x1024_S1024x1024_S2048x1024_1_1_0_0_n_n
  rw [shapeCast_self w]
  exact rows i j _ _ _

theorem read_g (t : Fin cfg0.N) (i : Fin 2048) (k : Fin 1024) :
    (iblk m c 0 t (ix2 i k) : EReal) = aG m c (ix2 ⟨t.val * 2048 + i.val, by have h : t.val < 4 := t.isLt; omega⟩ k) := by
  have e := (idx t).1
  unfold aG
  blk_ext [iblk, e]

theorem read_w (t : Fin cfg0.N) (j : Fin 1024) (k : Fin 1024) : (iblk m c 1 t (ix2 j k) : EReal) = aW m c (ix2 j k) := by
  have e := (idx t).2.1
  unfold aW
  blk_ext [iblk, e]

/-- The whole result. -/
def R : (T2 8192 1024).Idx → EReal := fun y => ∑ k : Fin 1024, aG m c (ix2 (y 0) k) * aW m c (ix2 (y 1) k)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans (Finset.sum_congr rfl fun k _ => congrArg₂ (· * ·) ((read_g m c _ i k).trans (congrArg _ ?_))
    ((read_w m c _ j k).trans (congrArg _ ?_)))
  · blk_ext [(idx t).2.2]
  · blk_ext [(idx t).2.2]

/-- The arguments, at their shapes. -/
def x0 : FVec Ideal S1024x1024 .f32 := m ((c : Thread nD τ).loc main_arg0)
@[inherit_doc x0] def x1 : FVec Ideal S8192x1024 .f32 := m ((c : Thread nD τ).loc main_arg1)

theorem aG_eq : aG m c = x1 m c := by
  unfold aG V
  after_results
  rfl

theorem aW_eq : aW m c = x0 m c := by
  have e : aW m c = truncf .bf16 (x0 m c) bitsLt_bf16_f32 := by
    unfold aW V
    after_results
    rfl
  exact e

/-- The reference's gradient is the same sum. -/
theorem ref_eq : Cert.Reference8Ideal.Read.val_main_v2 (F := Ideal) (x0 m c) (x1 m c) = R m c := by
  funext y
  obtain ⟨i, j, rfl⟩ := at2 y
  refine (Cert.Reference8Ideal.Read.val_main_v2_apply _ _ _).trans ?_
  unfold R
  rw [aG_eq, aW_eq]
  refine Finset.sum_congr rfl fun k _ => ?_
  exact congrArg₂ (· * ·) (congrArg (x1 m c) (ext2 rfl rfl)) (congrArg (x0 m c) (ext2 rfl rfl))

theorem value : Cert.algebraic_Kernel8Ideal_Reference8Ideal := by
  intro m ρ m' ρ' _ hargs
  refine ⟨fun c => R m c, ?_, ?_⟩
  · refine (θ_run Cert.Kernel8Ideal.defs _ _).mono (fun r h c => ?_) (Value.run_blocks (F := Ideal) m ρ)
    exact ⟨(h c).1.trans (final m c), (h c).2⟩
  · refine (θ_run Cert.Reference8Ideal.defs _ _).mono (fun r h c => ?_) (Cert.Reference8Ideal.Value.run (F := Ideal) m' ρ')
    refine ⟨(h c).1.trans ?_, (h c).2⟩
    rw [(hargs c).1, (hargs c).2]
    exact ref_eq m c

end Cert.Proof.OutX
end
-- ==== Proof.Own.OutW.lean ====
/-
  The gradient of the output product in its weights, d_out_w: the sum over the 8192 rows in four blocks of 2048.
-/
module

public import proofs.«01_k».proof.Proof.Own.Prod
public import proofs.«01_k».proof.Proof.Gen.Kernel9Ideal.Value
public import proofs.«01_k».proof.Proof.Gen.Reference9Ideal.Read
public import proofs.«01_k».proof.Proof.Gen.Reference9Ideal.Run
public import proofs.«01_k».proof.Defs

@[expose] public section

set_option maxRecDepth 16384

noncomputable section

namespace Cert.Proof.OutW

open Cert.Kernel9Ideal Cert.Kernel9Ideal.Gen
open Cert.Reference9Ideal.Read (val_main_v4_apply val_main_v3_apply val_main_v2_apply)
open Cert.Proof.Mla (T2)
open Cert.Proof.Prod (cols run_sum at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![t.val, 0]
    ∧ win0_2.index t = ![0, 0] := (by decide +kernel : ∀ t : Fin grid0.N, _)

variable (m : (ℓ : Loc nD τ sig) → Buf (Elt Ideal) ℓ) (c : Dev nD)

/-- The two arrays the windows stage. -/
def aX : (T2 8192 1024).Idx → EReal := V m c main_v0
@[inherit_doc aX] def aG : (T2 8192 1024).Idx → EReal := V m c main_arg1

/-- A point's product at an index. -/
theorem pay1_apply (x : FVec Ideal S2048x1024 .bf16) (g : FVec Ideal S2048x1024 .f32) (i : Fin 1024) (j : Fin 1024) :
    (k0_pay1 (F := Ideal) x g (ix2 i j) : EReal) = ∑ k : Fin 2048, (x (ix2 k i) : EReal) * g (ix2 k j) := by
  unfold k0_pay1 dot_S2048x1024_S2048x1024_S1024x1024_0_0_1_1_n_n
  rw [shapeCast_self x]
  exact cols i j _ _ _

theorem read_x (t : Fin cfg0.N) (k : Fin 2048) (i : Fin 1024) :
    (iblk m c 0 t (ix2 k i) : EReal) = aX m c (ix2 ⟨t.val * 2048 + k.val, by have h : t.val < 4 := t.isLt; omega⟩ i) := by
  have e := (idx t).1
  unfold aX
  blk_ext [iblk, e]

theorem read_g (t : Fin cfg0.N) (k : Fin 2048) (j : Fin 1024) :
    (iblk m c 1 t (ix2 k j) : EReal) = aG m c (ix2 ⟨t.val * 2048 + k.val, by have h : t.val < 4 := t.isLt; omega⟩ j) := by
  have e := (idx t).2.1
  unfold aG
  blk_ext [iblk, e]

/-- The accumulator at the last point. -/
theorem acc_eq (t : Fin cfg0.N) (hr : t.val % 4 = 3) (y : S1024x1024.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  have hN (t : Fin cfg0.N) : t.val < 4 := t.isLt
  refine run_sum (fun n h => (outsAt0 m c n h).2) 4 (fun t => k0_pay1 (F := Ideal) (iblk m c 0 t) (iblk m c 1 t)) (fun t h => ?_)
    (fun t h => ?_) t hr y
  · have := hN t
    rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T2 1024 1024).Idx → EReal := fun y => ∑ k : Fin 8192, aX m c (ix2 k (y 0)) * aG m c (ix2 k (y 1))

theorem final : (dats m 0 c).arrAt 2 cfg0.N = R m c := by
  refine (dats m 0 c).arrAt_eq_of_covers 2 _ (by decide +kernel) fun t hf y => ?_
  have hr := (flush0_2 t).mp hf
  have hN : t.val < 4 := t.isLt
  blk_simp
  rw [after0_2]
  have e : (outsAt0 m c t.val t.isLt).1 = k0_pay4 (outsAt0 m c t.val t.isLt).2 := by
    rw [outsAt0_C m c t (by omega) (by omega) hr]
    frame_out
  rw [e]
  obtain ⟨i, j, rfl⟩ := at2 y
  refine (acc_eq m c t hr _).trans ?_
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x1024 .f32 := m ((c : Thread nD τ).loc main_arg0)
@[inherit_doc x0] def x1 : FVec Ideal S8192x1024 .f32 := m ((c : Thread nD τ).loc main_arg1)

theorem aX_eq : aX m c = x0 m c := by
  have e : aX m c = truncf .bf16 (x0 m c) bitsLt_bf16_f32 := by
    unfold aX V
    after_results
    rfl
  exact e

theorem aG_eq : aG m c = x1 m c := by
  unfold aG V
  after_results
  rfl

/-- The reference's gradient is the same sum. -/
theorem ref_eq : Cert.Reference9Ideal.Read.val_main_v4 (F := Ideal) (x0 m c) (x1 m c) = R m c := by
  funext y
  obtain ⟨i, j, rfl⟩ := at2 y
  rw [val_main_v4_apply, val_main_v3_apply]
  refine (val_main_v2_apply _ _ _).trans ?_
  unfold R
  rw [aX_eq, aG_eq]
  refine Finset.sum_congr rfl fun k _ => (mul_comm _ _).trans ?_
  exact congrArg₂ (· * ·) (congrArg (x0 m c) (ext2 rfl rfl)) (congrArg (x1 m c) (ext2 rfl rfl))

theorem value : Cert.algebraic_Kernel9Ideal_Reference9Ideal := by
  intro m ρ m' ρ' _ hargs
  refine ⟨fun c => R m c, ?_, ?_⟩
  · refine (θ_run Cert.Kernel9Ideal.defs _ _).mono (fun r h c => ?_) (Value.run_blocks (F := Ideal) m ρ)
    exact ⟨(h c).1.trans (final m c), (h c).2⟩
  · refine (θ_run Cert.Reference9Ideal.defs _ _).mono (fun r h c => ?_) (Cert.Reference9Ideal.Value.run (F := Ideal) m' ρ')
    refine ⟨(h c).1.trans ?_, (h c).2⟩
    rw [(hargs c).1, (hargs c).2]
    exact ref_eq m c

end Cert.Proof.OutW
end
-- ==== Proof.Own.Proj.lean ====
/-
  The input product, proj: 2048 rows by half of the 2560 columns at a time.
-/
module

public import proofs.«01_k».proof.Proof.Own.Prod
public import proofs.«01_k».proof.Proof.Gen.Kernel10Ideal.Value
public import proofs.«01_k».proof.Proof.Gen.Reference10Ideal.Read
public import proofs.«01_k».proof.Proof.Gen.Reference10Ideal.Run
public import proofs.«01_k».proof.Defs

@[expose] public section

set_option maxRecDepth 16384

noncomputable section

namespace Cert.Proof.Proj

open Cert.Kernel10Ideal Cert.Kernel10Ideal.Gen
open Cert.Proof.Mla (T2)
open Cert.Proof.Prod (plain at2 ext2)
open Idealize.ShloMosaic Idealize.ShloMosaic.TcCoe Idealize.ShloMosaic.VecWindow
open Idealize.SL Idealize.SL.Sem

theorem idx : ∀ t : Fin cfg0.N, win0_0.index t = ![t.val / 2, 0] ∧ win0_1.index t = ![0, t.val % 2]
    ∧ win0_2.index t = ![t.val / 2, t.val % 2] := (by decide +kernel : ∀ t : Fin grid0.N, _)

variable (m : (ℓ : Loc nD τ sig) → Buf (Elt Ideal) ℓ) (c : Dev nD)

/-- The two arrays the windows stage. -/
def aX : (T2 8192 1024).Idx → EReal := V m c main_v0
@[inherit_doc aX] def aW : (T2 1024 2560).Idx → EReal := V m c main_v1

/-- A point's product at an index. -/
theorem pay1_apply (x : FVec Ideal S2048x1024 .bf16) (w : FVec Ideal S1024x1280 .bf16) (i : Fin 2048) (j : Fin 1280) :
    (k0_pay1 (F := Ideal) x w (ix2 i j) : EReal) = ∑ k : Fin 1024, (x (ix2 i k) : EReal) * w (ix2 k j) := by
  unfold k0_pay1 dot_S2048x1024_S1024x1280_S2048x1280_1_0_0_1_n_n
  rw [shapeCast_self x, shapeCast_self w]
  exact plain i j _ _ _

theorem read_x (t : Fin cfg0.N) (i : Fin 2048) (k : Fin 1024) :
    (iblk m c 0 t (ix2 i k) : EReal) = aX m c (ix2 ⟨t.val / 2 * 2048 + i.val, by have h : t.val < 8 := t.isLt; omega⟩ k) := by
  have e := (idx t).1
  unfold aX
  blk_ext [iblk, e]

theorem read_w (t : Fin cfg0.N) (k : Fin 1024) (j : Fin 1280) :
    (iblk m c 1 t (ix2 k j) : EReal) = aW m c (ix2 k ⟨t.val % 2 * 1280 + j.val, by omega⟩) := by
  have e := (idx t).2.1
  unfold aW
  blk_ext [iblk, e]

/-- The whole result. -/
def R : (T2 8192 2560).Idx → EReal := fun y => ∑ k : Fin 1024, aX m c (ix2 (y 0) k) * aW m c (ix2 k (y 1))

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans (Finset.sum_congr rfl fun k _ => congrArg₂ (· * ·) ((read_x m c _ i k).trans (congrArg _ ?_))
    ((read_w m c _ k j).trans (congrArg _ ?_)))
  · blk_ext [(idx t).2.2]
  · blk_ext [(idx t).2.2]

/-- The arguments, at their shapes. -/
def x0 : FVec Ideal S8192x1024 .f32 := m ((c : Thread nD τ).loc main_arg0)
@[inherit_doc x0] def x1 : FVec Ideal S1024x2560 .f32 := m ((c : Thread nD τ).loc main_arg1)

theorem aX_eq : aX m c = x0 m c := by
  have e : aX m c = truncf .bf16 (x0 m c) bitsLt_bf16_f32 := by
    unfold aX V
    after_results
    rfl
  exact e

theorem aW_eq : aW m c = x1 m c := by
  have e : aW m c = truncf .bf16 (x1 m c) bitsLt_bf16_f32 := by
    unfold aW V
    after_results
    rfl
  exact e

/-- The reference's product is the same sum. -/
theorem ref_eq : Cert.Reference10Ideal.Read.val_main_v0 (F := Ideal) (x0 m c) (x1 m c) = R m c := by
  funext y
  obtain ⟨i, j, rfl⟩ := at2 y
  refine (Cert.Reference10Ideal.Read.val_main_v0_apply _ _ _).trans ?_
  unfold R
  rw [aX_eq, aW_eq]
  refine Finset.sum_congr rfl fun k _ => ?_
  exact congrArg₂ (· * ·) (congrArg (x0 m c) (ext2 rfl rfl)) (congrArg (x1 m c) (ext2 rfl rfl))

theorem value : Cert.algebraic_Kernel10Ideal_Reference10Ideal := by
  intro m ρ m' ρ' _ hargs
  refine ⟨fun c => R m c, ?_, ?_⟩
  · refine (θ_run Cert.Kernel10Ideal.defs _ _).mono (fun r h c => ?_) (Value.run_blocks (F := Ideal) m ρ)
    exact ⟨(h c).1.trans (final m c), (h c).2⟩
  · refine (θ_run Cert.Reference10Ideal.defs _ _).mono (fun r h c => ?_) (Cert.Reference10Ideal.Value.run (F := Ideal) m' ρ')
    refine ⟨(h c).1.trans ?_, (h c).2⟩
    rw [(hargs c).1, (hargs c).2]
    exact ref_eq m c

end Cert.Proof.Proj
end
-- ==== Proof.Own.Up.lean ====
/-
  The first FFN product, up: 2048 rows by one owner's 704 columns at a time.
-/
module

public import proofs.«01_k».proof.Proof.Own.Prod
public import proofs.«01_k».proof.Proof.Gen.Kernel11Ideal.Value
public import proofs.«01_k».proof.Proof.Gen.Reference11Ideal.Read
public import proofs.«01_k».proof.Proof.Gen.Reference11Ideal.Run
public import proofs.«01_k».proof.Defs

@[expose] public section

set_option maxRecDepth 16384

noncomputable section

namespace Cert.Proof.Up

open Cert.Kernel11Ideal Cert.Kernel11Ideal.Gen
open Cert.Reference11Ideal.Read (val_main_v3_apply val_main_v2_apply val_main_v1_apply val_main_v0_apply)
open Cert.Proof.Mla (T2 T3 drop_apply add_apply)
open Cert.Proof.Prod (plain shard_cols at3)
open Idealize.ShloMosaic Idealize.ShloMosaic.TcCoe Idealize.ShloMosaic.VecWindow
open Idealize.SL Idealize.SL.Sem

theorem idx : ∀ t : Fin cfg0.N, win0_0.index t = ![t.val % 4, 0] ∧ win0_1.index t = ![t.val / 4, 0, 0]
    ∧ win0_2.index t = ![t.val / 4, t.val % 4, 0] := (by decide +kernel : ∀ t : Fin grid0.N, _)

variable (m : (ℓ : Loc nD τ sig) → Buf (Elt Ideal) ℓ) (c : Dev nD)

/-- The two arrays the windows stage: the input, the weights by owner. -/
def aX : (T2 8192 1024).Idx → EReal := V m c main_v0
@[inherit_doc aX] def aW : (T3 8 1024 704).Idx → EReal := V m c main_v3

/-- A point's product at an index. -/
theorem pay1_apply (x : FVec Ideal S2048x1024 .bf16) (w : FVec Ideal S1x1024x704 .bf16) (i : Fin 2048) (j : Fin 704) :
    (k0_pay1 (F := Ideal) x w (ix3 0 i j) : EReal) = ∑ k : Fin 1024, (x (ix2 i k) : EReal) * w (ix3 0 k j) := by
  unfold k0_pay1 dot_S2048x1024_S1024x704_S2048x704_1_0_0_1_n_n
  rw [shapeCast_self x]
  refine (add_apply _ _ i j).trans ((plain i j _ _ _).trans (Finset.sum_congr rfl fun k _ => congrArg₂ (· * ·) rfl (drop_apply w _ k j)))

theorem read_x (t : Fin cfg0.N) (i : Fin 2048) (k : Fin 1024) :
    (iblk m c 0 t (ix2 i k) : EReal) = aX m c (ix2 ⟨t.val % 4 * 2048 + i.val, by omega⟩ k) := by
  have e := (idx t).1
  unfold aX
  blk_ext [iblk, e]

theorem read_w (t : Fin cfg0.N) (k : Fin 1024) (j : Fin 704) :
    (iblk m c 1 t (ix3 0 k j) : EReal) = aW m c (ix3 ⟨t.val / 4, by have h : t.val < 32 := t.isLt; omega⟩ k j) := by
  have e := (idx t).2.1
  unfold aW
  blk_ext [iblk, e]

/-- The whole result. -/
def R : (T3 8 8192 704).Idx → EReal := fun y => ∑ k : Fin 1024, aX m c (ix2 (y 1) k) * aW m c (ix3 (y 0) k (y 2))

theorem final : (dats m 0 c).arrAt 2 cfg0.N = R m c := by
  refine (dats m 0 c).arrAt_eq_of_covers 2 _ (by decide +kernel) fun t hf y => ?_
  blk_simp
  rw [after0_2]
  frame_out
  obtain ⟨a, i, j, rfl⟩ := at3 y
  obtain rfl : a = 0 := Subsingleton.elim _ _
  refine (pay1_apply _ _ i j).trans (Finset.sum_congr rfl fun k _ => congrArg₂ (· * ·) ((read_x m c _ i k).trans (congrArg _ ?_))
    ((read_w m c _ k j).trans (congrArg _ ?_)))
  · blk_ext [(idx t).2.2]
  · blk_ext [(idx t).2.2]

/-- The arguments, at their shapes. -/
def x0 : FVec Ideal S8192x1024 .f32 := m ((c : Thread nD τ).loc main_arg0)
@[inherit_doc x0] def x1 : FVec Ideal S1024x5632 .f32 := m ((c : Thread nD τ).loc main_arg1)

theorem aX_eq (i : Fin 8192) (k : Fin 1024) : aX m c (ix2 i k) = x0 m c (ix2 i k) := by
  have e : aX m c = truncf .bf16 (x0 m c) bitsLt_bf16_f32 := by
    unfold aX V
    after_results
    rfl
  rw [e]
  rfl

theorem aW_eq (p : Fin 8) (k : Fin 1024) (j : Fin 704) : aW m c (ix3 p k j) = x1 m c (ix2 k ⟨p.val * 704 + j.val, by omega⟩) := by
  have e : aW m c = truncf .bf16 (transpose S8x1024x704 [1, 0, 2] (shapeCast S1024x8x704 (x1 m c) shapeCasts_S1024x5632_S1024x8x704)
      transposes_S1024x8x704_S8x1024x704_1_0_2) bitsLt_bf16_f32 := by
    unfold aW V
    after_results
    rfl
  rw [e]
  exact shard_cols _ rfl _ _ p k j _

/-- The reference's product is the same sum. -/
theorem ref_eq : Cert.Reference11Ideal.Read.val_main_v3 (F := Ideal) (x0 m c) (x1 m c) = R m c := by
  funext y
  obtain ⟨p, i, j, rfl⟩ := at3 y
  rw [val_main_v3_apply, val_main_v2_apply, val_main_v1_apply]
  refine (val_main_v0_apply _ _ _).trans (Finset.sum_congr rfl fun k _ => ?_)
  refine congrArg₂ (· * ·) (Eq.trans (congrArg (x0 m c) (funext fun d => ?_)) (aX_eq m c i k).symm)
    (Eq.trans (congrArg (x1 m c) (funext fun d => ?_)) (aW_eq m c p k j).symm)
  · match d with
    | ⟨0, _⟩ => exact Fin.ext (show ((i.val * 8 + p.val) * 704 + j.val) / 5632 = i.val by omega)
    | ⟨1, _⟩ => rfl
  · match d with
    | ⟨0, _⟩ => rfl
    | ⟨1, _⟩ => exact Fin.ext (show ((i.val * 8 + p.val) * 704 + j.val) % 5632 = p.val * 704 + j.val by omega)

theorem value : Cert.algebraic_Kernel11Ideal_Reference11Ideal := by
  intro m ρ m' ρ' _ hargs
  refine ⟨fun c => R m c, ?_, ?_⟩
  · refine (θ_run Cert.Kernel11Ideal.defs _ _).mono (fun r h c => ?_) (Value.run_blocks (F := Ideal) m ρ)
    exact ⟨(h c).1.trans (final m c), (h c).2⟩
  · refine (θ_run Cert.Reference11Ideal.defs _ _).mono (fun r h c => ?_) (Cert.Reference11Ideal.Value.run (F := Ideal) m' ρ')
    refine ⟨(h c).1.trans ?_, (h c).2⟩
    rw [(hargs c).1, (hargs c).2]
    exact ref_eq m c

end Cert.Proof.Up
end
-- ==== Proof.Own.Down.lean ====
/-
  The second FFN product with its residual, down: the sum over the 2816 columns, one owner's 704 at a time, the residual added
  at the last.
-/
module

public import proofs.«01_k».proof.Proof.Own.Prod
public import proofs.«01_k».proof.Proof.Gen.Kernel12Ideal.Value
public import proofs.«01_k».proof.Proof.Gen.Reference12Ideal.Read
public import proofs.«01_k».proof.Proof.Gen.Reference12Ideal.Run
public import proofs.«01_k».proof.Defs

@[expose] public section

set_option maxRecDepth 16384

noncomputable section

namespace Cert.Proof.Down

open Cert.Kernel12Ideal Cert.Kernel12Ideal.Gen
open Cert.Proof.Mla (T2 T3 drop_apply)
open Cert.Proof.Prod (plain run_sum shard_cols shard_rows at2 ext2)
open Idealize.ShloMosaic Idealize.ShloMosaic.TcCoe Idealize.ShloMosaic.VecWindow
open Idealize.SL Idealize.SL.Sem

theorem idx : ∀ t : Fin cfg0.N, win0_0.index t = ![t.val % 4, t.val / 4, 0] ∧ win0_1.index t = ![t.val % 4, 0, 0]
    ∧ win0_2.index t = ![t.val / 4, 0] ∧ win0_3.index t = ![t.val / 4, 0] := (by decide +kernel : ∀ t : Fin grid0.N, _)

variable (m : (ℓ : Loc nD τ sig) → Buf (Elt Ideal) ℓ) (c : Dev nD)

/-- The three arrays the windows stage: the activations by owner, the weights by owner, the residual. -/
def aX : (T3 4 8192 704).Idx → EReal := V m c main_v2
@[inherit_doc aX] def aW : (T3 4 704 1024).Idx → EReal := V m c main_v4
@[inherit_doc aX] def aH : (T2 8192 1024).Idx → EReal := V m c main_arg2

/-- A point's product at an index. -/
theorem pay1_apply (x : FVec Ideal S1x1024x704 .bf16) (w : FVec Ideal S1x704x1024 .bf16) (i : Fin 1024) (j : Fin 1024) :
    (k0_pay1 (F := Ideal) x w (ix2 i j) : EReal) = ∑ k : Fin 704, (x (ix3 0 i k) : EReal) * w (ix3 0 k j) := by
  unfold k0_pay1 dot_S1024x704_S704x1024_S1024x1024_1_0_0_1_n_n
  refine (plain i j _ _ _).trans (Finset.sum_congr rfl fun k _ => congrArg₂ (· * ·) (drop_apply x _ i k) (drop_apply w _ k j))

theorem read_x (t : Fin cfg0.N) (i : Fin 1024) (k : Fin 704) :
    (iblk m c 0 t (ix3 0 i k) : EReal)
      = aX m c (ix3 ⟨t.val % 4, by omega⟩ ⟨t.val / 4 * 1024 + i.val, by have h : t.val < 32 := t.isLt; omega⟩ k) := by
  have e := (idx t).1
  unfold aX
  blk_ext [iblk, e]

theorem read_w (t : Fin cfg0.N) (k : Fin 704) (j : Fin 1024) :
    (iblk m c 1 t (ix3 0 k j) : EReal) = aW m c (ix3 ⟨t.val % 4, by omega⟩ k j) := by
  have e := (idx t).2.1
  unfold aW
  blk_ext [iblk, e]

theorem read_h (t : Fin cfg0.N) (i : Fin 1024) (j : Fin 1024) :
    (iblk m c 2 t (ix2 i j) : EReal) = aH m c (ix2 ⟨t.val / 4 * 1024 + i.val, by have h : t.val < 32 := t.isLt; omega⟩ j) := by
  have e := (idx t).2.2.1
  unfold aH
  blk_ext [iblk, e]

/-- The accumulator at a run's last point. -/
theorem acc_eq (t : Fin cfg0.N) (hr : t.val % 4 = 3) (y : S1024x1024.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  refine run_sum (fun n h => (outsAt0 m c n h).2) 4 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result, the sum taken owner by owner. -/
def R : (T2 8192 1024).Idx → EReal := fun y => (∑ p : Fin 4, ∑ k : Fin 704, aX m c (ix3 p (y 0) k) * aW m c (ix3 p k (y 1))) + aH m c y

theorem final : (dats m 0 c).arrAt 3 cfg0.N = R m c := by
  refine (dats m 0 c).arrAt_eq_of_covers 3 _ (by decide +kernel) fun t hf y => ?_
  have hr := (flush0_3 t).mp hf
  blk_simp
  rw [after0_3]
  have e : (outsAt0 m c t.val t.isLt).1 = k0_pay4 (outsAt0 m c t.val t.isLt).2 (iblk m c 2 t) := by
    rw [outsAt0_C m c t (by omega) (by omega) hr]
    frame_out
  rw [e]
  obtain ⟨i, j, rfl⟩ := at2 y
  refine congrArg₂ (· + ·) ((acc_eq m c t hr _).trans (Finset.sum_congr rfl fun p _ => ?_)) ((read_h m c t i j).trans (congrArg _ ?_))
  · refine (pay1_apply _ _ i j).trans (Finset.sum_congr rfl fun k _ => congrArg₂ (· * ·) ((read_x m c _ i k).trans (congrArg _ ?_))
      ((read_w m c _ k j).trans (congrArg _ ?_)))
    · blk_ext [(idx t).2.2.2]
    · blk_ext [(idx t).2.2.2]
  · blk_ext [(idx t).2.2.2]

/-- The arguments, at their shapes. -/
def x0 : FVec Ideal S8192x2816 .f32 := m ((c : Thread nD τ).loc main_arg0)
@[inherit_doc x0] def x1 : FVec Ideal S2816x1024 .f32 := m ((c : Thread nD τ).loc main_arg1)
@[inherit_doc x0] def x2 : FVec Ideal S8192x1024 .f32 := m ((c : Thread nD τ).loc main_arg2)

theorem aX_eq (p : Fin 4) (i : Fin 8192) (k : Fin 704) : aX m c (ix3 p i k) = x0 m c (ix2 i ⟨p.val * 704 + k.val, by omega⟩) := by
  have e : aX m c = truncf .bf16 (transpose S4x8192x704 [1, 0, 2] (shapeCast S8192x4x704 (x0 m c) shapeCasts_S8192x2816_S8192x4x704)
      transposes_S8192x4x704_S4x8192x704_1_0_2) bitsLt_bf16_f32 := by
    unfold aX V
    after_results
    rfl
  rw [e]
  exact shard_cols _ rfl _ _ p i k _

theorem aW_eq (p : Fin 4) (k : Fin 704) (j : Fin 1024) : aW m c (ix3 p k j) = x1 m c (ix2 ⟨p.val * 704 + k.val, by omega⟩ j) := by
  have e : aW m c = truncf .bf16 (shapeCast S4x704x1024 (x1 m c) shapeCasts_S2816x1024_S4x704x1024) bitsLt_bf16_f32 := by
    unfold aW V
    after_results
    rfl
  rw [e]
  exact shard_rows _ rfl _ p k j _

theorem aH_eq : aH m c = x2 m c := by
  unfold aH V
  after_results
  rfl

/-- The reference's product with the residual is the same sum. -/
theorem ref_eq : Cert.Reference12Ideal.Read.val_main_v1 (F := Ideal) (x0 m c) (x1 m c) (x2 m c) = R m c := by
  funext y
  obtain ⟨i, j, rfl⟩ := at2 y
  rw [Cert.Reference12Ideal.Read.val_main_v1_apply]
  refine Eq.trans (add_comm (_ : EReal) _) (congrArg₂ (· + ·) ?_ (congrFun (aH_eq m c) _).symm)
  refine (Cert.Reference12Ideal.Read.val_main_v0_apply _ _ _).trans (Eq.symm ?_)
  refine Fin.sum_mul_add_congr fun p k hl => ?_
  exact congrArg₂ (· * ·) ((aX_eq m c p i k).trans (congrArg (x0 m c) (ext2 rfl rfl)))
    ((aW_eq m c p k j).trans (congrArg (x1 m c) (ext2 rfl rfl)))

theorem value : Cert.algebraic_Kernel12Ideal_Reference12Ideal := by
  intro m ρ m' ρ' _ hargs
  refine ⟨fun c => R m c, ?_, ?_⟩
  · refine (θ_run Cert.Kernel12Ideal.defs _ _).mono (fun r h c => ?_) (Value.run_blocks (F := Ideal) m ρ)
    exact ⟨(h c).1.trans (final m c), (h c).2⟩
  · refine (θ_run Cert.Reference12Ideal.defs _ _).mono (fun r h c => ?_) (Cert.Reference12Ideal.Value.run (F := Ideal) m' ρ')
    refine ⟨(h c).1.trans ?_, (h c).2⟩
    rw [(hargs c).1, (hargs c).2.1, (hargs c).2.2]
    exact ref_eq m c

end Cert.Proof.Down
end
-- ==== Proof.Own.Out.lean ====
/-
  The output product with its residual, outproj: 1024 rows at a time.
-/
module

public import proofs.«01_k».proof.Proof.Own.Prod
public import proofs.«01_k».proof.Proof.Gen.Kernel13Ideal.Value
public import proofs.«01_k».proof.Proof.Gen.Reference13Ideal.Read
public import proofs.«01_k».proof.Proof.Gen.Reference13Ideal.Run
public import proofs.«01_k».proof.Defs

@[expose] public section

set_option maxRecDepth 16384

noncomputable section

namespace Cert.Proof.Out

open Cert.Kernel13Ideal Cert.Kernel13Ideal.Gen
open Cert.Proof.Mla (T2)
open Cert.Proof.Prod (plain at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0]
    ∧ win0_2.index t = ![t.val, 0] ∧ win0_3.index t = ![t.val, 0] := (by decide +kernel : ∀ t : Fin grid0.N, _)

variable (m : (ℓ : Loc nD τ sig) → Buf (Elt Ideal) ℓ) (c : Dev nD)

/-- The three arrays the windows stage: the input, the weights, the residual. -/
def aX : (T2 8192 1024).Idx → EReal := V m c main_v0
@[inherit_doc aX] def aW : (T2 1024 1024).Idx → EReal := V m c main_v1
@[inherit_doc aX] def aH : (T2 8192 1024).Idx → EReal := V m c main_arg2

/-- A point's product with its residual at an index. -/
theorem pay1_apply (x : FVec Ideal S1024x1024 .bf16) (w : FVec Ideal S1024x1024 .bf16) (h : FVec Ideal S1024x1024 .f32) (i : Fin 1024)
    (j : Fin 1024) :
    (k0_pay1 (F := Ideal) x w h (ix2 i j) : EReal) = (∑ k : Fin 1024, (x (ix2 i k) : EReal) * w (ix2 k j)) + h (ix2 i j) := by
  unfold k0_pay1 dot_S1024x1024_S1024x1024_S1024x1024_1_0_0_1_n_n
  rw [shapeCast_self x, shapeCast_self w]
  exact congrArg₂ (· + ·) (plain i j _ _ _) rfl

theorem read_x (t : Fin cfg0.N) (i : Fin 1024) (k : Fin 1024) :
    (iblk m c 0 t (ix2 i k) : EReal) = aX m c (ix2 ⟨t.val * 1024 + i.val, by have h : t.val < 8 := t.isLt; omega⟩ k) := by
  have e := (idx t).1
  unfold aX
  blk_ext [iblk, e]

theorem read_w (t : Fin cfg0.N) (k : Fin 1024) (j : Fin 1024) : (iblk m c 1 t (ix2 k j) : EReal) = aW m c (ix2 k j) := by
  have e := (idx t).2.1
  unfold aW
  blk_ext [iblk, e]

theorem read_h (t : Fin cfg0.N) (i : Fin 1024) (j : Fin 1024) :
    (iblk m c 2 t (ix2 i j) : EReal) = aH m c (ix2 ⟨t.val * 1024 + i.val, by have h : t.val < 8 := t.isLt; omega⟩ j) := by
  have e := (idx t).2.2.1
  unfold aH
  blk_ext [iblk, e]

/-- The whole result. -/
def R : (T2 8192 1024).Idx → EReal := fun y => (∑ k : Fin 1024, aX m c (ix2 (y 0) k) * aW m c (ix2 k (y 1))) + aH m c y

theorem final : (dats m 0 c).arrAt 3 cfg0.N = R m c := by
  refine (dats m 0 c).arrAt_eq_of_covers 3 _ (by decide +kernel) fun t hf y => ?_
  blk_simp
  rw [after0_3]
  frame_out
  obtain ⟨i, j, rfl⟩ := at2 y
  refine (pay1_apply _ _ _ i j).trans (congrArg₂ (· + ·) (Finset.sum_congr rfl fun k _ => congrArg₂ (· * ·)
    ((read_x m c _ i k).trans (congrArg _ ?_)) ((read_w m c _ k j).trans (congrArg _ ?_))) ((read_h m c t i j).trans (congrArg _ ?_)))
  · blk_ext [(idx t).2.2.2]
  · blk_ext [(idx t).2.2.2]
  · blk_ext [(idx t).2.2.2]

/-- The arguments, at their shapes. -/
def x0 : FVec Ideal S8192x1024 .f32 := m ((c : Thread nD τ).loc main_arg0)
@[inherit_doc x0] def x1 : FVec Ideal S1024x1024 .f32 := m ((c : Thread nD τ).loc main_arg1)
@[inherit_doc x0] def x2 : FVec Ideal S8192x1024 .f32 := m ((c : Thread nD τ).loc main_arg2)

theorem aX_eq : aX m c = x0 m c := by
  have e : aX m c = truncf .bf16 (x0 m c) bitsLt_bf16_f32 := by
    unfold aX V
    after_results
    rfl
  exact e

theorem aW_eq : aW m c = x1 m c := by
  have e : aW m c = truncf .bf16 (x1 m c) bitsLt_bf16_f32 := by
    unfold aW V
    after_results
    rfl
  exact e

theorem aH_eq : aH m c = x2 m c := by
  unfold aH V
  after_results
  rfl

/-- The reference's product with the residual is the same sum. -/
theorem ref_eq : Cert.Reference13Ideal.Read.val_main_v1 (F := Ideal) (x0 m c) (x1 m c) (x2 m c) = R m c := by
  funext y
  obtain ⟨i, j, rfl⟩ := at2 y
  rw [Cert.Reference13Ideal.Read.val_main_v1_apply]
  refine Eq.trans (add_comm (_ : EReal) _) (congrArg₂ (· + ·) ?_ (congrFun (aH_eq m c) _).symm)
  refine (Cert.Reference13Ideal.Read.val_main_v0_apply _ _ _).trans ?_
  rw [aX_eq, aW_eq]
  refine Finset.sum_congr rfl fun k _ => ?_
  exact congrArg₂ (· * ·) (congrArg (x0 m c) (ext2 rfl rfl)) (congrArg (x1 m c) (ext2 rfl rfl))

theorem value : Cert.algebraic_Kernel13Ideal_Reference13Ideal := by
  intro m ρ m' ρ' _ hargs
  refine ⟨fun c => R m c, ?_, ?_⟩
  · refine (θ_run Cert.Kernel13Ideal.defs _ _).mono (fun r h c => ?_) (Value.run_blocks (F := Ideal) m ρ)
    exact ⟨(h c).1.trans (final m c), (h c).2⟩
  · refine (θ_run Cert.Reference13Ideal.defs _ _).mono (fun r h c => ?_) (Cert.Reference13Ideal.Value.run (F := Ideal) m' ρ')
    refine ⟨(h c).1.trans ?_, (h c).2⟩
    rw [(hargs c).1, (hargs c).2.1, (hargs c).2.2]
    exact ref_eq m c

end Cert.Proof.Out
end
-- ==== Proof.Own.Uq.lean ====
/-
  The attention's product for its queries, uq: 2048 rows at a time.
-/
module

public import proofs.«01_k».proof.Proof.Own.Prod
public import proofs.«01_k».proof.Proof.Gen.Kernel16Ideal.Value
public import proofs.«01_k».proof.Proof.Gen.Reference16Ideal.Read
public import proofs.«01_k».proof.Proof.Gen.Reference16Ideal.Run
public import proofs.«01_k».proof.Defs

@[expose] public section

set_option maxRecDepth 16384

noncomputable section

namespace Cert.Proof.Uq

open Cert.Kernel16Ideal Cert.Kernel16Ideal.Gen
open Cert.Proof.Mla (T2)
open Cert.Proof.Prod (plain at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

/-- The two arrays the windows stage. -/
def aX : (T2 8192 256).Idx → EReal := V m c main_v0
@[inherit_doc aX] def aW : (T2 256 384).Idx → EReal := V m c main_v1

/-- A point's product at an index. -/
theorem pay1_apply (x : FVec Ideal S2048x256 .bf16) (w : FVec Ideal S256x384 .bf16) (i : Fin 2048) (j : Fin 384) :
    (k0_pay1 (F := Ideal) x w (ix2 i j) : EReal) = ∑ k : Fin 256, (x (ix2 i k) : EReal) * w (ix2 k j) := by
  unfold k0_pay1 dot_S2048x256_S256x384_S2048x384_1_0_0_1_n_n
  rw [shapeCast_self x, shapeCast_self w]
  exact plain i j _ _ _

theorem read_x (t : Fin cfg0.N) (i : Fin 2048) (k : Fin 256) :
    (iblk m c 0 t (ix2 i k) : EReal) = aX m c (ix2 ⟨t.val * 2048 + i.val, by have h : t.val < 4 := t.isLt; omega⟩ k) := by
  have e := (idx t).1
  unfold aX
  blk_ext [iblk, e]

theorem read_w (t : Fin cfg0.N) (k : Fin 256) (j : Fin 384) : (iblk m c 1 t (ix2 k j) : EReal) = aW m c (ix2 k j) := by
  have e := (idx t).2.1
  unfold aW
  blk_ext [iblk, e]

/-- The whole result. -/
def R : (T2 8192 384).Idx → EReal := fun y => ∑ k : Fin 256, aX m c (ix2 (y 0) k) * aW m c (ix2 k (y 1))

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans (Finset.sum_congr rfl fun k _ => congrArg₂ (· * ·) ((read_x m c _ i k).trans (congrArg _ ?_))
    ((read_w m c _ k j).trans (congrArg _ ?_)))
  · blk_ext [(idx t).2.2]
  · blk_ext [(idx t).2.2]

/-- The arguments, at their shapes. -/
def x0 : FVec Ideal S8192x256 .f32 := m ((c : Thread nD τ).loc main_arg0)
@[inherit_doc x0] def x1 : FVec Ideal S256x384 .f32 := m ((c : Thread nD τ).loc main_arg1)

theorem aX_eq : aX m c = x0 m c := by
  have e : aX m c = truncf .bf16 (x0 m c) bitsLt_bf16_f32 := by
    unfold aX V
    after_results
    rfl
  exact e

theorem aW_eq : aW m c = x1 m c := by
  have e : aW m c = truncf .bf16 (x1 m c) bitsLt_bf16_f32 := by
    unfold aW V
    after_results
    rfl
  exact e

/-- The reference's product is the same sum. -/
theorem ref_eq : Cert.Reference16Ideal.Read.val_main_v0 (F := Ideal) (x0 m c) (x1 m c) = R m c := by
  funext y
  obtain ⟨i, j, rfl⟩ := at2 y
  refine (Cert.Reference16Ideal.Read.val_main_v0_apply _ _ _).trans ?_
  unfold R
  rw [aX_eq, aW_eq]
  refine Finset.sum_congr rfl fun k _ => ?_
  exact congrArg₂ (· * ·) (congrArg (x0 m c) (ext2 rfl rfl)) (congrArg (x1 m c) (ext2 rfl rfl))

theorem value : Cert.algebraic_Kernel16Ideal_Reference16Ideal := by
  intro m ρ m' ρ' _ hargs
  refine ⟨fun c => R m c, ?_, ?_⟩
  · refine (θ_run Cert.Kernel16Ideal.defs _ _).mono (fun r h c => ?_) (Value.run_blocks (F := Ideal) m ρ)
    exact ⟨(h c).1.trans (final m c), (h c).2⟩
  · refine (θ_run Cert.Reference16Ideal.defs _ _).mono (fun r h c => ?_) (Cert.Reference16Ideal.Value.run (F := Ideal) m' ρ')
    refine ⟨(h c).1.trans ?_, (h c).2⟩
    rw [(hargs c).1, (hargs c).2]
    exact ref_eq m c

end Cert.Proof.Uq
end
-- ==== Proof.Own.Ukv.lean ====
/-
  The attention's product for its keys and values, ukv: 2048 rows at a time.
-/
module

public import proofs.«01_k».proof.Proof.Own.Prod
public import proofs.«01_k».proof.Proof.Gen.Kernel17Ideal.Value
public import proofs.«01_k».proof.Proof.Gen.Reference17Ideal.Read
public import proofs.«01_k».proof.Proof.Gen.Reference17Ideal.Run
public import proofs.«01_k».proof.Defs

@[expose] public section

set_option maxRecDepth 16384

noncomputable section

namespace Cert.Proof.Ukv

open Cert.Kernel17Ideal Cert.Kernel17Ideal.Gen
open Cert.Proof.Mla (T2)
open Cert.Proof.Prod (plain at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

/-- The two arrays the windows stage. -/
def aX : (T2 8192 128).Idx → EReal := V m c main_v0
@[inherit_doc aX] def aW : (T2 128 512).Idx → EReal := V m c main_v1

/-- A point's product at an index. -/
theorem pay1_apply (x : FVec Ideal S2048x128 .bf16) (w : FVec Ideal S128x512 .bf16) (i : Fin 2048) (j : Fin 512) :
    (k0_pay1 (F := Ideal) x w (ix2 i j) : EReal) = ∑ k : Fin 128, (x (ix2 i k) : EReal) * w (ix2 k j) := by
  unfold k0_pay1 dot_S2048x128_S128x512_S2048x512_1_0_0_1_n_n
  rw [shapeCast_self x, shapeCast_self w]
  exact plain i j _ _ _

theorem read_x (t : Fin cfg0.N) (i : Fin 2048) (k : Fin 128) :
    (iblk m c 0 t (ix2 i k) : EReal) = aX m c (ix2 ⟨t.val * 2048 + i.val, by have h : t.val < 4 := t.isLt; omega⟩ k) := by
  have e := (idx t).1
  unfold aX
  blk_ext [iblk, e]

theorem read_w (t : Fin cfg0.N) (k : Fin 128) (j : Fin 512) : (iblk m c 1 t (ix2 k j) : EReal) = aW m c (ix2 k j) := by
  have e := (idx t).2.1
  unfold aW
  blk_ext [iblk, e]

/-- The whole result. -/
def R : (T2 8192 512).Idx → EReal := fun y => ∑ k : Fin 128, aX m c (ix2 (y 0) k) * aW m c (ix2 k (y 1))

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans (Finset.sum_congr rfl fun k _ => congrArg₂ (· * ·) ((read_x m c _ i k).trans (congrArg _ ?_))
    ((read_w m c _ k j).trans (congrArg _ ?_)))
  · blk_ext [(idx t).2.2]
  · blk_ext [(idx t).2.2]

/-- The arguments, at their shapes. -/
def x0 : FVec Ideal S8192x128 .f32 := m ((c : Thread nD τ).loc main_arg0)
@[inherit_doc x0] def x1 : FVec Ideal S128x512 .f32 := m ((c : Thread nD τ).loc main_arg1)

theorem aX_eq : aX m c = x0 m c := by
  have e : aX m c = truncf .bf16 (x0 m c) bitsLt_bf16_f32 := by
    unfold aX V
    after_results
    rfl
  exact e

theorem aW_eq : aW m c = x1 m c := by
  have e : aW m c = truncf .bf16 (x1 m c) bitsLt_bf16_f32 := by
    unfold aW V
    after_results
    rfl
  exact e

/-- The reference's product is the same sum. -/
theorem ref_eq : Cert.Reference17Ideal.Read.val_main_v0 (F := Ideal) (x0 m c) (x1 m c) = R m c := by
  funext y
  obtain ⟨i, j, rfl⟩ := at2 y
  refine (Cert.Reference17Ideal.Read.val_main_v0_apply _ _ _).trans ?_
  unfold R
  rw [aX_eq, aW_eq]
  refine Finset.sum_congr rfl fun k _ => ?_
  exact congrArg₂ (· * ·) (congrArg (x0 m c) (ext2 rfl rfl)) (congrArg (x1 m c) (ext2 rfl rfl))

theorem value : Cert.algebraic_Kernel17Ideal_Reference17Ideal := by
  intro m ρ m' ρ' _ hargs
  refine ⟨fun c => R m c, ?_, ?_⟩
  · refine (θ_run Cert.Kernel17Ideal.defs _ _).mono (fun r h c => ?_) (Value.run_blocks (F := Ideal) m ρ)
    exact ⟨(h c).1.trans (final m c), (h c).2⟩
  · refine (θ_run Cert.Reference17Ideal.defs _ _).mono (fun r h c => ?_) (Cert.Reference17Ideal.Value.run (F := Ideal) m' ρ')
    refine ⟨(h c).1.trans ?_, (h c).2⟩
    rw [(hargs c).1, (hargs c).2]
    exact ref_eq m c

end Cert.Proof.Ukv
end
-- ==== Proof.Own.UqW.lean ====
/-
  The gradient of the attention's product for its queries in its weights, d_uq_w: the sum over the 8192 rows in four
  blocks of 2048.
-/
module

public import proofs.«01_k».proof.Proof.Own.Prod
public import proofs.«01_k».proof.Proof.Gen.Kernel18Ideal.Value
public import proofs.«01_k».proof.Proof.Gen.Reference18Ideal.Read
public import proofs.«01_k».proof.Proof.Gen.Reference18Ideal.Run
public import proofs.«01_k».proof.Defs

@[expose] public section

set_option maxRecDepth 16384

noncomputable section

namespace Cert.Proof.UqW

open Cert.Kernel18Ideal Cert.Kernel18Ideal.Gen
open Cert.Reference18Ideal.Read (val_main_v4_apply val_main_v3_apply val_main_v2_apply)
open Cert.Proof.Mla (T2)
open Cert.Proof.Prod (cols run_sum at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![t.val, 0]
    ∧ win0_2.index t = ![0, 0] := (by decide +kernel : ∀ t : Fin grid0.N, _)

variable (m : (ℓ : Loc nD τ sig) → Buf (Elt Ideal) ℓ) (c : Dev nD)

/-- The two arrays the windows stage. -/
def aX : (T2 8192 256).Idx → EReal := V m c main_v0
@[inherit_doc aX] def aG : (T2 8192 384).Idx → EReal := V m c main_arg1

/-- A point's product at an index. -/
theorem pay1_apply (x : FVec Ideal S2048x256 .bf16) (g : FVec Ideal S2048x384 .f32) (i : Fin 256) (j : Fin 384) :
    (k0_pay1 (F := Ideal) x g (ix2 i j) : EReal) = ∑ k : Fin 2048, (x (ix2 k i) : EReal) * g (ix2 k j) := by
  unfold k0_pay1 dot_S2048x256_S2048x384_S256x384_0_0_1_1_n_n
  rw [shapeCast_self x]
  exact cols i j _ _ _

theorem read_x (t : Fin cfg0.N) (k : Fin 2048) (i : Fin 256) :
    (iblk m c 0 t (ix2 k i) : EReal) = aX m c (ix2 ⟨t.val * 2048 + k.val, by have h : t.val < 4 := t.isLt; omega⟩ i) := by
  have e := (idx t).1
  unfold aX
  blk_ext [iblk, e]

theorem read_g (t : Fin cfg0.N) (k : Fin 2048) (j : Fin 384) :
    (iblk m c 1 t (ix2 k j) : EReal) = aG m c (ix2 ⟨t.val * 2048 + k.val, by have h : t.val < 4 := t.isLt; omega⟩ j) := by
  have e := (idx t).2.1
  unfold aG
  blk_ext [iblk, e]

/-- The accumulator at the last point. -/
theorem acc_eq (t : Fin cfg0.N) (hr : t.val % 4 = 3) (y : S256x384.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  have hN (t : Fin cfg0.N) : t.val < 4 := t.isLt
  refine run_sum (fun n h => (outsAt0 m c n h).2) 4 (fun t => k0_pay1 (F := Ideal) (iblk m c 0 t) (iblk m c 1 t)) (fun t h => ?_)
    (fun t h => ?_) t hr y
  · have := hN t
    rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T2 256 384).Idx → EReal := fun y => ∑ k : Fin 8192, aX m c (ix2 k (y 0)) * aG m c (ix2 k (y 1))

theorem final : (dats m 0 c).arrAt 2 cfg0.N = R m c := by
  refine (dats m 0 c).arrAt_eq_of_covers 2 _ (by decide +kernel) fun t hf y => ?_
  have hr := (flush0_2 t).mp hf
  have hN : t.val < 4 := t.isLt
  blk_simp
  rw [after0_2]
  have e : (outsAt0 m c t.val t.isLt).1 = k0_pay4 (outsAt0 m c t.val t.isLt).2 := by
    rw [outsAt0_C m c t (by omega) (by omega) hr]
    frame_out
  rw [e]
  obtain ⟨i, j, rfl⟩ := at2 y
  refine (acc_eq m c t hr _).trans ?_
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x256 .f32 := m ((c : Thread nD τ).loc main_arg0)
@[inherit_doc x0] def x1 : FVec Ideal S8192x384 .f32 := m ((c : Thread nD τ).loc main_arg1)

theorem aX_eq : aX m c = x0 m c := by
  have e : aX m c = truncf .bf16 (x0 m c) bitsLt_bf16_f32 := by
    unfold aX V
    after_results
    rfl
  exact e

theorem aG_eq : aG m c = x1 m c := by
  unfold aG V
  after_results
  rfl

/-- The reference's gradient is the same sum. -/
theorem ref_eq : Cert.Reference18Ideal.Read.val_main_v4 (F := Ideal) (x0 m c) (x1 m c) = R m c := by
  funext y
  obtain ⟨i, j, rfl⟩ := at2 y
  rw [val_main_v4_apply, val_main_v3_apply]
  refine (val_main_v2_apply _ _ _).trans ?_
  unfold R
  rw [aX_eq, aG_eq]
  refine Finset.sum_congr rfl fun k _ => (mul_comm _ _).trans ?_
  exact congrArg₂ (· * ·) (congrArg (x0 m c) (ext2 rfl rfl)) (congrArg (x1 m c) (ext2 rfl rfl))

theorem value : Cert.algebraic_Kernel18Ideal_Reference18Ideal := by
  intro m ρ m' ρ' _ hargs
  refine ⟨fun c => R m c, ?_, ?_⟩
  · refine (θ_run Cert.Kernel18Ideal.defs _ _).mono (fun r h c => ?_) (Value.run_blocks (F := Ideal) m ρ)
    exact ⟨(h c).1.trans (final m c), (h c).2⟩
  · refine (θ_run Cert.Reference18Ideal.defs _ _).mono (fun r h c => ?_) (Cert.Reference18Ideal.Value.run (F := Ideal) m' ρ')
    refine ⟨(h c).1.trans ?_, (h c).2⟩
    rw [(hargs c).1, (hargs c).2]
    exact ref_eq m c

end Cert.Proof.UqW
end
-- ==== Proof.Own.UqX.lean ====
/-
  The gradient of the attention's product for its queries in its input, d_uq_x: the sum over the 384 columns in three parts.
-/
module

public import proofs.«01_k».proof.Proof.Own.Prod
public import proofs.«01_k».proof.Proof.Gen.Kernel19Ideal.Value
public import proofs.«01_k».proof.Proof.Gen.Reference19Ideal.Read
public import proofs.«01_k».proof.Proof.Gen.Reference19Ideal.Run
public import proofs.«01_k».proof.Defs

@[expose] public section

set_option maxRecDepth 16384

noncomputable section

namespace Cert.Proof.UqX

open Cert.Kernel19Ideal Cert.Kernel19Ideal.Gen
open Cert.Proof.Mla (T2)
open Cert.Proof.Prod (rows run_sum at2 ext2)
open Idealize.ShloMosaic Idealize.ShloMosaic.TcCoe Idealize.ShloMosaic.VecWindow
open Idealize.SL Idealize.SL.Sem

theorem idx : ∀ t : Fin cfg0.N, win0_0.index t = ![t.val / 3, t.val % 3] ∧ win0_1.index t = ![0, t.val % 3]
    ∧ win0_2.index t = ![t.val / 3, 0] := (by decide +kernel : ∀ t : Fin grid0.N, _)

variable (m : (ℓ : Loc nD τ sig) → Buf (Elt Ideal) ℓ) (c : Dev nD)

/-- The two arrays the windows stage: the gradient, the weights. -/
def aG : (T2 8192 384).Idx → EReal := V m c main_arg1
@[inherit_doc aG] def aW : (T2 256 384).Idx → EReal := V m c main_v0

/-- A point's product at an index. -/
theorem pay1_apply (g : FVec Ideal S2048x128 .f32) (w : FVec Ideal S256x128 .bf16) (i : Fin 2048) (j : Fin 256) :
    (k0_pay1 (F := Ideal) g w (ix2 i j) : EReal) = ∑ k : Fin 128, (g (ix2 i k) : EReal) * w (ix2 j k) := by
  unfold k0_pay1 dot_S2048x128_S256x128_S2048x256_1_1_0_0_n_n
  rw [shapeCast_self w]
  exact rows i j _ _ _

theorem read_g (t : Fin cfg0.N) (i : Fin 2048) (k : Fin 128) :
    (iblk m c 0 t (ix2 i k) : EReal)
      = aG m c (ix2 ⟨t.val / 3 * 2048 + i.val, by have h : t.val < 12 := t.isLt; omega⟩ ⟨t.val % 3 * 128 + k.val, by omega⟩) := by
  have e := (idx t).1
  unfold aG
  blk_ext [iblk, e]

theorem read_w (t : Fin cfg0.N) (j : Fin 256) (k : Fin 128) :
    (iblk m c 1 t (ix2 j k) : EReal) = aW m c (ix2 j ⟨t.val % 3 * 128 + k.val, by omega⟩) := by
  have e := (idx t).2.1
  unfold aW
  blk_ext [iblk, e]

/-- The accumulator at a run's last point. -/
theorem acc_eq (t : Fin cfg0.N) (hr : t.val % 3 = 2) (y : S2048x256.Idx) :
    ((outsAt0 m c t.val t.isLt).2 y : EReal) = ∑ s : Fin 3, (k0_pay1 (F := Ideal)
      (iblk m c 0 ⟨3 * (t.val / 3) + s.val, Pipeline.run_point_lt_of_flush t hr s⟩)
      (iblk m c 1 ⟨3 * (t.val / 3) + s.val, Pipeline.run_point_lt_of_flush t hr s⟩) y : EReal) := by
  refine run_sum (fun n h => (outsAt0 m c n h).2) 3 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 3 = 2
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T2 8192 256).Idx → EReal := fun y => ∑ k : Fin 384, aG m c (ix2 (y 0) k) * aW m c (ix2 (y 1) k)

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = (outsAt0 m c t.val t.isLt).2 := by
    rw [outsAt0_C m c t (by omega) (by omega) hr]
    frame_out
  rw [e]
  obtain ⟨i, j, rfl⟩ := at2 y
  refine (acc_eq m c t hr _).trans ?_
  simp only [pay1_apply]
  refine Fin.sum_mul_add_congr fun s k hl => congrArg₂ (· * ·) ((read_g m c _ i k).trans (congrArg _ ?_)) ((read_w m c _ j k).trans (congrArg _ ?_))
  · blk_ext [(idx t).2.2]
  · blk_ext [(idx t).2.2]

/-- The arguments, at their shapes. -/
def x0 : FVec Ideal S256x384 .f32 := m ((c : Thread nD τ).loc main_arg0)
@[inherit_doc x0] def x1 : FVec Ideal S8192x384 .f32 := m ((c : Thread nD τ).loc main_arg1)

theorem aG_eq : aG m c = x1 m c := by
  unfold aG V
  after_results
  rfl

theorem aW_eq : aW m c = x0 m c := by
  have e : aW m c = truncf .bf16 (x0 m c) bitsLt_bf16_f32 := by
    unfold aW V
    after_results
    rfl
  exact e

/-- The reference's gradient is the same sum. -/
theorem ref_eq : Cert.Reference19Ideal.Read.val_main_v2 (F := Ideal) (x0 m c) (x1 m c) = R m c := by
  funext y
  obtain ⟨i, j, rfl⟩ := at2 y
  refine (Cert.Reference19Ideal.Read.val_main_v2_apply _ _ _).trans ?_
  unfold R
  rw [aG_eq, aW_eq]
  refine Finset.sum_congr rfl fun k _ => ?_
  exact congrArg₂ (· * ·) (congrArg (x1 m c) (ext2 rfl rfl)) (congrArg (x0 m c) (ext2 rfl rfl))

theorem value : Cert.algebraic_Kernel19Ideal_Reference19Ideal := by
  intro m ρ m' ρ' _ hargs
  refine ⟨fun c => R m c, ?_, ?_⟩
  · refine (θ_run Cert.Kernel19Ideal.defs _ _).mono (fun r h c => ?_) (Value.run_blocks (F := Ideal) m ρ)
    exact ⟨(h c).1.trans (final m c), (h c).2⟩
  · refine (θ_run Cert.Reference19Ideal.defs _ _).mono (fun r h c => ?_) (Cert.Reference19Ideal.Value.run (F := Ideal) m' ρ')
    refine ⟨(h c).1.trans ?_, (h c).2⟩
    rw [(hargs c).1, (hargs c).2]
    exact ref_eq m c

end Cert.Proof.UqX
end
-- ==== Proof.Own.UkvW.lean ====
/-
  The gradient of the attention's product for its keys and values in its weights, d_ukv_w: the sum over the 8192 rows in four
  blocks of 2048.
-/
module

public import proofs.«01_k».proof.Proof.Own.Prod
public import proofs.«01_k».proof.Proof.Gen.Kernel20Ideal.Value
public import proofs.«01_k».proof.Proof.Gen.Reference20Ideal.Read
public import proofs.«01_k».proof.Proof.Gen.Reference20Ideal.Run
public import proofs.«01_k».proof.Defs

@[expose] public section

set_option maxRecDepth 16384

noncomputable section

namespace Cert.Proof.UkvW

open Cert.Kernel20Ideal Cert.Kernel20Ideal.Gen
open Cert.Reference20Ideal.Read (val_main_v4_apply val_main_v3_apply val_main_v2_apply)
open Cert.Proof.Mla (T2)
open Cert.Proof.Prod (cols run_sum at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![t.val, 0]
    ∧ win0_2.index t = ![0, 0] := (by decide +kernel : ∀ t : Fin grid0.N, _)

variable (m : (ℓ : Loc nD τ sig) → Buf (Elt Ideal) ℓ) (c : Dev nD)

/-- The two arrays the windows stage. -/
def aX : (T2 8192 128).Idx → EReal := V m c main_v0
@[inherit_doc aX] def aG : (T2 8192 512).Idx → EReal := V m c main_arg1

/-- A point's product at an index. -/
theorem pay1_apply (x : FVec Ideal S2048x128 .bf16) (g : FVec Ideal S2048x512 .f32) (i : Fin 128) (j : Fin 512) :
    (k0_pay1 (F := Ideal) x g (ix2 i j) : EReal) = ∑ k : Fin 2048, (x (ix2 k i) : EReal) * g (ix2 k j) := by
  unfold k0_pay1 dot_S2048x128_S2048x512_S128x512_0_0_1_1_n_n
  rw [shapeCast_self x]
  exact cols i j _ _ _

theorem read_x (t : Fin cfg0.N) (k : Fin 2048) (i : Fin 128) :
    (iblk m c 0 t (ix2 k i) : EReal) = aX m c (ix2 ⟨t.val * 2048 + k.val, by have h : t.val < 4 := t.isLt; omega⟩ i) := by
  have e := (idx t).1
  unfold aX
  blk_ext [iblk, e]

theorem read_g (t : Fin cfg0.N) (k : Fin 2048) (j : Fin 512) :
    (iblk m c 1 t (ix2 k j) : EReal) = aG m c (ix2 ⟨t.val * 2048 + k.val, by have h : t.val < 4 := t.isLt; omega⟩ j) := by
  have e := (idx t).2.1
  unfold aG
  blk_ext [iblk, e]

/-- The accumulator at the last point. -/
theorem acc_eq (t : Fin cfg0.N) (hr : t.val % 4 = 3) (y : S128x512.Idx) :
    ((outsAt0 m c t.val t.isLt).2 y : EReal) = ∑ s : Fin 4, (k0_pay1 (F := Ideal)
      (iblk m c 0 ⟨4 * (t.val / 4) + s.val, Pipeline.run_point_lt_of_flush t hr s⟩)
      (iblk m c 1 ⟨4 * (t.val / 4) + s.val, Pipeline.run_point_lt_of_flush t hr s⟩) y : EReal) := by
  have hN (t : Fin cfg0.N) : t.val < 4 := t.isLt
  refine run_sum (fun n h => (outsAt0 m c n h).2) 4 (fun t => k0_pay1 (F := Ideal) (iblk m c 0 t) (iblk m c 1 t)) (fun t h => ?_)
    (fun t h => ?_) t hr y
  · have := hN t
    rw [outsAt0_A m c t h (by omega) (by omega)]
    frame_out
    exact shapeCast_self _ _
  · by_cases h2 : t.val % 4 = 3
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result. -/
def R : (T2 128 512).Idx → EReal := fun y => ∑ k : Fin 8192, aX m c (ix2 k (y 0)) * aG m c (ix2 k (y 1))

theorem final : (dats m 0 c).arrAt 2 cfg0.N = R m c := by
  refine (dats m 0 c).arrAt_eq_of_covers 2 _ (by decide +kernel) fun t hf y => ?_
  have hr := (flush0_2 t).mp hf
  have hN : t.val < 4 := t.isLt
  blk_simp
  rw [after0_2]
  have e : (outsAt0 m c t.val t.isLt).1 = k0_pay4 (outsAt0 m c t.val t.isLt).2 := by
    rw [outsAt0_C m c t (by omega) (by omega) hr]
    frame_out
  rw [e]
  obtain ⟨i, j, rfl⟩ := at2 y
  refine (acc_eq m c t hr _).trans ?_
  simp only [pay1_apply]
  refine Fin.sum_mul_add_congr fun s k hl => congrArg₂ (· * ·) ((read_x m c _ k i).trans (congrArg _ ?_)) ((read_g m c _ k j).trans (congrArg _ ?_))
  · blk_ext [(idx t).2.2]
  · blk_ext [(idx t).2.2]

/-- The arguments, at their shapes. -/
def x0 : FVec Ideal S8192x128 .f32 := m ((c : Thread nD τ).loc main_arg0)
@[inherit_doc x0] def x1 : FVec Ideal S8192x512 .f32 := m ((c : Thread nD τ).loc main_arg1)

theorem aX_eq : aX m c = x0 m c := by
  have e : aX m c = truncf .bf16 (x0 m c) bitsLt_bf16_f32 := by
    unfold aX V
    after_results
    rfl
  exact e

theorem aG_eq : aG m c = x1 m c := by
  unfold aG V
  after_results
  rfl

/-- The reference's gradient is the same sum. -/
theorem ref_eq : Cert.Reference20Ideal.Read.val_main_v4 (F := Ideal) (x0 m c) (x1 m c) = R m c := by
  funext y
  obtain ⟨i, j, rfl⟩ := at2 y
  rw [val_main_v4_apply, val_main_v3_apply]
  refine (val_main_v2_apply _ _ _).trans ?_
  unfold R
  rw [aX_eq, aG_eq]
  refine Finset.sum_congr rfl fun k _ => (mul_comm _ _).trans ?_
  exact congrArg₂ (· * ·) (congrArg (x0 m c) (ext2 rfl rfl)) (congrArg (x1 m c) (ext2 rfl rfl))

theorem value : Cert.algebraic_Kernel20Ideal_Reference20Ideal := by
  intro m ρ m' ρ' _ hargs
  refine ⟨fun c => R m c, ?_, ?_⟩
  · refine (θ_run Cert.Kernel20Ideal.defs _ _).mono (fun r h c => ?_) (Value.run_blocks (F := Ideal) m ρ)
    exact ⟨(h c).1.trans (final m c), (h c).2⟩
  · refine (θ_run Cert.Reference20Ideal.defs _ _).mono (fun r h c => ?_) (Cert.Reference20Ideal.Value.run (F := Ideal) m' ρ')
    refine ⟨(h c).1.trans ?_, (h c).2⟩
    rw [(hargs c).1, (hargs c).2]
    exact ref_eq m c

end Cert.Proof.UkvW
end
-- ==== Proof.Own.UkvX.lean ====
/-
  The gradient of the attention's product for its keys and values in its input, d_ukv_x: 2048 rows of the gradient with the
  rows of the weights.
-/
module

public import proofs.«01_k».proof.Proof.Own.Prod
public import proofs.«01_k».proof.Proof.Gen.Kernel21Ideal.Value
public import proofs.«01_k».proof.Proof.Gen.Reference21Ideal.Read
public import proofs.«01_k».proof.Proof.Gen.Reference21Ideal.Run
public import proofs.«01_k».proof.Defs

@[expose] public section

set_option maxRecDepth 16384

noncomputable section

namespace Cert.Proof.UkvX

open Cert.Kernel21Ideal Cert.Kernel21Ideal.Gen
open Cert.Proof.Mla (T2)
open Cert.Proof.Prod (rows at2 ext2)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

/-- The two arrays the windows stage: the gradient, the weights. -/
def aG : (T2 8192 512).Idx → EReal := V m c main_arg1
@[inherit_doc aG] def aW : (T2 128 512).Idx → EReal := V m c main_v0

/-- A point's product at an index. -/
theorem pay1_apply (g : FVec Ideal S2048x512 .f32) (w : FVec Ideal S128x512 .bf16) (i : Fin 2048) (j : Fin 128) :
    (k0_pay1 (F := Ideal) g w (ix2 i j) : EReal) = ∑ k : Fin 512, (g (ix2 i k) : EReal) * w (ix2 j k) := by
  unfold k0_pay1 dot_S2048x512_S128x512_S2048x128_1_1_0_0_n_n
  rw [shapeCast_self w]
  exact rows i j _ _ _

theorem read_g (t : Fin cfg0.N) (i : Fin 2048) (k : Fin 512) :
    (iblk m c 0 t (ix2 i k) : EReal) = aG m c (ix2 ⟨t.val * 2048 + i.val, by have h : t.val < 4 := t.isLt; omega⟩ k) := by
  have e := (idx t).1
  unfold aG
  blk_ext [iblk, e]

theorem read_w (t : Fin cfg0.N) (j : Fin 128) (k : Fin 512) : (iblk m c 1 t (ix2 j k) : EReal) = aW m c (ix2 j k) := by
  have e := (idx t).2.1
  unfold aW
  blk_ext [iblk, e]

/-- The whole result. -/
def R : (T2 8192 128).Idx → EReal := fun y => ∑ k : Fin 512, aG m c (ix2 (y 0) k) * aW m c (ix2 (y 1) k)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans (Finset.sum_congr rfl fun k _ => congrArg₂ (· * ·) ((read_g m c _ i k).trans (congrArg _ ?_))
    ((read_w m c _ j k).trans (congrArg _ ?_)))
  · blk_ext [(idx t).2.2]
  · blk_ext [(idx t).2.2]

/-- The arguments, at their shapes. -/
def x0 : FVec Ideal S128x512 .f32 := m ((c : Thread nD τ).loc main_arg0)
@[inherit_doc x0] def x1 : FVec Ideal S8192x512 .f32 := m ((c : Thread nD τ).loc main_arg1)

theorem aG_eq : aG m c = x1 m c := by
  unfold aG V
  after_results
  rfl

theorem aW_eq : aW m c = x0 m c := by
  have e : aW m c = truncf .bf16 (x0 m c) bitsLt_bf16_f32 := by
    unfold aW V
    after_results
    rfl
  exact e

/-- The reference's gradient is the same sum. -/
theorem ref_eq : Cert.Reference21Ideal.Read.val_main_v2 (F := Ideal) (x0 m c) (x1 m c) = R m c := by
  funext y
  obtain ⟨i, j, rfl⟩ := at2 y
  refine (Cert.Reference21Ideal.Read.val_main_v2_apply _ _ _).trans ?_
  unfold R
  rw [aG_eq, aW_eq]
  refine Finset.sum_congr rfl fun k _ => ?_
  exact congrArg₂ (· * ·) (congrArg (x1 m c) (ext2 rfl rfl)) (congrArg (x0 m c) (ext2 rfl rfl))

theorem value : Cert.algebraic_Kernel21Ideal_Reference21Ideal := by
  intro m ρ m' ρ' _ hargs
  refine ⟨fun c => R m c, ?_, ?_⟩
  · refine (θ_run Cert.Kernel21Ideal.defs _ _).mono (fun r h c => ?_) (Value.run_blocks (F := Ideal) m ρ)
    exact ⟨(h c).1.trans (final m c), (h c).2⟩
  · refine (θ_run Cert.Reference21Ideal.defs _ _).mono (fun r h c => ?_) (Cert.Reference21Ideal.Value.run (F := Ideal) m' ρ')
    refine ⟨(h c).1.trans ?_, (h c).2⟩
    rw [(hargs c).1, (hargs c).2]
    exact ref_eq m c

end Cert.Proof.UkvX
end
-- ==== Proof.Own.Place.lean ====
/-
  The product that places the gathered columns of the input weights, place_w_in: the sum over the 2472 gathered columns, one
  owner's 309 at a time, by half of the 2560 columns of the result.
-/
module

public import proofs.«01_k».proof.Proof.Own.Prod
public import proofs.«01_k».proof.Proof.Gen.Kernel22Ideal.Value
public import proofs.«01_k».proof.Proof.Gen.Reference22Ideal.Read
public import proofs.«01_k».proof.Proof.Gen.Reference22Ideal.Run
public import proofs.«01_k».proof.Defs

@[expose] public section

set_option maxRecDepth 16384

noncomputable section

namespace Cert.Proof.Place

open Cert.Kernel22Ideal Cert.Kernel22Ideal.Gen
open Cert.Proof.Mla (T2 T3 drop_apply)
open Cert.Proof.Prod (plain run_sum shard_cols shard_rows at2 ext2)
open Idealize.ShloMosaic Idealize.ShloMosaic.TcCoe Idealize.ShloMosaic.VecWindow
open Idealize.SL Idealize.SL.Sem

theorem idx : ∀ t : Fin cfg0.N, win0_0.index t = ![t.val % 8, 0, 0] ∧ win0_1.index t = ![t.val % 8, 0, t.val / 8]
    ∧ win0_2.index t = ![0, t.val / 8] := (by decide +kernel : ∀ t : Fin grid0.N, _)

variable (m : (ℓ : Loc nD τ sig) → Buf (Elt Ideal) ℓ) (c : Dev nD)

/-- The two arrays the windows stage: the gathered columns by owner, the placement's rows by owner. -/
def aX : (T3 8 2048 309).Idx → EReal := V m c main_v2
@[inherit_doc aX] def aW : (T3 8 309 2560).Idx → EReal := V m c main_v4

/-- A point's product at an index. -/
theorem pay1_apply (x : FVec Ideal S1x2048x309 .bf16) (w : FVec Ideal S1x309x1280 .bf16) (i : Fin 2048) (j : Fin 1280) :
    (k0_pay1 (F := Ideal) x w (ix2 i j) : EReal) = ∑ k : Fin 309, (x (ix3 0 i k) : EReal) * w (ix3 0 k j) := by
  unfold k0_pay1 dot_S2048x309_S309x1280_S2048x1280_1_0_0_1_n_n
  refine (plain i j _ _ _).trans (Finset.sum_congr rfl fun k _ => congrArg₂ (· * ·) (drop_apply x _ i k) (drop_apply w _ k j))

theorem read_x (t : Fin cfg0.N) (i : Fin 2048) (k : Fin 309) :
    (iblk m c 0 t (ix3 0 i k) : EReal)
      = aX m c (ix3 ⟨t.val % 8, by omega⟩ i k) := by
  have e := (idx t).1
  unfold aX
  blk_ext [iblk, e]

theorem read_w (t : Fin cfg0.N) (k : Fin 309) (j : Fin 1280) :
    (iblk m c 1 t (ix3 0 k j) : EReal) = aW m c (ix3 ⟨t.val % 8, by omega⟩ k ⟨t.val / 8 * 1280 + j.val, by have h : t.val < 16 := t.isLt; omega⟩) := by
  have e := (idx t).2.1
  unfold aW
  blk_ext [iblk, e]

/-- The accumulator at a run's last point. -/
theorem acc_eq (t : Fin cfg0.N) (hr : t.val % 8 = 7) (y : S2048x1280.Idx) :
    ((outsAt0 m c t.val t.isLt).2 y : EReal) = ∑ s : Fin 8, (k0_pay1 (F := Ideal)
      (iblk m c 0 ⟨8 * (t.val / 8) + s.val, Pipeline.run_point_lt_of_flush t hr s⟩)
      (iblk m c 1 ⟨8 * (t.val / 8) + s.val, Pipeline.run_point_lt_of_flush t hr s⟩) y : EReal) := by
  refine run_sum (fun n h => (outsAt0 m c n h).2) 8 (fun t => k0_pay1 (F := Ideal) (iblk m c 0 t) (iblk m c 1 t)) (fun t h => ?_)
    (fun t h => ?_) t hr y
  · rw [outsAt0_A m c t h (by omega) (by omega)]
    frame_out
    exact shapeCast_self _ _
  · by_cases h2 : t.val % 8 = 7
    · rw [outsAt0_C m c t h (by omega) h2]
      frame_out
      simp only [read_unread_whole]
      exact shapeCast_self _ _
    · rw [outsAt0_B m c t h (by omega) h2]
      frame_out
      simp only [read_unread_whole]
      exact shapeCast_self _ _

/-- The whole result, the sum taken owner by owner. -/
def R : (T2 2048 2560).Idx → EReal := fun y => ∑ p : Fin 8, ∑ k : Fin 309, aX m c (ix3 p (y 0) k) * aW m c (ix3 p k (y 1))

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = k0_pay4 (outsAt0 m c t.val t.isLt).2 := by
    rw [outsAt0_C m c t (by omega) (by omega) hr]
    frame_out
  rw [e]
  obtain ⟨i, j, rfl⟩ := at2 y
  refine (acc_eq m c t hr _).trans (Finset.sum_congr rfl fun p _ => ?_)
  refine (pay1_apply _ _ i j).trans (Finset.sum_congr rfl fun k _ => congrArg₂ (· * ·) ((read_x m c _ i k).trans (congrArg _ ?_))
    ((read_w m c _ k j).trans (congrArg _ ?_)))
  · blk_ext [(idx t).2.2]
  · blk_ext [(idx t).2.2]

/-- The arguments, at their shapes. -/
def x0 : FVec Ideal S2048x2472 .f32 := m ((c : Thread nD τ).loc main_arg0)
@[inherit_doc x0] def x1 : FVec Ideal S2472x2560 .f32 := m ((c : Thread nD τ).loc main_arg1)

theorem aX_eq (p : Fin 8) (i : Fin 2048) (k : Fin 309) : aX m c (ix3 p i k) = x0 m c (ix2 i ⟨p.val * 309 + k.val, by omega⟩) := by
  have e : aX m c = truncf .bf16 (transpose S8x2048x309 [1, 0, 2] (shapeCast S2048x8x309 (x0 m c) shapeCasts_S2048x2472_S2048x8x309)
      transposes_S2048x8x309_S8x2048x309_1_0_2) bitsLt_bf16_f32 := by
    unfold aX V
    after_results
    rfl
  rw [e]
  exact shard_cols _ rfl _ _ p i k _

theorem aW_eq (p : Fin 8) (k : Fin 309) (j : Fin 2560) : aW m c (ix3 p k j) = x1 m c (ix2 ⟨p.val * 309 + k.val, by omega⟩ j) := by
  have e : aW m c = truncf .bf16 (shapeCast S8x309x2560 (x1 m c) shapeCasts_S2472x2560_S8x309x2560) bitsLt_bf16_f32 := by
    unfold aW V
    after_results
    rfl
  rw [e]
  exact shard_rows _ rfl _ p k j _

/-- The reference's product is the same sum. -/
theorem ref_eq : Cert.Reference22Ideal.Read.val_main_v1 (F := Ideal) (x0 m c) (x1 m c) = R m c := by
  funext y
  obtain ⟨i, j, rfl⟩ := at2 y
  rw [Cert.Reference22Ideal.Read.val_main_v1_apply]
  refine (Cert.Reference22Ideal.Read.val_main_v0_apply _ _ _).trans (Eq.symm ?_)
  refine Fin.sum_mul_add_congr fun p k hl => ?_
  exact congrArg₂ (· * ·) ((aX_eq m c p i k).trans (congrArg (x0 m c) (ext2 rfl rfl)))
    ((aW_eq m c p k j).trans (congrArg (x1 m c) (ext2 rfl rfl)))

theorem value : Cert.algebraic_Kernel22Ideal_Reference22Ideal := by
  intro m ρ m' ρ' _ hargs
  refine ⟨fun c => R m c, ?_, ?_⟩
  · refine (θ_run Cert.Kernel22Ideal.defs _ _).mono (fun r h c => ?_) (Value.run_blocks (F := Ideal) m ρ)
    exact ⟨(h c).1.trans (final m c), (h c).2⟩
  · refine (θ_run Cert.Reference22Ideal.defs _ _).mono (fun r h c => ?_) (Cert.Reference22Ideal.Value.run (F := Ideal) m' ρ')
    refine ⟨(h c).1.trans ?_, (h c).2⟩
    rw [(hargs c).1, (hargs c).2]
    exact ref_eq m c

end Cert.Proof.Place
end
-- ==== Proof.Own.Unplace.lean ====
/-
  The gradient of the placing product in its gathered columns, unplace_w_in: the sum over the 2560 columns in two halves, one
  owner's 309 rows of the placement at a time.
-/
module

public import proofs.«01_k».proof.Proof.Own.Prod
public import proofs.«01_k».proof.Proof.Gen.Kernel23Ideal.Value
public import proofs.«01_k».proof.Proof.Gen.Reference23Ideal.Read
public import proofs.«01_k».proof.Proof.Gen.Reference23Ideal.Run
public import proofs.«01_k».proof.Defs

@[expose] public section

set_option maxRecDepth 16384

noncomputable section

namespace Cert.Proof.Unplace

open Cert.Kernel23Ideal Cert.Kernel23Ideal.Gen
open Cert.Reference23Ideal.Read (val_main_v5_apply val_main_v4_apply val_main_v3_apply val_main_v2_apply)
open Cert.Proof.Mla (T2 T3 drop_apply add_apply)
open Cert.Proof.Prod (rows run_sum shard_rows at3)
open Idealize.ShloMosaic Idealize.ShloMosaic.TcCoe Idealize.ShloMosaic.VecWindow
open Idealize.SL Idealize.SL.Sem

theorem idx : ∀ t : Fin cfg0.N, win0_0.index t = ![0, t.val % 2] ∧ win0_1.index t = ![t.val / 2, 0, t.val % 2]
    ∧ win0_2.index t = ![t.val / 2, 0, 0] := (by decide +kernel : ∀ t : Fin grid0.N, _)

variable (m : (ℓ : Loc nD τ sig) → Buf (Elt Ideal) ℓ) (c : Dev nD)

/-- The two arrays the windows stage: the gradient, the placement's rows by owner. -/
def aG : (T2 2048 2560).Idx → EReal := V m c main_v0
@[inherit_doc aG] def aW : (T3 8 309 2560).Idx → EReal := V m c main_v2

/-- A point's product at an index. -/
theorem pay1_apply (g : FVec Ideal S2048x1280 .bf16) (w : FVec Ideal S1x309x1280 .bf16) (i : Fin 2048) (j : Fin 309) :
    (k0_pay1 (F := Ideal) g w (ix2 i j) : EReal) = ∑ k : Fin 1280, (g (ix2 i k) : EReal) * w (ix3 0 j k) := by
  unfold k0_pay1 dot_S2048x1280_S309x1280_S2048x309_1_1_0_0_n_n
  rw [shapeCast_self g]
  exact (rows i j _ _ _).trans (Finset.sum_congr rfl fun k _ => congrArg₂ (· * ·) rfl (drop_apply w _ j k))

/-- The block that leaves: the accumulator, the owner's axis before it. -/
theorem pay4_apply (a : FVec Ideal S2048x309 .f32) (i : Fin 2048) (j : Fin 309) :
    (k0_pay4 (F := Ideal) a (ix3 0 i j) : EReal) = a (ix2 i j) := by
  unfold k0_pay4
  exact add_apply _ _ i j

theorem read_g (t : Fin cfg0.N) (i : Fin 2048) (k : Fin 1280) :
    (iblk m c 0 t (ix2 i k) : EReal) = aG m c (ix2 i ⟨t.val % 2 * 1280 + k.val, by omega⟩) := by
  have e := (idx t).1
  unfold aG
  blk_ext [iblk, e]

theorem read_w (t : Fin cfg0.N) (j : Fin 309) (k : Fin 1280) :
    (iblk m c 1 t (ix3 0 j k) : EReal)
      = aW m c (ix3 ⟨t.val / 2, by have h : t.val < 16 := t.isLt; omega⟩ j ⟨t.val % 2 * 1280 + k.val, by omega⟩) := by
  have e := (idx t).2.1
  unfold aW
  blk_ext [iblk, e]

/-- The accumulator at a run's last point. -/
theorem acc_eq (t : Fin cfg0.N) (hr : t.val % 2 = 1) (y : S2048x309.Idx) :
    ((outsAt0 m c t.val t.isLt).2 y : EReal) = ∑ s : Fin 2, (k0_pay1 (F := Ideal)
      (iblk m c 0 ⟨2 * (t.val / 2) + s.val, Pipeline.run_point_lt_of_flush t hr s⟩)
      (iblk m c 1 ⟨2 * (t.val / 2) + s.val, Pipeline.run_point_lt_of_flush t hr s⟩) y : EReal) := by
  refine run_sum (fun n h => (outsAt0 m c n h).2) 2 (fun t => k0_pay1 (F := Ideal) (iblk m c 0 t) (iblk m c 1 t)) (fun t h => ?_)
    (fun t h => ?_) t hr y
  · rw [outsAt0_A m c t h (by omega) (by omega)]
    frame_out
    exact shapeCast_self _ _
  · rw [outsAt0_B m c t h (by omega) (by omega)]
    frame_out
    simp only [read_unread_whole]
    exact shapeCast_self _ _

/-- The whole result. -/
def R : (T3 8 2048 309).Idx → EReal := fun y => ∑ k : Fin 2560, aG m c (ix2 (y 1) k) * aW m c (ix3 (y 0) (y 2) k)

theorem final : (dats m 0 c).arrAt 2 cfg0.N = R m c := by
  refine (dats m 0 c).arrAt_eq_of_covers 2 _ (by decide +kernel) fun t hf y => ?_
  have hr := (flush0_2 t).mp hf
  blk_simp
  rw [after0_2]
  have e : (outsAt0 m c t.val t.isLt).1 = k0_pay4 (outsAt0 m c t.val t.isLt).2 := by
    rw [outsAt0_B m c t (by omega) hr hr]
    frame_out
  rw [e]
  obtain ⟨a, i, j, rfl⟩ := at3 y
  obtain rfl : a = 0 := Subsingleton.elim _ _
  refine (pay4_apply _ i j).trans ((acc_eq m c t hr _).trans ?_)
  simp only [pay1_apply]
  refine Fin.sum_mul_add_congr fun s k hl => congrArg₂ (· * ·) ((read_g m c _ i k).trans (congrArg _ ?_)) ((read_w m c _ j k).trans (congrArg _ ?_))
  · blk_ext [(idx t).2.2]
  · blk_ext [(idx t).2.2]

/-- The arguments, at their shapes. -/
def x0 : FVec Ideal S2472x2560 .f32 := m ((c : Thread nD τ).loc main_arg0)
@[inherit_doc x0] def x1 : FVec Ideal S2048x2560 .f32 := m ((c : Thread nD τ).loc main_arg1)

theorem aG_eq (i : Fin 2048) (k : Fin 2560) : aG m c (ix2 i k) = x1 m c (ix2 i k) := by
  have e : aG m c = truncf .bf16 (x1 m c) bitsLt_bf16_f32 := by
    unfold aG V
    after_results
    rfl
  rw [e]
  rfl

theorem aW_eq (p : Fin 8) (j : Fin 309) (k : Fin 2560) : aW m c (ix3 p j k) = x0 m c (ix2 ⟨p.val * 309 + j.val, by omega⟩ k) := by
  have e : aW m c = truncf .bf16 (shapeCast S8x309x2560 (x0 m c) shapeCasts_S2472x2560_S8x309x2560) bitsLt_bf16_f32 := by
    unfold aW V
    after_results
    rfl
  rw [e]
  exact shard_rows _ rfl _ p j k _

/-- The reference's gradient is the same sum. -/
theorem ref_eq : Cert.Reference23Ideal.Read.val_main_v5 (F := Ideal) (x0 m c) (x1 m c) = R m c := by
  funext y
  obtain ⟨p, i, j, rfl⟩ := at3 y
  rw [val_main_v5_apply, val_main_v4_apply, val_main_v3_apply]
  refine (val_main_v2_apply _ _ _).trans (Finset.sum_congr rfl fun k _ => ?_)
  refine congrArg₂ (· * ·) (Eq.trans (congrArg (x1 m c) (funext fun d => ?_)) (aG_eq m c i k).symm)
    (Eq.trans (congrArg (x0 m c) (funext fun d => ?_)) (aW_eq m c p j k).symm)
  · match d with
    | ⟨0, _⟩ => exact Fin.ext (show ((i.val * 8 + p.val) * 309 + j.val) / 2472 = i.val by omega)
    | ⟨1, _⟩ => rfl
  · match d with
    | ⟨0, _⟩ => exact Fin.ext (show ((i.val * 8 + p.val) * 309 + j.val) % 2472 = p.val * 309 + j.val by omega)
    | ⟨1, _⟩ => rfl

theorem value : Cert.algebraic_Kernel23Ideal_Reference23Ideal := by
  intro m ρ m' ρ' _ hargs
  refine ⟨fun c => R m c, ?_, ?_⟩
  · refine (θ_run Cert.Kernel23Ideal.defs _ _).mono (fun r h c => ?_) (Value.run_blocks (F := Ideal) m ρ)
    exact ⟨(h c).1.trans (final m c), (h c).2⟩
  · refine (θ_run Cert.Reference23Ideal.defs _ _).mono (fun r h c => ?_) (Cert.Reference23Ideal.Value.run (F := Ideal) m' ρ')
    refine ⟨(h c).1.trans ?_, (h c).2⟩
    rw [(hargs c).1, (hargs c).2]
    exact ref_eq m c

end Cert.Proof.Unplace
end
-- ==== Proof.Own.NormFwd.lean ====
/-
  The root-mean-square norm at an index, on a block and on whole arrays, over the extended reals; and the gate's logistic as
  half of a hyperbolic tangent there, its infinities included.
-/
module

public import proofs.«01_k».proof.Proof.Own.Norm

@[expose] public section

set_option maxRecDepth 16384

noncomputable section

namespace Cert.Proof.NormFwd

open Cert.Proof.Mla (T2 spread_apply div_real exp_real)
open Cert.Proof.Norm (row_sum fan_apply ofBits_half half_tanh)
open Idealize.ShloMosaic Idealize.ShloMosaic.TcCoe

/-- An entry `a` of a row `u` of `n` entries, normed and weighed by `g`. -/
def normed {k : ℕ} (n : BitVec 32) (u : Fin k → EReal) (a g : EReal) : EReal :=
  a * Ideal.rsqrt (Ideal.div (∑ j, u j * u j) (Ideal.ofBits .f32 n) + Ideal.ofBits .f32 0x358637BD#32) * g

/-- The norm of a block's rows. -/
theorem normed_apply {b k : ℕ} (n : BitVec 32) (hb : b ≠ 1) (hk : k ≠ 1) (x : FVec Ideal (T2 b k) .f32) (g : FVec Ideal (T2 1 k) .f32)
    (h : (T2 b k).Reduces [1] ⟨1, ![b]⟩) (hf : FKind.Formats .f32) (ha : (0x00000000#32 : BitVec 32) = FKind.add.neutral .f32 hf)
    (hc : (⟨1, ![b]⟩ : Shape).ShapeCasts (T2 b 1)) (hs : (T2 b 1).Broadcasts (T2 b k)) (hg : (T2 1 k).Broadcasts (T2 b k)) (i : Fin b) (j : Fin k) :
    (mulf (mulf x (broadcastTo (T2 b k) (rsqrt (addf (divf (shapeCast (T2 b 1) (multiReduction .add [1] ⟨1, ![b]⟩ (mulf x x) 0x00000000#32 h hf ha) hc)
      (broadcast (T2 b 1) (Scalar.ofBits (F := Ideal) .f32 n))) (broadcast (T2 b 1) (Scalar.ofBits (F := Ideal) .f32 0x358637BD#32)))) hs))
      (broadcastTo (T2 b k) g hg) (ix2 i j) : EReal) = normed n (fun t => (x (ix2 i t) : EReal)) (x (ix2 i j)) (g (ix2 0 j)) :=
  congrArg₂ (· * ·) (congrArg ((x (ix2 i j) : EReal) * ·) ((fan_apply _ _ hb i j).trans (congrArg Ideal.rsqrt (congrArg (· + Ideal.ofBits .f32 0x358637BD#32)
    (congrArg (Ideal.div · (Ideal.ofBits .f32 n)) (row_sum _ _ _ _ _ i)))))) (spread_apply g _ hk i j)

/-- The norm of whole rows, weighed. -/
def whole {N k : ℕ} (n : BitVec 32) (x : (T2 N k).Idx → EReal) (g : Fin k → EReal) : (T2 N k).Idx → EReal :=
  fun y => normed n (fun t => x (ix2 (y 0) t)) (x y) (g (y 1))

/-- A vector that stands as one row. -/
theorem vec_row {α : Type} {k : ℕ} (x : (⟨1, ![k]⟩ : Shape).Idx → α) (h : (⟨1, ![k]⟩ : Shape).ShapeCasts (T2 1 k)) (j : Fin k) :
    shapeCast (T2 1 k) x h (ix2 0 j) = x (ix1 j) := by
  refine shapeCast_apply _ _ (ix2 0 j) (ix1 j) ?_
  rw [Shape.rowMajor_val_two, Shape.rowMajor_val_one]
  show j.val = 0 * k + j.val
  omega

/-- The logistic of an extended real as half of a hyperbolic tangent. -/
theorem logistic (a : EReal) : Ideal.ofBits .f32 0x3F000000#32 * Ideal.tanh (Ideal.ofBits .f32 0x3F000000#32 * a) + Ideal.ofBits .f32 0x3F000000#32
    = Ideal.div (Ideal.ofBits .f32 0x3F800000#32) (Ideal.ofBits .f32 0x3F800000#32 + Ideal.exp (-a)) := by
  rw [ofBits_half, Ideal.ofBits_one_f32]
  induction a with
  | coe a =>
    have p := Real.exp_pos (-a)
    rw [← EReal.coe_mul, Ideal.tanh_coe, ← EReal.coe_mul, ← EReal.coe_add, half_tanh, ← EReal.coe_neg, exp_real]
    refine Eq.trans ?_ (congrArg₂ Ideal.div (rfl : ((1 : ℝ) : EReal) = 1) (EReal.coe_add 1 (Real.exp (-a))))
    rw [div_real _ _ (by positivity), one_div]
  | top =>
    rw [EReal.coe_mul_top_of_pos (by norm_num), Ideal.tanh_top, EReal.neg_top, Ideal.exp_bot, mul_one, add_zero, ← EReal.coe_one, ← EReal.coe_add,
      div_real _ _ one_ne_zero]
    norm_num
  | bot =>
    rw [EReal.coe_mul_bot_of_pos (by norm_num), Ideal.tanh_bot, EReal.neg_bot, Ideal.exp_top, ← EReal.coe_one, ← EReal.coe_neg, ← EReal.coe_mul,
      ← EReal.coe_add, EReal.coe_add_top]
    unfold Ideal.div
    rw [if_neg EReal.top_ne_zero, EReal.inv_top, mul_zero]
    norm_num

end Cert.Proof.NormFwd
end
-- ==== Proof.Own.MixNorm.lean ====
/-
  The norm before a layer's mixers and the one before its feed-forward, mixnorm: sixteen blocks of 512 rows.
-/
module

public import proofs.«01_k».proof.Proof.Own.NormFwd
public import proofs.«01_k».proof.Proof.Gen.Kernel24Ideal.Value
public import proofs.«01_k».proof.Proof.Gen.Reference24Ideal.Read
public import proofs.«01_k».proof.Proof.Gen.Reference24Ideal.Run
public import proofs.«01_k».proof.Defs

@[expose] public section

set_option maxRecDepth 16384

noncomputable section

namespace Cert.Proof.MixNorm

open Cert.Kernel24Ideal Cert.Kernel24Ideal.Gen
open Cert.Proof.Mla (T2)
open Cert.Proof.Prod (at2 ext2)
open Cert.Proof.NormFwd (normed normed_apply whole vec_row)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The two arrays the windows stage. -/
def aX : (T2 8192 1024).Idx → EReal := V m c main_arg0
@[inherit_doc aX] def aG : (T2 1 1024).Idx → EReal := V m c main_v0

/-- A point's rows, normed. -/
theorem pay1_apply (x : FVec Ideal S512x1024 .f32) (g : FVec Ideal S1x1024 .f32) (i : Fin 512) (j : Fin 1024) :
    (k0_pay1 (F := Ideal) x g (ix2 i j) : EReal) = normed 0x44800000#32 (fun t => (x (ix2 i t) : EReal)) (x (ix2 i j)) (g (ix2 0 j)) := by
  unfold k0_pay1
  rw [shapeCast_self g]
  exact normed_apply _ (by decide) (by decide) x g _ _ _ _ _ _ i j

theorem read_x (t : Fin cfg0.N) (i : Fin 512) (j : Fin 1024) :
    (iblk m c 0 t (ix2 i j) : EReal) = aX m c (ix2 ⟨t.val * 512 + i.val, by have h : t.val < 16 := t.isLt; omega⟩ j) := by
  have e := (idx t).1
  unfold aX
  blk_ext [iblk, e]

theorem read_g (t : Fin cfg0.N) (j : Fin 1024) : (iblk m c 1 t (ix2 0 j) : EReal) = aG m c (ix2 0 j) := by
  have e := (idx t).2.1
  unfold aG
  blk_ext [iblk, e]

/-- The whole result. -/
def R : (T2 8192 1024).Idx → EReal := whole 0x44800000#32 (aX m c) fun j => aG m c (ix2 0 j)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans ?_
  simp only [read_x, read_g]
  refine Eq.trans (b := R m c (ix2 ⟨t.val * 512 + i.val, by have h : t.val < 16 := t.isLt; omega⟩ j)) rfl (congrArg (R m c) ?_)
  blk_ext [(idx t).2.2]

/-- The arguments, at their shapes. -/
def x0 : FVec Ideal S8192x1024 .f32 := m ((c : Thread nD τ).loc main_arg0)
@[inherit_doc x0] def x1 : FVec Ideal S1024 .f32 := m ((c : Thread nD τ).loc main_arg1)

theorem aX_eq : aX m c = x0 m c := by
  unfold aX V
  after_results
  rfl

theorem aG_apply (j : Fin 1024) : aG m c (ix2 0 j) = x1 m c (ix1 j) := by
  have e : aG m c = shapeCast S1x1024 (x1 m c) shapeCasts_S1024_S1x1024 := by
    unfold aG V
    after_results
    rfl
  rw [e]
  exact vec_row _ _ j

/-- The reference's norm is the same. -/
theorem ref_eq : Cert.Reference24Ideal.Read.val_main_v13 (F := Ideal) (x0 m c) (x1 m c) = R m c := by
  funext y
  obtain ⟨i, j, rfl⟩ := at2 y
  unfold R whole normed
  rw [aX_eq]
  open Cert.Reference24Ideal.Read in
  refine congrArg₂ (· * ·) (congrArg (x0 m c (ix2 i j) * ·) ((val_main_v8_apply _ _).trans (congrArg Ideal.rsqrt (congrArg₂ (· + ·) (congrArg₂ Ideal.div
    ((val_main_v2_apply _ _).trans ((val_main_v1_apply _ _).trans ((congrArg₂ (· + ·) Ideal.ofBits_zero_f32 (Finset.sum_congr rfl fun k _ => ?_)).trans (zero_add _))))
    (val_main_v3_apply _)) (val_main_v5_apply _))))) ((val_main_v11_apply _ _).trans ((val_main_v10_apply _ _).trans ((congrArg (x1 m c) (funext fun a => ?_)).trans (aG_apply m c j).symm)))
  · exact congrArg (fun z => x0 m c z * x0 m c z) (ext2 rfl rfl)
  · fin_cases a
    rfl

theorem value : Cert.algebraic_Kernel24Ideal_Reference24Ideal := by
  intro m ρ m' ρ' _ hargs
  refine ⟨fun c => R m c, ?_, ?_⟩
  · refine (θ_run Cert.Kernel24Ideal.defs _ _).mono (fun r h c => ?_) (Value.run_blocks (F := Ideal) m ρ)
    exact ⟨(h c).1.trans (final m c), (h c).2⟩
  · refine (θ_run Cert.Reference24Ideal.defs _ _).mono (fun r h c => ?_) (Cert.Reference24Ideal.Value.run (F := Ideal) m' ρ')
    refine ⟨(h c).1.trans ?_, (h c).2⟩
    rw [(hargs c).1, (hargs c).2]
    exact ref_eq m c

end Cert.Proof.MixNorm
end
-- ==== Proof.Own.FinalNorm.lean ====
/-
  The norm after the last layer, finalnorm: sixteen blocks of 512 rows.
-/
module

public import proofs.«01_k».proof.Proof.Own.NormFwd
public import proofs.«01_k».proof.Proof.Gen.Kernel25Ideal.Value
public import proofs.«01_k».proof.Proof.Gen.Reference25Ideal.Read
public import proofs.«01_k».proof.Proof.Gen.Reference25Ideal.Run
public import proofs.«01_k».proof.Defs

@[expose] public section

set_option maxRecDepth 16384

noncomputable section

namespace Cert.Proof.FinalNorm

open Cert.Kernel25Ideal Cert.Kernel25Ideal.Gen
open Cert.Proof.Mla (T2)
open Cert.Proof.Prod (at2 ext2)
open Cert.Proof.NormFwd (normed normed_apply whole vec_row)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The two arrays the windows stage. -/
def aX : (T2 8192 1024).Idx → EReal := V m c main_arg0
@[inherit_doc aX] def aG : (T2 1 1024).Idx → EReal := V m c main_v0

/-- A point's rows, normed. -/
theorem pay1_apply (x : FVec Ideal S512x1024 .f32) (g : FVec Ideal S1x1024 .f32) (i : Fin 512) (j : Fin 1024) :
    (k0_pay1 (F := Ideal) x g (ix2 i j) : EReal) = normed 0x44800000#32 (fun t => (x (ix2 i t) : EReal)) (x (ix2 i j)) (g (ix2 0 j)) := by
  unfold k0_pay1
  rw [shapeCast_self g]
  exact normed_apply _ (by decide) (by decide) x g _ _ _ _ _ _ i j

theorem read_x (t : Fin cfg0.N) (i : Fin 512) (j : Fin 1024) :
    (iblk m c 0 t (ix2 i j) : EReal) = aX m c (ix2 ⟨t.val * 512 + i.val, by have h : t.val < 16 := t.isLt; omega⟩ j) := by
  have e := (idx t).1
  unfold aX
  blk_ext [iblk, e]

theorem read_g (t : Fin cfg0.N) (j : Fin 1024) : (iblk m c 1 t (ix2 0 j) : EReal) = aG m c (ix2 0 j) := by
  have e := (idx t).2.1
  unfold aG
  blk_ext [iblk, e]

/-- The whole result. -/
def R : (T2 8192 1024).Idx → EReal := whole 0x44800000#32 (aX m c) fun j => aG m c (ix2 0 j)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans ?_
  simp only [read_x, read_g]
  refine Eq.trans (b := R m c (ix2 ⟨t.val * 512 + i.val, by have h : t.val < 16 := t.isLt; omega⟩ j)) rfl (congrArg (R m c) ?_)
  blk_ext [(idx t).2.2]

/-- The arguments, at their shapes. -/
def x0 : FVec Ideal S8192x1024 .f32 := m ((c : Thread nD τ).loc main_arg0)
@[inherit_doc x0] def x1 : FVec Ideal S1024 .f32 := m ((c : Thread nD τ).loc main_arg1)

theorem aX_eq : aX m c = x0 m c := by
  unfold aX V
  after_results
  rfl

theorem aG_apply (j : Fin 1024) : aG m c (ix2 0 j) = x1 m c (ix1 j) := by
  have e : aG m c = shapeCast S1x1024 (x1 m c) shapeCasts_S1024_S1x1024 := by
    unfold aG V
    after_results
    rfl
  rw [e]
  exact vec_row _ _ j

/-- The reference's norm is the same. -/
theorem ref_eq : Cert.Reference25Ideal.Read.val_main_v12 (F := Ideal) (x0 m c) (x1 m c) = R m c := by
  funext y
  obtain ⟨i, j, rfl⟩ := at2 y
  unfold R whole normed
  rw [aX_eq]
  open Cert.Reference25Ideal.Read in
  refine congrArg₂ (· * ·) (congrArg (x0 m c (ix2 i j) * ·) ((val_main_v8_apply _ _).trans (congrArg Ideal.rsqrt (congrArg₂ (· + ·) (congrArg₂ Ideal.div
    ((val_main_v2_apply _ _).trans ((val_main_v1_apply _ _).trans ((congrArg₂ (· + ·) Ideal.ofBits_zero_f32 (Finset.sum_congr rfl fun k _ => ?_)).trans (zero_add _))))
    (val_main_v3_apply _)) (val_main_v5_apply _))))) ((val_main_v11_apply _ _).trans ((val_main_v10_apply _ _).trans ((congrArg (x1 m c) (funext fun a => ?_)).trans (aG_apply m c j).symm)))
  · exact congrArg (fun z => x0 m c z * x0 m c z) (ext2 rfl rfl)
  · fin_cases a
    rfl

theorem value : Cert.algebraic_Kernel25Ideal_Reference25Ideal := by
  intro m ρ m' ρ' _ hargs
  refine ⟨fun c => R m c, ?_, ?_⟩
  · refine (θ_run Cert.Kernel25Ideal.defs _ _).mono (fun r h c => ?_) (Value.run_blocks (F := Ideal) m ρ)
    exact ⟨(h c).1.trans (final m c), (h c).2⟩
  · refine (θ_run Cert.Reference25Ideal.defs _ _).mono (fun r h c => ?_) (Cert.Reference25Ideal.Value.run (F := Ideal) m' ρ')
    refine ⟨(h c).1.trans ?_, (h c).2⟩
    rw [(hargs c).1, (hargs c).2]
    exact ref_eq m c

end Cert.Proof.FinalNorm
end
-- ==== Proof.Own.SbNorm.lean ====
/-
  The norm of the stick-breaking attention's output, sbnorm: four blocks of 2048 rows.
-/
module

public import proofs.«01_k».proof.Proof.Own.NormFwd
public import proofs.«01_k».proof.Proof.Gen.Kernel26Ideal.Value
public import proofs.«01_k».proof.Proof.Gen.Reference26Ideal.Read
public import proofs.«01_k».proof.Proof.Gen.Reference26Ideal.Run
public import proofs.«01_k».proof.Defs

@[expose] public section

set_option maxRecDepth 16384

noncomputable section

namespace Cert.Proof.SbNorm

open Cert.Kernel26Ideal Cert.Kernel26Ideal.Gen
open Cert.Proof.Mla (T2)
open Cert.Proof.Prod (at2 ext2)
open Cert.Proof.NormFwd (normed normed_apply whole vec_row)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The two arrays the windows stage. -/
def aX : (T2 8192 256).Idx → EReal := V m c main_arg0
@[inherit_doc aX] def aG : (T2 1 256).Idx → EReal := V m c main_v0

/-- A point's rows, normed. -/
theorem pay1_apply (x : FVec Ideal S2048x256 .f32) (g : FVec Ideal S1x256 .f32) (i : Fin 2048) (j : Fin 256) :
    (k0_pay1 (F := Ideal) x g (ix2 i j) : EReal) = normed 0x43800000#32 (fun t => (x (ix2 i t) : EReal)) (x (ix2 i j)) (g (ix2 0 j)) := by
  unfold k0_pay1
  rw [shapeCast_self g]
  exact normed_apply _ (by decide) (by decide) x g _ _ _ _ _ _ i j

theorem read_x (t : Fin cfg0.N) (i : Fin 2048) (j : Fin 256) :
    (iblk m c 0 t (ix2 i j) : EReal) = aX m c (ix2 ⟨t.val * 2048 + i.val, by have h : t.val < 4 := t.isLt; omega⟩ j) := by
  have e := (idx t).1
  unfold aX
  blk_ext [iblk, e]

theorem read_g (t : Fin cfg0.N) (j : Fin 256) : (iblk m c 1 t (ix2 0 j) : EReal) = aG m c (ix2 0 j) := by
  have e := (idx t).2.1
  unfold aG
  blk_ext [iblk, e]

/-- The whole result. -/
def R : (T2 8192 256).Idx → EReal := whole 0x43800000#32 (aX m c) fun j => aG m c (ix2 0 j)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans ?_
  simp only [read_x, read_g]
  refine Eq.trans (b := R m c (ix2 ⟨t.val * 2048 + i.val, by have h : t.val < 4 := t.isLt; omega⟩ j)) rfl (congrArg (R m c) ?_)
  blk_ext [(idx t).2.2]

/-- The arguments, at their shapes. -/
def x0 : FVec Ideal S8192x256 .f32 := m ((c : Thread nD τ).loc main_arg0)
@[inherit_doc x0] def x1 : FVec Ideal S256 .f32 := m ((c : Thread nD τ).loc main_arg1)

theorem aX_eq : aX m c = x0 m c := by
  unfold aX V
  after_results
  rfl

theorem aG_apply (j : Fin 256) : aG m c (ix2 0 j) = x1 m c (ix1 j) := by
  have e : aG m c = shapeCast S1x256 (x1 m c) shapeCasts_S256_S1x256 := by
    unfold aG V
    after_results
    rfl
  rw [e]
  exact vec_row _ _ j

/-- The reference's norm is the same. -/
theorem ref_eq : Cert.Reference26Ideal.Read.val_main_v13 (F := Ideal) (x0 m c) (x1 m c) = R m c := by
  funext y
  obtain ⟨i, j, rfl⟩ := at2 y
  unfold R whole normed
  rw [aX_eq]
  open Cert.Reference26Ideal.Read in
  refine congrArg₂ (· * ·) (congrArg (x0 m c (ix2 i j) * ·) ((val_main_v8_apply _ _).trans (congrArg Ideal.rsqrt (congrArg₂ (· + ·) (congrArg₂ Ideal.div
    ((val_main_v2_apply _ _).trans ((val_main_v1_apply _ _).trans ((congrArg₂ (· + ·) Ideal.ofBits_zero_f32 (Finset.sum_congr rfl fun k _ => ?_)).trans (zero_add _))))
    (val_main_v3_apply _)) (val_main_v5_apply _))))) ((val_main_v11_apply _ _).trans ((val_main_v10_apply _ _).trans ((congrArg (x1 m c) (funext fun a => ?_)).trans (aG_apply m c j).symm)))
  · exact congrArg (fun z => x0 m c z * x0 m c z) (ext2 rfl rfl)
  · fin_cases a
    rfl

theorem value : Cert.algebraic_Kernel26Ideal_Reference26Ideal := by
  intro m ρ m' ρ' _ hargs
  refine ⟨fun c => R m c, ?_, ?_⟩
  · refine (θ_run Cert.Kernel26Ideal.defs _ _).mono (fun r h c => ?_) (Value.run_blocks (F := Ideal) m ρ)
    exact ⟨(h c).1.trans (final m c), (h c).2⟩
  · refine (θ_run Cert.Reference26Ideal.defs _ _).mono (fun r h c => ?_) (Cert.Reference26Ideal.Value.run (F := Ideal) m' ρ')
    refine ⟨(h c).1.trans ?_, (h c).2⟩
    rw [(hargs c).1, (hargs c).2]
    exact ref_eq m c

end Cert.Proof.SbNorm
end
-- ==== Proof.Own.KvNorm.lean ====
/-
  The norm of the attention's compressed keys and values, kvnorm: two blocks of 4096 rows.
-/
module

public import proofs.«01_k».proof.Proof.Own.NormFwd
public import proofs.«01_k».proof.Proof.Gen.Kernel27Ideal.Value
public import proofs.«01_k».proof.Proof.Gen.Reference27Ideal.Read
public import proofs.«01_k».proof.Proof.Gen.Reference27Ideal.Run
public import proofs.«01_k».proof.Defs

@[expose] public section

set_option maxRecDepth 16384

noncomputable section

namespace Cert.Proof.KvNorm

open Cert.Kernel27Ideal Cert.Kernel27Ideal.Gen
open Cert.Proof.Mla (T2)
open Cert.Proof.Prod (at2 ext2)
open Cert.Proof.NormFwd (normed normed_apply whole vec_row)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The two arrays the windows stage. -/
def aX : (T2 8192 128).Idx → EReal := V m c main_arg0
@[inherit_doc aX] def aG : (T2 1 128).Idx → EReal := V m c main_v0

/-- A point's rows, normed. -/
theorem pay1_apply (x : FVec Ideal S4096x128 .f32) (g : FVec Ideal S1x128 .f32) (i : Fin 4096) (j : Fin 128) :
    (k0_pay1 (F := Ideal) x g (ix2 i j) : EReal) = normed 0x43000000#32 (fun t => (x (ix2 i t) : EReal)) (x (ix2 i j)) (g (ix2 0 j)) := by
  unfold k0_pay1
  rw [shapeCast_self g]
  exact normed_apply _ (by decide) (by decide) x g _ _ _ _ _ _ i j

theorem read_x (t : Fin cfg0.N) (i : Fin 4096) (j : Fin 128) :
    (iblk m c 0 t (ix2 i j) : EReal) = aX m c (ix2 ⟨t.val * 4096 + i.val, by have h : t.val < 2 := t.isLt; omega⟩ j) := by
  have e := (idx t).1
  unfold aX
  blk_ext [iblk, e]

theorem read_g (t : Fin cfg0.N) (j : Fin 128) : (iblk m c 1 t (ix2 0 j) : EReal) = aG m c (ix2 0 j) := by
  have e := (idx t).2.1
  unfold aG
  blk_ext [iblk, e]

/-- The whole result. -/
def R : (T2 8192 128).Idx → EReal := whole 0x43000000#32 (aX m c) fun j => aG m c (ix2 0 j)

theorem final : (dats m 0 c).arrAt 2 cfg0.N = R m c := by
  refine (dats m 0 c).arrAt_eq_of_covers 2 _ (by decide +kernel) fun t hf y => ?_
  blk_simp
  rw [after0_2]
  frame_out
  obtain ⟨i, j, rfl⟩ := at2 y
  refine (pay1_apply _ _ i j).trans ?_
  simp only [read_x, read_g]
  refine Eq.trans (b := R m c (ix2 ⟨t.val * 4096 + i.val, by have h : t.val < 2 := t.isLt; omega⟩ j)) rfl (congrArg (R m c) ?_)
  blk_ext [(idx t).2.2]

/-- The arguments, at their shapes. -/
def x0 : FVec Ideal S8192x128 .f32 := m ((c : Thread nD τ).loc main_arg0)
@[inherit_doc x0] def x1 : FVec Ideal S128 .f32 := m ((c : Thread nD τ).loc main_arg1)

theorem aX_eq : aX m c = x0 m c := by
  unfold aX V
  after_results
  rfl

theorem aG_apply (j : Fin 128) : aG m c (ix2 0 j) = x1 m c (ix1 j) := by
  have e : aG m c = shapeCast S1x128 (x1 m c) shapeCasts_S128_S1x128 := by
    unfold aG V
    after_results
    rfl
  rw [e]
  exact vec_row _ _ j

/-- The reference's norm is the same. -/
theorem ref_eq : Cert.Reference27Ideal.Read.val_main_v13 (F := Ideal) (x0 m c) (x1 m c) = R m c := by
  funext y
  obtain ⟨i, j, rfl⟩ := at2 y
  unfold R whole normed
  rw [aX_eq]
  open Cert.Reference27Ideal.Read in
  refine congrArg₂ (· * ·) (congrArg (x0 m c (ix2 i j) * ·) ((val_main_v8_apply _ _).trans (congrArg Ideal.rsqrt (congrArg₂ (· + ·) (congrArg₂ Ideal.div
    ((val_main_v2_apply _ _).trans ((val_main_v1_apply _ _).trans ((congrArg₂ (· + ·) Ideal.ofBits_zero_f32 (Finset.sum_congr rfl fun k _ => ?_)).trans (zero_add _))))
    (val_main_v3_apply _)) (val_main_v5_apply _))))) ((val_main_v11_apply _ _).trans ((val_main_v10_apply _ _).trans ((congrArg (x1 m c) (funext fun a => ?_)).trans (aG_apply m c j).symm)))
  · exact congrArg (fun z => x0 m c z * x0 m c z) (ext2 rfl rfl)
  · fin_cases a
    rfl

theorem value : Cert.algebraic_Kernel27Ideal_Reference27Ideal := by
  intro m ρ m' ρ' _ hargs
  refine ⟨fun c => R m c, ?_, ?_⟩
  · refine (θ_run Cert.Kernel27Ideal.defs _ _).mono (fun r h c => ?_) (Value.run_blocks (F := Ideal) m ρ)
    exact ⟨(h c).1.trans (final m c), (h c).2⟩
  · refine (θ_run Cert.Reference27Ideal.defs _ _).mono (fun r h c => ?_) (Cert.Reference27Ideal.Value.run (F := Ideal) m' ρ')
    refine ⟨(h c).1.trans ?_, (h c).2⟩
    rw [(hargs c).1, (hargs c).2]
    exact ref_eq m c

end Cert.Proof.KvNorm
end
-- ==== Proof.Own.SsmNorm.lean ====
/-
  The gated norm after a recurrence, ssmnorm: eight blocks of 1024 rows. The version writes the gate's logistic as half of a
  hyperbolic tangent; the reference divides by one and an exponential.
-/
module

public import proofs.«01_k».proof.Proof.Own.NormFwd
public import proofs.«01_k».proof.Proof.Gen.Kernel28Ideal.Value
public import proofs.«01_k».proof.Proof.Gen.Reference28Ideal.Read
public import proofs.«01_k».proof.Proof.Gen.Reference28Ideal.Run
public import proofs.«01_k».proof.Defs

@[expose] public section

set_option maxRecDepth 16384

noncomputable section

namespace Cert.Proof.SsmNorm

open Cert.Kernel28Ideal Cert.Kernel28Ideal.Gen
open Cert.Proof.Mla (T2)
open Cert.Proof.Prod (at2 ext2)
open Cert.Proof.NormFwd (normed normed_apply whole vec_row logistic)
open Idealize.ShloMosaic Idealize.ShloMosaic.TcCoe Idealize.ShloMosaic.VecWindow
open Idealize.SL Idealize.SL.Sem

theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

variable (m : (ℓ : Loc nD τ sig) → Buf (Elt Ideal) ℓ) (c : Dev nD)

/-- The three arrays the windows stage. -/
def aX : (T2 8192 512).Idx → EReal := V m c main_arg0
@[inherit_doc aX] def aZ : (T2 8192 512).Idx → EReal := V m c main_arg1
@[inherit_doc aX] def aG : (T2 1 512).Idx → EReal := V m c main_v0

/-- A value behind its gate. -/
def gated (x z : EReal) : EReal :=
  x * (z * (Ideal.ofBits .f32 0x3F000000#32 * Ideal.tanh (Ideal.ofBits .f32 0x3F000000#32 * z) + Ideal.ofBits .f32 0x3F000000#32))

/-- A point's rows, gated and normed. -/
theorem pay1_apply (z x : FVec Ideal S1024x512 .f32) (g : FVec Ideal S1x512 .f32) (i : Fin 1024) (j : Fin 512) :
    (k0_pay1 (F := Ideal) z x g (ix2 i j) : EReal)
      = normed 0x44000000#32 (fun t => gated (x (ix2 i t)) (z (ix2 i t))) (gated (x (ix2 i j)) (z (ix2 i j))) (g (ix2 0 j)) := by
  unfold k0_pay1
  rw [shapeCast_self g]
  exact normed_apply _ (by decide) (by decide) (mulf x (mulf z (addf (mulf (broadcast S1024x512 (Scalar.ofBits .f32 0x3F000000#32))
    (tanh (mulf (broadcast S1024x512 (Scalar.ofBits .f32 0x3F000000#32)) z))) (broadcast S1024x512 (Scalar.ofBits .f32 0x3F000000#32))))) g
    _ _ _ _ _ _ i j

theorem read_x (t : Fin cfg0.N) (i : Fin 1024) (j : Fin 512) :
    (iblk m c 0 t (ix2 i j) : EReal) = aX m c (ix2 ⟨t.val * 1024 + i.val, by have h : t.val < 8 := t.isLt; omega⟩ j) := by
  have e := (idx t).1
  unfold aX
  blk_ext [iblk, e]

theorem read_z (t : Fin cfg0.N) (i : Fin 1024) (j : Fin 512) :
    (iblk m c 1 t (ix2 i j) : EReal) = aZ m c (ix2 ⟨t.val * 1024 + i.val, by have h : t.val < 8 := t.isLt; omega⟩ j) := by
  have e := (idx t).2.1
  unfold aZ
  blk_ext [iblk, e]

theorem read_g (t : Fin cfg0.N) (j : Fin 512) : (iblk m c 2 t (ix2 0 j) : EReal) = aG m c (ix2 0 j) := by
  have e := (idx t).2.2.1
  unfold aG
  blk_ext [iblk, e]

/-- The whole result. -/
def R : (T2 8192 512).Idx → EReal := whole 0x44000000#32 (fun y => gated (aX m c y) (aZ m c y)) fun j => aG m c (ix2 0 j)

theorem final : (dats m 0 c).arrAt 3 cfg0.N = R m c := by
  refine (dats m 0 c).arrAt_eq_of_covers 3 _ (by decide +kernel) fun t hf y => ?_
  blk_simp
  rw [after0_3]
  frame_out
  obtain ⟨i, j, rfl⟩ := at2 y
  refine (pay1_apply _ _ _ i j).trans ?_
  simp only [read_x, read_z, read_g]
  refine Eq.trans (b := R m c (ix2 ⟨t.val * 1024 + i.val, by have h : t.val < 8 := t.isLt; omega⟩ j)) rfl (congrArg (R m c) ?_)
  blk_ext [(idx t).2.2.2]

/-- The arguments, at their shapes. -/
def x0 : FVec Ideal S8192x512 .f32 := m ((c : Thread nD τ).loc main_arg0)
@[inherit_doc x0] def x1 : FVec Ideal S8192x512 .f32 := m ((c : Thread nD τ).loc main_arg1)
@[inherit_doc x0] def x2 : FVec Ideal S512 .f32 := m ((c : Thread nD τ).loc main_arg2)

theorem aX_eq : aX m c = x0 m c := by
  unfold aX V
  after_results
  rfl

theorem aZ_eq : aZ m c = x1 m c := by
  unfold aZ V
  after_results
  rfl

theorem aG_apply (j : Fin 512) : aG m c (ix2 0 j) = x2 m c (ix1 j) := by
  have e : aG m c = shapeCast S1x512 (x2 m c) shapeCasts_S512_S1x512 := by
    unfold aG V
    after_results
    rfl
  rw [e]
  exact vec_row _ _ j

/-- The reference's gated value. -/
theorem gated_eq (y : S8192x512.Idx) : (Cert.Reference28Ideal.Read.val_main_v1 (F := Ideal) (x0 m c) (x1 m c) y : EReal)
    = gated (x0 m c y) (x1 m c y) := by
  open Cert.Reference28Ideal.Read in
  refine congrArg (x0 m c y * ·) (congrArg (x1 m c y * ·) (Eq.trans ?_ (logistic (x1 m c y)).symm))
  open Cert.Reference28Ideal.Read in
  exact congrArg₂ Ideal.div (val_main_call0_v4_apply y) (congrArg (· + Ideal.exp (-(x1 m c y))) (val_main_call0_v2_apply y))

section
open Cert.Reference28Ideal.Read

/-- The reference's sum of a row's squares. -/
theorem ref_sum (i : Cert.Reference28Ideal.S8192.Idx) : (val_main_v3 (F := Ideal) (x0 m c) (x1 m c) i : EReal)
    = ∑ k : Fin 512, gated (x0 m c (ix2 (i 0) k)) (x1 m c (ix2 (i 0) k)) * gated (x0 m c (ix2 (i 0) k)) (x1 m c (ix2 (i 0) k)) := by
  refine (val_main_v3_apply _ _ _).trans ((congrArg₂ (· + ·) Ideal.ofBits_zero_f32 (Finset.sum_congr rfl fun k _ => ?_)).trans (zero_add _))
  refine (val_main_v2_apply (F := Ideal) (x0 m c) (x1 m c) _).trans ?_
  rw [show idx_main_v3 i k = ix2 (i 0) k from ext2 rfl rfl]
  exact congrArg₂ (· * ·) (gated_eq m c _) (gated_eq m c _)

/-- The reference's scale of a row. -/
theorem ref_scale (y : Cert.Reference28Ideal.S8192x1.Idx) : (val_main_v9 (F := Ideal) (x0 m c) (x1 m c) y : EReal)
    = Ideal.rsqrt (Ideal.div (val_main_v3 (F := Ideal) (x0 m c) (x1 m c) (idx_main_v4 y)) (Ideal.ofBits .f32 0x44000000#32)
      + Ideal.ofBits .f32 0x358637BD#32) := by
  rw [val_main_v9_apply, val_main_v8_apply, val_main_v6_apply, val_main_v4_apply, val_main_v5_apply, val_main_v7_apply]
  rfl

/-- The reference's norm is the same. -/
theorem ref_eq : val_main_v15 (F := Ideal) (x0 m c) (x1 m c) (x2 m c) = R m c := by
  funext y
  obtain ⟨i, j, rfl⟩ := at2 y
  rw [val_main_v15_apply, val_main_v14_apply, val_main_v11_apply, val_main_v10_apply, ref_scale, ref_sum, gated_eq, val_main_v13_apply,
    val_main_v12_apply]
  unfold R whole
  rw [aX_eq, aZ_eq]
  exact congrArg₂ (· * ·) rfl ((congrArg (x2 m c) (funext fun a => by fin_cases a; rfl)).trans (aG_apply m c j).symm)

end

theorem value : Cert.algebraic_Kernel28Ideal_Reference28Ideal := by
  intro m ρ m' ρ' _ hargs
  refine ⟨fun c => R m c, ?_, ?_⟩
  · refine (θ_run Cert.Kernel28Ideal.defs _ _).mono (fun r h c => ?_) (Value.run_blocks (F := Ideal) m ρ)
    exact ⟨(h c).1.trans (final m c), (h c).2⟩
  · refine (θ_run Cert.Reference28Ideal.defs _ _).mono (fun r h c => ?_) (Cert.Reference28Ideal.Value.run (F := Ideal) m' ρ')
    refine ⟨(h c).1.trans ?_, (h c).2⟩
    rw [(hargs c).1, (hargs c).2.1, (hargs c).2.2]
    exact ref_eq m c

end Cert.Proof.SsmNorm
end
-- ==== Proof.Own.Loss.lean ====
/-
  The loss and its gradient, loss: sixteen blocks of 512 rows. The version adds the squares' columns over the blocks and
  scales the sum once; the reference takes each row's mean, adds these, and halves.
-/
module

public import proofs.«01_k».proof.Proof.Own.Norm
public import proofs.«01_k».proof.Proof.Gen.Kernel29Ideal.Value
public import proofs.«01_k».proof.Proof.Gen.Reference29Ideal.Read
public import proofs.«01_k».proof.Proof.Gen.Reference29Ideal.Run
public import proofs.«01_k».proof.Defs

@[expose] public section

set_option maxRecDepth 16384

noncomputable section

namespace Cert.Proof.Loss

open Cert.Kernel29Ideal Cert.Kernel29Ideal.Gen
open Cert.Proof.Mla (T2)
open Cert.Proof.Prod (run_sum at2 ext2)
open Cert.Proof.Norm (row_sum col_sum ofBits_half ofBits_one)
open Idealize.ShloMosaic Idealize.ShloMosaic.TcCoe Idealize.ShloMosaic.VecWindow
open Idealize.SL Idealize.SL.Sem

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

/-- A sum of extended reals, scaled by a nonnegative real. -/
theorem sum_mul_coe {ι : Type*} (s : Finset ι) (f : ι → EReal) (r : ℝ) (h : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr h) (EReal.coe_ne_top r)]

/-- A sum over a vector's indices. -/
theorem sum_vec {n : ℕ} (f : (⟨1, ![n]⟩ : Shape).Idx → EReal) : ∑ z, f z = ∑ i : Fin n, f (ix1 i) :=
  Fintype.sum_equiv ⟨fun z => z 0, fun i => ix1 i, fun z => by funext a; fin_cases a; rfl, fun i => rfl⟩ _ _
    fun z => congrArg f (by funext a; fin_cases a; rfl)

theorem idx : ∀ t : Fin cfg0.N, win0_0.index t = ![t.val, 0] ∧ win0_1.index t = ![t.val, 0] ∧ win0_2.index t = ![t.val, 0]
    ∧ win0_3.index t = ![0, 0] := (by decide +kernel : ∀ t : Fin grid0.N, _)

variable (m : (ℓ : Loc nD τ sig) → Buf (Elt Ideal) ℓ) (c : Dev nD)

/-- The arguments, at their shapes. -/
def x0 : FVec Ideal S8192x1024 .f32 := m ((c : Thread nD τ).loc main_arg0)
@[inherit_doc x0] def x1 : FVec Ideal S8192x1024 .f32 := m ((c : Thread nD τ).loc main_arg1)

/-- The error at an index. -/
def err (y : (T2 8192 1024).Idx) : EReal := x0 m c y - x1 m c y

/-- A block's squared error at an index. -/
def sq (a b : FVec Ideal S512x1024 .f32) (i : Fin 512) (j : Fin 1024) : EReal :=
  ((a (ix2 i j) : EReal) - b (ix2 i j)) * ((a (ix2 i j) : EReal) - b (ix2 i j))

theorem pay4_apply (a b : FVec Ideal S512x1024 .f32) (acc : FVec Ideal S1x1024 .f32) (j : Fin 1024) :
    (k0_pay4 (F := Ideal) a b acc (ix2 0 j) : EReal) = acc (ix2 0 j) + ∑ i : Fin 512, sq a b i j := by
  unfold k0_pay4
  rw [shapeCast_self]
  exact congrArg ((acc (ix2 0 j) : EReal) + ·) (col_sum _ _ _ _ _ j)

theorem pay5_apply (acc : FVec Ideal S1x1024 .f32) :
    (k0_pay5 (F := Ideal) acc (ix2 0 0) : EReal) = (∑ j : Fin 1024, (acc (ix2 0 j) : EReal)) * Ideal.ofBits .f32 0x3A000000#32 := by
  unfold k0_pay5
  exact congrArg (· * Ideal.ofBits .f32 0x3A000000#32) (row_sum acc _ _ _ _ 0)

theorem read_0 (t : Fin cfg0.N) (i : Fin 512) (j : Fin 1024) :
    (iblk m c 0 t (ix2 i j) : EReal) = x0 m c (ix2 ⟨t.val * 512 + i.val, by have h : t.val < 16 := t.isLt; omega⟩ j) := by
  have e := (idx t).1
  unfold x0
  blk_ext [iblk, e]

theorem read_1 (t : Fin cfg0.N) (i : Fin 512) (j : Fin 1024) :
    (iblk m c 1 t (ix2 i j) : EReal) = x1 m c (ix2 ⟨t.val * 512 + i.val, by have h : t.val < 16 := t.isLt; omega⟩ j) := by
  have e := (idx t).2.1
  unfold x1
  blk_ext [iblk, e]

/-- A point's squared error, in the whole. -/
theorem sq_block (t : Fin cfg0.N) (i : Fin 512) (j : Fin 1024) : sq (iblk m c 0 t) (iblk m c 1 t) i j
    = err m c (ix2 ⟨t.val * 512 + i.val, by have h : t.val < 16 := t.isLt; omega⟩ j)
      * err m c (ix2 ⟨t.val * 512 + i.val, by have h : t.val < 16 := t.isLt; omega⟩ j) := by
  unfold sq
  rw [read_0, read_1]
  rfl

/-- The accumulator at the last point. -/
theorem acc_eq (t : Fin cfg0.N) (hr : t.val % 16 = 15) (y : S1x1024.Idx) : ((outsAt0 m c t.val t.isLt).2.2 y : EReal)
    = ∑ s : Fin 16, ∑ i : Fin 512, sq (iblk m c 0 ⟨16 * (t.val / 16) + s.val, Pipeline.run_point_lt_of_flush t hr s⟩)
      (iblk m c 1 ⟨16 * (t.val / 16) + s.val, Pipeline.run_point_lt_of_flush t hr s⟩) i (y 1) := by
  refine run_sum (fun n h => (outsAt0 m c n h).2.2) 16 (fun t y => ∑ i : Fin 512, sq (iblk m c 0 t) (iblk m c 1 t) i (y 1))
    (fun t h => ?_) (fun t h => ?_) t hr y
  · rw [outsAt0_A m c t h (by omega)]
    frame_out
    funext y
    obtain ⟨i, j, rfl⟩ := at2 y
    obtain rfl : i = 0 := Subsingleton.elim _ _
    refine (pay4_apply _ _ _ j).trans ?_
    exact (congrArg (· + _) Ideal.ofBits_zero_f32).trans (zero_add _)
  · by_cases h2 : t.val % 16 = 15
    · rw [outsAt0_C m c t h h2]
      frame_out
      simp only [read_unread_whole]
      funext y
      obtain ⟨i, j, rfl⟩ := at2 y
      obtain rfl : i = 0 := Subsingleton.elim _ _
      exact pay4_apply _ _ _ j
    · rw [outsAt0_B m c t h h2]
      frame_out
      simp only [read_unread_whole]
      funext y
      obtain ⟨i, j, rfl⟩ := at2 y
      obtain rfl : i = 0 := Subsingleton.elim _ _
      exact pay4_apply _ _ _ j

/-- The gradient. -/
def D : (T2 8192 1024).Idx → EReal := fun y => err m c y * Ideal.ofBits .f32 0x3A800000#32

/-- The loss. -/
def L : (T2 1 1).Idx → EReal :=
  fun _ => (∑ j : Fin 1024, ∑ i : Fin 8192, err m c (ix2 i j) * err m c (ix2 i j)) * Ideal.ofBits .f32 0x3A000000#32

theorem final_d : (dats m 0 c).arrAt 2 cfg0.N = D m c := by
  refine (dats m 0 c).arrAt_eq_of_covers 2 _ (by decide +kernel) fun t hf y => ?_
  blk_simp
  rw [after0_2]
  have e : (outsAt0 m c t.val t.isLt).1 = k0_pay3 (iblk m c 0 t) (iblk m c 1 t) := by
    by_cases h0 : t.val % 16 = 0
    · rw [outsAt0_A m c t h0 (by omega)]
      frame_out
    · by_cases h1 : t.val % 16 = 15
      · rw [outsAt0_C m c t h0 h1]
        frame_out
      · rw [outsAt0_B m c t h0 h1]
        frame_out
  rw [e]
  obtain ⟨i, j, rfl⟩ := at2 y
  refine Eq.trans (b := D m c (ix2 ⟨t.val * 512 + i.val, by have h : t.val < 16 := t.isLt; omega⟩ j))
    (congrArg₂ (fun a b : EReal => (a - b) * Ideal.ofBits .f32 0x3A800000#32) (read_0 m c t i j) (read_1 m c t i j)) (congrArg (D m c) ?_)
  blk_ext [(idx t).2.2.1]

theorem final_l : (dats m 0 c).arrAt 3 cfg0.N = L m c := by
  refine (dats m 0 c).arrAt_eq_of_covers 3 _ (by decide +kernel) fun t hf y => ?_
  have hr := (flush0_3 t).mp hf
  have hN : t.val < 16 := t.isLt
  blk_simp
  rw [after0_3]
  have e : (outsAt0 m c t.val t.isLt).2.1 = k0_pay5 (outsAt0 m c t.val t.isLt).2.2 := by
    rw [outsAt0_C m c t (by omega) hr]
    frame_out
  rw [e]
  obtain ⟨i, j, rfl⟩ := at2 y
  obtain rfl : i = 0 := Subsingleton.elim _ _
  obtain rfl : j = 0 := Subsingleton.elim _ _
  refine (pay5_apply _).trans (congrArg (· * Ideal.ofBits .f32 0x3A000000#32) (Finset.sum_congr rfl fun j _ => (acc_eq m c t hr _).trans ?_))
  refine Fin.sum_mul_add_congr fun s k hl => (sq_block m c _ k j).trans
    (congrArg (fun n : Fin 8192 => err m c (ix2 n j) * err m c (ix2 n j)) (Fin.ext ?_))
  show (16 * (t.val / 16) + s.val) * 512 + k.val = s.val * 512 + k.val
  omega

section
open Cert.Reference29Ideal.Read

/-- The reference's gradient is the same. -/
theorem ref_d (y : S8192x1024.Idx) : (val_main_v14 (F := Ideal) (x0 m c) (x1 m c) y : EReal) = D m c y := by
  have e : (val_main_v14 (F := Ideal) (x0 m c) (x1 m c) y : EReal)
      = Ideal.div (Ideal.ofBits .f32 0x3F000000#32 * Ideal.ofBits .f32 0x3F800000#32) (Ideal.ofBits .f32 0x44800000#32)
        * (Ideal.ofBits .f32 0x40000000#32 * err m c y) :=
    congrArg₂ (· * ·) ((val_main_v13_apply y).trans (congrArg₂ Ideal.div (val_main_v10_apply _) (val_main_v11_apply _)))
      (congrArg (· * err m c y) (val_main_v2_apply y))
  unfold D
  rw [e, ofBits_half, ofBits_one, ofBits_1024, ofBits_two, ofBits_inv_1024, Ideal.div_coe (by norm_num), ← EReal.coe_mul, ← EReal.coe_mul,
    ← mul_assoc, ← EReal.coe_mul, mul_comm]
  norm_num

/-- The reference's sum of a row's squares. -/
theorem ref_row (n : Fin 8192) : (val_main_v6 (F := Ideal) (x0 m c) (x1 m c) (ix1 n) : EReal)
    = (∑ j : Fin 1024, err m c (ix2 n j) * err m c (ix2 n j)) * ((1 / 1024 : ℝ) : EReal) := by
  have e4 : (val_main_v4 (F := Ideal) (x0 m c) (x1 m c) (ix1 n) : EReal) = ∑ j : Fin 1024, err m c (ix2 n j) * err m c (ix2 n j) := by
    refine (val_main_v4_apply (x0 m c) (x1 m c) (ix1 n)).trans ((congrArg₂ (· + ·) Ideal.ofBits_zero_f32
      (Finset.sum_congr rfl fun k _ => ?_)).trans (zero_add _))
    exact congrArg (fun z => err m c z * err m c z) (ext2 rfl rfl)
  have e5 : (val_main_v5 (F := Ideal) (ix1 n) : EReal) = ((1024 : ℝ) : EReal) := by
    rw [val_main_v5_apply]
    exact ofBits_1024
  exact (congrArg₂ Ideal.div e4 e5).trans (Ideal.div_coe (by norm_num) _)

/-- The reference's loss is the same. -/
theorem ref_l (y : S1x1.Idx) : (val_main_v15 (F := Ideal) (x0 m c) (x1 m c) y : EReal) = L m c y := by
  have e (i : Cert.Reference29Ideal.S_.Idx) : (val_main_v8 (F := Ideal) (x0 m c) (x1 m c) i : EReal) = L m c y := by
    have e7 : (val_main_v7 (F := Ideal) (x0 m c) (x1 m c) i : EReal)
        = (∑ n : Fin 8192, ∑ j : Fin 1024, err m c (ix2 n j) * err m c (ix2 n j)) * ((1 / 1024 : ℝ) : EReal) := by
      refine (val_main_v7_apply _ _ _).trans ((congrArg₂ (· + ·) Ideal.ofBits_zero_f32 ?_).trans (zero_add _))
      rw [← sum_mul_coe _ _ _ (by norm_num)]
      exact (sum_vec _).trans (Finset.sum_congr rfl fun n _ => ref_row m c n)
    rw [val_main_v8_apply]
    refine (congrArg₂ (· * ·) ofBits_half e7).trans ?_
    unfold L
    rw [ofBits_inv_2048, Finset.sum_comm, mul_comm, mul_assoc, ← EReal.coe_mul]
    norm_num
  exact e _

end

theorem value : Cert.algebraic_Kernel29Ideal_Reference29Ideal := by
  intro m ρ m' ρ' _ hargs
  refine ⟨fun c => D m c, fun c => L m c, ?_, ?_⟩
  · refine (θ_run Cert.Kernel29Ideal.defs _ _).mono (fun r h c => ?_) (Value.run_blocks (F := Ideal) m ρ)
    exact ⟨(h c).1.trans (final_d m c), (h c).2.1.trans (final_l m c), (h c).2.2⟩
  · refine (θ_run Cert.Reference29Ideal.defs _ _).mono (fun r h c => ?_) (Cert.Reference29Ideal.Value.run (F := Ideal) m' ρ')
    refine ⟨(h c).1.trans ?_, (h c).2.1.trans ?_, (h c).2.2⟩
    · rw [(hargs c).1, (hargs c).2]
      exact funext (ref_d m c)
    · rw [(hargs c).1, (hargs c).2]
      exact funext (ref_l m c)

end Cert.Proof.Loss
end
-- ==== Proof.Own.Adam.lean ====
/-
  A weight's gradient and optimiser step, adamw_w_in: eight blocks of 256 rows. The eight parts the exchange delivers are
  added into the gradient, and the two moments and the weight's change follow from it entry by entry.
-/
module

public import proofs.«01_k».proof.Proof.Own.Prod
public import proofs.«01_k».proof.Proof.Gen.Kernel30Ideal.Value
public import proofs.«01_k».proof.Proof.Gen.Reference30Ideal.Read
public import proofs.«01_k».proof.Proof.Gen.Reference30Ideal.Run
public import proofs.«01_k».proof.Defs

@[expose] public section

set_option maxRecDepth 16384

noncomputable section

namespace Cert.Proof.Adam

open Cert.Kernel30Ideal Cert.Kernel30Ideal.Gen
open Cert.Proof.Mla (T2 T3)
open Cert.Proof.Prod (at2)
open Idealize.ShloMosaic Idealize.ShloMosaic.TcCoe Idealize.ShloMosaic.VecWindow
open Idealize.SL Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- An entry's first moment, after a gradient `g`. -/
def mom (g m : EReal) : EReal := Ideal.ofBits .f32 0x3F666666#32 * m + Ideal.ofBits .f32 0x3DCCCCCD#32 * g

/-- Its second moment. -/
def var (g v : EReal) : EReal := Ideal.ofBits .f32 0x3F7FBE77#32 * v + Ideal.ofBits .f32 0x3A83126F#32 * (g * g)

/-- Its weight's change. -/
def step (g w m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

variable (m : (ℓ : Loc nD τ sig) → Buf (Elt Ideal) ℓ) (c : Dev nD)

/-- The arguments, at their shapes. -/
def x0 : FVec Ideal S8x2048x309 .bf16 := m ((c : Thread nD τ).loc main_arg0)
@[inherit_doc x0] def x1 : FVec Ideal S2048x309 .f32 := m ((c : Thread nD τ).loc main_arg1)
@[inherit_doc x0] def x2 : FVec Ideal S2048x309 .f32 := m ((c : Thread nD τ).loc main_arg2)
@[inherit_doc x0] def x3 : FVec Ideal S2048x309 .f32 := m ((c : Thread nD τ).loc main_arg3)

/-- A block's gradient. -/
theorem grad_apply (p : FVec Ideal S8x256x309 .bf16) (w u v : FVec Ideal S256x309 .f32) (i : Fin 256) (j : Fin 309) :
    (k0_pay5 (F := Ideal) p w u v (ix2 i j) : EReal) = ∑ k : Fin 8, (p (ix3 k i j) : EReal) := by
  rw [Fin.sum_univ_eight]
  unfold k0_pay5
  refine (Value.piece4_0 _ _ _ _ _ _ _ _ (ix2 i j)).trans ?_
  refine congrArg₂ (· + ·) (congrArg₂ (· + ·) (congrArg₂ (· + ·) (congrArg₂ (· + ·) (congrArg₂ (· + ·) (congrArg₂ (· + ·) (congrArg₂ (· + ·) ?_ ?_) ?_) ?_) ?_)
    ?_) ?_) ?_
  all_goals
    refine congrArg p (funext fun a => Fin.ext ?_)
    match a with
    | ⟨0, _⟩ => rfl
    | ⟨1, _⟩ => exact (Nat.zero_add _).trans ((Nat.one_mul _).trans ((Nat.zero_add _).trans (Nat.one_mul _)))
    | ⟨2, _⟩ => exact (Nat.zero_add _).trans ((Nat.one_mul _).trans ((Nat.zero_add _).trans (Nat.one_mul _)))

theorem pay1_apply (g u : FVec Ideal S256x309 .f32) (y : S256x309.Idx) :
    (k0_pay1 (F := Ideal) g u (Scalar.ofBits .f32 0x3F666666#32) y : EReal) = mom (g y) (u y) := rfl

theorem pay2_apply (g v : FVec Ideal S256x309 .f32) (y : S256x309.Idx) : (k0_pay2 (F := Ideal) g v y : EReal) = var (g y) (v y) := rfl

theorem pay3_apply (g u v w : FVec Ideal S256x309 .f32) (y : S256x309.Idx) :
    (k0_pay3 (F := Ideal) g u (Scalar.ofBits .f32 0x3F666666#32) v w y : EReal) = step (g y) (w y) (u y) (v y) := rfl

theorem read_p (t : Fin cfg0.N) (k : Fin 8) (i : Fin 256) (j : Fin 309) :
    (iblk m c 0 t (ix3 k i j) : EReal) = x0 m c (ix3 k ⟨t.val * 256 + i.val, by have h : t.val < 8 := t.isLt; omega⟩ j) := by
  have e := (idx t).1
  unfold x0
  blk_ext [iblk, e]

theorem read_w (t : Fin cfg0.N) (i : Fin 256) (j : Fin 309) :
    (iblk m c 1 t (ix2 i j) : EReal) = x1 m c (ix2 ⟨t.val * 256 + i.val, by have h : t.val < 8 := t.isLt; omega⟩ j) := by
  have e := (idx t).2.1
  unfold x1
  blk_ext [iblk, e]

theorem read_m (t : Fin cfg0.N) (i : Fin 256) (j : Fin 309) :
    (iblk m c 2 t (ix2 i j) : EReal) = x2 m c (ix2 ⟨t.val * 256 + i.val, by have h : t.val < 8 := t.isLt; omega⟩ j) := by
  have e := (idx t).2.2.1
  unfold x2
  blk_ext [iblk, e]

theorem read_v (t : Fin cfg0.N) (i : Fin 256) (j : Fin 309) :
    (iblk m c 3 t (ix2 i j) : EReal) = x3 m c (ix2 ⟨t.val * 256 + i.val, by have h : t.val < 8 := t.isLt; omega⟩ j) := by
  have e := (idx t).2.2.2.1
  unfold x3
  blk_ext [iblk, e]

/-- The whole gradient. -/
def G : (T2 2048 309).Idx → EReal := fun y => ∑ k : Fin 8, x0 m c (ix3 k (y 0) (y 1))

/-- The whole first moment. -/
def M : (T2 2048 309).Idx → EReal := fun y => mom (G m c y) (x2 m c y)

/-- The whole second moment. -/
def W : (T2 2048 309).Idx → EReal := fun y => var (G m c y) (x3 m c y)

/-- The weight's whole change. -/
def D : (T2 2048 309).Idx → EReal := fun y => step (G m c y) (x1 m c y) (x2 m c y) (x3 m c y)

/-- A point's gradient, in the whole. -/
theorem grad_block (t : Fin cfg0.N) (i : Fin 256) (j : Fin 309) :
    (k0_pay5 (F := Ideal) (iblk m c 0 t) (iblk m c 1 t) (iblk m c 2 t) (iblk m c 3 t) (ix2 i j) : EReal)
      = G m c (ix2 ⟨t.val * 256 + i.val, by have h : t.val < 8 := t.isLt; omega⟩ j) :=
  (grad_apply _ _ _ _ i j).trans (Finset.sum_congr rfl fun k _ => read_p m c t k i j)

theorem final_g : (dats m 0 c).arrAt 4 cfg0.N = G m c := by
  refine (dats m 0 c).arrAt_eq_of_covers 4 _ (by decide +kernel) fun t hf y => ?_
  blk_simp
  rw [after0_4]
  frame_out
  obtain ⟨i, j, rfl⟩ := at2 y
  refine (grad_block m c t i j).trans (congrArg (G m c) ?_)
  blk_ext [(idx t).2.2.2.2.1]

theorem final_d : (dats m 0 c).arrAt 5 cfg0.N = D m c := by
  refine (dats m 0 c).arrAt_eq_of_covers 5 _ (by decide +kernel) fun t hf y => ?_
  blk_simp
  rw [after0_5]
  frame_out
  obtain ⟨i, j, rfl⟩ := at2 y
  refine (pay3_apply _ _ _ _ _).trans ?_
  rw [grad_block, read_w, read_m, read_v]
  refine Eq.trans (b := D m c (ix2 ⟨t.val * 256 + i.val, by have h : t.val < 8 := t.isLt; omega⟩ j)) rfl (congrArg (D m c) ?_)
  blk_ext [(idx t).2.2.2.2.2.1]

theorem final_m : (dats m 0 c).arrAt 6 cfg0.N = M m c := by
  refine (dats m 0 c).arrAt_eq_of_covers 6 _ (by decide +kernel) fun t hf y => ?_
  blk_simp
  rw [after0_6]
  frame_out
  obtain ⟨i, j, rfl⟩ := at2 y
  refine (pay1_apply _ _ _).trans ?_
  rw [grad_block, read_m]
  refine Eq.trans (b := M m c (ix2 ⟨t.val * 256 + i.val, by have h : t.val < 8 := t.isLt; omega⟩ j)) rfl (congrArg (M m c) ?_)
  blk_ext [(idx t).2.2.2.2.2.2.1]

theorem final_v : (dats m 0 c).arrAt 7 cfg0.N = W m c := by
  refine (dats m 0 c).arrAt_eq_of_covers 7 _ (by decide +kernel) fun t hf y => ?_
  blk_simp
  rw [after0_7]
  frame_out
  obtain ⟨i, j, rfl⟩ := at2 y
  refine (pay2_apply _ _ _).trans ?_
  rw [grad_block, read_v]
  refine Eq.trans (b := W m c (ix2 ⟨t.val * 256 + i.val, by have h : t.val < 8 := t.isLt; omega⟩ j)) rfl (congrArg (W m c) ?_)
  blk_ext [(idx t).2.2.2.2.2.2.2]

open Cert.Reference30Ideal.Read

/-- The reference's four results are the same. -/
theorem ref_g (y : S2048x309.Idx) : (val_main_v1 (F := Ideal) (x0 m c) y : EReal) = G m c y := by
  refine (val_main_v1_apply _ _).trans ((congrArg₂ (· + ·) Ideal.ofBits_zero_f32 (Finset.sum_congr rfl fun k _ => ?_)).trans (zero_add _))
  refine congrArg (x0 m c) (funext fun a => ?_)
  fin_cases a <;> rfl

@[inherit_doc ref_g] theorem ref_m (y : S2048x309.Idx) : (val_main_v6 (F := Ideal) (x0 m c) (x2 m c) y : EReal) = M m c y :=
  congrArg₂ (· + ·) (congrArg (· * x2 m c y) (val_main_v2_apply y)) (congrArg₂ (· * ·) (val_main_v4_apply y) (ref_g m c y))

@[inherit_doc ref_g] theorem ref_v (y : S2048x309.Idx) : (val_main_v12 (F := Ideal) (x0 m c) (x3 m c) y : EReal) = W m c y :=
  congrArg₂ (· + ·) (congrArg (· * x3 m c y) (val_main_v7_apply y))
    (congrArg₂ (· * ·) (val_main_v10_apply y) (congrArg₂ (· * ·) (ref_g m c y) (ref_g m c y)))

@[inherit_doc ref_g] theorem ref_d (y : S2048x309.Idx) :
    (val_main_v25 (F := Ideal) (x0 m c) (x1 m c) (x2 m c) (x3 m c) y : EReal) = D m c y :=
  congrArg₂ (· * ·) (val_main_v24_apply y) (congrArg₂ (· + ·) (congrArg₂ Ideal.div (congrArg₂ Ideal.div (ref_m m c y) (val_main_v13_apply y))
    (congrArg₂ (· + ·) (congrArg Ideal.sqrt (congrArg₂ Ideal.div (ref_v m c y) (val_main_v15_apply y))) (val_main_v18_apply y)))
    (congrArg (· * x1 m c y) (val_main_v21_apply y)))

theorem value : Cert.algebraic_Kernel30Ideal_Reference30Ideal := by
  intro m ρ m' ρ' _ hargs
  refine ⟨fun c => G m c, fun c => D m c, fun c => M m c, fun c => W m c, ?_, ?_⟩
  · refine (θ_run Cert.Kernel30Ideal.defs _ _).mono (fun r h c => ?_) (Value.run_blocks (F := Ideal) m ρ)
    exact ⟨(h c).1.trans (final_g m c), (h c).2.1.trans (final_d m c), (h c).2.2.1.trans (final_m m c), (h c).2.2.2.1.trans (final_v m c),
      (h c).2.2.2.2⟩
  · refine (θ_run Cert.Reference30Ideal.defs _ _).mono (fun r h c => ?_) (Cert.Reference30Ideal.Value.run (F := Ideal) m' ρ')
    refine ⟨(h c).1.trans ?_, (h c).2.1.trans ?_, (h c).2.2.1.trans ?_, (h c).2.2.2.1.trans ?_, (h c).2.2.2.2⟩
    · rw [(hargs c).1]
      exact funext (ref_g m c)
    · rw [(hargs c).1, (hargs c).2.1, (hargs c).2.2.1, (hargs c).2.2.2]
      exact funext (ref_d m c)
    · rw [(hargs c).1, (hargs c).2.2.1]
      exact funext (ref_m m c)
    · rw [(hargs c).1, (hargs c).2.2.2]
      exact funext (ref_v m c)

end Cert.Proof.Adam
end
-- ==== Proof.Own.NormJoin.lean ====
/-
  The gradient of a row under the root-mean-square norm over the extended reals: the product rule's formula is the kernel's.
-/
module

public import proofs.«01_k».proof.Proof.Own.NormRef
public import proofs.«01_k».proof.Proof.Own.Prod

@[expose] public section

noncomputable section

namespace Cert.Proof.NormJoin

open Cert.Proof.Mla (T2 coe_sum div_real)
open Cert.Proof.Norm (eps_real)
open Idealize.ShloMosaic

theorem square_nonneg (a : EReal) : 0 ≤ a * a := by
  induction a with
  | coe a => exact_mod_cast mul_self_nonneg a
  | top => simp
  | bot => simp

/-- Twice a real multiple. -/
theorem twice (t : EReal) (c : ℝ) : t * (c : EReal) + t * (c : EReal) = -(t * ((-(2 * c) : ℝ) : EReal)) := by
  induction t with
  | coe t =>
    rw [← EReal.coe_mul, ← EReal.coe_mul, ← EReal.coe_add, ← EReal.coe_neg]
    congr 1; ring
  | top =>
    rcases lt_trichotomy c 0 with h | rfl | h
    · rw [EReal.top_mul_coe_of_neg h, EReal.top_mul_coe_of_pos (by linarith)]; rfl
    · simp
    · rw [EReal.top_mul_coe_of_pos h, EReal.top_mul_coe_of_neg (by linarith)]; rfl
  | bot =>
    rcases lt_trichotomy c 0 with h | rfl | h
    · rw [EReal.bot_mul_coe_of_neg h, EReal.bot_mul_coe_of_pos (by linarith)]; rfl
    · simp
    · rw [EReal.bot_mul_coe_of_pos h, EReal.bot_mul_coe_of_neg (by linarith)]; rfl

/-- The mean square of a row, with the small number. -/
def square {n : ℕ} (N e : ℝ) (u : Fin n → EReal) : EReal := Ideal.div (∑ k, u k * u k) (N : EReal) + (e : EReal)

/-- The row's gradient at an entry `a`, where `v` is the mean square, `w` the weighed gradient and `t` its product with the row. -/
def grad (N : ℝ) (v a w t : EReal) : EReal :=
  Ideal.rsqrt v * w - a * (Ideal.rsqrt v * Ideal.rsqrt v * Ideal.rsqrt v * Ideal.div t (N : EReal))

/-- The slope that the product rule puts before the row. -/
def slope (N : ℝ) (v t : EReal) : EReal := Ideal.div (t * (((-(1 / 2) : ℝ) : EReal) * Ideal.div (Ideal.rsqrt v) v)) (N : EReal)

/-- With an infinite entry the root's reciprocal is zero and so are both sides; without one all but `w` and `t` is real. -/
theorem join {n : ℕ} (N e : ℝ) (hN : 0 < N) (he : 0 < e) (u : Fin n → EReal) (j : Fin n) (w t : EReal) :
    w * Ideal.rsqrt (square N e u) + u j * slope N (square N e u) t + slope N (square N e u) t * u j = grad N (square N e u) (u j) w t := by
  by_cases hu : ∃ k, u k * u k = ⊤
  · obtain ⟨k, hk⟩ := hu
    have hs : ∑ k, u k * u k = ⊤ := top_le_iff.1 (hk ▸ Finset.single_le_sum (f := fun k => u k * u k) (fun k _ => square_nonneg _) (Finset.mem_univ k))
    have hv : square N e u = ⊤ := by
      unfold square
      rw [hs, Ideal.div_coe hN.ne', EReal.top_mul_coe_of_pos (by positivity), EReal.top_add_coe]
    have hd : Ideal.div 0 (N : EReal) = 0 := by rw [Ideal.div_coe hN.ne', zero_mul]
    have ht : Ideal.div 0 ⊤ = 0 := by unfold Ideal.div; rw [if_neg EReal.top_ne_zero, zero_mul]
    unfold slope grad
    rw [hv, Ideal.rsqrt_top, ht]
    simp [hd]
  · have hr : ∀ k, ∃ a : ℝ, u k = (a : EReal) := fun k => by
      have h : u k * u k ≠ ⊤ := fun h => hu ⟨k, h⟩
      generalize u k = b at h
      induction b with
      | coe a => exact ⟨a, rfl⟩
      | top => exact absurd EReal.top_mul_top h
      | bot => exact absurd EReal.bot_mul_bot h
    choose a ha using hr
    obtain ⟨V, hV, hv⟩ : ∃ V : ℝ, 0 < V ∧ square N e u = (V : EReal) := by
      refine ⟨(∑ k, a k * a k) / N + e, add_pos_of_nonneg_of_pos (div_nonneg (Finset.sum_nonneg fun k _ => mul_self_nonneg _) hN.le) he, ?_⟩
      unfold square
      rw [Finset.sum_congr rfl fun k _ => show u k * u k = ((a k * a k : ℝ) : EReal) by rw [ha, EReal.coe_mul], ← coe_sum, div_real _ _ hN.ne',
        ← EReal.coe_add]
    have hr : Ideal.rsqrt (V : EReal) = (((Real.sqrt V)⁻¹ : ℝ) : EReal) := by
      rw [Ideal.rsqrt_coe, if_neg (not_lt.2 hV.le), if_neg hV.ne']
    unfold slope grad
    rw [hv, hr, div_real _ _ hV.ne', ha j, Ideal.div_coe hN.ne', Ideal.div_coe hN.ne']
    set r := (Real.sqrt V)⁻¹ with hrr
    have c : r / V = r * r * r := by
      have h : r * r = V⁻¹ := by rw [hrr, ← mul_inv, Real.mul_self_sqrt hV.le]
      rw [h, div_eq_mul_inv, mul_comm]
    have p : ((a j : ℝ) : EReal) * (t * (((-(1 / 2) : ℝ) : EReal) * ((r / V : ℝ) : EReal)) * ((1 / N : ℝ) : EReal))
        = t * ((-(1 / 2) * (r * r * r) * (1 / N) * a j : ℝ) : EReal) := by
      rw [c]
      simp only [EReal.coe_mul]
      ac_rfl
    have q : ((a j : ℝ) : EReal) * ((r : EReal) * r * r * (t * ((1 / N : ℝ) : EReal)))
        = t * ((-(2 * (-(1 / 2) * (r * r * r) * (1 / N) * a j)) : ℝ) : EReal) := by
      have z : -(2 * (-(1 / 2) * (r * r * r) * (1 / N) * a j)) = a j * (r * r * r) * (1 / N) := by ring
      rw [z, EReal.coe_mul, EReal.coe_mul (a j), EReal.coe_mul (r * r), EReal.coe_mul r]
      ac_rfl
    rw [mul_comm (t * _ * _) (a j : EReal), p, q, sub_eq_add_neg, ← twice, add_assoc, mul_comm w]

/-- The small number under the root, the literal of both programs. -/
def eps : ℝ := eps_real.choose

theorem eps_pos : 0 < eps := eps_real.choose_spec.1

theorem ofBits_eps : Ideal.ofBits .f32 0x358637BD#32 = ((eps : ℝ) : EReal) := eps_real.choose_spec.2

section
variable {M k : ℕ} (N : ℝ) (X D : (T2 M k).Idx → EReal) (G : Fin k → EReal)

/-- The gradient of all rows. -/
def rows : (T2 M k).Idx → EReal := fun y =>
  grad N (square N eps fun t => X (ix2 (y 0) t)) (X y) (D y * G (y 1)) (∑ t, D (ix2 (y 0) t) * G t * X (ix2 (y 0) t))

/-- What a row gives to the gradient of a weight. -/
def weight (i : Fin M) (j : Fin k) : EReal := D (ix2 i j) * X (ix2 i j) * Ideal.rsqrt (square N eps fun t => X (ix2 i t))

end

section
variable {M M' k : ℕ} {N : ℝ} {X D : (T2 M k).Idx → EReal} {X' D' : (T2 M' k).Idx → EReal} {G G' : Fin k → EReal} {p : Fin M → Fin M'}
  (hX : ∀ i j, X (ix2 i j) = X' (ix2 (p i) j)) (hD : ∀ i j, D (ix2 i j) = D' (ix2 (p i) j)) (i : Fin M) (j : Fin k)
include hX hD

/-- Rows of a larger array have that array's gradients. -/
theorem rows_of (hG : ∀ j, G j = G' j) : rows N X D G (ix2 i j) = rows N X' D' G' (ix2 (p i) j) := by
  show grad N (square N eps fun t => X (ix2 i t)) (X (ix2 i j)) (D (ix2 i j) * G j) (∑ t, D (ix2 i t) * G t * X (ix2 i t)) = _
  simp only [hX, hD, hG]
  rfl

@[inherit_doc rows_of] theorem weight_of : weight N X D i j = weight N X' D' (p i) j := by
  unfold weight
  simp only [hX, hD]

end

end Cert.Proof.NormJoin
end
-- ==== Proof.Own.SbNormX.lean ====
/-
  The gradient of the root-mean-square norm without a gate, d_sbnorm: four blocks of 2048 rows, the weights' gradient summed
  over them. First the reference's values, then the kernel's.
-/
module

public import proofs.«01_k».proof.Proof.Own.Norm
public import proofs.«01_k».proof.Proof.Own.NormJoin
public import proofs.«01_k».proof.Proof.Own.NormFwd
public import proofs.«01_k».proof.Proof.Gen.Kernel31Ideal.Value
public import proofs.«01_k».proof.Proof.Gen.Reference31Ideal.Read
public import proofs.«01_k».proof.Defs

@[expose] public section

set_option maxRecDepth 16384

noncomputable section

namespace Cert.Proof.SbNormX

open Cert.Proof.Mla (T2 spread_apply)
open Cert.Proof.Prod (run_sum at2 ext2)
open Cert.Proof.Norm (row_sum col_sum fan_apply ofBits_neg_half)
open Cert.Proof.NormFwd (vec_row)
open Cert.Proof.NormJoin
open Idealize.ShloMosaic Idealize.ShloMosaic.TcCoe Idealize.ShloMosaic.VecWindow
open Idealize.SL Idealize.SL.Sem

theorem ofBits_256 : Ideal.ofBits .f32 0x43800000#32 = ((256 : ℝ) : EReal) := by
  simp [Ideal.ofBits, Ideal.ieee, -EReal.coe_mul]; norm_num

section reference
open Cert.Reference31Ideal Cert.Reference31Ideal.Gen Cert.Reference31Ideal.Read
variable (x0 x2 : FVec Ideal S8192x256 .f32) (x1 : FVec Ideal S256 .f32)

theorem ref_v (i : S8192x1.Idx) : (val_main_v6 (F := Ideal) x0 i : EReal) = square 256 eps fun t => x0 (ix2 (i 0) t) := by
  rw [val_main_v6_apply, val_main_v4_apply, val_main_v2_apply, val_main_v1_apply, val_main_v3_apply, val_main_cst_0_apply, val_main_cst_apply,
    val_main_v5_apply, val_main_cst_1_apply]
  refine congrArg₂ (· + ·) (congrArg₂ Ideal.div ((congrArg (· + _) Ideal.ofBits_zero_f32).trans ((zero_add _).trans
    (Finset.sum_congr rfl fun k _ => ?_))) ofBits_256) ofBits_eps
  rw [val_main_v0_apply]
  exact congrArg (fun y => x0 y * x0 y) (ext2 rfl rfl)

theorem ref_w (i : S8192x256.Idx) : (val_main_v20 (F := Ideal) x1 x2 i : EReal) = x2 i * x1 (ix1 (i 1)) := by
  rw [val_main_v20_apply, val_main_v19_apply, val_main_v13_apply]
  exact congrArg (fun y => x2 i * x1 y) (eq_ix1 _)

theorem ref_t (i : S8192.Idx) : (val_main_v23 (F := Ideal) x0 x1 x2 i : EReal) = ∑ t, x2 (ix2 (i 0) t) * x1 (ix1 t) * x0 (ix2 (i 0) t) := by
  rw [val_main_v23_apply, val_main_cst_5_apply]
  refine (congrArg (· + _) Ideal.ofBits_zero_f32).trans ((zero_add _).trans (Finset.sum_congr rfl fun k _ => ?_))
  rw [val_main_v22_apply, ref_w, show idx_main_v23 i k = ix2 (i 0) k from ext2 rfl rfl]
  exact mul_comm _ _

theorem ref_slope (i : S8192x1.Idx) : (val_main_v29 (F := Ideal) x0 x1 x2 i : EReal)
    = slope 256 (square 256 eps fun t => x0 (ix2 (i 0) t)) (∑ t, x2 (ix2 (i 0) t) * x1 (ix1 t) * x0 (ix2 (i 0) t)) := by
  rw [val_main_v29_apply, val_main_v27_apply, val_main_v24_apply, ref_t, val_main_v10_apply, val_main_v9_apply, val_main_cst_2_apply,
    val_main_v8_apply, val_main_v7_apply, ref_v, val_main_v28_apply, val_main_cst_6_apply]
  have q : (idx_main_v24 i) 0 = i 0 := Fin.ext (by
    have h1 : (i 1).val < 1 := (i 1).isLt
    show (i 0).val * 1 + (i 1).val = (i 0).val
    omega)
  rw [q]
  exact congrArg₂ Ideal.div (congrArg (_ * ·) (congrArg (· * _) ofBits_neg_half)) ofBits_256

/-- The first result: the gradient of the rows. -/
theorem ref_dx (i : S8192x256.Idx) : (val_main_v35 (F := Ideal) x0 x1 x2 i : EReal) = rows 256 x0 x2 (fun t => x1 (ix1 t)) i := by
  have e : (val_main_v31 (F := Ideal) x0 x1 x2 i : EReal)
      = slope 256 (square 256 eps fun t => x0 (ix2 (i 0) t)) (∑ t, x2 (ix2 (i 0) t) * x1 (ix1 t) * x0 (ix2 (i 0) t)) := by
    rw [val_main_v31_apply, val_main_v30_apply, val_main_cst_7_apply]
    exact (congrArg₂ (· + ·) Ideal.ofBits_zero_f32 ((Fin.sum_univ_one _).trans (ref_slope x0 x2 x1 _))).trans (zero_add _)
  rw [val_main_v35_apply, val_main_v33_apply, val_main_v26_apply, val_main_v32_apply, val_main_v34_apply, ref_w, val_main_v25_apply, val_main_v7_apply,
    ref_v, e]
  obtain ⟨a, b, rfl⟩ := at2 i
  exact join 256 eps (by norm_num) eps_pos (fun t => x0 (ix2 a t)) b _ _

/-- The second: the gradient of the weights. -/
theorem ref_dg (i : S1x256.Idx) : (val_main_v36 (F := Ideal) x0 x2 i : EReal) = ∑ a, weight 256 x0 x2 a (i 1) := by
  obtain ⟨a, j, rfl⟩ := at2 i
  show _ = ∑ n, weight 256 x0 x2 n j
  rw [val_main_v36_apply, val_main_v21_apply, val_main_cst_4_apply]
  refine Eq.trans (congrArg₂ (· + ·) Ideal.ofBits_zero_f32 (Fin.sum_univ_one _)) ((zero_add _).trans ?_)
  rw [val_main_v18_apply, val_main_v17_apply, val_main_cst_3_apply]
  refine (congrArg (· + _) Ideal.ofBits_zero_f32).trans ((zero_add _).trans (Finset.sum_congr rfl fun k _ => ?_))
  have q : idx_main_v17 (idx_main_v18 (idx_main_v21 (idx_main_v36 (ix2 a j)) 0)) k = ix2 k j :=
    ext2 rfl (Fin.ext (by show 0 * 256 + j.val = j.val; omega))
  rw [q, val_main_v16_apply, val_main_v12_apply, val_main_v11_apply, val_main_v7_apply, ref_v]
  exact (mul_comm _ _).trans (mul_assoc _ _ _).symm

end reference

open Cert.Kernel31Ideal Cert.Kernel31Ideal.Gen

section
variable (x d : FVec Ideal S2048x256 .f32) (g : FVec Ideal S1x256 .f32) (i : Fin 2048) (j : Fin 256)

theorem pay2_apply : (k0_pay2 (F := Ideal) x (ix2 i 0) : EReal) = Ideal.rsqrt (square 256 eps fun t => x (ix2 i t)) :=
  congrArg Ideal.rsqrt (congrArg₂ (· + ·) (congrArg₂ Ideal.div (row_sum _ _ _ _ _ i) ofBits_256) ofBits_eps)

/-- The block's part of the rows' gradient. -/
theorem pay3_apply : (k0_pay3 (F := Ideal) x d g (ix2 i j) : EReal) = rows 256 x d (fun t => g (ix2 0 t)) (ix2 i j) := by
  have w : ∀ k, (mulf d (broadcastTo S2048x256 (shapeCast S1x256 g shapeCasts_S1x256_S1x256) broadcasts_S1x256_S2048x256) (ix2 i k) : EReal)
      = d (ix2 i k) * g (ix2 0 k) := fun k => by
    rw [shapeCast_self g]
    exact congrArg (d (ix2 i k) * ·) (spread_apply g _ (by decide) i k)
  have r := pay2_apply x i
  exact congrArg₂ (· - ·) (congrArg₂ (· * ·) ((fan_apply _ _ (by decide) i j).trans r) (w j))
    (congrArg (x (ix2 i j) * ·) ((fan_apply _ _ (by decide) i j).trans (congrArg₂ (· * ·) (congrArg₂ (· * ·) (congrArg₂ (· * ·) r r) r)
      (congrArg₂ Ideal.div ((row_sum _ _ _ _ _ i).trans (Finset.sum_congr rfl fun k _ => congrArg (· * x (ix2 i k)) (w k))) ofBits_256))))

/-- The weights' gradient grows by the block's. -/
theorem pay4_apply (a : FVec Ideal S1x256 .f32) : (k0_pay4 (F := Ideal) x d a (ix2 0 j) : EReal)
    = (a (ix2 0 j) : EReal) + ∑ i : Fin 2048, weight 256 x d i j := by
  unfold k0_pay4
  rw [shapeCast_self a]
  exact congrArg ((a (ix2 0 j) : EReal) + ·) ((col_sum _ _ _ _ _ j).trans (Finset.sum_congr rfl fun i _ =>
    congrArg (d (ix2 i j) * x (ix2 i j) * ·) ((fan_apply _ _ (by decide) i j).trans (pay2_apply x i))))

end

theorem idx : ∀ t : Fin cfg0.N, win0_0.index t = ![t.val, 0] ∧ win0_1.index t = ![0, 0] ∧ win0_2.index t = ![t.val, 0]
    ∧ win0_3.index t = ![t.val, 0] ∧ win0_4.index t = ![0, 0] := (by decide +kernel : ∀ t : Fin grid0.N, _)

/-- The row of the arrays that a point's block row is. -/
def row (t : Fin cfg0.N) (i : Fin 2048) : Fin 8192 := ⟨t.val * 2048 + i.val, by have h : t.val < 4 := t.isLt; omega⟩

variable (m : (ℓ : Loc nD τ sig) → Buf (Elt Ideal) ℓ) (c : Dev nD)

/-- The three arrays the windows stage. -/
def aX : (T2 8192 256).Idx → EReal := V m c main_arg0
@[inherit_doc aX] def aG : (T2 1 256).Idx → EReal := V m c main_v0
@[inherit_doc aX] def aD : (T2 8192 256).Idx → EReal := V m c main_arg2

theorem read_x (t : Fin cfg0.N) (i : Fin 2048) (j : Fin 256) : (iblk m c 0 t (ix2 i j) : EReal) = aX m c (ix2 (row t i) j) := by
  have e := (idx t).1
  unfold aX row
  blk_ext [iblk, e]

theorem read_g (t : Fin cfg0.N) (j : Fin 256) : (iblk m c 1 t (ix2 0 j) : EReal) = aG m c (ix2 0 j) := by
  have e := (idx t).2.1
  unfold aG
  blk_ext [iblk, e]

theorem read_d (t : Fin cfg0.N) (i : Fin 2048) (j : Fin 256) : (iblk m c 2 t (ix2 i j) : EReal) = aD m c (ix2 (row t i) j) := by
  have e := (idx t).2.2.1
  unfold aD row
  blk_ext [iblk, e]

/-- The arguments, at their shapes. -/
def x0 : FVec Ideal S8192x256 .f32 := m ((c : Thread nD τ).loc main_arg0)
@[inherit_doc x0] def x1 : FVec Ideal S256 .f32 := m ((c : Thread nD τ).loc main_arg1)
@[inherit_doc x0] def x2 : FVec Ideal S8192x256 .f32 := m ((c : Thread nD τ).loc main_arg2)

theorem aX_eq : aX m c = x0 m c := by
  unfold aX V
  after_results
  rfl

theorem aD_eq : aD m c = x2 m c := by
  unfold aD V
  after_results
  rfl

theorem aG_apply (j : Fin 256) : aG m c (ix2 0 j) = x1 m c (ix1 j) := by
  have e : aG m c = shapeCast S1x256 (x1 m c) shapeCasts_S256_S1x256 := by
    unfold aG V
    after_results
    rfl
  rw [e]
  exact vec_row _ _ j

/-- What a point leaves of the first result. -/
theorem out_dx (t : Fin cfg0.N) : (outsAt0 m c t.val t.isLt).1 = k0_pay3 (iblk m c 0 t) (iblk m c 2 t) (iblk m c 1 t) := by
  by_cases h : t.val % 4 = 0
  · rw [outsAt0_A m c t h]
    frame_out
  · rw [outsAt0_B m c t h]
    frame_out

/-- The two results. -/
def outX : (T2 8192 256).Idx → EReal := rows 256 (x0 m c) (x2 m c) fun t => x1 m c (ix1 t)
@[inherit_doc outX] def outG : (T2 1 256).Idx → EReal := fun y => ∑ i, weight 256 (x0 m c) (x2 m c) i (y 1)

theorem block_x (t : Fin cfg0.N) (i : Fin 2048) (j : Fin 256) : (iblk m c 0 t (ix2 i j) : EReal) = x0 m c (ix2 (row t i) j) :=
  (read_x m c t i j).trans (congrFun (aX_eq m c) _)

theorem block_d (t : Fin cfg0.N) (i : Fin 2048) (j : Fin 256) : (iblk m c 2 t (ix2 i j) : EReal) = x2 m c (ix2 (row t i) j) :=
  (read_d m c t i j).trans (congrFun (aD_eq m c) _)

/-- A point's rows have the gradient of the arrays' rows. -/
theorem point_dx (t : Fin cfg0.N) (i : Fin 2048) (j : Fin 256) : ((outsAt0 m c t.val t.isLt).1 (ix2 i j) : EReal) = outX m c (ix2 (row t i) j) :=
  (congrFun (out_dx m c t) _).trans ((pay3_apply _ _ _ i j).trans
    (rows_of (block_x m c t) (block_d m c t) i j fun j => (read_g m c t j).trans (aG_apply m c j)))

theorem point_dg (t : Fin cfg0.N) (i : Fin 2048) (j : Fin 256) :
    weight 256 (iblk m c 0 t : FVec Ideal S2048x256 .f32) (iblk m c 2 t : FVec Ideal S2048x256 .f32) i j = weight 256 (x0 m c) (x2 m c) (row t i) j :=
  weight_of (block_x m c t) (block_d m c t) i j

theorem final_dx : (dats m 0 c).arrAt 3 cfg0.N = outX m c := by
  refine (dats m 0 c).arrAt_eq_of_covers 3 _ (by decide +kernel) fun t hf y => ?_
  blk_simp
  rw [after0_3]
  obtain ⟨i, j, rfl⟩ := at2 y
  refine Eq.trans (b := outX m c (ix2 (row t i) j)) (point_dx m c t i j) (congrArg (outX m c) ?_)
  unfold row
  blk_ext [(idx t).2.2.2.1]

/-- What the points have added to the weights' gradient. -/
theorem acc_eq (t : Fin cfg0.N) (hr : t.val % 4 = 3) (y : S1x256.Idx) : ((outsAt0 m c t.val t.isLt).2 y : EReal)
    = ∑ s : Fin 4, ∑ i : Fin 2048, weight 256 (x0 m c) (x2 m c) (row ⟨4 * (t.val / 4) + s.val, Pipeline.run_point_lt_of_flush t hr s⟩ i) (y 1) := by
  refine run_sum (fun n h => (outsAt0 m c n h).2) 4 (fun t y => ∑ i : Fin 2048, weight 256 (x0 m c) (x2 m c) (row t i) (y 1))
    (fun t h => ?_) (fun t h => ?_) t hr y
  · rw [outsAt0_A m c t h]
    frame_out
    funext y
    obtain ⟨i, j, rfl⟩ := at2 y
    obtain rfl : i = 0 := Subsingleton.elim _ _
    refine (pay4_apply _ _ j _).trans ((congrArg (· + _) Ideal.ofBits_zero_f32).trans ((zero_add _).trans ?_))
    exact Finset.sum_congr rfl fun i _ => point_dg m c t i j
  · rw [outsAt0_B m c t h]
    frame_out
    funext y
    obtain ⟨i, j, rfl⟩ := at2 y
    obtain rfl : i = 0 := Subsingleton.elim _ _
    exact (pay4_apply _ _ j _).trans (congrArg (_ + ·) (Finset.sum_congr rfl fun i _ => point_dg m c t i j))

theorem final_dg : (dats m 0 c).arrAt 4 cfg0.N = outG m c := by
  refine (dats m 0 c).arrAt_eq_of_covers 4 _ (by decide +kernel) fun t hf y => ?_
  have hr := (flush0_4 t).mp hf
  have hN : t.val < 4 := t.isLt
  blk_simp
  rw [after0_4]
  refine (acc_eq m c t hr y).trans ?_
  unfold outG
  obtain ⟨i, j, rfl⟩ := at2 y
  obtain rfl : i = 0 := Subsingleton.elim _ _
  refine Fin.sum_mul_add_congr fun s k hl => congrArg₂ (fun (n : Fin 8192) (z : (T2 1 256).Idx) => weight 256 (x0 m c) (x2 m c) n (z 1))
    (Fin.ext ?_) (?_ : ix2 0 j = _)
  · show (4 * (t.val / 4) + s.val) * 2048 + k.val = s.val * 2048 + k.val
    omega
  · blk_ext [(idx t).2.2.2.2]

/-- Kernel and reference give the same two gradients. -/
theorem value : Cert.algebraic_Kernel31Ideal_Reference31Ideal := by
  intro m ρ m' ρ' _ hargs
  refine ⟨fun c => outX m c, fun c => outG m c, ?_, ?_⟩
  · refine (θ_run Cert.Kernel31Ideal.defs _ _).mono (fun r h c => ?_) (Value.run_blocks (F := Ideal) m ρ)
    exact ⟨(h c).1.trans (final_dx m c), (h c).2.1.trans (final_dg m c), (h c).2.2⟩
  · refine (θ_run Cert.Reference31Ideal.defs _ _).mono (fun r h c => ?_) (Cert.Reference31Ideal.Value.run (F := Ideal) m' ρ')
    refine ⟨(h c).1.trans ?_, (h c).2.1.trans ?_, (h c).2.2⟩
    · rw [(hargs c).1, (hargs c).2.1, (hargs c).2.2]
      exact funext fun i => ref_dx (x0 m c) (x2 m c) (x1 m c) i
    · rw [(hargs c).1, (hargs c).2.2]
      exact funext fun i => ref_dg (x0 m c) (x2 m c) i

end Cert.Proof.SbNormX
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Own.Run
public import proofs.«01_k».proof.Proof.Own.Text
public import proofs.«01_k».proof.Proof.Own.Final
public import proofs.«01_k».proof.Proof.Own.Finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel15
public import proofs.«01_k».proof.Proof.Gen.Kernel15Ideal
public import proofs.«01_k».proof.Proof.Gen.Kernel15Ideal.Loops
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite15
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite14
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Own.Frames
public import proofs.«01_k».proof.Proof.Own.Norm
public import proofs.«01_k».proof.Proof.Own.FwdValue
public import proofs.«01_k».proof.Proof.Own.FwdFrame
public import proofs.«01_k».proof.Proof.Own.UpW
public import proofs.«01_k».proof.Proof.Own.UpX
public import proofs.«01_k».proof.Proof.Own.DownW
public import proofs.«01_k».proof.Proof.Own.DownX
public import proofs.«01_k».proof.Proof.Own.ProjW
public import proofs.«01_k».proof.Proof.Own.ProjX
public import proofs.«01_k».proof.Proof.Own.OutX
public import proofs.«01_k».proof.Proof.Own.OutW
public import proofs.«01_k».proof.Proof.Own.Proj
public import proofs.«01_k».proof.Proof.Own.Up
public import proofs.«01_k».proof.Proof.Own.Down
public import proofs.«01_k».proof.Proof.Own.Out
public import proofs.«01_k».proof.Proof.Own.Uq
public import proofs.«01_k».proof.Proof.Own.Ukv
public import proofs.«01_k».proof.Proof.Own.UqW
public import proofs.«01_k».proof.Proof.Own.UqX
public import proofs.«01_k».proof.Proof.Own.UkvW
public import proofs.«01_k».proof.Proof.Own.UkvX
public import proofs.«01_k».proof.Proof.Own.Place
public import proofs.«01_k».proof.Proof.Own.Unplace
public import proofs.«01_k».proof.Proof.Own.MixNorm
public import proofs.«01_k».proof.Proof.Own.FinalNorm
public import proofs.«01_k».proof.Proof.Own.SbNorm
public import proofs.«01_k».proof.Proof.Own.KvNorm
public import proofs.«01_k».proof.Proof.Own.SsmNorm
public import proofs.«01_k».proof.Proof.Own.Loss
public import proofs.«01_k».proof.Proof.Own.Adam
public import proofs.«01_k».proof.Proof.Own.SbNormX

@[expose] public section

noncomputable section

namespace Cert.Proof

open Idealize.ShloMosaic Idealize.ShloMosaic.TcCoe
open Idealize.SL Idealize.SL.Sem

/-- Over any reading of the floats the kernel terminates, keeps its arguments and leaves every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread _ _).loc Cert.KernelIdeal.main_arg0)
        ∧ r.2.mem ((c.tc : Thread Cert.KernelIdeal.nD Cert.KernelIdeal.τ).loc Cert.KernelIdeal.main_arg1) = m ((c.tc : Thread _ _).loc Cert.KernelIdeal.main_arg1)
        ∧ r.2.mem ((c.tc : Thread Cert.KernelIdeal.nD Cert.KernelIdeal.τ).loc Cert.KernelIdeal.main_arg2) = m ((c.tc : Thread _ _).loc Cert.KernelIdeal.main_arg2)
        ∧ r.2.mem ((c.tc : Thread Cert.KernelIdeal.nD Cert.KernelIdeal.τ).loc Cert.KernelIdeal.main_arg3) = m ((c.tc : Thread _ _).loc Cert.KernelIdeal.main_arg3))
      ∧ r.2.sem = fun _ => 0) :=
  θ_run_with_sems (Cert.KernelIdeal.Gen.frame_of m ρ (Mla.dats m) fun _ _ => rfl) (Mla.run_main (F := F) m ρ)

theorem frame_kernelIdeal : Cert.quiescent_KernelIdeal := fun m ρ _ => frame_any (F := Ideal) m ρ

/-- The kernel as printed has the idealized kernel's text, so it has the same run. -/
theorem frame_kernel : Cert.quiescent_Kernel := fun m ρ _ => by
  rw [defs_eq, main_eq]
  exact frame_any (F := Bits) m ρ

/-- The reference's frame. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Over finite arguments the reference's three results are the real gradients. -/
theorem reference_value (m : (ℓ : Loc Cert.ReferenceIdeal.nD Cert.ReferenceIdeal.τ Cert.ReferenceIdeal.sig) → Buf (Elt Ideal) ℓ)
    (c : Dev Cert.ReferenceIdeal.nD) {H : Fin 4 → Mla.Head}
    (R : Mla.Rows H (m ((c.tc : Thread _ _).loc Cert.ReferenceIdeal.main_arg0)) (m ((c.tc : Thread _ _).loc Cert.ReferenceIdeal.main_arg1))
      (m ((c.tc : Thread _ _).loc Cert.ReferenceIdeal.main_arg2)) (m ((c.tc : Thread _ _).loc Cert.ReferenceIdeal.main_arg3))) :
    Cert.ReferenceIdeal.Value.res_main_v63 m c = Mla.realDq H ∧ Cert.ReferenceIdeal.Value.res_main_v64 m c = Mla.realDk H
      ∧ Cert.ReferenceIdeal.Value.res_main_v65 m c = Mla.realDv H :=
  ⟨(Cert.ReferenceIdeal.Read.val_main_v63_eq m c).trans (funext fun i => Mla.ref_dq R i),
    (Cert.ReferenceIdeal.Read.val_main_v64_eq m c).trans (funext fun i => Mla.ref_dk R i),
    (Cert.ReferenceIdeal.Read.val_main_v65_eq m c).trans (funext fun i => Mla.ref_dv R i)⟩

/-- Over finite arguments kernel and reference give the same three gradients. -/
theorem value : Cert.algebraic_KernelIdeal_ReferenceIdeal_pre_finite := by
  intro m ρ m' ρ' hfin hargs
  choose H R using fun c => Mla.rows_of_finite _ _ _ _ (hfin c)
  refine ⟨fun c => Mla.realDq (H c), fun c => Mla.realDk (H c), fun c => Mla.realDv (H c), ?_, ?_⟩
  · refine (θ_run Cert.KernelIdeal.defs _ _).mono (fun r h c => ?_) ((θ_run_and (Mla.run_main (F := Ideal) m ρ) (frame_any (F := Ideal) m ρ)))
    exact ⟨((h.1.1 c).1 6).trans (Mla.final_dq m c (R c)), ((h.1.1 c).1 7).trans (Mla.final_dk m c (R c)),
      ((h.1.1 c).1 8).trans (Mla.final_dv m c (R c)), h.2.1 c⟩
  · refine (θ_run Cert.ReferenceIdeal.defs _ _).mono (fun r h c => ?_) (Cert.ReferenceIdeal.Value.run (F := Ideal) m' ρ')
    have R' := R c
    rw [← (hargs c).1, ← (hargs c).2.1, ← (hargs c).2.2.1, ← (hargs c).2.2.2] at R'
    obtain ⟨e0, e1, e2⟩ := reference_value m' c R'
    exact ⟨(h c).1.trans e0, (h c).2.1.trans e1, (h c).2.2.1.trans e2, (h c).2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Pre_finite.Gen.facts, Cert.Pre_finite14.Gen.facts, Cert.Pre_finite15.Gen.facts,
    frame_kernel, frame_kernelIdeal, fun m ρ _ => frame_kernelIdeal m ρ trivial, frame_reference, fun m ρ _ => frame_reference m ρ trivial,
    frame_up_w, frame_up_w_ideal, frame_up_w_reference,
    frame_up_x, frame_up_x_ideal, frame_up_x_reference,
    frame_down_w, frame_down_w_ideal, frame_down_w_reference,
    frame_down_x, frame_down_x_ideal, frame_down_x_reference,
    frame_proj_w, frame_proj_w_ideal, frame_proj_w_reference,
    frame_proj_x, frame_proj_x_ideal, frame_proj_x_reference,
    frame_out_x, frame_out_x_ideal, frame_out_x_reference,
    frame_out_w, frame_out_w_ideal, frame_out_w_reference,
    frame_proj, frame_proj_ideal, frame_proj_reference,
    frame_up, frame_up_ideal, frame_up_reference,
    frame_down, frame_down_ideal, frame_down_reference,
    frame_out, frame_out_ideal, frame_out_reference,
    frame_norm, frame_norm_ideal, fun m ρ _ => frame_norm_ideal m ρ trivial, frame_norm_reference, fun m ρ _ => frame_norm_reference m ρ trivial,
    frame_fwd, frame_fwd_ideal, fun m ρ _ => frame_fwd_ideal m ρ trivial, frame_fwd_reference, fun m ρ _ => frame_fwd_reference m ρ trivial,
    frame_uq, frame_uq_ideal, frame_uq_reference,
    frame_ukv, frame_ukv_ideal, frame_ukv_reference,
    frame_uq_w, frame_uq_w_ideal, frame_uq_w_reference,
    frame_uq_x, frame_uq_x_ideal, frame_uq_x_reference,
    frame_ukv_w, frame_ukv_w_ideal, frame_ukv_w_reference,
    frame_ukv_x, frame_ukv_x_ideal, frame_ukv_x_reference,
    frame_place, frame_place_ideal, frame_place_reference,
    frame_unplace, frame_unplace_ideal, frame_unplace_reference,
    frame_mixnorm, frame_mixnorm_ideal, frame_mixnorm_reference,
    frame_finalnorm, frame_finalnorm_ideal, frame_finalnorm_reference,
    frame_sbnorm, frame_sbnorm_ideal, frame_sbnorm_reference,
    frame_kvnorm, frame_kvnorm_ideal, frame_kvnorm_reference,
    frame_ssmnorm, frame_ssmnorm_ideal, frame_ssmnorm_reference,
    frame_loss, frame_loss_ideal, frame_loss_reference,
    frame_adam, frame_adam_ideal, frame_adam_reference,
    frame_sbnorm_x, frame_sbnorm_x_ideal, frame_sbnorm_x_reference,
    trivial, value,
    trivial, UpW.value, trivial, UpX.value, trivial, DownW.value, trivial, DownX.value, trivial, ProjW.value, trivial, ProjX.value,
    trivial, OutX.value, trivial, OutW.value, trivial, Proj.value, trivial, Up.value, trivial, Down.value, trivial, Out.value,
    trivial, Norm.value, Fwd.preserves, Fwd.value,
    trivial, Uq.value, trivial, Ukv.value, trivial, UqW.value, trivial, UqX.value, trivial, UkvW.value, trivial, UkvX.value,
    trivial, Place.value, trivial, Unplace.value,
    trivial, MixNorm.value, trivial, FinalNorm.value, trivial, SbNorm.value, trivial, KvNorm.value,
    trivial, SsmNorm.value, trivial, Loss.value, trivial, Adam.value,
    trivial, SbNormX.value⟩

end Cert.Proof

end
